-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_router [hPre_finite_router : Cert.Pre_finite_router.Facts] (m : (ℓ : Loc Cert.OutIdeal.nD Cert.OutIdeal.τ Cert.OutIdeal.sig) → Buf (Elt Ideal) ℓ) : Prop :=
  ∀ c : Dev Cert.OutIdeal.nD,
    (Cert.Pre_finite_router.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9))).1 = (fun _ => 1#1)
    ∧ (Cert.Pre_finite_router.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9))).2.1 = (fun _ => 1#1)
    ∧ (Cert.Pre_finite_router.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9))).2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_router [hPre_finite_router : Cert.Pre_finite_router.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_router.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9))).1 = (fun _ => 1#1)
    ∧ (Cert.Pre_finite_router.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9))).2.1 = (fun _ => 1#1)
    ∧ (Cert.Pre_finite_router.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9))).2.2 = (fun _ => 1#1)

def Pre_Emb (m : (ℓ : Loc Cert.Emb.nD Cert.Emb.τ Cert.Emb.sig) → Buf (Elt Bits) ℓ) : Prop :=
  True

def Pre_EmbIdeal (m : (ℓ : Loc Cert.EmbIdeal.nD Cert.EmbIdeal.τ Cert.EmbIdeal.sig) → Buf (Elt Ideal) ℓ) : Prop :=
  True

def Pre_EmbRefIdeal (m : (ℓ : Loc Cert.EmbRefIdeal.nD Cert.EmbRefIdeal.τ Cert.EmbRefIdeal.sig) → Buf (Elt Ideal) ℓ) : Prop :=
  True

def Pre_Fou (m : (ℓ : Loc Cert.Fou.nD Cert.Fou.τ Cert.Fou.sig) → Buf (Elt Bits) ℓ) : Prop :=
  True

def Pre_FouIdeal (m : (ℓ : Loc Cert.FouIdeal.nD Cert.FouIdeal.τ Cert.FouIdeal.sig) → Buf (Elt Ideal) ℓ) : Prop :=
  True

def Pre_FouIdeal_finite_rows [hPre_finite_rows : Cert.Pre_finite_rows.Facts] (m : (ℓ : Loc Cert.FouIdeal.nD Cert.FouIdeal.τ Cert.FouIdeal.sig) → Buf (Elt Ideal) ℓ) : Prop :=
  ∀ c : Dev Cert.FouIdeal.nD,
    (Cert.Pre_finite_rows.fn (F := Ideal) (m ((c.tc : Thread Cert.FouIdeal.nD Cert.FouIdeal.τ).loc Cert.FouIdeal.main_arg0))) = (fun _ => 1#1)

def Pre_FouRefIdeal (m : (ℓ : Loc Cert.FouRefIdeal.nD Cert.FouRefIdeal.τ Cert.FouRefIdeal.sig) → Buf (Elt Ideal) ℓ) : Prop :=
  True

def Pre_FouRefIdeal_finite_rows [hPre_finite_rows : Cert.Pre_finite_rows.Facts] (m : (ℓ : Loc Cert.FouRefIdeal.nD Cert.FouRefIdeal.τ Cert.FouRefIdeal.sig) → Buf (Elt Ideal) ℓ) : Prop :=
  ∀ c : Dev Cert.FouRefIdeal.nD,
    (Cert.Pre_finite_rows.fn (F := Ideal) (m ((c.tc : Thread Cert.FouRefIdeal.nD Cert.FouRefIdeal.τ).loc Cert.FouRefIdeal.main_arg0))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutIdeal_pre_finite_router [hOutIdeal : Cert.OutIdeal.Facts] [hPre_finite_router : Cert.Pre_finite_router.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_router m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_OutRefIdeal_pre_finite_router [hOutRefIdeal : Cert.OutRefIdeal.Facts] [hPre_finite_router : Cert.Pre_finite_router.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_router m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Emb [hEmb : Cert.Emb.Facts] : Prop :=
  ∀ (m : (ℓ : Loc Cert.Emb.nD Cert.Emb.τ Cert.Emb.sig) → Buf (Elt Bits) ℓ) (g : Dev Cert.Emb.nD → PrngReg), Pre_Emb m →
    θ_run (Cert.Emb.defs (F := Bits)) (onTc (τ := Cert.Emb.τ) (Cert.Emb.main (F := Bits))) ⟨m, fun _ => 0, g⟩ (fun r => (∀ c : Dev Cert.Emb.nD,
      r.2.mem ((c.tc : Thread Cert.Emb.nD Cert.Emb.τ).loc Cert.Emb.main_arg0) = m ((c.tc : Thread Cert.Emb.nD Cert.Emb.τ).loc Cert.Emb.main_arg0)
      ∧ r.2.mem ((c.tc : Thread Cert.Emb.nD Cert.Emb.τ).loc Cert.Emb.main_arg1) = m ((c.tc : Thread Cert.Emb.nD Cert.Emb.τ).loc Cert.Emb.main_arg1)
      ∧ r.2.mem ((c.tc : Thread Cert.Emb.nD Cert.Emb.τ).loc Cert.Emb.main_arg2) = m ((c.tc : Thread Cert.Emb.nD Cert.Emb.τ).loc Cert.Emb.main_arg2)
      ∧ r.2.mem ((c.tc : Thread Cert.Emb.nD Cert.Emb.τ).loc Cert.Emb.main_arg3) = m ((c.tc : Thread Cert.Emb.nD Cert.Emb.τ).loc Cert.Emb.main_arg3))
      ∧ r.2.sem = fun _ => 0)

def quiescent_EmbIdeal [hEmbIdeal : Cert.EmbIdeal.Facts] : Prop :=
  ∀ (m : (ℓ : Loc Cert.EmbIdeal.nD Cert.EmbIdeal.τ Cert.EmbIdeal.sig) → Buf (Elt Ideal) ℓ) (g : Dev Cert.EmbIdeal.nD → PrngReg), Pre_EmbIdeal m →
    θ_run (Cert.EmbIdeal.defs (F := Ideal)) (onTc (τ := Cert.EmbIdeal.τ) (Cert.EmbIdeal.main (F := Ideal))) ⟨m, fun _ => 0, g⟩ (fun r => (∀ c : Dev Cert.EmbIdeal.nD,
      r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
      ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
      ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
      ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3))
      ∧ r.2.sem = fun _ => 0)

def quiescent_EmbRefIdeal [hEmbRefIdeal : Cert.EmbRefIdeal.Facts] : Prop :=
  ∀ (m : (ℓ : Loc Cert.EmbRefIdeal.nD Cert.EmbRefIdeal.τ Cert.EmbRefIdeal.sig) → Buf (Elt Ideal) ℓ) (g : Dev Cert.EmbRefIdeal.nD → PrngReg), Pre_EmbRefIdeal m →
    θ_run (Cert.EmbRefIdeal.defs (F := Ideal)) (onTc (τ := Cert.EmbRefIdeal.τ) (Cert.EmbRefIdeal.main (F := Ideal))) ⟨m, fun _ => 0, g⟩ (fun r => (∀ c : Dev Cert.EmbRefIdeal.nD,
      r.2.mem ((c.tc : Thread Cert.EmbRefIdeal.nD Cert.EmbRefIdeal.τ).loc Cert.EmbRefIdeal.main_arg0) = m ((c.tc : Thread Cert.EmbRefIdeal.nD Cert.EmbRefIdeal.τ).loc Cert.EmbRefIdeal.main_arg0)
      ∧ r.2.mem ((c.tc : Thread Cert.EmbRefIdeal.nD Cert.EmbRefIdeal.τ).loc Cert.EmbRefIdeal.main_arg1) = m ((c.tc : Thread Cert.EmbRefIdeal.nD Cert.EmbRefIdeal.τ).loc Cert.EmbRefIdeal.main_arg1)
      ∧ r.2.mem ((c.tc : Thread Cert.EmbRefIdeal.nD Cert.EmbRefIdeal.τ).loc Cert.EmbRefIdeal.main_arg2) = m ((c.tc : Thread Cert.EmbRefIdeal.nD Cert.EmbRefIdeal.τ).loc Cert.EmbRefIdeal.main_arg2)
      ∧ r.2.mem ((c.tc : Thread Cert.EmbRefIdeal.nD Cert.EmbRefIdeal.τ).loc Cert.EmbRefIdeal.main_arg3) = m ((c.tc : Thread Cert.EmbRefIdeal.nD Cert.EmbRefIdeal.τ).loc Cert.EmbRefIdeal.main_arg3))
      ∧ r.2.sem = fun _ => 0)

def quiescent_Fou [hFou : Cert.Fou.Facts] : Prop :=
  ∀ (m : (ℓ : Loc Cert.Fou.nD Cert.Fou.τ Cert.Fou.sig) → Buf (Elt Bits) ℓ) (g : Dev Cert.Fou.nD → PrngReg), Pre_Fou m →
    θ_run (Cert.Fou.defs (F := Bits)) (onTc (τ := Cert.Fou.τ) (Cert.Fou.main (F := Bits))) ⟨m, fun _ => 0, g⟩ (fun r => (∀ c : Dev Cert.Fou.nD,
      r.2.mem ((c.tc : Thread Cert.Fou.nD Cert.Fou.τ).loc Cert.Fou.main_arg0) = m ((c.tc : Thread Cert.Fou.nD Cert.Fou.τ).loc Cert.Fou.main_arg0))
      ∧ r.2.sem = fun _ => 0)

def quiescent_FouIdeal [hFouIdeal : Cert.FouIdeal.Facts] : Prop :=
  ∀ (m : (ℓ : Loc Cert.FouIdeal.nD Cert.FouIdeal.τ Cert.FouIdeal.sig) → Buf (Elt Ideal) ℓ) (g : Dev Cert.FouIdeal.nD → PrngReg), Pre_FouIdeal m →
    θ_run (Cert.FouIdeal.defs (F := Ideal)) (onTc (τ := Cert.FouIdeal.τ) (Cert.FouIdeal.main (F := Ideal))) ⟨m, fun _ => 0, g⟩ (fun r => (∀ c : Dev Cert.FouIdeal.nD,
      r.2.mem ((c.tc : Thread Cert.FouIdeal.nD Cert.FouIdeal.τ).loc Cert.FouIdeal.main_arg0) = m ((c.tc : Thread Cert.FouIdeal.nD Cert.FouIdeal.τ).loc Cert.FouIdeal.main_arg0))
      ∧ r.2.sem = fun _ => 0)

def quiescent_FouIdeal_pre_finite_rows [hFouIdeal : Cert.FouIdeal.Facts] [hPre_finite_rows : Cert.Pre_finite_rows.Facts] : Prop :=
  ∀ (m : (ℓ : Loc Cert.FouIdeal.nD Cert.FouIdeal.τ Cert.FouIdeal.sig) → Buf (Elt Ideal) ℓ) (g : Dev Cert.FouIdeal.nD → PrngReg), Pre_FouIdeal_finite_rows m →
    θ_run (Cert.FouIdeal.defs (F := Ideal)) (onTc (τ := Cert.FouIdeal.τ) (Cert.FouIdeal.main (F := Ideal))) ⟨m, fun _ => 0, g⟩ (fun r => (∀ c : Dev Cert.FouIdeal.nD,
      r.2.mem ((c.tc : Thread Cert.FouIdeal.nD Cert.FouIdeal.τ).loc Cert.FouIdeal.main_arg0) = m ((c.tc : Thread Cert.FouIdeal.nD Cert.FouIdeal.τ).loc Cert.FouIdeal.main_arg0))
      ∧ r.2.sem = fun _ => 0)

def quiescent_FouRefIdeal [hFouRefIdeal : Cert.FouRefIdeal.Facts] : Prop :=
  ∀ (m : (ℓ : Loc Cert.FouRefIdeal.nD Cert.FouRefIdeal.τ Cert.FouRefIdeal.sig) → Buf (Elt Ideal) ℓ) (g : Dev Cert.FouRefIdeal.nD → PrngReg), Pre_FouRefIdeal m →
    θ_run (Cert.FouRefIdeal.defs (F := Ideal)) (onTc (τ := Cert.FouRefIdeal.τ) (Cert.FouRefIdeal.main (F := Ideal))) ⟨m, fun _ => 0, g⟩ (fun r => (∀ c : Dev Cert.FouRefIdeal.nD,
      r.2.mem ((c.tc : Thread Cert.FouRefIdeal.nD Cert.FouRefIdeal.τ).loc Cert.FouRefIdeal.main_arg0) = m ((c.tc : Thread Cert.FouRefIdeal.nD Cert.FouRefIdeal.τ).loc Cert.FouRefIdeal.main_arg0))
      ∧ r.2.sem = fun _ => 0)

def quiescent_FouRefIdeal_pre_finite_rows [hFouRefIdeal : Cert.FouRefIdeal.Facts] [hPre_finite_rows : Cert.Pre_finite_rows.Facts] : Prop :=
  ∀ (m : (ℓ : Loc Cert.FouRefIdeal.nD Cert.FouRefIdeal.τ Cert.FouRefIdeal.sig) → Buf (Elt Ideal) ℓ) (g : Dev Cert.FouRefIdeal.nD → PrngReg), Pre_FouRefIdeal_finite_rows m →
    θ_run (Cert.FouRefIdeal.defs (F := Ideal)) (onTc (τ := Cert.FouRefIdeal.τ) (Cert.FouRefIdeal.main (F := Ideal))) ⟨m, fun _ => 0, g⟩ (fun r => (∀ c : Dev Cert.FouRefIdeal.nD,
      r.2.mem ((c.tc : Thread Cert.FouRefIdeal.nD Cert.FouRefIdeal.τ).loc Cert.FouRefIdeal.main_arg0) = m ((c.tc : Thread Cert.FouRefIdeal.nD Cert.FouRefIdeal.τ).loc Cert.FouRefIdeal.main_arg0))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "scale" .f32 0x3E38AA3B#32 ((8⁻¹ * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v66)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v66) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v91) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v24_0)) (v1 : (c : Dev Cert.InpIdeal.nD) → Buf (Elt Ideal) ((c.tc : Thread Cert.InpIdeal.nD Cert.InpIdeal.τ).loc Cert.InpIdeal.main_v24_1)) (v2 : (c : Dev Cert.InpIdeal.nD) → Buf (Elt Ideal) ((c.tc : Thread Cert.InpIdeal.nD Cert.InpIdeal.τ).loc Cert.InpIdeal.main_v24_2)) (v3 : (c : Dev Cert.InpIdeal.nD) → Buf (Elt Ideal) ((c.tc : Thread Cert.InpIdeal.nD Cert.InpIdeal.τ).loc Cert.InpIdeal.main_v24_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v24_0) = v0 c
          ∧ r.2.mem ((c.tc : Thread Cert.InpIdeal.nD Cert.InpIdeal.τ).loc Cert.InpIdeal.main_v24_1) = v1 c
          ∧ r.2.mem ((c.tc : Thread Cert.InpIdeal.nD Cert.InpIdeal.τ).loc Cert.InpIdeal.main_v24_2) = v2 c
          ∧ r.2.mem ((c.tc : Thread Cert.InpIdeal.nD Cert.InpIdeal.τ).loc Cert.InpIdeal.main_v24_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v43) = v0 c
          ∧ r.2.mem ((c.tc : Thread Cert.InpRefIdeal.nD Cert.InpRefIdeal.τ).loc Cert.InpRefIdeal.main_v44) = v1 c
          ∧ r.2.mem ((c.tc : Thread Cert.InpRefIdeal.nD Cert.InpRefIdeal.τ).loc Cert.InpRefIdeal.main_v45) = v2 c
          ∧ r.2.mem ((c.tc : Thread Cert.InpRefIdeal.nD Cert.InpRefIdeal.τ).loc Cert.InpRefIdeal.main_v46) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Out_OutIdeal : Prop :=
  True

def algebraic_OutIdeal_OutRefIdeal_pre_finite_router [hOutIdeal : Cert.OutIdeal.Facts] [hOutRefIdeal : Cert.OutRefIdeal.Facts] [hPre_finite_router : Cert.Pre_finite_router.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_router m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v10_0)) (v1 : (c : Dev Cert.OutIdeal.nD) → Buf (Elt Ideal) ((c.tc : Thread Cert.OutIdeal.nD Cert.OutIdeal.τ).loc Cert.OutIdeal.main_v10_1)) (v2 : (c : Dev Cert.OutIdeal.nD) → Buf (Elt Ideal) ((c.tc : Thread Cert.OutIdeal.nD Cert.OutIdeal.τ).loc Cert.OutIdeal.main_v10_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10_0) = v0 c
          ∧ r.2.mem ((c.tc : Thread Cert.OutIdeal.nD Cert.OutIdeal.τ).loc Cert.OutIdeal.main_v10_1) = v1 c
          ∧ r.2.mem ((c.tc : Thread Cert.OutIdeal.nD Cert.OutIdeal.τ).loc Cert.OutIdeal.main_v10_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v39) = v0 c
          ∧ r.2.mem ((c.tc : Thread Cert.OutRefIdeal.nD Cert.OutRefIdeal.τ).loc Cert.OutRefIdeal.main_v52) = v1 c
          ∧ r.2.mem ((c.tc : Thread Cert.OutRefIdeal.nD Cert.OutRefIdeal.τ).loc Cert.OutRefIdeal.main_v53) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Emb_EmbIdeal : Prop :=
  True

def algebraic_EmbIdeal_EmbRefIdeal [hEmbIdeal : Cert.EmbIdeal.Facts] [hEmbRefIdeal : Cert.EmbRefIdeal.Facts] : Prop :=
  ∀ (m : (ℓ : Loc Cert.EmbIdeal.nD Cert.EmbIdeal.τ Cert.EmbIdeal.sig) → Buf (Elt Ideal) ℓ) (g : Dev Cert.EmbIdeal.nD → PrngReg)
    (m' : (ℓ : Loc Cert.EmbRefIdeal.nD Cert.EmbRefIdeal.τ Cert.EmbRefIdeal.sig) → Buf (Elt Ideal) ℓ) (g' : Dev Cert.EmbRefIdeal.nD → PrngReg), Pre_EmbIdeal m →
    (∀ c : Dev Cert.EmbIdeal.nD,
      m' ((c.tc : Thread Cert.EmbRefIdeal.nD Cert.EmbRefIdeal.τ).loc Cert.EmbRefIdeal.main_arg0) = m ((c.tc : Thread Cert.EmbIdeal.nD Cert.EmbIdeal.τ).loc Cert.EmbIdeal.main_arg0)
      ∧ m' ((c.tc : Thread Cert.EmbRefIdeal.nD Cert.EmbRefIdeal.τ).loc Cert.EmbRefIdeal.main_arg1) = m ((c.tc : Thread Cert.EmbIdeal.nD Cert.EmbIdeal.τ).loc Cert.EmbIdeal.main_arg1)
      ∧ m' ((c.tc : Thread Cert.EmbRefIdeal.nD Cert.EmbRefIdeal.τ).loc Cert.EmbRefIdeal.main_arg2) = m ((c.tc : Thread Cert.EmbIdeal.nD Cert.EmbIdeal.τ).loc Cert.EmbIdeal.main_arg2)
      ∧ m' ((c.tc : Thread Cert.EmbRefIdeal.nD Cert.EmbRefIdeal.τ).loc Cert.EmbRefIdeal.main_arg3) = m ((c.tc : Thread Cert.EmbIdeal.nD Cert.EmbIdeal.τ).loc Cert.EmbIdeal.main_arg3)) →
    ∃ (v0 : (c : Dev Cert.EmbIdeal.nD) → Buf (Elt Ideal) ((c.tc : Thread Cert.EmbIdeal.nD Cert.EmbIdeal.τ).loc Cert.EmbIdeal.main_v2)),
      θ_run (Cert.EmbIdeal.defs (F := Ideal)) (onTc (τ := Cert.EmbIdeal.τ) (Cert.EmbIdeal.main (F := Ideal))) ⟨m, fun _ => 0, g⟩ (fun r => ∀ c : Dev Cert.EmbIdeal.nD,
          r.2.mem ((c.tc : Thread Cert.EmbIdeal.nD Cert.EmbIdeal.τ).loc Cert.EmbIdeal.main_v2) = v0 c
          ∧ r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
          ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
          ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
          ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3))
      ∧ θ_run (Cert.EmbRefIdeal.defs (F := Ideal)) (onTc (τ := Cert.EmbRefIdeal.τ) (Cert.EmbRefIdeal.main (F := Ideal))) ⟨m', fun _ => 0, g'⟩ (fun r => ∀ c : Dev Cert.EmbRefIdeal.nD,
          r.2.mem ((c.tc : Thread Cert.EmbRefIdeal.nD Cert.EmbRefIdeal.τ).loc Cert.EmbRefIdeal.main_v27) = v0 c
          ∧ r.2.mem ((c.tc : Thread Cert.EmbRefIdeal.nD Cert.EmbRefIdeal.τ).loc Cert.EmbRefIdeal.main_arg0) = m' ((c.tc : Thread Cert.EmbRefIdeal.nD Cert.EmbRefIdeal.τ).loc Cert.EmbRefIdeal.main_arg0)
          ∧ r.2.mem ((c.tc : Thread Cert.EmbRefIdeal.nD Cert.EmbRefIdeal.τ).loc Cert.EmbRefIdeal.main_arg1) = m' ((c.tc : Thread Cert.EmbRefIdeal.nD Cert.EmbRefIdeal.τ).loc Cert.EmbRefIdeal.main_arg1)
          ∧ r.2.mem ((c.tc : Thread Cert.EmbRefIdeal.nD Cert.EmbRefIdeal.τ).loc Cert.EmbRefIdeal.main_arg2) = m' ((c.tc : Thread Cert.EmbRefIdeal.nD Cert.EmbRefIdeal.τ).loc Cert.EmbRefIdeal.main_arg2)
          ∧ r.2.mem ((c.tc : Thread Cert.EmbRefIdeal.nD Cert.EmbRefIdeal.τ).loc Cert.EmbRefIdeal.main_arg3) = m' ((c.tc : Thread Cert.EmbRefIdeal.nD Cert.EmbRefIdeal.τ).loc Cert.EmbRefIdeal.main_arg3))

def preserves_Fou_FouIdeal : Prop :=
  True

def algebraic_FouIdeal_FouRefIdeal_pre_finite_rows [hFouIdeal : Cert.FouIdeal.Facts] [hFouRefIdeal : Cert.FouRefIdeal.Facts] [hPre_finite_rows : Cert.Pre_finite_rows.Facts] : Prop :=
  ∀ (m : (ℓ : Loc Cert.FouIdeal.nD Cert.FouIdeal.τ Cert.FouIdeal.sig) → Buf (Elt Ideal) ℓ) (g : Dev Cert.FouIdeal.nD → PrngReg)
    (m' : (ℓ : Loc Cert.FouRefIdeal.nD Cert.FouRefIdeal.τ Cert.FouRefIdeal.sig) → Buf (Elt Ideal) ℓ) (g' : Dev Cert.FouRefIdeal.nD → PrngReg), Pre_FouIdeal_finite_rows m →
    (∀ c : Dev Cert.FouIdeal.nD,
      m' ((c.tc : Thread Cert.FouRefIdeal.nD Cert.FouRefIdeal.τ).loc Cert.FouRefIdeal.main_arg0) = m ((c.tc : Thread Cert.FouIdeal.nD Cert.FouIdeal.τ).loc Cert.FouIdeal.main_arg0)) →
    ∃ (v0 : (c : Dev Cert.FouIdeal.nD) → Buf (Elt Ideal) ((c.tc : Thread Cert.FouIdeal.nD Cert.FouIdeal.τ).loc Cert.FouIdeal.main_v71)),
      θ_run (Cert.FouIdeal.defs (F := Ideal)) (onTc (τ := Cert.FouIdeal.τ) (Cert.FouIdeal.main (F := Ideal))) ⟨m, fun _ => 0, g⟩ (fun r => ∀ c : Dev Cert.FouIdeal.nD,
          r.2.mem ((c.tc : Thread Cert.FouIdeal.nD Cert.FouIdeal.τ).loc Cert.FouIdeal.main_v71) = v0 c
          ∧ r.2.mem ((c.tc : Thread Cert.FouIdeal.nD Cert.FouIdeal.τ).loc Cert.FouIdeal.main_arg0) = m ((c.tc : Thread Cert.FouIdeal.nD Cert.FouIdeal.τ).loc Cert.FouIdeal.main_arg0))
      ∧ θ_run (Cert.FouRefIdeal.defs (F := Ideal)) (onTc (τ := Cert.FouRefIdeal.τ) (Cert.FouRefIdeal.main (F := Ideal))) ⟨m', fun _ => 0, g'⟩ (fun r => ∀ c : Dev Cert.FouRefIdeal.nD,
          r.2.mem ((c.tc : Thread Cert.FouRefIdeal.nD Cert.FouRefIdeal.τ).loc Cert.FouRefIdeal.main_v27) = v0 c
          ∧ r.2.mem ((c.tc : Thread Cert.FouRefIdeal.nD Cert.FouRefIdeal.τ).loc Cert.FouRefIdeal.main_arg0) = m' ((c.tc : Thread Cert.FouRefIdeal.nD Cert.FouRefIdeal.τ).loc Cert.FouRefIdeal.main_arg0))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInp : Cert.Inp.Facts) (hInpIdeal : Cert.InpIdeal.Facts) (hInpRefIdeal : Cert.InpRefIdeal.Facts) (hOut : Cert.Out.Facts) (hOutIdeal : Cert.OutIdeal.Facts) (hOutRefIdeal : Cert.OutRefIdeal.Facts) (hEmb : Cert.Emb.Facts) (hEmbIdeal : Cert.EmbIdeal.Facts) (hEmbRefIdeal : Cert.EmbRefIdeal.Facts) (hFou : Cert.Fou.Facts) (hFouIdeal : Cert.FouIdeal.Facts) (hFouRefIdeal : Cert.FouRefIdeal.Facts) (hPre_finite_qk : Cert.Pre_finite_qk.Facts) (hPre_finite_router : Cert.Pre_finite_router.Facts) (hPre_finite_rows : Cert.Pre_finite_rows.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Inp (hInp := hInp)
    ∧ quiescent_InpIdeal (hInpIdeal := hInpIdeal)
    ∧ quiescent_InpRefIdeal (hInpRefIdeal := hInpRefIdeal)
    ∧ quiescent_Out (hOut := hOut)
    ∧ quiescent_OutIdeal (hOutIdeal := hOutIdeal)
    ∧ quiescent_OutIdeal_pre_finite_router (hOutIdeal := hOutIdeal) (hPre_finite_router := hPre_finite_router)
    ∧ quiescent_OutRefIdeal (hOutRefIdeal := hOutRefIdeal)
    ∧ quiescent_OutRefIdeal_pre_finite_router (hOutRefIdeal := hOutRefIdeal) (hPre_finite_router := hPre_finite_router)
    ∧ quiescent_Emb (hEmb := hEmb)
    ∧ quiescent_EmbIdeal (hEmbIdeal := hEmbIdeal)
    ∧ quiescent_EmbRefIdeal (hEmbRefIdeal := hEmbRefIdeal)
    ∧ quiescent_Fou (hFou := hFou)
    ∧ quiescent_FouIdeal (hFouIdeal := hFouIdeal)
    ∧ quiescent_FouIdeal_pre_finite_rows (hFouIdeal := hFouIdeal) (hPre_finite_rows := hPre_finite_rows)
    ∧ quiescent_FouRefIdeal (hFouRefIdeal := hFouRefIdeal)
    ∧ quiescent_FouRefIdeal_pre_finite_rows (hFouRefIdeal := hFouRefIdeal) (hPre_finite_rows := hPre_finite_rows)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Inp_InpIdeal
    ∧ algebraic_InpIdeal_InpRefIdeal (hInpIdeal := hInpIdeal) (hInpRefIdeal := hInpRefIdeal)
    ∧ preserves_Out_OutIdeal
    ∧ algebraic_OutIdeal_OutRefIdeal_pre_finite_router (hOutIdeal := hOutIdeal) (hOutRefIdeal := hOutRefIdeal) (hPre_finite_router := hPre_finite_router)
    ∧ preserves_Emb_EmbIdeal
    ∧ algebraic_EmbIdeal_EmbRefIdeal (hEmbIdeal := hEmbIdeal) (hEmbRefIdeal := hEmbRefIdeal)
    ∧ preserves_Fou_FouIdeal
    ∧ algebraic_FouIdeal_FouRefIdeal_pre_finite_rows (hFouIdeal := hFouIdeal) (hFouRefIdeal := hFouRefIdeal) (hPre_finite_rows := hPre_finite_rows)
-- ==== Pre_finite_qk.lean ====
abbrev S8x4224x512 : Shape := ⟨3, ![8, 4224, 512]⟩
abbrev S8x4224x256 : Shape := ⟨3, ![8, 4224, 256]⟩
abbrev S8 : Shape := ⟨1, ![8]⟩
abbrev S_ : Shape := ⟨0, ![]⟩
abbrev S8x4224x128 : Shape := ⟨3, ![8, 4224, 128]⟩

class Facts : Prop where
  bitsLt_bf16_f32 : FTy.bits .bf16 < FTy.bits .f32
  bcast_S_S8x4224x512 : S_.BroadcastsInDim S8x4224x512 (![] : Fin 0 → Fin S8x4224x512.rank)
  slices_S8x4224x256_S8x4224x128_0_0_0 : S8x4224x256.Slices ![0, 0, 0] S8x4224x128
  bcast_S_S8x4224x128 : S_.BroadcastsInDim S8x4224x128 (![] : Fin 0 → Fin S8x4224x128.rank)
  bcast_S_S8 : S_.BroadcastsInDim S8 (![] : Fin 0 → Fin S8.rank)

variable [Facts]

def fn {F : FTy → Type} [FloatOps F] (main_arg0 : FVec F S8x4224x512 .bf16) (main_arg1 : FVec F S8x4224x256 .bf16) (main_arg2 : FVec F S8 .f32) : IVec S8x4224x512 1 × IVec S8x4224x128 1 × IVec S8 1 :=
  let main_v0 : FVec F S8x4224x512 .f32 := (extf .f32 · bitsLt_bf16_f32) main_arg0
  let main_v1 : FVec F S8x4224x512 .f32 := Host.absf main_v0
  let main_cst : FVec F S_ .f32 := constant S_ .f32 0x7F800000#32
  let main_v2 : FVec F S8x4224x512 .f32 := broadcastInDim S8x4224x512 ![] bcast_S_S8x4224x512 main_cst
  let main_v3 : IVec S8x4224x512 1 := cmpf .olt main_v1 main_v2
  let main_v4 : FVec F S8x4224x128 .bf16 := (extractStridedSlice S8x4224x128 ![0, 0, 0] · slices_S8x4224x256_S8x4224x128_0_0_0) main_arg1
  let main_v5 : FVec F S8x4224x128 .f32 := (extf .f32 · bitsLt_bf16_f32) main_v4
  let main_v6 : FVec F S8x4224x128 .f32 := Host.absf main_v5
  let main_cst_0 : FVec F S_ .f32 := constant S_ .f32 0x7F800000#32
  let main_v7 : FVec F S8x4224x128 .f32 := broadcastInDim S8x4224x128 ![] bcast_S_S8x4224x128 main_cst_0
  let main_v8 : IVec S8x4224x128 1 := cmpf .olt main_v6 main_v7
  let main_v9 : FVec F S8 .f32 := Host.absf main_arg2
  let main_cst_1 : FVec F S_ .f32 := constant S_ .f32 0x7F800000#32
  let main_v10 : FVec F S8 .f32 := broadcastInDim S8 ![] bcast_S_S8 main_cst_1
  let main_v11 : IVec S8 1 := cmpf .olt main_v9 main_v10
  (main_v3, main_v8, main_v11)
-- ==== Pre_finite_router.lean ====
abbrev S33792x512 : Shape := ⟨2, ![33792, 512]⟩
abbrev S33792x2048 : Shape := ⟨2, ![33792, 2048]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S33792x512 .bf16) (main_arg1 : FVec F S33792x512 .bf16) (main_arg2 : FVec F S33792x2048 .f32) (main_arg3 : FVec F S33792x1024 .f32) (main_arg4 : FVec F S512x1024 .f32) (main_arg5 : FVec F S512x1024 .f32) (main_arg6 : FVec F S1024x1024 .f32) (main_arg7 : FVec F S1024 .f32) (main_arg8 : FVec F S1024 .f32) (main_arg9 : FVec F S1024x16 .f32) : IVec S1024 1 × IVec S1024 1 × IVec S1024x16 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg8
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x16 .f32 := Host.absf main_arg9
  let main_cst_1 : FVec F S_ .f32 := constant S_ .f32 0x7F800000#32
  let main_v7 : FVec F S1024x16 .f32 := broadcastInDim S1024x16 ![] bcast_S_S1024x16 main_cst_1
  let main_v8 : IVec S1024x16 1 := cmpf .olt main_v6 main_v7
  (main_v2, main_v5, main_v8)
-- ==== Pre_finite_rows.lean ====
abbrev S8x4224x1024 : Shape := ⟨3, ![8, 4224, 1024]⟩
abbrev S8x4112x1024 : Shape := ⟨3, ![8, 4112, 1024]⟩
abbrev S_ : Shape := ⟨0, ![]⟩

class Facts : Prop where
  slices_S8x4224x1024_S8x4112x1024_0_112_0 : S8x4224x1024.Slices ![0, 112, 0] S8x4112x1024
  bitsLt_bf16_f32 : FTy.bits .bf16 < FTy.bits .f32
  bcast_S_S8x4112x1024 : S_.BroadcastsInDim S8x4112x1024 (![] : Fin 0 → Fin S8x4112x1024.rank)

variable [Facts]

def fn {F : FTy → Type} [FloatOps F] (main_arg0 : FVec F S8x4224x1024 .bf16) : IVec S8x4112x1024 1 :=
  let main_v0 : FVec F S8x4112x1024 .bf16 := (extractStridedSlice S8x4112x1024 ![0, 112, 0] · slices_S8x4224x1024_S8x4112x1024_0_112_0) main_arg0
  let main_v1 : FVec F S8x4112x1024 .f32 := (extf .f32 · bitsLt_bf16_f32) main_v0
  let main_v2 : FVec F S8x4112x1024 .f32 := Host.absf main_v1
  let main_cst : FVec F S_ .f32 := constant S_ .f32 0x7F800000#32
  let main_v3 : FVec F S8x4112x1024 .f32 := broadcastInDim S8x4112x1024 ![] bcast_S_S8x4112x1024 main_cst
  let main_v4 : IVec S8x4112x1024 1 := cmpf .olt main_v2 main_v3
  main_v4
-- ==== Attn.lean ====
abbrev S8x4224x512 : Shape := ⟨3, ![8, 4224, 512]⟩
abbrev S8x4224x256 : Shape := ⟨3, ![8, 4224, 256]⟩
abbrev S8 : Shape := ⟨1, ![8]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S8x1x1 : Shape := ⟨3, ![8, 1, 1]⟩
abbrev S8x128x384 : Shape := ⟨3, ![8, 128, 384]⟩
abbrev S1x1x384 : Shape := ⟨3, ![1, 1, 384]⟩
abbrev S1x8x128x384 : Shape := ⟨4, ![1, 8, 128, 384]⟩
abbrev S4x8x128x384 : Shape := ⟨4, ![4, 8, 128, 384]⟩
abbrev S1x1408x512 : Shape := ⟨3, ![1, 1408, 512]⟩
abbrev S1x128x256 : Shape := ⟨3, ![1, 128, 256]⟩
abbrev S128x256 : Shape := ⟨2, ![128, 256]⟩
abbrev S1664x256 : Shape := ⟨2, ![1664, 256]⟩
abbrev S1664x128 : Shape := ⟨2, ![1664, 128]⟩
abbrev S1664x64 : Shape := ⟨2, ![1664, 64]⟩
abbrev S1x128x128 : Shape := ⟨3, ![1, 128, 128]⟩
abbrev S128x128 : Shape := ⟨2, ![128, 128]⟩
abbrev S384x128 : Shape := ⟨2, ![384, 128]⟩
abbrev S1 : Shape := ⟨1, ![1]⟩
abbrev S1x1x128x384 : Shape := ⟨4, ![1, 1, 128, 384]⟩

abbrev nBuf : Space → Nat
  | .hbm => 98
  | .vmem => 31
  | .smem => 1
  | _ => 0

abbrev bufTy : (tb : Table) → Fin (tcTables nBuf tb) → BufTy
  | .hbm, ⟨0, _⟩ => ⟨S8x4224x512, .bf16⟩
  | .hbm, ⟨1, _⟩ => ⟨S8x4224x256, .bf16⟩
  | .hbm, ⟨2, _⟩ => ⟨S8, .f32⟩
  | .hbm, ⟨3, _⟩ => ⟨S8, .f32⟩
  | .hbm, ⟨4, _⟩ => ⟨S128, .i32⟩
  | .hbm, ⟨5, _⟩ => ⟨S128x1, .i32⟩
  | .hbm, ⟨6, _⟩ => ⟨S384, .i32⟩
  | .hbm, ⟨7, _⟩ => ⟨S1x384, .i32⟩
  | .hbm, ⟨8, _⟩ => ⟨S_, .i32⟩
  | .hbm, ⟨9, _⟩ => ⟨S1x384, .i32⟩
  | .hbm, ⟨10, _⟩ => ⟨S1x384, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S128x384, .f32⟩
  | .hbm, ⟨16, _⟩ => ⟨S1x128x384, .f32⟩
  | .hbm, ⟨17, _⟩ => ⟨S_, .f32⟩
  | .hbm, ⟨18, _⟩ => ⟨S1x128x384, .f32⟩
  | .hbm, ⟨19, _⟩ => ⟨S1x128x384, .i1⟩
  | .hbm, ⟨20, _⟩ => ⟨S8x1x1, .f32⟩
  | .hbm, ⟨21, _⟩ => ⟨S8x1x1, .f32⟩
  | .hbm, ⟨22, _⟩ => ⟨S1x128x384, .f32⟩
  | .hbm, ⟨23, _⟩ => ⟨S8x128x384, .f32⟩
  | .hbm, ⟨24, _⟩ => ⟨S8x128x384, .f32⟩
  | .hbm, ⟨25, _⟩ => ⟨S8x128x384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x128x384, .f32⟩
  | .hbm, ⟨31, _⟩ => ⟨S8x128x384, .f32⟩
  | .hbm, ⟨32, _⟩ => ⟨S_, .f32⟩
  | .hbm, ⟨33, _⟩ => ⟨S8x128x384, .i1⟩
  | .hbm, ⟨34, _⟩ => ⟨S8x128x384, .f32⟩
  | .hbm, ⟨35, _⟩ => ⟨S8x128x384, .f32⟩
  | .hbm, ⟨36, _⟩ => ⟨S384, .i32⟩
  | .hbm, ⟨37, _⟩ => ⟨S_, .i32⟩
  | .hbm, ⟨38, _⟩ => ⟨S384, .i32⟩
  | .hbm, ⟨39, _⟩ => ⟨S384, .i1⟩
  | .hbm, ⟨40, _⟩ => ⟨S384, .i32⟩
  | .hbm, ⟨41, _⟩ => ⟨S_, .i32⟩
  | .hbm, ⟨42, _⟩ => ⟨S384, .i32⟩
  | .hbm, ⟨43, _⟩ => ⟨S384, .i1⟩
  | .hbm, ⟨44, _⟩ => ⟨S384, .i1⟩
  | .hbm, ⟨45, _⟩ => ⟨S1x1x384, .i1⟩
  | .hbm, ⟨46, _⟩ => ⟨S_, .f32⟩
  | .hbm, ⟨47, _⟩ => ⟨S8x128x384, .i1⟩
  | .hbm, ⟨48, _⟩ => ⟨S8x128x384, .f32⟩
  | .hbm, ⟨49, _⟩ => ⟨S8x128x384, .f32⟩
  | .hbm, ⟨50, _⟩ => ⟨S384, .i32⟩
  | .hbm, ⟨51, _⟩ => ⟨S_, .i32⟩
  | .hbm, ⟨52, _⟩ => ⟨S384, .i32⟩
  | .hbm, ⟨53, _⟩ => ⟨S384, .i1⟩
  | .hbm, ⟨54, _⟩ => ⟨S384, .i32⟩
  | .hbm, ⟨55, _⟩ => ⟨S_, .i32⟩
  | .hbm, ⟨56, _⟩ => ⟨S384, .i32⟩
  | .hbm, ⟨57, _⟩ => ⟨S384, .i1⟩
  | .hbm, ⟨58, _⟩ => ⟨S384, .i1⟩
  | .hbm, ⟨59, _⟩ => ⟨S1x1x384, .i1⟩
  | .hbm, ⟨60, _⟩ => ⟨S_, .f32⟩
  | .hbm, ⟨61, _⟩ => ⟨S8x128x384, .i1⟩
  | .hbm, ⟨62, _⟩ => ⟨S8x128x384, .f32⟩
  | .hbm, ⟨63, _⟩ => ⟨S8x128x384, .f32⟩
  | .hbm, ⟨64, _⟩ => ⟨S384, .i32⟩
  | .hbm, ⟨65, _⟩ => ⟨S_, .i32⟩
  | .hbm, ⟨66, _⟩ => ⟨S384, .i32⟩
  | .hbm, ⟨67, _⟩ => ⟨S384, .i1⟩
  | .hbm, ⟨68, _⟩ => ⟨S384, .i32⟩
  | .hbm, ⟨69, _⟩ => ⟨S_, .i32⟩
  | .hbm, ⟨70, _⟩ => ⟨S384, .i32⟩
  | .hbm, ⟨71, _⟩ => ⟨S384, .i1⟩
  | .hbm, ⟨72, _⟩ => ⟨S384, .i1⟩
  | .hbm, ⟨73, _⟩ => ⟨S1x1x384, .i1⟩
  | .hbm, ⟨74, _⟩ => ⟨S_, .f32⟩
  | .hbm, ⟨75, _⟩ => ⟨S8x128x384, .i1⟩
  | .hbm, ⟨76, _⟩ => ⟨S8x128x384, .f32⟩
  | .hbm, ⟨77, _⟩ => ⟨S8x128x384, .f32⟩
  | .hbm, ⟨78, _⟩ => ⟨S384, .i32⟩
  | .hbm, ⟨79, _⟩ => ⟨S_, .i32⟩
  | .hbm, ⟨80, _⟩ => ⟨S384, .i32⟩
  | .hbm, ⟨81, _⟩ => ⟨S384, .i1⟩
  | .hbm, ⟨82, _⟩ => ⟨S384, .i32⟩
  | .hbm, ⟨83, _⟩ => ⟨S_, .i32⟩
  | .hbm, ⟨84, _⟩ => ⟨S384, .i32⟩
  | .hbm, ⟨85, _⟩ => ⟨S384, .i1⟩
  | .hbm, ⟨86, _⟩ => ⟨S384, .i1⟩
  | .hbm, ⟨87, _⟩ => ⟨S1x1x384, .i1⟩
  | .hbm, ⟨88, _⟩ => ⟨S_, .f32⟩
  | .hbm, ⟨89, _⟩ => ⟨S8x128x384, .i1⟩
  | .hbm, ⟨90, _⟩ => ⟨S8x128x384, .f32⟩
  | .hbm, ⟨91, _⟩ => ⟨S8x128x384, .f32⟩
  | .hbm, ⟨92, _⟩ => ⟨S1x8x128x384, .f32⟩
  | .hbm, ⟨93, _⟩ => ⟨S1x8x128x384, .f32⟩
  | .hbm, ⟨94, _⟩ => ⟨S1x8x128x384, .f32⟩
  | .hbm, ⟨95, _⟩ => ⟨S1x8x128x384, .f32⟩
  | .hbm, ⟨96, _⟩ => ⟨S4x8x128x384, .f32⟩
  | .hbm, ⟨97, _⟩ => ⟨S8x4224x512, .bf16⟩
  | .local _ .vmem, ⟨0, _⟩ => ⟨S1x1408x512, .bf16⟩
  | .local _ .vmem, ⟨1, _⟩ => ⟨S1x1408x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x128x256, .bf16⟩
  | .local _ .vmem, ⟨24, _⟩ => ⟨S1x128x256, .bf16⟩
  | .local _ .vmem, ⟨25, _⟩ => ⟨S1x128x256, .bf16⟩
  | .local _ .vmem, ⟨26, _⟩ => ⟨S1x128x256, .bf16⟩
  | .local _ .vmem, ⟨27, _⟩ => ⟨S1x128x256, .bf16⟩
  | .local _ .vmem, ⟨28, _⟩ => ⟨S4x8x128x384, .f32⟩
  | .local _ .vmem, ⟨29, _⟩ => ⟨S1x1408x512, .bf16⟩
  | .local _ .vmem, ⟨30, _⟩ => ⟨S1x1408x512, .bf16⟩
  | .local _ .smem, ⟨0, _⟩ => ⟨S8, .f32⟩
  | _, _ => ⟨S8x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_call3_v0 : Ref sig .tc := ⟨.hbm, 75, rfl⟩
abbrev main_call3_v1 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_call4_v0 : Ref sig .tc := ⟨.hbm, 89, rfl⟩
abbrev main_call4_v1 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![8, 3], ![false, false]⟩

def k0_off1 (i : grid0.Coords) (c0_i32 : BitVec 32) : Fin 4 → Nat :=
  let arg1 : BitVec 32 := BitVec.ofNat 32 (i 1).val
  let c11_i32 : BitVec 32 := 11#32
  let v0 : BitVec 32 := Scalar.muli arg1 c11_i32
  let v81 : BitVec 32 := Scalar.addi v0 c0_i32
  let c32_i32 : BitVec 32 := 32#32
  let v86 : BitVec 1 := Scalar.cmpi .eq v81 c32_i32
  let c3_i32 : BitVec 32 := 3#32
  let c1_i32 : BitVec 32 := 1#32
  let v84 : BitVec 1 := Scalar.cmpi .eq v81 c1_i32
  let c1_i32_70 : BitVec 32 := 1#32
  let c0_i32_68 : BitVec 32 := 0#32
  let v82 : BitVec 1 := Scalar.cmpi .eq v81 c0_i32_68
  let c0_i32_69 : BitVec 32 := 0#32
  let c2_i32 : BitVec 32 := 2#32
  let v83 : BitVec 32 := Scalar.select v82 c0_i32_69 c2_i32
  let v85 : BitVec 32 := Scalar.select v84 c1_i32_70 v83
  let v87 : BitVec 32 := Scalar.select v86 c3_i32 v85
  let v88 : Index := Scalar.indexCast v87
  let c0_71 : Index := 0#32
  let c0_72 : Index := 0#32
  let c0_73 : Index := 0#32
  ![v88.toNat, 0, 0, 0]
def k0_off2 (i : grid0.Coords) (c0_i32_82 : BitVec 32) : Fin 4 → Nat :=
  let arg1 : BitVec 32 := BitVec.ofNat 32 (i 1).val
  let c11_i32 : BitVec 32 := 11#32
  let v0 : BitVec 32 := Scalar.muli arg1 c11_i32
  let v118 : BitVec 32 := Scalar.addi v0 c0_i32_82
  let c32_i32_88 : BitVec 32 := 32#32
  let v123 : BitVec 1 := Scalar.cmpi .eq v118 c32_i32_88
  let c3_i32_89 : BitVec 32 := 3#32
  let c1_i32_86 : BitVec 32 := 1#32
  let v121 : BitVec 1 := Scalar.cmpi .eq v118 c1_i32_86
  let c1_i32_87 : BitVec 32 := 1#32
  let c0_i32_83 : BitVec 32 := 0#32
  let v119 : BitVec 1 := Scalar.cmpi .eq v118 c0_i32_83
  let c0_i32_84 : BitVec 32 := 0#32
  let c2_i32_85 : BitVec 32 := 2#32
  let v120 : BitVec 32 := Scalar.select v119 c0_i32_84 c2_i32_85
  let v122 : BitVec 32 := Scalar.select v121 c1_i32_87 v120
  let v124 : BitVec 32 := Scalar.select v123 c3_i32_89 v122
  let v125 : Index := Scalar.indexCast v124
  let c1_90 : Index := 1#32
  let c0_91 : Index := 0#32
  let c0_92 : Index := 0#32
  ![v125.toNat, 1, 0, 0]
def k0_off3 (i : grid0.Coords) (c0_i32_105 : BitVec 32) : Fin 4 → Nat :=
  let arg1 : BitVec 32 := BitVec.ofNat 32 (i 1).val
  let c11_i32 : BitVec 32 := 11#32
  let v0 : BitVec 32 := Scalar.muli arg1 c11_i32
  let v160 : BitVec 32 := Scalar.addi v0 c0_i32_105
  let c32_i32_111 : BitVec 32 := 32#32
  let v165 : BitVec 1 := Scalar.cmpi .eq v160 c32_i32_111
  let c3_i32_112 : BitVec 32 := 3#32
  let c1_i32_109 : BitVec 32 := 1#32
  let v163 : BitVec 1 := Scalar.cmpi .eq v160 c1_i32_109
  let c1_i32_110 : BitVec 32 := 1#32
  let c0_i32_106 : BitVec 32 := 0#32
  let v161 : BitVec 1 := Scalar.cmpi .eq v160 c0_i32_106
  let c0_i32_107 : BitVec 32 := 0#32
  let c2_i32_108 : BitVec 32 := 2#32
  let v162 : BitVec 32 := Scalar.select v161 c0_i32_107 c2_i32_108
  let v164 : BitVec 32 := Scalar.select v163 c1_i32_110 v162
  let v166 : BitVec 32 := Scalar.select v165 c3_i32_112 v164
  let v167 : Index := Scalar.indexCast v166
  let c2_113 : Index := 2#32
  let c0_114 : Index := 0#32
  let c0_115 : Index := 0#32
  ![v167.toNat, 2, 0, 0]
def k0_off4 (i : grid0.Coords) (c0_i32_125 : BitVec 32) : Fin 4 → Nat :=
  let arg1 : BitVec 32 := BitVec.ofNat 32 (i 1).val
  let c11_i32 : BitVec 32 := 11#32
  let v0 : BitVec 32 := Scalar.muli arg1 c11_i32
  let v197 : BitVec 32 := Scalar.addi v0 c0_i32_125
  let c32_i32_131 : BitVec 32 := 32#32
  let v202 : BitVec 1 := Scalar.cmpi .eq v197 c32_i32_131
  let c3_i32_132 : BitVec 32 := 3#32
  let c1_i32_129 : BitVec 32 := 1#32
  let v200 : BitVec 1 := Scalar.cmpi .eq v197 c1_i32_129
  let c1_i32_130 : BitVec 32 := 1#32
  let c0_i32_126 : BitVec 32 := 0#32
  let v198 : BitVec 1 := Scalar.cmpi .eq v197 c0_i32_126
  let c0_i32_127 : BitVec 32 := 0#32
  let c2_i32_128 : BitVec 32 := 2#32
  let v199 : BitVec 32 := Scalar.select v198 c0_i32_127 c2_i32_128
  let v201 : BitVec 32 := Scalar.select v200 c1_i32_130 v199
  let v203 : BitVec 32 := Scalar.select v202 c3_i32_132 v201
  let v204 : Index := Scalar.indexCast v203
  let c3_133 : Index := 3#32
  let c0_134 : Index := 0#32
  let c0_135 : Index := 0#32
  ![v204.toNat, 3, 0, 0]
def k0_off5 (i : grid0.Coords) (c0_i32_148 : BitVec 32) : Fin 4 → Nat :=
  let arg1 : BitVec 32 := BitVec.ofNat 32 (i 1).val
  let c11_i32 : BitVec 32 := 11#32
  let v0 : BitVec 32 := Scalar.muli arg1 c11_i32
  let v239 : BitVec 32 := Scalar.addi v0 c0_i32_148
  let c32_i32_154 : BitVec 32 := 32#32
  let v244 : BitVec 1 := Scalar.cmpi .eq v239 c32_i32_154
  let c3_i32_155 : BitVec 32 := 3#32
  let c1_i32_152 : BitVec 32 := 1#32
  let v242 : BitVec 1 := Scalar.cmpi .eq v239 c1_i32_152
  let c1_i32_153 : BitVec 32 := 1#32
  let c0_i32_149 : BitVec 32 := 0#32
  let v240 : BitVec 1 := Scalar.cmpi .eq v239 c0_i32_149
  let c0_i32_150 : BitVec 32 := 0#32
  let c2_i32_151 : BitVec 32 := 2#32
  let v241 : BitVec 32 := Scalar.select v240 c0_i32_150 c2_i32_151
  let v243 : BitVec 32 := Scalar.select v242 c1_i32_153 v241
  let v245 : BitVec 32 := Scalar.select v244 c3_i32_155 v243
  let v246 : Index := Scalar.indexCast v245
  let c4_156 : Index := 4#32
  let c0_157 : Index := 0#32
  let c0_158 : Index := 0#32
  ![v246.toNat, 4, 0, 0]
def k0_off6 (i : grid0.Coords) (c0_i32_168 : BitVec 32) : Fin 4 → Nat :=
  let arg1 : BitVec 32 := BitVec.ofNat 32 (i 1).val
  let c11_i32 : BitVec 32 := 11#32
  let v0 : BitVec 32 := Scalar.muli arg1 c11_i32
  let v276 : BitVec 32 := Scalar.addi v0 c0_i32_168
  let c32_i32_174 : BitVec 32 := 32#32
  let v281 : BitVec 1 := Scalar.cmpi .eq v276 c32_i32_174
  let c3_i32_175 : BitVec 32 := 3#32
  let c1_i32_172 : BitVec 32 := 1#32
  let v279 : BitVec 1 := Scalar.cmpi .eq v276 c1_i32_172
  let c1_i32_173 : BitVec 32 := 1#32
  let c0_i32_169 : BitVec 32 := 0#32
  let v277 : BitVec 1 := Scalar.cmpi .eq v276 c0_i32_169
  let c0_i32_170 : BitVec 32 := 0#32
  let c2_i32_171 : BitVec 32 := 2#32
  let v278 : BitVec 32 := Scalar.select v277 c0_i32_170 c2_i32_171
  let v280 : BitVec 32 := Scalar.select v279 c1_i32_173 v278
  let v282 : BitVec 32 := Scalar.select v281 c3_i32_175 v280
  let v283 : Index := Scalar.indexCast v282
  let c5_176 : Index := 5#32
  let c0_177 : Index := 0#32
  let c0_178 : Index := 0#32
  ![v283.toNat, 5, 0, 0]
def k0_off7 (i : grid0.Coords) (c0_i32_191 : BitVec 32) : Fin 4 → Nat :=
  let arg1 : BitVec 32 := BitVec.ofNat 32 (i 1).val
  let c11_i32 : BitVec 32 := 11#32
  let v0 : BitVec 32 := Scalar.muli arg1 c11_i32
  let v318 : BitVec 32 := Scalar.addi v0 c0_i32_191
  let c32_i32_197 : BitVec 32 := 32#32
  let v323 : BitVec 1 := Scalar.cmpi .eq v318 c32_i32_197
  let c3_i32_198 : BitVec 32 := 3#32
  let c1_i32_195 : BitVec 32 := 1#32
  let v321 : BitVec 1 := Scalar.cmpi .eq v318 c1_i32_195
  let c1_i32_196 : BitVec 32 := 1#32
  let c0_i32_192 : BitVec 32 := 0#32
  let v319 : BitVec 1 := Scalar.cmpi .eq v318 c0_i32_192
  let c0_i32_193 : BitVec 32 := 0#32
  let c2_i32_194 : BitVec 32 := 2#32
  let v320 : BitVec 32 := Scalar.select v319 c0_i32_193 c2_i32_194
  let v322 : BitVec 32 := Scalar.select v321 c1_i32_196 v320
  let v324 : BitVec 32 := Scalar.select v323 c3_i32_198 v322
  let v325 : Index := Scalar.indexCast v324
  let c6_199 : Index := 6#32
  let c0_200 : Index := 0#32
  let c0_201 : Index := 0#32
  ![v325.toNat, 6, 0, 0]
def k0_off8 (i : grid0.Coords) (c0_i32_211 : BitVec 32) : Fin 4 → Nat :=
  let arg1 : BitVec 32 := BitVec.ofNat 32 (i 1).val
  let c11_i32 : BitVec 32 := 11#32
  let v0 : BitVec 32 := Scalar.muli arg1 c11_i32
  let v355 : BitVec 32 := Scalar.addi v0 c0_i32_211
  let c32_i32_217 : BitVec 32 := 32#32
  let v360 : BitVec 1 := Scalar.cmpi .eq v355 c32_i32_217
  let c3_i32_218 : BitVec 32 := 3#32
  let c1_i32_215 : BitVec 32 := 1#32
  let v358 : BitVec 1 := Scalar.cmpi .eq v355 c1_i32_215
  let c1_i32_216 : BitVec 32 := 1#32
  let c0_i32_212 : BitVec 32 := 0#32
  let v356 : BitVec 1 := Scalar.cmpi .eq v355 c0_i32_212
  let c0_i32_213 : BitVec 32 := 0#32
  let c2_i32_214 : BitVec 32 := 2#32
  let v357 : BitVec 32 := Scalar.select v356 c0_i32_213 c2_i32_214
  let v359 : BitVec 32 := Scalar.select v358 c1_i32_216 v357
  let v361 : BitVec 32 := Scalar.select v360 c3_i32_218 v359
  let v362 : Index := Scalar.indexCast v361
  let c7_219 : Index := 7#32
  let c0_220 : Index := 0#32
  let c0_221 : Index := 0#32
  ![v362.toNat, 7, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c32_i32 : BitVec 32 := 32#32
  let v3 : BitVec 32 := Scalar.maxsi c0_i32_0 v2
  let v4 : BitVec 32 := Scalar.minsi c32_i32 v3
  let c0_i32_1 : BitVec 32 := 0#32
  let c0_i32_2 : BitVec 32 := 0#32
  ![arg0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c32_i32 : BitVec 32 := 32#32
  let v3 : BitVec 32 := Scalar.maxsi c0_i32 v2
  let v4 : BitVec 32 := Scalar.minsi c32_i32 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c4_i32 : BitVec 32 := 4#32
  let v1 : BitVec 32 := Scalar.addi v0 c4_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c5_i32 : BitVec 32 := 5#32
  let v1 : BitVec 32 := Scalar.addi v0 c5_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c6_i32 : BitVec 32 := 6#32
  let v1 : BitVec 32 := Scalar.addi v0 c6_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c7_i32 : BitVec 32 := 7#32
  let v1 : BitVec 32 := Scalar.addi v0 c7_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c8_i32 : BitVec 32 := 8#32
  let v1 : BitVec 32 := Scalar.addi v0 c8_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_11 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c9_i32 : BitVec 32 := 9#32
  let v1 : BitVec 32 := Scalar.addi v0 c9_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c10_i32 : BitVec 32 := 10#32
  let v1 : BitVec 32 := Scalar.addi v0 c10_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_13 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c11_i32_0 : BitVec 32 := 11#32
  let v1 : BitVec 32 := Scalar.addi v0 c11_i32_0
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_1 : BitVec 32 := 0#32
  let c0_i32_2 : BitVec 32 := 0#32
  ![arg0.toNat, v4.toNat, c0_i32_1.toNat]

def cc0_transform_14 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c12_i32 : BitVec 32 := 12#32
  let v1 : BitVec 32 := Scalar.addi v0 c12_i32
  let c1_i32 : BitVec 32 := 1#32
  let v2 : BitVec 32 := Scalar.subi v1 c1_i32
  let c0_i32 : BitVec 32 := 0#32
  let c32_i32 : BitVec 32 := 32#32
  let v3 : BitVec 32 := Scalar.maxsi c0_i32 v2
  let v4 : BitVec 32 := Scalar.minsi c32_i32 v3
  let c0_i32_0 : BitVec 32 := 0#32
  let c0_i32_1 : BitVec 32 := 0#32
  ![arg0.toNat, v4.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S4x8x128x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1408x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== AttnIdeal.lean ====
variable {F : FTy → Type} [FloatOps F] [Named F]
def κ : String → Option EReal := fun
  | "log2e" => some (((Real.log 2)⁻¹ : ℝ) : EReal)
  | "scale" => some ((8⁻¹ * (Real.log 2)⁻¹ : ℝ) : EReal)
  | _ => none
-- ==== AttnRefIdeal.lean ====
abbrev S8x4224x512 : Shape := ⟨3, ![8, 4224, 512]⟩
abbrev S8x4224x256 : Shape := ⟨3, ![8, 4224, 256]⟩
abbrev S8 : Shape := ⟨1, ![8]⟩
abbrev S8x4112x128 : Shape := ⟨3, ![8, 4112, 128]⟩
abbrev S8x33x128x2x4x64 : Shape := ⟨6, ![8, 33, 128, 2, 4, 64]⟩
abbrev S_ : Shape := ⟨0, ![]⟩
abbrev S8x4480x128 : Shape := ⟨3, ![8, 4480, 128]⟩
abbrev S8x35x128x2x64 : Shape := ⟨5, ![8, 35, 128, 2, 64]⟩
abbrev S8x33x128x2x64 : Shape := ⟨5, ![8, 33, 128, 2, 64]⟩
abbrev S8x33x384x2x64 : Shape := ⟨5, ![8, 33, 384, 2, 64]⟩
abbrev S8x33x2x384x128x4 : Shape := ⟨6, ![8, 33, 2, 384, 128, 4]⟩
abbrev S8x33x2x4x128x384 : Shape := ⟨6, ![8, 33, 2, 4, 128, 384]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S33 : Shape := ⟨1, ![33]⟩
abbrev S33x1 : Shape := ⟨2, ![33, 1]⟩
abbrev S33x384 : Shape := ⟨2, ![33, 384]⟩
abbrev S1x128x384 : Shape := ⟨3, ![1, 128, 384]⟩
abbrev S33x1x384 : Shape := ⟨3, ![33, 1, 384]⟩
abbrev S33x128x384 : Shape := ⟨3, ![33, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x33x1x1x128x384 : Shape := ⟨6, ![1, 33, 1, 1, 128, 384]⟩
abbrev S1x1x2x4x128x384 : Shape := ⟨6, ![1, 1, 2, 4, 128, 384]⟩
abbrev S2x4x1 : Shape := ⟨3, ![2, 4, 1]⟩
abbrev S8x33x2x4x128 : Shape := ⟨5, ![8, 33, 2, 4, 128]⟩
abbrev S1x1x2x4x1 : Shape := ⟨5, ![1, 1, 2, 4, 1]⟩
abbrev S8x33x2x4x128x1 : Shape := ⟨6, ![8, 33, 2, 4, 128, 1]⟩
abbrev S8x33x2x64x4x128 : Shape := ⟨6, ![8, 33, 2, 64, 4, 128]⟩
abbrev S8x33x128x2x4 : Shape := ⟨5, ![8, 33, 128, 2, 4]⟩
abbrev S8x33x128x2x4x1 : Shape := ⟨6, ![8, 33, 128, 2, 4, 1]⟩

abbrev nBuf : Space → Nat
  | .hbm => 113
  | .vmem => 0
  | .smem => 0
  | _ => 0

abbrev bufTy : (tb : Table) → Fin (tcTables nBuf tb) → BufTy
  | .hbm, ⟨0, _⟩ => ⟨S8x4224x512, .bf16⟩
  | .hbm, ⟨1, _⟩ => ⟨S8x4224x256, .bf16⟩
  | .hbm, ⟨2, _⟩ => ⟨S8, .f32⟩
  | .hbm, ⟨3, _⟩ => ⟨S8, .f32⟩
  | .hbm, ⟨4, _⟩ => ⟨S8x4112x128, .bf16⟩
  | .hbm, ⟨5, _⟩ => ⟨S8x4112x128, .f32⟩
  | .hbm, ⟨6, _⟩ => ⟨S8x4112x128, .bf16⟩
  | .hbm, ⟨7, _⟩ => ⟨S8x4112x128, .f32⟩
  | .hbm, ⟨8, _⟩ => ⟨S8x4224x512, .f32⟩
  | .hbm, ⟨9, _⟩ => ⟨S8x33x128x2x4x64, .f32⟩
  | .hbm, ⟨10, _⟩ => ⟨S_, .i32⟩
  | .hbm, ⟨11, _⟩ => ⟨S_, .f32⟩
  | .hbm, ⟨12, _⟩ => ⟨S8x4480x128, .f32⟩
  | .hbm, ⟨13, _⟩ => ⟨S8x35x128x2x64, .f32⟩
  | .hbm, ⟨14, _⟩ => ⟨S_, .i32⟩
  | .hbm, ⟨15, _⟩ => ⟨S_, .f32⟩
  | .hbm, ⟨16, _⟩ => ⟨S8x4480x128, .f32⟩
  | .hbm, ⟨17, _⟩ => ⟨S8x35x128x2x64, .f32⟩
  | .hbm, ⟨18, _⟩ => ⟨S8x33x128x2x64, .f32⟩
  | .hbm, ⟨19, _⟩ => ⟨S8x33x128x2x64, .f32⟩
  | .hbm, ⟨20, _⟩ => ⟨S8x33x128x2x64, .f32⟩
  | .hbm, ⟨21, _⟩ => ⟨S8x33x384x2x64, .f32⟩
  | .hbm, ⟨22, _⟩ => ⟨S8x33x128x2x64, .f32⟩
  | .hbm, ⟨23, _⟩ => ⟨S8x33x128x2x64, .f32⟩
  | .hbm, ⟨24, _⟩ => ⟨S8x33x128x2x64, .f32⟩
  | .hbm, ⟨25, _⟩ => ⟨S8x33x384x2x64, .f32⟩
  | .hbm, ⟨26, _⟩ => ⟨S8x33x2x384x128x4, .f32⟩
  | .hbm, ⟨27, _⟩ => ⟨S8x33x2x4x128x384, .f32⟩
  | .hbm, ⟨28, _⟩ => ⟨S_, .f32⟩
  | .hbm, ⟨29, _⟩ => ⟨S8x33x2x4x128x384, .f32⟩
  | .hbm, ⟨30, _⟩ => ⟨S8x33x2x4x128x384, .f32⟩
  | .hbm, ⟨31, _⟩ => ⟨S384, .i32⟩
  | .hbm, ⟨32, _⟩ => ⟨S1x384, .i32⟩
  | .hbm, ⟨33, _⟩ => ⟨S_, .i32⟩
  | .hbm, ⟨34, _⟩ => ⟨S1x384, .i32⟩
  | .hbm, ⟨35, _⟩ => ⟨S1x384, .i32⟩
  | .hbm, ⟨36, _⟩ => ⟨S128, .i32⟩
  | .hbm, ⟨37, _⟩ => ⟨S128x1, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S33, .i32⟩
  | .hbm, ⟨42, _⟩ => ⟨S33x1, .i32⟩
  | .hbm, ⟨43, _⟩ => ⟨S_, .i32⟩
  | .hbm, ⟨44, _⟩ => ⟨S33x1, .i32⟩
  | .hbm, ⟨45, _⟩ => ⟨S33x1, .i32⟩
  | .hbm, ⟨46, _⟩ => ⟨S_, .i32⟩
  | .hbm, ⟨47, _⟩ => ⟨S33x1, .i32⟩
  | .hbm, ⟨48, _⟩ => ⟨S33x1, .i32⟩
  | .hbm, ⟨49, _⟩ => ⟨S1x384, .i32⟩
  | .hbm, ⟨50, _⟩ => ⟨S33x384, .i32⟩
  | .hbm, ⟨51, _⟩ => ⟨S33x384, .i32⟩
  | .hbm, ⟨52, _⟩ => ⟨S33x384, .i32⟩
  | .hbm, ⟨53, _⟩ => ⟨S_, .i32⟩
  | .hbm, ⟨54, _⟩ => ⟨S33x384, .i32⟩
  | .hbm, ⟨55, _⟩ => ⟨S33x384, .i1⟩
  | .hbm, ⟨56, _⟩ => ⟨S_, .i32⟩
  | .hbm, ⟨57, _⟩ => ⟨S33x384, .i32⟩
  | .hbm, ⟨58, _⟩ => ⟨S33x384, .i1⟩
  | .hbm, ⟨59, _⟩ => ⟨S33x384, .i1⟩
  | .hbm, ⟨60, _⟩ => ⟨S128x384, .i32⟩
  | .hbm, ⟨61, _⟩ => ⟨S_, .i32⟩
  | .hbm, ⟨62, _⟩ => ⟨S128x384, .i32⟩
  | .hbm, ⟨63, _⟩ => ⟨S128x384, .i1⟩
  | .hbm, ⟨64, _⟩ => ⟨S1x128x384, .i1⟩
  | .hbm, ⟨65, _⟩ => ⟨S33x1x384, .i1⟩
  | .hbm, ⟨66, _⟩ => ⟨S33x128x384, .i1⟩
  | .hbm, ⟨67, _⟩ => ⟨S33x128x384, .i1⟩
  | .hbm, ⟨68, _⟩ => ⟨S33x128x384, .i1⟩
  | .hbm, ⟨69, _⟩ => ⟨S2x4, .f32⟩
  | .hbm, ⟨70, _⟩ => ⟨S2x4x1x1, .f32⟩
  | .hbm, ⟨71, _⟩ => ⟨S2x4x1x1, .f32⟩
  | .hbm, ⟨72, _⟩ => ⟨S128x384, .i32⟩
  | .hbm, ⟨73, _⟩ => ⟨S128x384, .f32⟩
  | .hbm, ⟨74, _⟩ => ⟨S1x1x128x384, .f32⟩
  | .hbm, ⟨75, _⟩ => ⟨S2x4x128x384, .f32⟩
  | .hbm, ⟨76, _⟩ => ⟨S2x4x128x384, .f32⟩
  | .hbm, ⟨77, _⟩ => ⟨S2x4x128x384, .f32⟩
  | .hbm, ⟨78, _⟩ => ⟨S1x33x1x1x128x384, .i1⟩
  | .hbm, ⟨79, _⟩ => ⟨S1x1x2x4x128x384, .f32⟩
  | .hbm, ⟨80, _⟩ => ⟨S8x33x2x4x128x384, .f32⟩
  | .hbm, ⟨81, _⟩ => ⟨S8x33x2x4x128x384, .f32⟩
  | .hbm, ⟨82, _⟩ => ⟨S_, .f32⟩
  | .hbm, ⟨83, _⟩ => ⟨S_, .f32⟩
  | .hbm, ⟨84, _⟩ => ⟨S8x33x2x4x128x384, .i1⟩
  | .hbm, ⟨85, _⟩ => ⟨S8x33x2x4x128x384, .f32⟩
  | .hbm, ⟨86, _⟩ => ⟨S8x33x2x4x128x384, .f32⟩
  | .hbm, ⟨87, _⟩ => ⟨S2x4, .f32⟩
  | .hbm, ⟨88, _⟩ => ⟨S2x4x1, .f32⟩
  | .hbm, ⟨89, _⟩ => ⟨S_, .f32⟩
  | .hbm, ⟨90, _⟩ => ⟨S8x33x2x4x128, .f32⟩
  | .hbm, ⟨91, _⟩ => ⟨S1x1x2x4x1, .f32⟩
  | .hbm, ⟨92, _⟩ => ⟨S8x33x2x4x128, .f32⟩
  | .hbm, ⟨93, _⟩ => ⟨S8x33x2x4x128, .f32⟩
  | .hbm, ⟨94, _⟩ => ⟨S8x33x2x4x128x1, .f32⟩
  | .hbm, ⟨95, _⟩ => ⟨S8x33x2x4x128x384, .f32⟩
  | .hbm, ⟨96, _⟩ => ⟨S8x33x2x4x128x384, .f32⟩
  | .hbm, ⟨97, _⟩ => ⟨S8x33x2x4x128x384, .f32⟩
  | .hbm, ⟨98, _⟩ => ⟨S_, .f32⟩
  | .hbm, ⟨99, _⟩ => ⟨S8x33x2x4x128, .f32⟩
  | .hbm, ⟨100, _⟩ => ⟨S1x1x2x4x1, .f32⟩
  | .hbm, ⟨101, _⟩ => ⟨S8x33x2x4x128, .f32⟩
  | .hbm, ⟨102, _⟩ => ⟨S8x33x2x4x128, .f32⟩
  | .hbm, ⟨103, _⟩ => ⟨S8x33x2x4x128, .f32⟩
  | .hbm, ⟨104, _⟩ => ⟨S8x33x2x4x128, .f32⟩
  | .hbm, ⟨105, _⟩ => ⟨S8x33x2x64x4x128, .f32⟩
  | .hbm, ⟨106, _⟩ => ⟨S8x33x128x2x4x64, .f32⟩
  | .hbm, ⟨107, _⟩ => ⟨S8x33x128x2x4, .f32⟩
  | .hbm, ⟨108, _⟩ => ⟨S8x33x128x2x4x1, .f32⟩
  | .hbm, ⟨109, _⟩ => ⟨S8x33x128x2x4x64, .f32⟩
  | .hbm, ⟨110, _⟩ => ⟨S8x33x128x2x4x64, .f32⟩
  | .hbm, ⟨111, _⟩ => ⟨S8x4224x512, .f32⟩
  | .hbm, ⟨112, _⟩ => ⟨S8x4224x512, .bf16⟩
  | _, _ => ⟨S8x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== Up.lean ====
abbrev S8x16x528x1024 : Shape := ⟨4, ![8, 16, 528, 1024]⟩
abbrev S4x16x1024x1536 : Shape := ⟨4, ![4, 16, 1024, 1536]⟩
abbrev S8x16x528x1536 : Shape := ⟨4, ![8, 16, 528, 1536]⟩
abbrev S2x1x528x1024 : Shape := ⟨4, ![2, 1, 528, 1024]⟩
abbrev S1x1x1024x1536 : Shape := ⟨4, ![1, 1, 1024, 1536]⟩
abbrev S2x1x528x1536 : Shape := ⟨4, ![2, 1, 528, 1536]⟩
abbrev S1024x1536 : Shape := ⟨2, ![1024, 1536]⟩
abbrev S2x528x1024 : Shape := ⟨3, ![2, 528, 1024]⟩
abbrev S1056x1024 : Shape := ⟨2, ![1056, 1024]⟩
abbrev S1056x1536 : Shape := ⟨2, ![1056, 1536]⟩
abbrev S2x528x1536 : Shape := ⟨3, ![2, 528, 1536]⟩

abbrev nBuf : Space → Nat
  | .hbm => 4
  | .vmem => 10
  | .smem => 0
  | _ => 0

abbrev bufTy : (tb : Table) → Fin (tcTables nBuf tb) → BufTy
  | .hbm, ⟨0, _⟩ => ⟨S8x16x528x1024, .bf16⟩
  | .hbm, ⟨1, _⟩ => ⟨S4x16x1024x1536, .f32⟩
  | .hbm, ⟨2, _⟩ => ⟨S4x16x1024x1536, .f32⟩
  | .hbm, ⟨3, _⟩ => ⟨S8x16x528x1536, .bf16⟩
  | .local _ .vmem, ⟨0, _⟩ => ⟨S2x1x528x1024, .bf16⟩
  | .local _ .vmem, ⟨1, _⟩ => ⟨S2x1x528x1024, .bf16⟩
  | .local _ .vmem, ⟨2, _⟩ => ⟨S1x1x1024x1536, .f32⟩
  | .local _ .vmem, ⟨3, _⟩ => ⟨S1x1x1024x1536, .f32⟩
  | .local _ .vmem, ⟨4, _⟩ => ⟨S1x1x1024x1536, .f32⟩
  | .local _ .vmem, ⟨5, _⟩ => ⟨S1x1x1024x1536, .f32⟩
  | .local _ .vmem, ⟨6, _⟩ => ⟨S2x1x528x1536, .bf16⟩
  | .local _ .vmem, ⟨7, _⟩ => ⟨S2x1x528x1536, .bf16⟩
  | .local _ .vmem, ⟨8, _⟩ => ⟨S1024x1536, .bf16⟩
  | .local _ .vmem, ⟨9, _⟩ => ⟨S1024x1536, .bf16⟩
  | _, _ => ⟨S8x16x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x528x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8x16x528x1024 : Shape := ⟨4, ![8, 16, 528, 1024]⟩
abbrev S4x16x1024x1536 : Shape := ⟨4, ![4, 16, 1024, 1536]⟩
abbrev S1x16x1024x1536 : Shape := ⟨4, ![1, 16, 1024, 1536]⟩
abbrev S16x1024x1536 : Shape := ⟨3, ![16, 1024, 1536]⟩
abbrev S16x1536x8x528 : Shape := ⟨4, ![16, 1536, 8, 528]⟩
abbrev S8x16x528x1536 : Shape := ⟨4, ![8, 16, 528, 1536]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x16x528x1024, .bf16⟩
  | .hbm, ⟨1, _⟩ => ⟨S4x16x1024x1536, .f32⟩
  | .hbm, ⟨2, _⟩ => ⟨S4x16x1024x1536, .f32⟩
  | .hbm, ⟨3, _⟩ => ⟨S8x16x528x1024, .f32⟩
  | .hbm, ⟨4, _⟩ => ⟨S1x16x1024x1536, .f32⟩
  | .hbm, ⟨5, _⟩ => ⟨S16x1024x1536, .f32⟩
  | .hbm, ⟨6, _⟩ => ⟨S16x1536x8x528, .f32⟩
  | .hbm, ⟨7, _⟩ => ⟨S8x16x528x1536, .f32⟩
  | .hbm, ⟨8, _⟩ => ⟨S1x16x1024x1536, .f32⟩
  | .hbm, ⟨9, _⟩ => ⟨S16x1024x1536, .f32⟩
  | .hbm, ⟨10, _⟩ => ⟨S16x1536x8x528, .f32⟩
  | .hbm, ⟨11, _⟩ => ⟨S8x16x528x1536, .f32⟩
  | .hbm, ⟨12, _⟩ => ⟨S8x16x528x1536, .f32⟩
  | .hbm, ⟨13, _⟩ => ⟨S8x16x528x1536, .f32⟩
  | .hbm, ⟨14, _⟩ => ⟨S_, .f32⟩
  | .hbm, ⟨15, _⟩ => ⟨S8x16x528x1536, .f32⟩
  | .hbm, ⟨16, _⟩ => ⟨S8x16x528x1536, .f32⟩
  | .hbm, ⟨17, _⟩ => ⟨S_, .f32⟩
  | .hbm, ⟨18, _⟩ => ⟨S8x16x528x1536, .f32⟩
  | .hbm, ⟨19, _⟩ => ⟨S8x16x528x1536, .f32⟩
  | .hbm, ⟨20, _⟩ => ⟨S8x16x528x1536, .f32⟩
  | .hbm, ⟨21, _⟩ => ⟨S8x16x528x1536, .f32⟩
  | .hbm, ⟨22, _⟩ => ⟨S8x16x528x1536, .bf16⟩
  | _, _ => ⟨S8x16x528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S8x16x528x1536 : Shape := ⟨4, ![8, 16, 528, 1536]⟩
abbrev S8x16x528x1 : Shape := ⟨4, ![8, 16, 528, 1]⟩
abbrev S4x16x1536x1024 : Shape := ⟨4, ![4, 16, 1536, 1024]⟩
abbrev S8x16x528x1024 : Shape := ⟨4, ![8, 16, 528, 1024]⟩
abbrev S4x1x528x1536 : Shape := ⟨4, ![4, 1, 528, 1536]⟩
abbrev S4x1x528x1 : Shape := ⟨4, ![4, 1, 528, 1]⟩
abbrev S1x1x1536x1024 : Shape := ⟨4, ![1, 1, 1536, 1024]⟩
abbrev S4x1x528x1024 : Shape := ⟨4, ![4, 1, 528, 1024]⟩
abbrev S1536x1024 : Shape := ⟨2, ![1536, 1024]⟩
abbrev S4x528x1536 : Shape := ⟨3, ![4, 528, 1536]⟩
abbrev S2112x1536 : Shape := ⟨2, ![2112, 1536]⟩
abbrev S2112x1024 : Shape := ⟨2, ![2112, 1024]⟩
abbrev S4x528x1 : Shape := ⟨3, ![4, 528, 1]⟩
abbrev S2112x1 : Shape := ⟨2, ![2112, 1]⟩
abbrev S4x528x1024 : Shape := ⟨3, ![4, 528, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8x16x528x1536, .bf16⟩
  | .hbm, ⟨1, _⟩ => ⟨S8x16x528x1, .f32⟩
  | .hbm, ⟨2, _⟩ => ⟨S4x16x1536x1024, .f32⟩
  | .hbm, ⟨3, _⟩ => ⟨S8x16x528x1024, .bf16⟩
  | .local _ .vmem, ⟨0, _⟩ => ⟨S4x1x528x1536, .bf16⟩
  | .local _ .vmem, ⟨1, _⟩ => ⟨S4x1x528x1536, .bf16⟩
  | .local _ .vmem, ⟨2, _⟩ => ⟨S4x1x528x1, .f32⟩
  | .local _ .vmem, ⟨3, _⟩ => ⟨S4x1x528x1, .f32⟩
  | .local _ .vmem, ⟨4, _⟩ => ⟨S1x1x1536x1024, .f32⟩
  | .local _ .vmem, ⟨5, _⟩ => ⟨S1x1x1536x1024, .f32⟩
  | .local _ .vmem, ⟨6, _⟩ => ⟨S4x1x528x1024, .bf16⟩
  | .local _ .vmem, ⟨7, _⟩ => ⟨S4x1x528x1024, .bf16⟩
  | .local _ .vmem, ⟨8, _⟩ => ⟨S1536x1024, .bf16⟩
  | _, _ => ⟨S8x16x528x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x1x528x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x528x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x528x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8x16x528x1536 : Shape := ⟨4, ![8, 16, 528, 1536]⟩
abbrev S8x16x528x1 : Shape := ⟨4, ![8, 16, 528, 1]⟩
abbrev S4x16x1536x1024 : Shape := ⟨4, ![4, 16, 1536, 1024]⟩
abbrev S1x16x1536x1024 : Shape := ⟨4, ![1, 16, 1536, 1024]⟩
abbrev S16x1536x1024 : Shape := ⟨3, ![16, 1536, 1024]⟩
abbrev S16x1024x8x528 : Shape := ⟨4, ![16, 1024, 8, 528]⟩
abbrev S8x16x528x1024 : Shape := ⟨4, ![8, 16, 528, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x16x528x1536, .bf16⟩
  | .hbm, ⟨1, _⟩ => ⟨S8x16x528x1, .f32⟩
  | .hbm, ⟨2, _⟩ => ⟨S4x16x1536x1024, .f32⟩
  | .hbm, ⟨3, _⟩ => ⟨S8x16x528x1536, .f32⟩
  | .hbm, ⟨4, _⟩ => ⟨S1x16x1536x1024, .f32⟩
  | .hbm, ⟨5, _⟩ => ⟨S16x1536x1024, .f32⟩
  | .hbm, ⟨6, _⟩ => ⟨S16x1024x8x528, .f32⟩
  | .hbm, ⟨7, _⟩ => ⟨S8x16x528x1024, .f32⟩
  | .hbm, ⟨8, _⟩ => ⟨S8x16x528x1024, .f32⟩
  | .hbm, ⟨9, _⟩ => ⟨S8x16x528x1024, .f32⟩
  | .hbm, ⟨10, _⟩ => ⟨S8x16x528x1024, .bf16⟩
  | _, _ => ⟨S8x16x528x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Inp.lean ====
abbrev S33792x1024 : Shape := ⟨2, ![33792, 1024]⟩
abbrev S4x1024x3328 : Shape := ⟨3, ![4, 1024, 3328]⟩
abbrev S4x2x1024 : Shape := ⟨3, ![4, 2, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S1x1024x3328 : Shape := ⟨3, ![1, 1024, 3328]⟩
abbrev S1024x3328 : Shape := ⟨2, ![1024, 3328]⟩
abbrev S1x2x1024 : Shape := ⟨3, ![1, 2, 1024]⟩
abbrev S2x1024 : Shape := ⟨2, ![2, 1024]⟩
abbrev S1x2048 : Shape := ⟨2, ![1, 2048]⟩
abbrev S33792x512 : Shape := ⟨2, ![33792, 512]⟩
abbrev S33792x256 : Shape := ⟨2, ![33792, 256]⟩
abbrev S33792x2048 : Shape := ⟨2, ![33792, 2048]⟩
abbrev S1024x1024 : Shape := ⟨2, ![1024, 1024]⟩
abbrev S1024x512 : Shape := ⟨2, ![1024, 512]⟩
abbrev S1024x256 : Shape := ⟨2, ![1024, 256]⟩
abbrev S1024x2048 : Shape := ⟨2, ![1024, 2048]⟩
abbrev S1024x128 : Shape := ⟨2, ![1024, 128]⟩
abbrev S1x512 : Shape := ⟨2, ![1, 512]⟩

abbrev nBuf : Space → Nat
  | .hbm => 55
  | .vmem => 13
  | .smem => 0
  | _ => 0

abbrev bufTy : (tb : Table) → Fin (tcTables nBuf tb) → BufTy
  | .hbm, ⟨0, _⟩ => ⟨S33792x1024, .f32⟩
  | .hbm, ⟨1, _⟩ => ⟨S4x1024x3328, .f32⟩
  | .hbm, ⟨2, _⟩ => ⟨S4x2x1024, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x256, .f32⟩
  | .hbm, ⟨41, _⟩ => ⟨S_, .f32⟩
  | .hbm, ⟨42, _⟩ => ⟨S128x256, .f32⟩
  | .hbm, ⟨43, _⟩ => ⟨S128x256, .f32⟩
  | .hbm, ⟨44, _⟩ => ⟨S128x256, .bf16⟩
  | .hbm, ⟨45, _⟩ => ⟨S1x1024x3328, .f32⟩
  | .hbm, ⟨46, _⟩ => ⟨S1024x3328, .f32⟩
  | .hbm, ⟨47, _⟩ => ⟨S1024x3328, .bf16⟩
  | .hbm, ⟨48, _⟩ => ⟨S1x2x1024, .f32⟩
  | .hbm, ⟨49, _⟩ => ⟨S2x1024, .f32⟩
  | .hbm, ⟨50, _⟩ => ⟨S1x2048, .f32⟩
  | .hbm, ⟨51, _⟩ => ⟨S33792x512, .bf16⟩
  | .hbm, ⟨52, _⟩ => ⟨S33792x256, .bf16⟩
  | .hbm, ⟨53, _⟩ => ⟨S33792x1024, .bf16⟩
  | .hbm, ⟨54, _⟩ => ⟨S33792x2048, .f32⟩
  | .local _ .vmem, ⟨0, _⟩ => ⟨S1024x1024, .f32⟩
  | .local _ .vmem, ⟨1, _⟩ => ⟨S1024x1024, .f32⟩
  | .local _ .vmem, ⟨2, _⟩ => ⟨S1024x3328, .bf16⟩
  | .local _ .vmem, ⟨3, _⟩ => ⟨S1x2048, .f32⟩
  | .local _ .vmem, ⟨4, _⟩ => ⟨S128x256, .bf16⟩
  | .local _ .vmem, ⟨5, _⟩ => ⟨S1024x512, .bf16⟩
  | .local _ .vmem, ⟨6, _⟩ => ⟨S1024x512, .bf16⟩
  | .local _ .vmem, ⟨7, _⟩ => ⟨S1024x256, .bf16⟩
  | .local _ .vmem, ⟨8, _⟩ => ⟨S1024x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .f32⟩
  | .local _ .vmem, ⟨12, _⟩ => ⟨S1024x2048, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24_0 : Ref sig .tc := ⟨.hbm, 51, rfl⟩
abbrev main_v24_1 : Ref sig .tc := ⟨.hbm, 52, rfl⟩
abbrev main_v24_2 : Ref sig .tc := ⟨.hbm, 53, rfl⟩
abbrev main_v24_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InpRefIdeal.lean ====
abbrev S33792x1024 : Shape := ⟨2, ![33792, 1024]⟩
abbrev S4x1024x3328 : Shape := ⟨3, ![4, 1024, 3328]⟩
abbrev S4x2x1024 : Shape := ⟨3, ![4, 2, 1024]⟩
abbrev S1x1024x3328 : Shape := ⟨3, ![1, 1024, 3328]⟩
abbrev S1024x3328 : Shape := ⟨2, ![1024, 3328]⟩
abbrev S33792x3328 : Shape := ⟨2, ![33792, 3328]⟩
abbrev S33792x512 : Shape := ⟨2, ![33792, 512]⟩
abbrev S33792x256 : Shape := ⟨2, ![33792, 256]⟩
abbrev S33792x4x128 : Shape := ⟨3, ![33792, 4, 128]⟩
abbrev S33792x2048 : Shape := ⟨2, ![33792, 2048]⟩
abbrev S33792x2x1024 : Shape := ⟨3, ![33792, 2, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x2x1024 : Shape := ⟨3, ![1, 2, 1024]⟩
abbrev S2x1024 : Shape := ⟨2, ![2, 1024]⟩

abbrev nBuf : Space → Nat
  | .hbm => 77
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S4x1024x3328, .f32⟩
  | .hbm, ⟨2, _⟩ => ⟨S4x2x1024, .f32⟩
  | .hbm, ⟨3, _⟩ => ⟨S1x1024x3328, .f32⟩
  | .hbm, ⟨4, _⟩ => ⟨S1024x3328, .f32⟩
  | .hbm, ⟨5, _⟩ => ⟨S33792x3328, .f32⟩
  | .hbm, ⟨6, _⟩ => ⟨S33792x512, .f32⟩
  | .hbm, ⟨7, _⟩ => ⟨S33792x256, .f32⟩
  | .hbm, ⟨8, _⟩ => ⟨S33792x512, .f32⟩
  | .hbm, ⟨9, _⟩ => ⟨S33792x4x128, .f32⟩
  | .hbm, ⟨10, _⟩ => ⟨S33792x2048, .f32⟩
  | .hbm, ⟨11, _⟩ => ⟨S33792x2x1024, .f32⟩
  | .hbm, ⟨12, _⟩ => ⟨S128, .i32⟩
  | .hbm, ⟨13, _⟩ => ⟨S128x1, .i32⟩
  | .hbm, ⟨14, _⟩ => ⟨S1x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i1⟩
  | .hbm, ⟨29, _⟩ => ⟨S_, .i32⟩
  | .hbm, ⟨30, _⟩ => ⟨S128x128, .i32⟩
  | .hbm, ⟨31, _⟩ => ⟨S128x128, .i1⟩
  | .hbm, ⟨32, _⟩ => ⟨S_, .i32⟩
  | .hbm, ⟨33, _⟩ => ⟨S_, .i1⟩
  | .hbm, ⟨34, _⟩ => ⟨S128x128, .i1⟩
  | .hbm, ⟨35, _⟩ => ⟨S128x128, .i1⟩
  | .hbm, ⟨36, _⟩ => ⟨S128x128, .i1⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S33792x4x128, .f32⟩
  | .hbm, ⟨52, _⟩ => ⟨S128x128, .f32⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S33792x4x128, .f32⟩
  | .hbm, ⟨57, _⟩ => ⟨S33792x512, .f32⟩
  | .hbm, ⟨58, _⟩ => ⟨S33792x512, .f32⟩
  | .hbm, ⟨59, _⟩ => ⟨S33792x1024, .f32⟩
  | .hbm, ⟨60, _⟩ => ⟨S1x2x1024, .f32⟩
  | .hbm, ⟨61, _⟩ => ⟨S2x1024, .f32⟩
  | .hbm, ⟨62, _⟩ => ⟨S1x2x1024, .f32⟩
  | .hbm, ⟨63, _⟩ => ⟨S33792x2x1024, .f32⟩
  | .hbm, ⟨64, _⟩ => ⟨S33792x2x1024, .f32⟩
  | .hbm, ⟨65, _⟩ => ⟨S33792x2x1024, .f32⟩
  | .hbm, ⟨66, _⟩ => ⟨S33792x2x1024, .f32⟩
  | .hbm, ⟨67, _⟩ => ⟨S_, .f32⟩
  | .hbm, ⟨68, _⟩ => ⟨S33792x2x1024, .f32⟩
  | .hbm, ⟨69, _⟩ => ⟨S33792x2x1024, .f32⟩
  | .hbm, ⟨70, _⟩ => ⟨S_, .f32⟩
  | .hbm, ⟨71, _⟩ => ⟨S33792x2x1024, .f32⟩
  | .hbm, ⟨72, _⟩ => ⟨S33792x2x1024, .f32⟩
  | .hbm, ⟨73, _⟩ => ⟨S33792x512, .bf16⟩
  | .hbm, ⟨74, _⟩ => ⟨S33792x256, .bf16⟩
  | .hbm, ⟨75, _⟩ => ⟨S33792x1024, .bf16⟩
  | .hbm, ⟨76, _⟩ => ⟨S33792x2048, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]
-- ==== Out.lean ====
abbrev S33792x512 : Shape := ⟨2, ![33792, 512]⟩
abbrev S33792x2048 : Shape := ⟨2, ![33792, 2048]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S1x1024 : Shape := ⟨2, ![1, 1024]⟩
abbrev S16x33792 : Shape := ⟨2, ![16, 33792]⟩
abbrev S1024x512 : Shape := ⟨2, ![1024, 512]⟩
abbrev S1024x2048 : Shape := ⟨2, ![1024, 2048]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 23
  | .vmem => 21
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x2048, .f32⟩
  | .hbm, ⟨3, _⟩ => ⟨S33792x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x16, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16x1024, .f32⟩
  | .hbm, ⟨14, _⟩ => ⟨S16x1024, .bf16⟩
  | .hbm, ⟨15, _⟩ => ⟨S16x1024, .f32⟩
  | .hbm, ⟨16, _⟩ => ⟨S16x1024, .f32⟩
  | .hbm, ⟨17, _⟩ => ⟨S16x1024, .bf16⟩
  | .hbm, ⟨18, _⟩ => ⟨S1x1024, .f32⟩
  | .hbm, ⟨19, _⟩ => ⟨S1x1024, .f32⟩
  | .hbm, ⟨20, _⟩ => ⟨S33792x1024, .f32⟩
  | .hbm, ⟨21, _⟩ => ⟨S33792x1024, .bf16⟩
  | .hbm, ⟨22, _⟩ => ⟨S16x33792, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .f32⟩
  | .local _ .vmem, ⟨5, _⟩ => ⟨S1024x2048, .f32⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S16x1024, .bf16⟩
  | .local _ .vmem, ⟨14, _⟩ => ⟨S16x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S16x1024, .f32⟩
  | .local _ .vmem, ⟨20, _⟩ => ⟨S16x1024, .f32⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutRefIdeal.lean ====
abbrev S33792x512 : Shape := ⟨2, ![33792, 512]⟩
abbrev S33792x2048 : Shape := ⟨2, ![33792, 2048]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S33792x2x1024 : Shape := ⟨3, ![33792, 2, 1024]⟩
abbrev S33792x1x1024 : Shape := ⟨3, ![33792, 1, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x16 : Shape := ⟨2, ![33792, 16]⟩
abbrev S16x33792 : Shape := ⟨2, ![16, 33792]⟩

abbrev nBuf : Space → Nat
  | .hbm => 73
  | .vmem => 0
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x2048, .f32⟩
  | .hbm, ⟨3, _⟩ => ⟨S33792x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x16, .f32⟩
  | .hbm, ⟨10, _⟩ => ⟨S33792x2x1024, .f32⟩
  | .hbm, ⟨11, _⟩ => ⟨S33792x1x1024, .f32⟩
  | .hbm, ⟨12, _⟩ => ⟨S33792x1024, .f32⟩
  | .hbm, ⟨13, _⟩ => ⟨S33792x512, .f32⟩
  | .hbm, ⟨14, _⟩ => ⟨S33792x1024, .f32⟩
  | .hbm, ⟨15, _⟩ => ⟨S33792x1024, .f32⟩
  | .hbm, ⟨16, _⟩ => ⟨S33792x1x1024, .f32⟩
  | .hbm, ⟨17, _⟩ => ⟨S33792x1024, .f32⟩
  | .hbm, ⟨18, _⟩ => ⟨S33792x512, .f32⟩
  | .hbm, ⟨19, _⟩ => ⟨S33792x1024, .f32⟩
  | .hbm, ⟨20, _⟩ => ⟨S33792x1024, .f32⟩
  | .hbm, ⟨21, _⟩ => ⟨S33792x1024, .f32⟩
  | .hbm, ⟨22, _⟩ => ⟨S33792x1024, .f32⟩
  | .hbm, ⟨23, _⟩ => ⟨S_, .f32⟩
  | .hbm, ⟨24, _⟩ => ⟨S33792x1024, .f32⟩
  | .hbm, ⟨25, _⟩ => ⟨S33792x1024, .f32⟩
  | .hbm, ⟨26, _⟩ => ⟨S33792x1024, .f32⟩
  | .hbm, ⟨27, _⟩ => ⟨S_, .f32⟩
  | .hbm, ⟨28, _⟩ => ⟨S33792, .f32⟩
  | .hbm, ⟨29, _⟩ => ⟨S33792x1, .f32⟩
  | .hbm, ⟨30, _⟩ => ⟨S_, .f32⟩
  | .hbm, ⟨31, _⟩ => ⟨S33792x1, .f32⟩
  | .hbm, ⟨32, _⟩ => ⟨S33792x1, .f32⟩
  | .hbm, ⟨33, _⟩ => ⟨S33792x1024, .f32⟩
  | .hbm, ⟨34, _⟩ => ⟨S33792x1024, .f32⟩
  | .hbm, ⟨35, _⟩ => ⟨S33792x1024, .f32⟩
  | .hbm, ⟨36, _⟩ => ⟨S_, .f32⟩
  | .hbm, ⟨37, _⟩ => ⟨S33792, .f32⟩
  | .hbm, ⟨38, _⟩ => ⟨S33792x1, .f32⟩
  | .hbm, ⟨39, _⟩ => ⟨S_, .f32⟩
  | .hbm, ⟨40, _⟩ => ⟨S33792x1, .f32⟩
  | .hbm, ⟨41, _⟩ => ⟨S33792x1, .f32⟩
  | .hbm, ⟨42, _⟩ => ⟨S33792x1024, .f32⟩
  | .hbm, ⟨43, _⟩ => ⟨S33792x1024, .f32⟩
  | .hbm, ⟨44, _⟩ => ⟨S_, .f32⟩
  | .hbm, ⟨45, _⟩ => ⟨S33792x1, .f32⟩
  | .hbm, ⟨46, _⟩ => ⟨S33792x1, .f32⟩
  | .hbm, ⟨47, _⟩ => ⟨S33792x1, .f32⟩
  | .hbm, ⟨48, _⟩ => ⟨S33792x1024, .f32⟩
  | .hbm, ⟨49, _⟩ => ⟨S33792x1024, .f32⟩
  | .hbm, ⟨50, _⟩ => ⟨S1x1024, .f32⟩
  | .hbm, ⟨51, _⟩ => ⟨S33792x1024, .f32⟩
  | .hbm, ⟨52, _⟩ => ⟨S33792x1024, .f32⟩
  | .hbm, ⟨53, _⟩ => ⟨S1x1024, .f32⟩
  | .hbm, ⟨54, _⟩ => ⟨S33792x1024, .f32⟩
  | .hbm, ⟨55, _⟩ => ⟨S33792x1024, .f32⟩
  | .hbm, ⟨56, _⟩ => ⟨S33792x16, .f32⟩
  | .hbm, ⟨57, _⟩ => ⟨S_, .f32⟩
  | .hbm, ⟨58, _⟩ => ⟨S33792, .f32⟩
  | .hbm, ⟨59, _⟩ => ⟨S_, .f32⟩
  | .hbm, ⟨60, _⟩ => ⟨S33792, .f32⟩
  | .hbm, ⟨61, _⟩ => ⟨S33792, .f32⟩
  | .hbm, ⟨62, _⟩ => ⟨S33792x1, .f32⟩
  | .hbm, ⟨63, _⟩ => ⟨S33792x16, .f32⟩
  | .hbm, ⟨64, _⟩ => ⟨S33792x16, .f32⟩
  | .hbm, ⟨65, _⟩ => ⟨S33792x16, .f32⟩
  | .hbm, ⟨66, _⟩ => ⟨S_, .f32⟩
  | .hbm, ⟨67, _⟩ => ⟨S33792, .f32⟩
  | .hbm, ⟨68, _⟩ => ⟨S33792x1, .f32⟩
  | .hbm, ⟨69, _⟩ => ⟨S33792x16, .f32⟩
  | .hbm, ⟨70, _⟩ => ⟨S33792x16, .f32⟩
  | .hbm, ⟨71, _⟩ => ⟨S33792x1024, .bf16⟩
  | .hbm, ⟨72, _⟩ => ⟨S16x33792, .f32⟩
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Emb.lean ====
abbrev S8x4096x1024 : Shape := ⟨3, ![8, 4096, 1024]⟩
abbrev S16x1024 : Shape := ⟨2, ![16, 1024]⟩
abbrev S1024 : Shape := ⟨1, ![1024]⟩
abbrev S1x1024 : Shape := ⟨2, ![1, 1024]⟩
abbrev S8x4224x1024 : Shape := ⟨3, ![8, 4224, 1024]⟩
abbrev S1x128x1024 : Shape := ⟨3, ![1, 128, 1024]⟩
abbrev S1x1408x1024 : Shape := ⟨3, ![1, 1408, 1024]⟩
abbrev S128x1024 : Shape := ⟨2, ![128, 1024]⟩
abbrev S128 : Shape := ⟨1, ![128]⟩
abbrev S128x1 : Shape := ⟨2, ![128, 1]⟩
abbrev S112x1024 : Shape := ⟨2, ![112, 1024]⟩
abbrev S1x112x1024 : Shape := ⟨3, ![1, 112, 1024]⟩
abbrev S16 : Shape := ⟨1, ![16]⟩
abbrev S16x1 : Shape := ⟨2, ![16, 1]⟩
abbrev S1x16x1024 : Shape := ⟨3, ![1, 16, 1024]⟩

abbrev nBuf : Space → Nat
  | .hbm => 7
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8x4224x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S16x1024, .f32⟩
  | .local _ .vmem, ⟨23, _⟩ => ⟨S1x1024, .f32⟩
  | .local _ .vmem, ⟨24, _⟩ => ⟨S1x1024, .f32⟩
  | .local _ .vmem, ⟨25, _⟩ => ⟨S1x1408x1024, .f32⟩
  | .local _ .vmem, ⟨26, _⟩ => ⟨S1x1408x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c4_i32 : BitVec 32 := 4#32
  let v1 : BitVec 32 := Scalar.addi v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c5_i32 : BitVec 32 := 5#32
  let v1 : BitVec 32 := Scalar.addi v0 c5_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c6_i32 : BitVec 32 := 6#32
  let v1 : BitVec 32 := Scalar.addi v0 c6_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c7_i32 : BitVec 32 := 7#32
  let v1 : BitVec 32 := Scalar.addi v0 c7_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c8_i32 : BitVec 32 := 8#32
  let v1 : BitVec 32 := Scalar.addi v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c9_i32 : BitVec 32 := 9#32
  let v1 : BitVec 32 := Scalar.addi v0 c9_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c10_i32 : BitVec 32 := 10#32
  let v1 : BitVec 32 := Scalar.addi v0 c10_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1408x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== EmbRefIdeal.lean ====
abbrev S8x4096x1024 : Shape := ⟨3, ![8, 4096, 1024]⟩
abbrev S16x1024 : Shape := ⟨2, ![16, 1024]⟩
abbrev S1024 : Shape := ⟨1, ![1024]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4224x1024 : Shape := ⟨3, ![8, 4224, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S8x16x1024, .f32⟩
  | .hbm, ⟨6, _⟩ => ⟨S8x4112x1024, .f32⟩
  | .hbm, ⟨7, _⟩ => ⟨S_, .f32⟩
  | .hbm, ⟨8, _⟩ => ⟨S8x4112, .f32⟩
  | .hbm, ⟨9, _⟩ => ⟨S8x4112x1, .f32⟩
  | .hbm, ⟨10, _⟩ => ⟨S_, .f32⟩
  | .hbm, ⟨11, _⟩ => ⟨S8x4112x1, .f32⟩
  | .hbm, ⟨12, _⟩ => ⟨S8x4112x1, .f32⟩
  | .hbm, ⟨13, _⟩ => ⟨S8x4112x1024, .f32⟩
  | .hbm, ⟨14, _⟩ => ⟨S8x4112x1024, .f32⟩
  | .hbm, ⟨15, _⟩ => ⟨S8x4112x1024, .f32⟩
  | .hbm, ⟨16, _⟩ => ⟨S_, .f32⟩
  | .hbm, ⟨17, _⟩ => ⟨S8x4112, .f32⟩
  | .hbm, ⟨18, _⟩ => ⟨S8x4112x1, .f32⟩
  | .hbm, ⟨19, _⟩ => ⟨S_, .f32⟩
  | .hbm, ⟨20, _⟩ => ⟨S8x4112x1, .f32⟩
  | .hbm, ⟨21, _⟩ => ⟨S8x4112x1, .f32⟩
  | .hbm, ⟨22, _⟩ => ⟨S8x4112x1024, .f32⟩
  | .hbm, ⟨23, _⟩ => ⟨S8x4112x1024, .f32⟩
  | .hbm, ⟨24, _⟩ => ⟨S_, .f32⟩
  | .hbm, ⟨25, _⟩ => ⟨S8x4112x1, .f32⟩
  | .hbm, ⟨26, _⟩ => ⟨S8x4112x1, .f32⟩
  | .hbm, ⟨27, _⟩ => ⟨S8x4112x1, .f32⟩
  | .hbm, ⟨28, _⟩ => ⟨S8x4112x1024, .f32⟩
  | .hbm, ⟨29, _⟩ => ⟨S8x4112x1024, .f32⟩
  | .hbm, ⟨30, _⟩ => ⟨S1x1x1024, .f32⟩
  | .hbm, ⟨31, _⟩ => ⟨S8x4112x1024, .f32⟩
  | .hbm, ⟨32, _⟩ => ⟨S8x4112x1024, .f32⟩
  | .hbm, ⟨33, _⟩ => ⟨S1x1x1024, .f32⟩
  | .hbm, ⟨34, _⟩ => ⟨S8x4112x1024, .f32⟩
  | .hbm, ⟨35, _⟩ => ⟨S8x4112x1024, .f32⟩
  | .hbm, ⟨36, _⟩ => ⟨S_, .i32⟩
  | .hbm, ⟨37, _⟩ => ⟨S_, .f32⟩
  | .hbm, ⟨38, _⟩ => ⟨S8x4224x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Fou.lean ====
abbrev S8x4224x1024 : Shape := ⟨3, ![8, 4224, 1024]⟩
abbrev S_ : Shape := ⟨0, ![]⟩
abbrev S2304 : Shape := ⟨1, ![2304]⟩
abbrev S2304x1 : Shape := ⟨2, ![2304, 1]⟩
abbrev S18 : Shape := ⟨1, ![18]⟩
abbrev S1x18 : Shape := ⟨2, ![1, 18]⟩
abbrev S128 : Shape := ⟨1, ![128]⟩
abbrev S1x128 : Shape := ⟨2, ![1, 128]⟩
abbrev S2304x18 : Shape := ⟨2, ![2304, 18]⟩
abbrev S2304x128 : Shape := ⟨2, ![2304, 128]⟩
abbrev S2304x18x1 : Shape := ⟨3, ![2304, 18, 1]⟩
abbrev S2304x1x128 : Shape := ⟨3, ![2304, 1, 128]⟩
abbrev S1x18x128 : Shape := ⟨3, ![1, 18, 128]⟩
abbrev S2304x18x128 : Shape := ⟨3, ![2304, 18, 128]⟩
abbrev S2304x2304 : Shape := ⟨2, ![2304, 2304]⟩
abbrev S2304x4608 : Shape := ⟨2, ![2304, 4608]⟩
abbrev S8x4224x512 : Shape := ⟨3, ![8, 4224, 512]⟩
abbrev S768x4608 : Shape := ⟨2, ![768, 4608]⟩
abbrev S1x4224x512 : Shape := ⟨3, ![1, 4224, 512]⟩
abbrev S384x512 : Shape := ⟨2, ![384, 512]⟩
abbrev S2304x512 : Shape := ⟨2, ![2304, 512]⟩
abbrev S384x384 : Shape := ⟨2, ![384, 384]⟩
abbrev S4224x1 : Shape := ⟨2, ![4224, 1]⟩
abbrev S4224x512 : Shape := ⟨2, ![4224, 512]⟩
abbrev S512 : Shape := ⟨1, ![512]⟩
abbrev S1x512 : Shape := ⟨2, ![1, 512]⟩
abbrev S384x1 : Shape := ⟨2, ![384, 1]⟩
abbrev S1x384x512 : Shape := ⟨3, ![1, 384, 512]⟩
abbrev S113x512 : Shape := ⟨2, ![113, 512]⟩
abbrev S271x512 : Shape := ⟨2, ![271, 512]⟩
abbrev S768x2304 : Shape := ⟨2, ![768, 2304]⟩
abbrev S768x512 : Shape := ⟨2, ![768, 512]⟩

abbrev nBuf : Space → Nat
  | .hbm => 134
  | .vmem => 11
  | .smem => 0
  | _ => 0

abbrev hbmTy0_0 (i : Nat) : BufTy := match i % 128 with
  | 0 => ⟨S8x4224x1024, .bf16⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S2304, .i32⟩
  | 8 => ⟨S_, .i32⟩
  | 9 => ⟨S2304, .i32⟩
  | 10 => ⟨S2304, .i32⟩
  | 11 => ⟨S2304x1, .i32⟩
  | 12 => ⟨S18, .i32⟩
  | 13 => ⟨S1x18, .i32⟩
  | 14 => ⟨S128, .i32⟩
  | 15 => ⟨S1x128, .i32⟩
  | 16 => ⟨S_, .i32⟩
  | 17 => ⟨S1x18, .i32⟩
  | 18 => ⟨S1x18, .i32⟩
  | 19 => ⟨S_, .i32⟩
  | 20 => ⟨S1x18, .i32⟩
  | 21 => ⟨S1x18, .i32⟩
  | 22 => ⟨S2304x18, .i32⟩
  | 23 => ⟨S2304x18, .i32⟩
  | 24 => ⟨S2304x18, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S2304x18, .i32⟩
  | 32 => ⟨S2304x18, .i32⟩
  | 33 => ⟨S_, .i32⟩
  | 34 => ⟨S2304x18, .i32⟩
  | 35 => ⟨S2304x18, .i1⟩
  | 36 => ⟨S_, .i32⟩
  | 37 => ⟨S2304x18, .i32⟩
  | 38 => ⟨S2304x18, .i1⟩
  | 39 => ⟨S_, .i32⟩
  | 40 => ⟨S_, .i1⟩
  | 41 => ⟨S2304x18, .i1⟩
  | 42 => ⟨S2304x18, .i1⟩
  | 43 => ⟨S2304x18, .i1⟩
  | 44 => ⟨S2304x18, .i32⟩
  | 45 => ⟨S2304x18, .i32⟩
  | 46 => ⟨S2304x18, .i32⟩
  | 47 => ⟨S2304x18, .f32⟩
  | 48 => ⟨S2304x18, .f32⟩
  | 49 => ⟨S2304x18, .f32⟩
  | 50 => ⟨S2304x128, .i32⟩
  | 51 => ⟨S2304x128, .i32⟩
  | 52 => ⟨S2304x128, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S2304x128, .i32⟩
  | 60 => ⟨S2304x128, .i32⟩
  | 61 => ⟨S_, .i32⟩
  | 62 => ⟨S2304x128, .i32⟩
  | 63 => ⟨S2304x128, .i1⟩
  | 64 => ⟨S_, .i32⟩
  | 65 => ⟨S2304x128, .i32⟩
  | 66 => ⟨S2304x128, .i1⟩
  | 67 => ⟨S_, .i32⟩
  | 68 => ⟨S_, .i1⟩
  | 69 => ⟨S2304x128, .i1⟩
  | 70 => ⟨S2304x128, .i1⟩
  | 71 => ⟨S2304x128, .i1⟩
  | 72 => ⟨S2304x128, .i32⟩
  | 73 => ⟨S2304x128, .i32⟩
  | 74 => ⟨S2304x128, .i32⟩
  | 75 => ⟨S2304x128, .f32⟩
  | 76 => ⟨S2304x128, .f32⟩
  | 77 => ⟨S2304x128, .f32⟩
  | 78 => ⟨S2304x18, .f32⟩
  | 79 => ⟨S2304x18x1, .f32⟩
  | 80 => ⟨S2304x18, .f32⟩
  | 81 => ⟨S2304x18x1, .f32⟩
  | 82 => ⟨S2304x128, .f32⟩
  | 83 => ⟨S2304x1x128, .f32⟩
  | 84 => ⟨S2304x128, .f32⟩
  | 85 => ⟨S2304x1x128, .f32⟩
  | 86 => ⟨S2304, .i32⟩
  | 87 => ⟨S_, .i32⟩
  | 88 => ⟨S2304, .i32⟩
  | 89 => ⟨S2304, .i32⟩
  | 90 => ⟨S_, .i32⟩
  | 91 => ⟨S2304, .i32⟩
  | 92 => ⟨S2304, .i1⟩
  | 93 => ⟨S_, .i32⟩
  | 94 => ⟨S2304, .i32⟩
  | 95 => ⟨S2304, .i1⟩
  | 96 => ⟨S2304, .i1⟩
  | 97 => ⟨S1x18x128, .i1⟩
  | 98 => ⟨S2304x18x128, .f32⟩
  | 99 => ⟨S2304x18x128, .f32⟩
  | 100 => ⟨S2304x18x128, .f32⟩
  | 101 => ⟨S2304x18x128, .f32⟩
  | 102 => ⟨S2304x18x128, .f32⟩
  | 103 => ⟨S2304x18x128, .f32⟩
  | 104 => ⟨S2304x18x128, .f32⟩
  | 105 => ⟨S_, .f32⟩
  | 106 => ⟨S2304x18x128, .f32⟩
  | 107 => ⟨S2304x18x128, .f32⟩
  | 108 => ⟨S_, .f32⟩
  | 109 => ⟨S_, .f32⟩
  | 110 => ⟨S2304x18x128, .i1⟩
  | 111 => ⟨S2304x18x128, .f32⟩
  | 112 => ⟨S2304x18x128, .f32⟩
  | 113 => ⟨S2304x2304, .f32⟩
  | 114 => ⟨S2304x18x128, .f32⟩
  | 115 => ⟨S2304x18x128, .f32⟩
  | 116 => ⟨S2304x18x128, .f32⟩
  | 117 => ⟨S2304x18x128, .f32⟩
  | 118 => ⟨S2304x18x128, .f32⟩
  | 119 => ⟨S2304x18x128, .f32⟩
  | 120 => ⟨S2304x18x128, .f32⟩
  | 121 => ⟨S2304x18x128, .f32⟩
  | 122 => ⟨S_, .f32⟩
  | 123 => ⟨S2304x18x128, .f32⟩
  | 124 => ⟨S2304x18x128, .f32⟩
  | 125 => ⟨S_, .f32⟩
  | 126 => ⟨S_, .f32⟩
  | 127 => ⟨S2304x18x128, .i1⟩
  | _ => ⟨S8x4224x1024, .bf16⟩

abbrev hbmTy0_1 (i : Nat) : BufTy := match i % 128 with
  | 0 => ⟨S2304x18x128, .f32⟩
  | 1 => ⟨S2304x18x128, .f32⟩
  | 2 => ⟨S2304x2304, .f32⟩
  | 3 => ⟨S2304x4608, .f32⟩
  | 4 => ⟨S2304x4608, .bf16⟩
  | 5 => ⟨S8x4224x512, .bf16⟩
  | _ => ⟨S8x4224x1024, .bf16⟩

abbrev hbmTy (i : Nat) : BufTy := match i / 128 with
  | 0 => hbmTy0_0 i
  | 1 => hbmTy0_1 i
  | _ => ⟨S8x4224x1024, .bf16⟩

abbrev bufTy : (tb : Table) → Fin (tcTables nBuf tb) → BufTy
  | .hbm, ⟨i, _⟩ => hbmTy i
  | .local _ .vmem, ⟨0, _⟩ => ⟨S768x4608, .bf16⟩
  | .local _ .vmem, ⟨1, _⟩ => ⟨S768x4608, .bf16⟩
  | .local _ .vmem, ⟨2, _⟩ => ⟨S1x4224x512, .bf16⟩
  | .local _ .vmem, ⟨3, _⟩ => ⟨S1x4224x512, .bf16⟩
  | .local _ .vmem, ⟨4, _⟩ => ⟨S1x4224x512, .bf16⟩
  | .local _ .vmem, ⟨5, _⟩ => ⟨S1x4224x512, .bf16⟩
  | .local _ .vmem, ⟨6, _⟩ => ⟨S1x4224x512, .bf16⟩
  | .local _ .vmem, ⟨7, _⟩ => ⟨S1x4224x512, .bf16⟩
  | .local _ .vmem, ⟨8, _⟩ => ⟨S384x512, .f32⟩
  | .local _ .vmem, ⟨9, _⟩ => ⟨S2304x512, .bf16⟩
  | .local _ .vmem, ⟨10, _⟩ => ⟨S2304x512, .bf16⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_6 : Ref sig .tc := ⟨.hbm, 87, rfl⟩
abbrev main_v38 : Ref sig .tc := ⟨.hbm, 88, rfl⟩
abbrev main_v39 : Ref sig .tc := ⟨.hbm, 89, rfl⟩
abbrev main_c_7 : Ref sig .tc := ⟨.hbm, 90, rfl⟩
abbrev main_v40 : Ref sig .tc := ⟨.hbm, 91, rfl⟩
abbrev main_v41 : Ref sig .tc := ⟨.hbm, 92, rfl⟩
abbrev main_c_8 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_9 : Ref sig .tc := ⟨.hbm, 105, rfl⟩
abbrev main_v53 : Ref sig .tc := ⟨.hbm, 106, rfl⟩
abbrev main_v54 : Ref sig .tc := ⟨.hbm, 107, rfl⟩
abbrev main_cst_10 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_11 : Ref sig .tc := ⟨.hbm, 122, rfl⟩
abbrev main_v65 : Ref sig .tc := ⟨.hbm, 123, rfl⟩
abbrev main_v66 : Ref sig .tc := ⟨.hbm, 124, rfl⟩
abbrev main_cst_12 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c2_i32 : BitVec 32 := 2#32
  let v20 : BitVec 32 := Scalar.muli arg1 c2_i32
  let c0_i32_9 : BitVec 32 := 0#32
  let v21 : BitVec 32 := Scalar.addi v20 c0_i32_9
  let c384_i32 : BitVec 32 := 384#32
  let v34 : BitVec 32 := Scalar.muli v21 c384_i32
  v34
def k0_off1 (i : grid0.Coords) : Fin 3 → Nat :=
  let c0_11 : Index := 0#32
  let arg1 : BitVec 32 := BitVec.ofNat 32 (i 1).val
  let c2_i32 : BitVec 32 := 2#32
  let v20 : BitVec 32 := Scalar.muli arg1 c2_i32
  let c0_i32_9 : BitVec 32 := 0#32
  let v21 : BitVec 32 := Scalar.addi v20 c0_i32_9
  let c384_i32 : BitVec 32 := 384#32
  let v34 : BitVec 32 := Scalar.muli v21 c384_i32
  let v35 : BitVec 32 := v34
  let v36 : Index := Scalar.indexCast v35
  let c0_12 : Index := 0#32
  ![0, v36.toNat, 0]
def k0_mult2 (i : grid0.Coords) : BitVec 32 :=
  let c10_i32 : BitVec 32 := 10#32
  let arg1 : BitVec 32 := BitVec.ofNat 32 (i 1).val
  let c2_i32 : BitVec 32 := 2#32
  let v20 : BitVec 32 := Scalar.muli arg1 c2_i32
  let c0_i32_9 : BitVec 32 := 0#32
  let v21 : BitVec 32 := Scalar.addi v20 c0_i32_9
  let v41 : BitVec 32 := Scalar.subi c10_i32 v21
  let c384_i32_13 : BitVec 32 := 384#32
  let v42 : BitVec 32 := Scalar.muli v41 c384_i32_13
  v42
def k0_off2 (i : grid0.Coords) : Fin 3 → Nat :=
  let c0_14 : Index := 0#32
  let c10_i32 : BitVec 32 := 10#32
  let arg1 : BitVec 32 := BitVec.ofNat 32 (i 1).val
  let c2_i32 : BitVec 32 := 2#32
  let v20 : BitVec 32 := Scalar.muli arg1 c2_i32
  let c0_i32_9 : BitVec 32 := 0#32
  let v21 : BitVec 32 := Scalar.addi v20 c0_i32_9
  let v41 : BitVec 32 := Scalar.subi c10_i32 v21
  let c384_i32_13 : BitVec 32 := 384#32
  let v42 : BitVec 32 := Scalar.muli v41 c384_i32_13
  let v43 : BitVec 32 := v42
  let v44 : Index := Scalar.indexCast v43
  let c0_15 : Index := 0#32
  ![0, v44.toNat, 0]
def k0_cond2 (i : grid0.Coords) : BitVec 1 :=
  let arg1 : BitVec 32 := BitVec.ofNat 32 (i 1).val
  let c2_i32_18 : BitVec 32 := 2#32
  let v61 : BitVec 1 := Scalar.cmpi .slt arg1 c2_i32_18
  let v62 : BitVec 32 := Scalar.extui v61
  let c0_i32_19 : BitVec 32 := 0#32
  let v63 : BitVec 1 := Scalar.cmpi .ne v62 c0_i32_19
  v63

def k0_mult3 (i : grid0.Coords) : BitVec 32 :=
  let arg1 : BitVec 32 := BitVec.ofNat 32 (i 1).val
  let c2_i32_16 : BitVec 32 := 2#32
  let v48 : BitVec 32 := Scalar.muli arg1 c2_i32_16
  let c1_i32 : BitVec 32 := 1#32
  let v49 : BitVec 32 := Scalar.addi v48 c1_i32
  let c384_i32_24 : BitVec 32 := 384#32
  let v71 : BitVec 32 := Scalar.muli v49 c384_i32_24
  v71
def k0_off3 (i : grid0.Coords) : Fin 3 → Nat :=
  let c0_25 : Index := 0#32
  let arg1 : BitVec 32 := BitVec.ofNat 32 (i 1).val
  let c2_i32_16 : BitVec 32 := 2#32
  let v48 : BitVec 32 := Scalar.muli arg1 c2_i32_16
  let c1_i32 : BitVec 32 := 1#32
  let v49 : BitVec 32 := Scalar.addi v48 c1_i32
  let c384_i32_24 : BitVec 32 := 384#32
  let v71 : BitVec 32 := Scalar.muli v49 c384_i32_24
  let v72 : BitVec 32 := v71
  let v73 : Index := Scalar.indexCast v72
  let c0_26 : Index := 0#32
  ![0, v73.toNat, 0]
def k0_mult4 (i : grid0.Coords) : BitVec 32 :=
  let c10_i32_27 : BitVec 32 := 10#32
  let arg1 : BitVec 32 := BitVec.ofNat 32 (i 1).val
  let c2_i32_16 : BitVec 32 := 2#32
  let v48 : BitVec 32 := Scalar.muli arg1 c2_i32_16
  let c1_i32 : BitVec 32 := 1#32
  let v49 : BitVec 32 := Scalar.addi v48 c1_i32
  let v78 : BitVec 32 := Scalar.subi c10_i32_27 v49
  let c384_i32_28 : BitVec 32 := 384#32
  let v79 : BitVec 32 := Scalar.muli v78 c384_i32_28
  v79
def k0_off4 (i : grid0.Coords) : Fin 3 → Nat :=
  let c0_29 : Index := 0#32
  let c10_i32_27 : BitVec 32 := 10#32
  let arg1 : BitVec 32 := BitVec.ofNat 32 (i 1).val
  let c2_i32_16 : BitVec 32 := 2#32
  let v48 : BitVec 32 := Scalar.muli arg1 c2_i32_16
  let c1_i32 : BitVec 32 := 1#32
  let v49 : BitVec 32 := Scalar.addi v48 c1_i32
  let v78 : BitVec 32 := Scalar.subi c10_i32_27 v49
  let c384_i32_28 : BitVec 32 := 384#32
  let v79 : BitVec 32 := Scalar.muli v78 c384_i32_28
  let v80 : BitVec 32 := v79
  let v81 : Index := Scalar.indexCast v80
  let c0_30 : Index := 0#32
  ![0, v81.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4224x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FouRefIdeal.lean ====
abbrev S8x4224x1024 : Shape := ⟨3, ![8, 4224, 1024]⟩
abbrev S8x4112x512 : Shape := ⟨3, ![8, 4112, 512]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S_ : Shape := ⟨0, ![]⟩
abbrev S8x512x4112 : Shape := ⟨3, ![8, 512, 4112]⟩
abbrev S8x4224x512 : Shape := ⟨3, ![8, 4224, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x4224x1024, .bf16⟩
  | .hbm, ⟨1, _⟩ => ⟨S8x4112x512, .bf16⟩
  | .hbm, ⟨2, _⟩ => ⟨S8x4112x512, .f32⟩
  | .hbm, ⟨3, _⟩ => ⟨S8x4112x512, .bf16⟩
  | .hbm, ⟨4, _⟩ => ⟨S8x4112x512, .f32⟩
  | .hbm, ⟨5, _⟩ => ⟨S4112, .i32⟩
  | .hbm, ⟨6, _⟩ => ⟨S4112x1, .i32⟩
  | .hbm, ⟨7, _⟩ => ⟨S1x4112, .i32⟩
  | .hbm, ⟨8, _⟩ => ⟨S4112x4112, .i32⟩
  | .hbm, ⟨9, _⟩ => ⟨S4112x4112, .i32⟩
  | .hbm, ⟨10, _⟩ => ⟨S4112x4112, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4112x4112, .i32⟩
  | .hbm, ⟨18, _⟩ => ⟨S4112x4112, .i32⟩
  | .hbm, ⟨19, _⟩ => ⟨S_, .i32⟩
  | .hbm, ⟨20, _⟩ => ⟨S4112x4112, .i32⟩
  | .hbm, ⟨21, _⟩ => ⟨S4112x4112, .i1⟩
  | .hbm, ⟨22, _⟩ => ⟨S_, .i32⟩
  | .hbm, ⟨23, _⟩ => ⟨S4112x4112, .i32⟩
  | .hbm, ⟨24, _⟩ => ⟨S4112x4112, .i1⟩
  | .hbm, ⟨25, _⟩ => ⟨S_, .i32⟩
  | .hbm, ⟨26, _⟩ => ⟨S_, .i1⟩
  | .hbm, ⟨27, _⟩ => ⟨S4112x4112, .i1⟩
  | .hbm, ⟨28, _⟩ => ⟨S4112x4112, .i1⟩
  | .hbm, ⟨29, _⟩ => ⟨S4112x4112, .i1⟩
  | .hbm, ⟨30, _⟩ => ⟨S4112x4112, .i32⟩
  | .hbm, ⟨31, _⟩ => ⟨S4112x4112, .i32⟩
  | .hbm, ⟨32, _⟩ => ⟨S4112x4112, .i32⟩
  | .hbm, ⟨33, _⟩ => ⟨S4112x4112, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4112x4112, .f32⟩
  | .hbm, ⟨41, _⟩ => ⟨S4112x4112, .f32⟩
  | .hbm, ⟨42, _⟩ => ⟨S4112x4112, .f32⟩
  | .hbm, ⟨43, _⟩ => ⟨S8x512x4112, .f32⟩
  | .hbm, ⟨44, _⟩ => ⟨S8x4112x512, .f32⟩
  | .hbm, ⟨45, _⟩ => ⟨S4112x4112, .f32⟩
  | .hbm, ⟨46, _⟩ => ⟨S8x512x4112, .f32⟩
  | .hbm, ⟨47, _⟩ => ⟨S8x4112x512, .f32⟩
  | .hbm, ⟨48, _⟩ => ⟨S8x4112x512, .f32⟩
  | .hbm, ⟨49, _⟩ => ⟨S_, .f32⟩
  | .hbm, ⟨50, _⟩ => ⟨S8x4112x512, .f32⟩
  | .hbm, ⟨51, _⟩ => ⟨S8x4112x512, .f32⟩
  | .hbm, ⟨52, _⟩ => ⟨S_, .i32⟩
  | .hbm, ⟨53, _⟩ => ⟨S_, .f32⟩
  | .hbm, ⟨54, _⟩ => ⟨S8x4224x512, .f32⟩
  | .hbm, ⟨55, _⟩ => ⟨S8x4224x512, .bf16⟩
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_call1_v0 : Ref sig .tc := ⟨.hbm, 53, rfl⟩
abbrev main_v26 : Ref sig .tc := ⟨.hbm, 54, rfl⟩
abbrev main_v27 : Ref sig .tc := ⟨.hbm, 55, rfl⟩

abbrev nD : Nat := 1
abbrev τ : Topo := Topo.v7x

variable {F : FTy → Type} [FloatOps F]
-- ==== Proof.Words.lean ====
/- The words and constants that both the bias table and the reference compute: the distance of a key from its query,
   the constants' values, the slopes. -/
module

public import proofs.«01_k».proof.AttnIdeal
public import proofs.«01_k».proof.AttnRefIdeal
public import Idealize.ShloMosaic.Lib.Pointwise
public import Idealize.ShloMosaic.Lib.WordCmp

@[expose] public section

noncomputable section

namespace Cert.Attention

open Idealize.ShloMosaic Idealize.SL.Sem

/-- The distance of key `k` of a window of 384 from query `r` of its middle block. -/
def distN (r : Fin 128) (k : Fin 384) : ℕ := if (r : ℕ) + 128 ≤ k then k - 128 - r else r + 128 - k

/-- The same distance as the programs compute it. -/
def distW (r : Fin 128) (k : Fin 384) : BitVec 32 :=
  IntOp.absi (IntOp.subi (IntOp.subi (BitVec.ofNat 32 k) 128#32) (BitVec.ofNat 32 r))

theorem toInt_sub_small (x y : BitVec 32) (h1 : -2147483648 ≤ x.toInt - y.toInt) (h2 : x.toInt - y.toInt < 2147483648) :
    (x - y).toInt = x.toInt - y.toInt := by
  rw [BitVec.toInt_sub, Int.bmod]
  omega

theorem distW_toInt (r : Fin 128) (k : Fin 384) : (distW r k).toInt = distN r k := by
  have hr := r.isLt
  have hk := k.isLt
  have ek : (BitVec.ofNat 32 (k : ℕ)).toInt = k := WordCmp.toInt_ofNat_of_lt (by omega)
  have er : (BitVec.ofNat 32 (r : ℕ)).toInt = r := WordCmp.toInt_ofNat_of_lt (by omega)
  have e0 : (128#32 : BitVec 32).toInt = 128 := by decide
  have e1 : (BitVec.ofNat 32 (k : ℕ) - 128#32).toInt = k - 128 := by
    rw [toInt_sub_small] <;> rw [ek, e0] <;> omega
  have e2 : (BitVec.ofNat 32 (k : ℕ) - 128#32 - BitVec.ofNat 32 (r : ℕ)).toInt = k - 128 - r := by
    rw [toInt_sub_small] <;> rw [e1, er] <;> omega
  unfold distW distN IntOp.absi IntOp.subi
  split <;> rename_i hm <;> split <;> rename_i hd <;> rw [BitVec.msb_eq_toInt, e2, decide_eq_true_eq] at hm
  · omega
  · rw [BitVec.toInt_neg, e2, Int.bmod]
    omega
  · rw [e2]
    omega
  · rw [e2]
    omega

theorem distW_eq (r : Fin 128) (k : Fin 384) : distW r k = BitVec.ofNat 32 (distN r k) := by
  have h := distW_toInt r k
  have hr := r.isLt
  have hk := k.isLt
  apply BitVec.eq_of_toInt_eq
  rw [h, WordCmp.toInt_ofNat_of_lt]
  unfold distN
  split <;> omega

theorem distN_le (r : Fin 128) (k : Fin 384) : distN r k ≤ 128 ↔ (r : ℕ) ≤ k ∧ (k : ℕ) ≤ r + 256 := by
  have hr := r.isLt
  have hk := k.isLt
  unfold distN
  split <;> omega

theorem sitofp_distW (r : Fin 128) (k : Fin 384) :
    (FloatOps.sitofp (F := Ideal) .f32 (distW r k) : EReal) = ((distN r k : ℝ) : EReal) := by
  show (((distW r k).toInt : ℝ) : EReal) = _
  rw [distW_toInt]
  norm_cast

theorem ofBits_128 : Ideal.ofBits .f32 0x43000000#32 = ((128 : ℝ) : EReal) := by
  simp [Ideal.ofBits, Ideal.ieee, -EReal.coe_mul]
  norm_num

theorem ofBits_2 : Ideal.ofBits .f32 0x40000000#32 = ((2 : ℝ) : EReal) := by
  simp [Ideal.ofBits, Ideal.ieee, -EReal.coe_mul]
  norm_num

theorem ofBits_eighth : Ideal.ofBits .f32 0x3E000000#32 = (((1 : ℝ) / 8 : ℝ) : EReal) := by
  simp [Ideal.ofBits, Ideal.ieee, -EReal.coe_mul]
  norm_num

theorem ofBits_bot : Ideal.ofBits .f32 0xFF800000#32 = (⊥ : EReal) := by
  simp [Ideal.ofBits, Ideal.ieee]

/-- The slope of head `h`. -/
def slope (h : Fin 8) : ℝ := 1 / 2 ^ ((h : ℕ) + 1)

/-- The word of head `h`'s slope. -/
def slopeWord : Fin 8 → BitVec 32 := fun | 0 => 0x3F000000#32 | 1 => 0x3E800000#32 | 2 => 0x3E000000#32 | 3 => 0x3D800000#32 | 4 => 0x3D000000#32 | 5 => 0x3C800000#32 | 6 => 0x3C000000#32 | 7 => 0x3B800000#32

theorem slope_word (h : Fin 8) : Ideal.ofBits .f32 (slopeWord h) = (slope h : EReal) := by
  fin_cases h <;> simp [slopeWord, slope, Ideal.ofBits, Ideal.ieee, -EReal.coe_mul] <;> norm_num

theorem slope_kernel (h : Fin 8) : Ideal.ofBits .f32 (Cert.AttnIdeal.lit0 (Cert.AttnIdeal.S8.rowMajor (ix1 h))) = (slope h : EReal) := by
  fin_cases h
  · exact slope_word 0
  · exact slope_word 1
  · exact slope_word 2
  · exact slope_word 3
  · exact slope_word 4
  · exact slope_word 5
  · exact slope_word 6
  · exact slope_word 7

theorem slope_reference (h : Fin 8) : Ideal.ofBits .f32 (Cert.AttnRefIdeal.lit0 (Cert.AttnRefIdeal.S8.rowMajor (ix1 h))) = (slope h : EReal) := by
  fin_cases h
  · exact slope_word 0
  · exact slope_word 1
  · exact slope_word 2
  · exact slope_word 3
  · exact slope_word 4
  · exact slope_word 5
  · exact slope_word 6
  · exact slope_word 7

/-- One over the logarithm of two. -/
def c2 : ℝ := (Real.log 2)⁻¹

theorem c2_pos : 0 < c2 := inv_pos.mpr (Real.log_pos one_lt_two)

theorem div_log2 : Ideal.div 1 (Ideal.log (Ideal.ofBits .f32 0x40000000#32)) = (c2 : EReal) := by
  rw [ofBits_2]
  have h : Ideal.log ((2 : ℝ) : EReal) = (Real.log 2 : EReal) := by
    show (if (2 : ℝ) ≤ 0 then (⊥ : EReal) else (Real.log 2 : EReal)) = _
    rw [if_neg (by norm_num)]
  have h0 : Real.log 2 ≠ 0 := (Real.log_pos one_lt_two).ne'
  rw [h, Ideal.div, if_neg (by exact_mod_cast h0), one_mul, c2, EReal.coe_inv]

end Cert.Attention

end
-- ==== Proof.Softmax.lean ====
/- The softmax in powers of two is the softmax in powers of e: rows of logits with minus infinity allowed and a real
   sink, scaled by one over the logarithm of two. -/
module

public import proofs.«01_k».proof.Proof.Words

@[expose] public section

noncomputable section

namespace Cert.Attention

open Idealize.ShloMosaic Idealize.SL.Sem

/-- A row's maximum, the sink included. -/
def rowTop (L : Fin 384 → EReal) (s : EReal) : EReal := max (Finset.univ.fold max (⊥ : EReal) L) s

theorem mul_c2_mono : Monotone (fun x : EReal => x * (c2 : EReal)) := fun a b h =>
  mul_le_mul_of_nonneg_right h (by exact_mod_cast c2_pos.le)

theorem rowTop_mul (L : Fin 384 → EReal) (s : EReal) :
    rowTop (fun k => L k * (c2 : EReal)) (s * (c2 : EReal)) = rowTop L s * (c2 : EReal) := by
  unfold rowTop
  have h := Finset.fold_hom (s := (Finset.univ : Finset (Fin 384))) (b := (⊥ : EReal)) (f := L) (op := max) (op' := max)
    (m := fun x : EReal => x * (c2 : EReal)) (fun x y => mul_c2_mono.map_max)
  rw [EReal.bot_mul_coe_of_pos c2_pos] at h
  rw [h]
  exact mul_c2_mono.map_max.symm

theorem rowTop_real (L : Fin 384 → EReal) (s : ℝ) (hL : ∀ k, L k ≠ ⊤) : ∃ μ : ℝ, rowTop L s = (μ : EReal) := by
  have h1 : rowTop L s ≠ ⊤ := by
    apply ne_of_lt
    rw [rowTop, max_lt_iff, Finset.fold_max_lt]
    exact ⟨⟨bot_lt_top, fun k _ => lt_top_iff_ne_top.mpr (hL k)⟩, EReal.coe_lt_top s⟩
  have h2 : rowTop L s ≠ ⊥ := by
    apply ne_of_gt
    exact lt_of_lt_of_le (EReal.bot_lt_coe s) (le_max_right _ _)
  exact ⟨(rowTop L s).toReal, (EReal.coe_toReal h1 h2).symm⟩

theorem exp2_mul_c2 (x μ : ℝ) : Ideal.exp2 ((x : EReal) * (c2 : EReal) - (μ : EReal) * (c2 : EReal)) = Ideal.exp ((x : EReal) - (μ : EReal)) := by
  rw [← EReal.coe_mul, ← EReal.coe_mul, ← EReal.coe_sub, ← EReal.coe_sub, Ideal.exp2_coe, Ideal.exp_coe]
  congr 1
  show (2 : ℝ) ^ (x * c2 - μ * c2) = _
  rw [Real.rpow_def_of_pos two_pos]
  congr 1
  have h0 : Real.log 2 ≠ 0 := (Real.log_pos one_lt_two).ne'
  unfold c2
  field_simp

theorem exp2_weight (L : Fin 384 → EReal) (s : ℝ) (hL : ∀ k, L k ≠ ⊤) (x : EReal) (hx : x ≠ ⊤) :
    Ideal.exp2 (x * (c2 : EReal) - rowTop (fun k => L k * (c2 : EReal)) ((s : EReal) * (c2 : EReal))) = Ideal.exp (x - rowTop L s) := by
  obtain ⟨μ, hμ⟩ := rowTop_real L s hL
  rw [rowTop_mul, hμ]
  induction x with
  | bot => rw [EReal.bot_mul_coe_of_pos c2_pos, EReal.bot_sub, EReal.bot_sub, Ideal.exp2_bot, Ideal.exp_bot]
  | coe x => exact exp2_mul_c2 x μ
  | top => exact absurd rfl hx

theorem exp_nonneg (x : EReal) : 0 ≤ Ideal.exp x := by
  induction x with
  | bot => rw [Ideal.exp_bot]
  | coe x => rw [Ideal.exp_coe]; exact_mod_cast (Real.exp_pos x).le
  | top => rw [Ideal.exp_top]; exact le_top

/-- The normaliser is not zero. -/
theorem normaliser_ne (L : Fin 384 → EReal) (s : ℝ) (hL : ∀ k, L k ≠ ⊤) :
    (∑ k, Ideal.exp (L k - rowTop L s)) + Ideal.exp ((s : EReal) - rowTop L s) ≠ 0 := by
  obtain ⟨μ, hμ⟩ := rowTop_real L s hL
  apply ne_of_gt
  refine lt_of_lt_of_le ?_ (le_add_of_nonneg_left (Finset.sum_nonneg fun k _ => exp_nonneg _))
  rw [hμ, ← EReal.coe_sub, Ideal.exp_coe]
  exact_mod_cast Real.exp_pos _

theorem exists_real_sum {n : ℕ} (f : Fin n → EReal) (hf : ∀ k, ∃ x : ℝ, f k = (x : EReal)) : ∃ x : ℝ, ∑ k, f k = (x : EReal) := by
  refine Finset.sum_induction f (fun y => ∃ x : ℝ, y = (x : EReal)) ?_ ⟨0, rfl⟩ fun k _ => hf k
  rintro a b ⟨x, rfl⟩ ⟨y, rfl⟩
  exact ⟨x + y, (EReal.coe_add x y).symm⟩

end Cert.Attention

end
-- ==== Proof.Head.lean ====
/- The block value of the attention call: one head's output over a tile of 128 queries and the pair of heads
   that one store holds, as functions of the tile's queries, the masked key and value halves, the sinks and the
   bias tiles, and what they are at an index. -/
module

public import proofs.«01_k».proof.Proof.Gen.AttnIdeal.Skeleton
public import proofs.«01_k».proof.Proof.Softmax
public import Idealize.ShloMosaic.Lib.Pointwise
public import Idealize.ShloMosaic.Lib.Pipeline.ValueKit

@[expose] public section

set_option maxRecDepth 16384

noncomputable section

namespace Cert.AttnIdeal.Value

open Cert.AttnIdeal Cert.AttnIdeal.Gen Idealize.ShloMosaic Idealize.SL.Sem Cert.Attention

/-- The logits of one head, in powers of two: queries against keys `o … o + 383`, scaled, plus the bias tile. -/
def logitsOf (K : FVec Ideal S1664x128 .bf16) (o : ℕ) (ho : S1664x128.Slices ![o, 0] S384x128)
    (q : FVec Ideal S1x128x128 .bf16) (b : FVec Ideal S1x1x128x384 .f32) : FVec Ideal S128x384 .f32 :=
  addf (mulf (matmul dot_S128x128_S384x128_S128x384_1_1_0_0_n_n none (shapeCast S128x128 q shapeCasts_S1x128x128_S128x128 : FVec Ideal S128x128 .bf16)
      (extractStridedSlice S384x128 ![o, 0] K ho) (constant S128x384 .f32 0x00000000#32))
    (broadcast S128x384 (Named.named κ "scale" 0x3E38AA3B#32)))
    (shapeCast S128x384 b shapeCasts_S1x1x128x384_S128x384)

/-- The row maximum of the logits, the sink included. -/
def rowMax (l : FVec Ideal S128x384 .f32) (s : Ideal .f32) : FVec Ideal S128x1 .f32 :=
  maximumf (shapeCast S128x1 (multiReduction .maximumf [1] S128 l 0xFF800000#32 reduces_S128x384_S128 (.inl rfl) rfl)
    shapeCasts_S128_S128x1) (broadcast S128x1 s)

/-- The unnormalised weights of a row. -/
def weights (l : FVec Ideal S128x384 .f32) (s : Ideal .f32) : FVec Ideal S128x384 .f32 :=
  exp2 (subf l (broadcastTo S128x384 (rowMax l s) broadcasts_S128x1_S128x384))

/-- The normaliser of a row: the weights' sum and the sink's weight. -/
def rowSum (l : FVec Ideal S128x384 .f32) (s : Ideal .f32) : FVec Ideal S128x1 .f32 :=
  addf (shapeCast S128x1 (multiReduction .add [1] S128 (weights l s) 0x00000000#32 reduces_S128x384_S128 (.inl rfl) rfl)
    shapeCasts_S128_S128x1) (exp2 (subf (broadcast S128x1 s) (rowMax l s)))

/-- One head's output tile. -/
def headOf (V : FVec Ideal S1664x128 .bf16) (o : ℕ) (ho : S1664x128.Slices ![o, 0] S384x128)
    (l : FVec Ideal S128x384 .f32) (s : Ideal .f32) : FVec Ideal S128x128 .f32 :=
  divf (matmul dot_S128x384_S384x128_S128x128_1_0_0_1_n_n none (truncf .bf16 (weights l s) bitsLt_bf16_f32)
      (extractStridedSlice S384x128 ![o, 0] V ho) (constant S128x128 .f32 0x00000000#32))
    (broadcastTo S128x128 (rowSum l s) broadcasts_S128x1_S128x128)

/-- A sink's logit, in powers of two. -/
def sinkOf (s : Elt Ideal .f32) : Ideal .f32 := Scalar.mulf s (Named.named κ "log2e" 0x3FB8AA3B#32)

/-- What one store writes: two heads' tiles, in the two halves of the lanes. -/
def pairOf (K0 K1 V0 V1 : FVec Ideal S1664x128 .bf16) (o : ℕ) (ho : S1664x128.Slices ![o, 0] S384x128)
    (q0 q1 : FVec Ideal S1x128x128 .bf16) (b0 b1 : FVec Ideal S1x1x128x384 .f32) (s0 s1 : Elt Ideal .f32) :
    FVec Ideal S1x128x128 .bf16 :=
  shapeCast S1x128x128 (truncf .bf16 (addf (headOf V0 o ho (logitsOf K0 o ho q0 b0) (sinkOf s0))
    (headOf V1 o ho (logitsOf K1 o ho q1 b1) (sinkOf s1))) bitsLt_bf16_f32) shapeCasts_S128x128_S1x128x128

theorem rowMax_at (l : FVec Ideal S128x384 .f32) (s : Ideal .f32) (r : Fin 128) :
    rowMax l s (ix2 r 0) = max (Finset.univ.fold max (⊥ : EReal) fun k => l (ix2 r k)) s := by
  pointwise [rowMax]
  rw [ofBits_bot]

theorem weights_at (l : FVec Ideal S128x384 .f32) (s : Ideal .f32) (r : Fin 128) (k : Fin 384) :
    weights l s (ix2 r k) = Ideal.exp2 (l (ix2 r k) - rowMax l s (ix2 r 0)) := by
  pointwise [weights]
  rfl

theorem rowSum_at (l : FVec Ideal S128x384 .f32) (s : Ideal .f32) (r : Fin 128) :
    rowSum l s (ix2 r 0) = (∑ k, weights l s (ix2 r k)) + Ideal.exp2 (s - rowMax l s (ix2 r 0)) := by
  pointwise [rowSum]
  rfl

theorem scale_named : (Named.named κ "scale" 0x3E38AA3B#32 : Ideal .f32) = (((1 : ℝ) / 8 * c2 : ℝ) : EReal) := by
  refine (IdealRules.named_const.ideal_named_scalar _ _ _ (((8⁻¹ * (Real.log 2)⁻¹ : ℝ)) : EReal) rfl).trans ?_
  rw [c2, one_div]

theorem log2e_named : (Named.named κ "log2e" 0x3FB8AA3B#32 : Ideal .f32) = (c2 : EReal) := by
  exact IdealRules.named_const.ideal_named_scalar _ _ _ (((Real.log 2)⁻¹ : ℝ) : EReal) rfl

theorem logits_at (K : FVec Ideal S1664x128 .bf16) (o : ℕ) (ho : S1664x128.Slices ![o, 0] S384x128) (ho' : o + 384 ≤ 1664)
    (q : FVec Ideal S1x128x128 .bf16) (b : FVec Ideal S1x1x128x384 .f32) (r : Fin 128) (k : Fin 384) :
    logitsOf K o ho q b (ix2 r k)
      = (∑ x : Fin 128, q (ix3 0 r x) * K (ix2 ⟨o + k, by omega⟩ x)) * (((1 : ℝ) / 8 * c2 : ℝ) : EReal) + b (ix4 0 0 r k) := by
  rw [← scale_named]
  pointwise [logitsOf]

theorem head_at (V : FVec Ideal S1664x128 .bf16) (o : ℕ) (ho : S1664x128.Slices ![o, 0] S384x128) (ho' : o + 384 ≤ 1664)
    (l : FVec Ideal S128x384 .f32) (s : Ideal .f32) (r : Fin 128) (d : Fin 128) : headOf V o ho l s (ix2 r d)
      = Ideal.div (∑ k : Fin 384, weights l s (ix2 r k) * V (ix2 ⟨o + k, by omega⟩ d)) (rowSum l s (ix2 r 0)) := by
  pointwise [headOf]

theorem pair_at (K0 K1 V0 V1 : FVec Ideal S1664x128 .bf16) (o : ℕ) (ho : S1664x128.Slices ![o, 0] S384x128)
    (q0 q1 : FVec Ideal S1x128x128 .bf16) (b0 b1 : FVec Ideal S1x1x128x384 .f32) (s0 s1 : Elt Ideal .f32) (r d : Fin 128) :
    pairOf K0 K1 V0 V1 o ho q0 q1 b0 b1 s0 s1 (ix3 0 r d)
      = headOf V0 o ho (logitsOf K0 o ho q0 b0) (sinkOf s0) (ix2 r d) + headOf V1 o ho (logitsOf K1 o ho q1 b1) (sinkOf s1) (ix2 r d) := by
  pointwise [pairOf]

theorem sinkOf_eq (s : Elt Ideal .f32) : sinkOf s = (show EReal from s) * (c2 : EReal) := by
  rw [← log2e_named]
  rfl

end Cert.AttnIdeal.Value

end
-- ==== Proof.Ref.lean ====
/- The reference's composed term, in named steps: the key and value windows, the mask, the bias, the logits, the
   row maximum, the weights, the normaliser, the output. Each step is read at an index in `RefAt`. -/
module

public import proofs.«01_k».proof.Proof.Gen.AttnRefIdeal.Run
public import Idealize.ShloMosaic.Lib.Pointwise
public import Idealize.ShloMosaic.Lib.Pipeline.ValueKit

@[expose] public section

set_option maxRecDepth 16384

noncomputable section

namespace Cert.AttnRefIdeal.Value

open Cert.AttnRefIdeal Cert.AttnRefIdeal.Gen Idealize.ShloMosaic Idealize.ShloMosaic.TcCoe Idealize.SL.Sem Idealize.ShloMosaic.StableHlo

/-- Keys (or values) padded by zeros and cut into the blocks before, at and after each block of queries. -/
def winOf (x : FVec Ideal S8x4112x128 .f32) : FVec Ideal S8x33x384x2x64 .f32 :=
  have p : FVec Ideal S8x35x128x2x64 .f32 := shapeCast S8x35x128x2x64
    (pad S8x4480x128 ![0, 240, 0] ![0, 128, 0] ![0, 0, 0] x (sitofp .f32 (constantI S_ 32 0#32))
      pads_S8x4112x128_S8x4480x128_000_2401280_000 h_S_) shapeCasts_S8x4480x128_S8x35x128x2x64
  have a : FVec Ideal S8x33x128x2x64 .f32 := extractStridedSlice S8x33x128x2x64 ![0, 0, 0, 0, 0] p slices_S8x35x128x2x64_S8x33x128x2x64_0_0_0_0_0
  have b : FVec Ideal S8x33x128x2x64 .f32 := extractStridedSlice S8x33x128x2x64 ![0, 1, 0, 0, 0] p slices_S8x35x128x2x64_S8x33x128x2x64_0_1_0_0_0
  have c : FVec Ideal S8x33x128x2x64 .f32 := extractStridedSlice S8x33x128x2x64 ![0, 2, 0, 0, 0] p slices_S8x35x128x2x64_S8x33x128x2x64_0_2_0_0_0
  concatenate S8x33x384x2x64 2 [⟨S8x33x128x2x64, a⟩, ⟨S8x33x128x2x64, b⟩, ⟨S8x33x128x2x64, c⟩]
    concatenates_S8x33x128x2x64_S8x33x128x2x64_S8x33x128x2x64_S8x33x384x2x64_d2

/-- The keys' windows. -/
def keysR (kv : FVec Ideal S8x4224x256 .bf16) : FVec Ideal S8x33x384x2x64 .f32 :=
  winOf (extf .f32 (extractStridedSlice S8x4112x128 ![0, 112, 0] kv slices_S8x4224x256_S8x4112x128_0_112_0) bitsLt_bf16_f32)

/-- The values' windows. -/
def valsR (kv : FVec Ideal S8x4224x256 .bf16) : FVec Ideal S8x33x384x2x64 .f32 :=
  winOf (extf .f32 (extractStridedSlice S8x4112x128 ![0, 112, 128] kv slices_S8x4224x256_S8x4112x128_0_112_128) bitsLt_bf16_f32)

/-- Scaled scores. -/
def scoresR (q : FVec Ideal S8x4224x512 .bf16) (kv : FVec Ideal S8x4224x256 .bf16) : FVec Ideal S8x33x2x4x128x384 .f32 :=
  have qb : FVec Ideal S8x33x128x2x4x64 .f32 := shapeCast S8x33x128x2x4x64 (extf .f32 q bitsLt_bf16_f32 : FVec Ideal S8x4224x512 .f32) shapeCasts_S8x4224x512_S8x33x128x2x4x64
  have d : FVec Ideal S8x33x2x384x128x4 .f32 :=
    Host.dotGeneral dot_S8x33x384x2x64_S8x33x128x2x4x64_S8x33x2x384x128x4_4_5_2_24_013_013 none (keysR kv) qb
  mulf (transpose S8x33x2x4x128x384 [0, 1, 2, 5, 4, 3] d transposes_S8x33x2x384x128x4_S8x33x2x4x128x384_0_1_2_5_4_3)
    (broadcastInDim S8x33x2x4x128x384 ![] bcast_S_S8x33x2x4x128x384 (constant S_ .f32 0x3E000000#32))

/-- The distance of a key from its query, signed. -/
def relR : IVec S128x384 32 :=
  subi (broadcastInDim S128x384 ![0, 1] bcast_S1x384_S128x384_0_1
      (subi (broadcastInDim S1x384 ![1] bcast_S384_S1x384_1 (iotaInDim S384 32 0))
        (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))

/-- The position of a key of a window. -/
def kposR : IVec S33x384 32 :=
  addi (broadcastInDim S33x384 ![0, 1] bcast_S33x1_S33x384_0_1
      (muli (subi (broadcastInDim S33x1 ![0] bcast_S33_S33x1_0 (iotaInDim S33 32 0))
          (broadcastInDim S33x1 ![] bcast_S_S33x1 (constantI S_ 32 1#32)))
        (broadcastInDim S33x1 ![] bcast_S_S33x1 (constantI S_ 32 128#32))))
    (broadcastInDim S33x384 ![0, 1] bcast_S1x384_S33x384_0_1 (broadcastInDim S1x384 ![1] bcast_S384_S1x384_1 (iotaInDim S384 32 0)))

/-- Which keys a query sees: those inside the window and inside the sequence. -/
def maskR : IVec S33x128x384 1 :=
  andi (broadcastInDim S33x128x384 ![0, 1, 2] bcast_S1x128x384_S33x128x384_0_1_2
      (broadcastInDim S1x128x384 ![1, 2] bcast_S128x384_S1x128x384_1_2
        (cmpi .sle (absi relR) (broadcastInDim S128x384 ![] bcast_S_S128x384 (constantI S_ 32 128#32)))))
    (broadcastInDim S33x128x384 ![0, 1, 2] bcast_S33x1x384_S33x128x384_0_1_2
      (broadcastInDim S33x1x384 ![0, 2] bcast_S33x384_S33x1x384_0_2
        (andi (cmpi .sge kposR (broadcastInDim S33x384 ![] bcast_S_S33x384 (constantI S_ 32 112#32)))
          (cmpi .slt kposR (broadcastInDim S33x384 ![] bcast_S_S33x384 (constantI S_ 32 4224#32))))))

/-- The linear bias of each head. -/
def biasR : FVec Ideal S2x4x128x384 .f32 :=
  mulf (broadcastInDim S2x4x128x384 ![0, 1, 2, 3] bcast_S2x4x1x1_S2x4x128x384_0_1_2_3
      (Host.negf (broadcastInDim S2x4x1x1 ![0, 1] bcast_S2x4_S2x4x1x1_0_1
        (shapeCast S2x4 (fun i => FloatOps.ofBits .f32 (lit0 (S8.rowMajor i)) : FVec Ideal S8 .f32) shapeCasts_S8_S2x4 : FVec Ideal S2x4 .f32))))
    (broadcastInDim S2x4x128x384 ![0, 1, 2, 3] bcast_S1x1x128x384_S2x4x128x384_0_1_2_3
      (broadcastInDim S1x1x128x384 ![2, 3] bcast_S128x384_S1x1x128x384_2_3 (sitofp .f32 (absi relR))))

/-- The logits: scores plus bias where the mask holds, minus infinity elsewhere. -/
def logitsR (q : FVec Ideal S8x4224x512 .bf16) (kv : FVec Ideal S8x4224x256 .bf16) : FVec Ideal S8x33x2x4x128x384 .f32 :=
  select (broadcastInDim S8x33x2x4x128x384 ![0, 1, 2, 3, 4, 5] bcast_S1x33x1x1x128x384_S8x33x2x4x128x384_0_1_2_3_4_5
      (broadcastInDim S1x33x1x1x128x384 ![1, 4, 5] bcast_S33x128x384_S1x33x1x1x128x384_1_4_5 maskR))
    (addf (scoresR q kv) (broadcastInDim S8x33x2x4x128x384 ![0, 1, 2, 3, 4, 5] bcast_S1x1x2x4x128x384_S8x33x2x4x128x384_0_1_2_3_4_5
      (broadcastInDim S1x1x2x4x128x384 ![2, 3, 4, 5] bcast_S2x4x128x384_S1x1x2x4x128x384_2_3_4_5 biasR)))
    (broadcastInDim S8x33x2x4x128x384 ![] bcast_S_S8x33x2x4x128x384 (id (constant S_ .f32 0xFF800000#32)))

/-- The sinks along the rows. -/
def sinkR (s : FVec Ideal S8 .f32) : FVec Ideal S8x33x2x4x128 .f32 :=
  broadcastInDim S8x33x2x4x128 ![0, 1, 2, 3, 4] bcast_S1x1x2x4x1_S8x33x2x4x128_0_1_2_3_4
    (broadcastInDim S1x1x2x4x1 ![2, 3, 4] bcast_S2x4x1_S1x1x2x4x1_2_3_4
      (broadcastInDim S2x4x1 ![0, 1] bcast_S2x4_S2x4x1_0_1 (shapeCast S2x4 s shapeCasts_S8_S2x4 : FVec Ideal S2x4 .f32)))

/-- The row maximum, the sink included. -/
def maxR (l : FVec Ideal S8x33x2x4x128x384 .f32) (s : FVec Ideal S8x33x2x4x128 .f32) : FVec Ideal S8x33x2x4x128 .f32 :=
  maximumf (Host.reduce FloatOps.maximumf l (constant S_ .f32 0xFF800000#32) reducesTo_S8x33x2x4x128x384_S8x33x2x4x128_d5 h_S_) s

/-- The unnormalised weights. -/
def weightsR (l : FVec Ideal S8x33x2x4x128x384 .f32) (s : FVec Ideal S8x33x2x4x128 .f32) : FVec Ideal S8x33x2x4x128x384 .f32 :=
  Host.exp (subf l (broadcastInDim S8x33x2x4x128x384 ![0, 1, 2, 3, 4, 5] bcast_S8x33x2x4x128x1_S8x33x2x4x128x384_0_1_2_3_4_5
    (broadcastInDim S8x33x2x4x128x1 ![0, 1, 2, 3, 4] bcast_S8x33x2x4x128_S8x33x2x4x128x1_0_1_2_3_4 (maxR l s))))

/-- The normaliser of each row. -/
def sumR (l : FVec Ideal S8x33x2x4x128x384 .f32) (s : FVec Ideal S8x33x2x4x128 .f32) : FVec Ideal S8x33x2x4x128 .f32 :=
  addf (Host.reduceAdd (weightsR l s) (constant S_ .f32 0x00000000#32) reducesTo_S8x33x2x4x128x384_S8x33x2x4x128_d5 h_S_)
    (Host.exp (subf s (maxR l s)))

/-- The result from the logits, the sinks and the values' windows. -/
def attendR (l : FVec Ideal S8x33x2x4x128x384 .f32) (s : FVec Ideal S8x33x2x4x128 .f32) (v : FVec Ideal S8x33x384x2x64 .f32) :
    FVec Ideal S8x4224x512 .bf16 :=
  have d : FVec Ideal S8x33x2x64x4x128 .f32 :=
    Host.dotGeneral dot_S8x33x384x2x64_S8x33x2x4x128x384_S8x33x2x64x4x128_2_5_4_34_013_012 none v (weightsR l s)
  have o : FVec Ideal S8x33x128x2x4x64 .f32 :=
    Host.divf (transpose S8x33x128x2x4x64 [0, 1, 5, 2, 4, 3] d transposes_S8x33x2x64x4x128_S8x33x128x2x4x64_0_1_5_2_4_3)
      (broadcastInDim S8x33x128x2x4x64 ![0, 1, 2, 3, 4, 5] bcast_S8x33x128x2x4x1_S8x33x128x2x4x64_0_1_2_3_4_5
        (broadcastInDim S8x33x128x2x4x1 ![0, 1, 2, 3, 4] bcast_S8x33x128x2x4_S8x33x128x2x4x1_0_1_2_3_4
          (transpose S8x33x128x2x4 [0, 1, 4, 2, 3] (sumR l s) transposes_S8x33x2x4x128_S8x33x128x2x4_0_1_4_2_3)))
  truncf .bf16 (shapeCast S8x4224x512 o shapeCasts_S8x33x128x2x4x64_S8x4224x512 : FVec Ideal S8x4224x512 .f32) bitsLt_bf16_f32

/-- The reference's result is the steps' composition. -/
theorem result_eq (m : (ℓ : Loc nD τ sig) → Buf (Elt Ideal) ℓ) (c : Dev nD) :
    res_out0 m c = attendR (logitsR (m ((c.tc : Thread nD τ).loc main_arg0)) (m ((c.tc : Thread nD τ).loc main_arg1)))
      (sinkR (m ((c.tc : Thread nD τ).loc main_arg2))) (valsR (m ((c.tc : Thread nD τ).loc main_arg1))) := rfl

end Cert.AttnRefIdeal.Value

end
-- ==== Proof.RefAt.lean ====
/- The reference's steps, read at an index. -/
module

public import proofs.«01_k».proof.Proof.Ref
public import proofs.«01_k».proof.Proof.Words

@[expose] public section

set_option maxRecDepth 16384

noncomputable section

namespace Cert.AttnRefIdeal.Value

open Cert.AttnRefIdeal Cert.AttnRefIdeal.Gen Idealize.ShloMosaic Idealize.ShloMosaic.TcCoe Idealize.SL.Sem Idealize.ShloMosaic.StableHlo
open Cert.Attention

/-- Key `k` of block `g`'s window exists. -/
def exists_key (g : Fin 33) (k : Fin 384) : Prop := 240 ≤ (g : ℕ) * 128 + k ∧ (g : ℕ) * 128 + k < 4352

/-- Query `r` of block `g` sees key `k` of the window. -/
def sees (g : Fin 33) (r : Fin 128) (k : Fin 384) : Prop := ((r : ℕ) ≤ k ∧ (k : ℕ) ≤ r + 256) ∧ exists_key g k

instance (g : Fin 33) (r : Fin 128) (k : Fin 384) : Decidable (sees g r k) := by
  unfold sees exists_key
  infer_instance

set_option maxHeartbeats 1000000 in
theorem winOf_at (x : FVec Ideal S8x4112x128 .f32) (b : Fin 8) (g : Fin 33) (k : Fin 384) (c : Fin 2) (d : Fin 64)
    (hk : exists_key g k) : winOf x (ix5 b g k c d)
      = x (ix3 b ⟨(g : ℕ) * 128 + k - 240, by have := hk.1; have := hk.2; omega⟩ ⟨(c : ℕ) * 64 + d, by omega⟩) := by
  obtain ⟨h1, h2⟩ := hk
  have hc : (c : ℕ) * 64 + d < 128 := by omega
  pointwise [winOf]
  by_cases ha : (k : ℕ) < 128
  · rw [dif_pos ha, dif_pos ⟨⟨h1, by omega⟩, hc⟩]
  · by_cases hb : (k : ℕ) - 128 < 128
    · rw [dif_neg ha, dif_pos hb, dif_pos ⟨⟨by omega, by omega⟩, hc⟩]
      exact congrArg x ((ix3_inj ..).2 ⟨rfl, Fin.ext (by show (1 + (g : ℕ)) * 128 + (k - 128) - 240 = g * 128 + k - 240; omega), rfl⟩)
    · rw [dif_neg ha, dif_neg hb, dif_pos ⟨⟨by omega, by omega⟩, hc⟩]
      exact congrArg x ((ix3_inj ..).2 ⟨rfl, Fin.ext (by show (2 + (g : ℕ)) * 128 + (k - 128 - 128) - 240 = g * 128 + k - 240; omega), rfl⟩)

theorem keysR_at (kv : FVec Ideal S8x4224x256 .bf16) (b : Fin 8) (g : Fin 33) (k : Fin 384) (c : Fin 2) (d : Fin 64)
    (hk : exists_key g k) : keysR kv (ix5 b g k c d)
      = kv (ix3 b ⟨(g : ℕ) * 128 + k - 128, by have := hk.1; have := hk.2; omega⟩ ⟨(c : ℕ) * 64 + d, by omega⟩) := by
  unfold keysR
  rw [winOf_at _ _ _ _ _ _ hk]
  obtain ⟨h1, h2⟩ := hk
  pointwise
  congr 1
  idx_ext

theorem valsR_at (kv : FVec Ideal S8x4224x256 .bf16) (b : Fin 8) (g : Fin 33) (k : Fin 384) (c : Fin 2) (d : Fin 64)
    (hk : exists_key g k) : valsR kv (ix5 b g k c d)
      = kv (ix3 b ⟨(g : ℕ) * 128 + k - 128, by have := hk.1; have := hk.2; omega⟩ ⟨128 + ((c : ℕ) * 64 + d), by omega⟩) := by
  unfold valsR
  rw [winOf_at _ _ _ _ _ _ hk]
  obtain ⟨h1, h2⟩ := hk
  pointwise
  congr 1
  idx_ext

theorem scoresR_at (q : FVec Ideal S8x4224x512 .bf16) (kv : FVec Ideal S8x4224x256 .bf16) (b : Fin 8) (g : Fin 33) (c : Fin 2)
    (h : Fin 4) (r : Fin 128) (k : Fin 384) : scoresR q kv (ix6 b g c h r k)
      = (∑ x : Fin 64, keysR kv (ix5 b g k c x) * q (ix3 b ⟨(g : ℕ) * 128 + r, by omega⟩ ⟨(c : ℕ) * 256 + (h : ℕ) * 64 + x, by omega⟩))
        * (((1 : ℝ) / 8 : ℝ) : EReal) := by
  rw [← ofBits_eighth]
  pointwise [scoresR]

theorem relR_at (r : Fin 128) (k : Fin 384) : IntOp.absi (relR (ix2 r k)) = distW r k := by
  pointwise [relR]
  rfl

theorem kposR_toInt (g : Fin 33) (k : Fin 384) : (kposR (ix2 g k)).toInt = ((g : ℤ) - 1) * 128 + k := by
  have hg := g.isLt
  have hk := k.isLt
  have eg : (BitVec.ofNat 32 (g : ℕ)).toInt = g := WordCmp.toInt_ofNat_of_lt (by omega)
  have ek : (BitVec.ofNat 32 (k : ℕ)).toInt = k := WordCmp.toInt_ofNat_of_lt (by omega)
  have e0 : (128#32 : BitVec 32).toInt = 128 := by decide
  have e1 : (1#32 : BitVec 32).toInt = 1 := by decide
  have e2 : (BitVec.ofNat 32 (g : ℕ) - 1#32).toInt = g - 1 := by
    rw [toInt_sub_small] <;> rw [eg, e1] <;> omega
  have e3 : ((BitVec.ofNat 32 (g : ℕ) - 1#32) * 128#32).toInt = ((g : ℤ) - 1) * 128 := by
    rw [BitVec.toInt_mul, e2, e0, Int.bmod]
    omega
  pointwise [kposR]
  show ((BitVec.ofNat 32 (g : ℕ) - 1#32) * 128#32 + BitVec.ofNat 32 (k : ℕ)).toInt = _
  rw [BitVec.toInt_add, e3, ek, Int.bmod]
  omega

theorem maskR_at (g : Fin 33) (r : Fin 128) (k : Fin 384) : maskR (ix3 g r k) = BitVec.ofBool (decide (sees g r k)) := by
  have hg := g.isLt
  have hk := k.isLt
  have e1 : (128#32 : BitVec 32).toInt = 128 := by decide
  have e2 : (112#32 : BitVec 32).toInt = 112 := by decide
  have e3 : (4224#32 : BitVec 32).toInt = 4224 := by decide
  have hd := distN_le r k
  pointwise [maskR]
  rw [relR_at, WordCmp.cmpi_sle_eq, WordCmp.cmpi_sge_eq, WordCmp.cmpi_slt_eq, WordCmp.andi_ofBool, WordCmp.andi_ofBool, kposR_toInt,
    distW_toInt, e1, e2, e3, ← Bool.decide_and, ← Bool.decide_and]
  congr 1
  apply decide_eq_decide.mpr
  unfold sees exists_key
  omega

theorem biasR_at (c : Fin 2) (h : Fin 4) (r : Fin 128) (k : Fin 384) : biasR (ix4 c h r k)
    = ((-slope ⟨(c : ℕ) * 4 + h, by omega⟩ * distN r k : ℝ) : EReal) := by
  pointwise [biasR]
  rw [relR_at, sitofp_distW, slope_reference, EReal.coe_mul, EReal.coe_neg]

theorem logitsR_at (q : FVec Ideal S8x4224x512 .bf16) (kv : FVec Ideal S8x4224x256 .bf16) (b : Fin 8) (g : Fin 33) (c : Fin 2)
    (h : Fin 4) (r : Fin 128) (k : Fin 384) : logitsR q kv (ix6 b g c h r k)
      = if sees g r k then scoresR q kv (ix6 b g c h r k) + ((-slope ⟨(c : ℕ) * 4 + h, by omega⟩ * distN r k : ℝ) : EReal) else ⊥ := by
  pointwise [logitsR]
  rw [maskR_at, biasR_at]
  by_cases hs : sees g r k
  · rw [if_pos hs]
    simp [hs, Scalar.select]
  · rw [if_neg hs]
    simp only [hs, decide_false, Scalar.select]
    exact ofBits_bot

theorem sinkR_at (s : FVec Ideal S8 .f32) (b : Fin 8) (g : Fin 33) (c : Fin 2) (h : Fin 4) (r : Fin 128) :
    sinkR s (ix5 b g c h r) = s (ix1 ⟨(c : ℕ) * 4 + h, by omega⟩) := by
  pointwise [sinkR]

theorem reduces5 : S8x33x2x4x128x384.Reduces [5] S8x33x2x4x128 := by decide

theorem lift5 (b : Fin 8) (g : Fin 33) (c : Fin 2) (h : Fin 4) (r : Fin 128) (k : Fin 384) :
    (reduces5.lift (ix5 b g c h r : S8x33x2x4x128.Idx) k : S8x33x2x4x128x384.Idx) = ix6 b g c h r k := by
  funext a
  fin_cases a <;> rfl

theorem maxR_at (l : FVec Ideal S8x33x2x4x128x384 .f32) (s : FVec Ideal S8x33x2x4x128 .f32) (b : Fin 8) (g : Fin 33) (c : Fin 2)
    (h : Fin 4) (r : Fin 128) : maxR l s (ix5 b g c h r)
      = max (Finset.univ.fold max (⊥ : EReal) fun k : Fin 384 => l (ix6 b g c h r k)) (s (ix5 b g c h r)) := by
  have e : (constant S_ .f32 0xFF800000#32 : FVec Ideal S_ .f32) (Shape.Idx.first h_S_) = (⊥ : EReal) := ofBits_bot
  unfold maxR
  rw [maximumf_apply, Ideal.maximumf_eq_max, Host.reduce_eq_fold_single _ _ _ _ reduces5, e]
  exact congrArg (fun f => max (Finset.univ.fold max (⊥ : EReal) f) (s (ix5 b g c h r))) (funext fun k => congrArg l (lift5 b g c h r k))

theorem weightsR_at (l : FVec Ideal S8x33x2x4x128x384 .f32) (s : FVec Ideal S8x33x2x4x128 .f32) (b : Fin 8) (g : Fin 33) (c : Fin 2)
    (h : Fin 4) (r : Fin 128) (k : Fin 384) :
    weightsR l s (ix6 b g c h r k) = Ideal.exp (l (ix6 b g c h r k) - maxR l s (ix5 b g c h r)) := by
  pointwise [weightsR]

theorem sumR_at (l : FVec Ideal S8x33x2x4x128x384 .f32) (s : FVec Ideal S8x33x2x4x128 .f32) (b : Fin 8) (g : Fin 33) (c : Fin 2)
    (h : Fin 4) (r : Fin 128) : sumR l s (ix5 b g c h r)
      = (∑ k : Fin 384, weightsR l s (ix6 b g c h r k)) + Ideal.exp (s (ix5 b g c h r) - maxR l s (ix5 b g c h r)) := by
  pointwise [sumR]
  congr 1
  rw [Ideal.hostReduceAdd_single _ reduces5, zero_add]
  exact Finset.sum_congr rfl fun k _ => congrArg (weightsR l s) (lift5 b g c h r k)

/-- The result's element at block `g`, key head `c`, query head `h` of its group, row `r` and lane `d`. -/
def attendAt (l : FVec Ideal S8x33x2x4x128x384 .f32) (s : FVec Ideal S8x33x2x4x128 .f32) (v : FVec Ideal S8x33x384x2x64 .f32)
    (b : Fin 8) (g : Fin 33) (c : Fin 2) (h : Fin 4) (r : Fin 128) (d : Fin 64) : EReal :=
  Ideal.div (∑ k : Fin 384, v (ix5 b g k c d) * weightsR l s (ix6 b g c h r k)) (sumR l s (ix5 b g c h r))

theorem attendR_div (l : FVec Ideal S8x33x2x4x128x384 .f32) (s : FVec Ideal S8x33x2x4x128 .f32) (v : FVec Ideal S8x33x384x2x64 .f32)
    (b : Fin 8) (x : Fin 4224) (y : Fin 512) : attendR l s v (ix3 b x y) = attendAt l s v b ⟨(x : ℕ) / 128, by omega⟩
      ⟨(y : ℕ) / 256, by omega⟩ ⟨(y : ℕ) / 64 % 4, by omega⟩ ⟨(x : ℕ) % 128, by omega⟩ ⟨(y : ℕ) % 64, by omega⟩ := by
  pointwise [attendR, attendAt]

theorem attendR_at (l : FVec Ideal S8x33x2x4x128x384 .f32) (s : FVec Ideal S8x33x2x4x128 .f32) (v : FVec Ideal S8x33x384x2x64 .f32)
    (b : Fin 8) (x : Fin 4224) (y : Fin 512) (g : Fin 33) (c : Fin 2) (h : Fin 4) (r : Fin 128) (d : Fin 64)
    (hx : (x : ℕ) = g * 128 + r) (hy : (y : ℕ) = c * 256 + h * 64 + d) :
    attendR l s v (ix3 b x y) = attendAt l s v b g c h r d := by
  have e1 : (⟨(x : ℕ) / 128, by omega⟩ : Fin 33) = g := Fin.ext (by show (x : ℕ) / 128 = g; omega)
  have e2 : (⟨(x : ℕ) % 128, by omega⟩ : Fin 128) = r := Fin.ext (by show (x : ℕ) % 128 = r; omega)
  have e3 : (⟨(y : ℕ) / 256, by omega⟩ : Fin 2) = c := Fin.ext (by show (y : ℕ) / 256 = c; omega)
  have e4 : (⟨(y : ℕ) / 64 % 4, by omega⟩ : Fin 4) = h := Fin.ext (by show (y : ℕ) / 64 % 4 = h; omega)
  have e5 : (⟨(y : ℕ) % 64, by omega⟩ : Fin 64) = d := Fin.ext (by show (y : ℕ) % 64 = d; omega)
  rw [attendR_div, e1, e2, e3, e4, e5]

end Cert.AttnRefIdeal.Value

end
-- ==== Proof.Bias.lean ====
/- The bias table that the host line computes, as the kernel's last input window holds it. -/
module

public import proofs.«01_k».proof.Proof.Gen.AttnIdeal.Value
public import proofs.«01_k».proof.Proof.Words
public import Idealize.ShloMosaic.Lib.Pointwise
public import Idealize.ShloMosaic.Lib.Pipeline.ValueKit

@[expose] public section

set_option maxRecDepth 16384

noncomputable section

namespace Cert.AttnIdeal.Value

open Cert.AttnIdeal Cert.AttnIdeal.Gen Idealize.ShloMosaic Idealize.ShloMosaic.TcCoe Idealize.SL.Sem Cert.Attention

theorem idx15 : ∀ t : Fin cfg0.N, win0_15.index t = 0 := (by decide +kernel : ∀ t : Fin grid0.N, _)

/-- The first key that exists, in the window of a block of variant `n`. -/
def tableLo (n : Fin 4) : ℕ := if (n : ℕ) = 0 then 240 else if (n : ℕ) = 1 then 112 else 0

/-- One past the last key that exists, in the window of a block of variant `n`. -/
def tableHi (n : Fin 4) : ℕ := if (n : ℕ) = 3 then 256 else 384

/-- The bias of a visible key at distance `d`, in powers of two. -/
def biasReal (h : Fin 8) (d : ℕ) : ℝ := -slope h * d * c2

theorem bias_word (h : Fin 8) (r : Fin 128) (k : Fin 384) :
    (if (FloatOps.sitofp (F := Ideal) .f32 (distW r k) : EReal) ≤ Ideal.ofBits .f32 1124073472#32 then
      -Ideal.ofBits .f32 (lit0 (S8.rowMajor (ix1 h))) * (FloatOps.sitofp (F := Ideal) .f32 (distW r k) : EReal)
        * Ideal.div 1 (Ideal.log (Ideal.ofBits .f32 1073741824#32))
      else Ideal.ofBits .f32 4286578688#32)
      = if (r : ℕ) ≤ k ∧ (k : ℕ) ≤ r + 256 then (biasReal h (distN r k) : EReal) else ⊥ := by
  rw [sitofp_distW, slope_kernel, div_log2, ofBits_128, ofBits_bot]
  have e : (((distN r k : ℝ) : EReal) ≤ ((128 : ℝ) : EReal)) ↔ ((r : ℕ) ≤ k ∧ (k : ℕ) ≤ r + 256) := by
    rw [← distN_le, EReal.coe_le_coe_iff]
    exact_mod_cast Iff.rfl
  by_cases h' : (r : ℕ) ≤ k ∧ (k : ℕ) ≤ r + 256
  · rw [if_pos h', if_pos (e.mpr h'), biasReal, EReal.coe_mul, EReal.coe_mul, EReal.coe_neg]
  · rw [if_neg h', if_neg (fun x => h' (e.mp x))]

theorem variant_word (p : EReal) (k : Fin 384) (lo hi : ℕ) (hlo : lo ≤ 384) (hhi : hi ≤ 384) :
    Scalar.select (IntOp.andi (IntOp.cmpi .sge (BitVec.ofNat 32 k) (BitVec.ofNat 32 lo)) (IntOp.cmpi .slt (BitVec.ofNat 32 k) (BitVec.ofNat 32 hi)))
      p (Ideal.ofBits .f32 4286578688#32) = if lo ≤ (k : ℕ) ∧ (k : ℕ) < hi then p else ⊥ := by
  have hk := k.isLt
  rw [WordCmp.cmpi_sge_ofNat (by omega) (by omega), WordCmp.cmpi_slt_ofNat (by omega) (by omega), WordCmp.andi_ofBool, ofBits_bot]
  by_cases h : lo ≤ (k : ℕ) ∧ (k : ℕ) < hi
  · rw [if_pos h]
    simp [h.1, h.2, Scalar.select]
  · rw [if_neg h]
    rw [not_and_or] at h
    rcases h with h | h <;> simp [h, Scalar.select]

set_option maxHeartbeats 2000000 in
theorem table_at (m : (ℓ : Loc nD τ sig) → Buf (Elt Ideal) ℓ) (c : Dev nD) (n : Fin 4) (h : Fin 8) (r : Fin 128) (k : Fin 384) :
    V m c main_v65 (ix4 n h r k) = if tableLo n ≤ (k : ℕ) ∧ (k : ℕ) < tableHi n then
      (if (r : ℕ) ≤ k ∧ (k : ℕ) ≤ r + 256 then (biasReal h (distN r k) : EReal) else ⊥) else (⊥ : EReal) := by
  simp only [V, hostOps0, hostOps0_1, hostOps0_2, hostOps0_3, hostOps0_4, hostOps0_5, hostOps0_6, hostOps0_7, hostOps0_8, hostOps0_9,
    hostOps0_10, List.flatten_cons, List.flatten_nil, List.cons_append, List.nil_append, List.append_nil]
  after_results_simp
  pointwise
  after_results_simp
  simp only [StableHlo.TRef.ofBuf, StableHlo.TRef.toBuf, cast_eq, eqRec_eq_cast, eq_rec_constant]
  pointwise
  have e : IntOp.absi (IntOp.subi (IntOp.subi (BitVec.ofNat 32 k) 128#32) (BitVec.ofNat 32 r)) = distW r k := rfl
  rw [e, bias_word, variant_word _ k 240 384 (by omega) (by omega), variant_word _ k 112 384 (by omega) (by omega),
    variant_word _ k 0 384 (by omega) (by omega), variant_word _ k 0 256 (by omega) (by omega)]
  fin_cases n <;> rfl

theorem iblk15 (m : (ℓ : Loc nD τ sig) → Buf (Elt Ideal) ℓ) (c : Dev nD) (t : Fin cfg0.N) (n : Fin 4) (h : Fin 8) (r : Fin 128) (k : Fin 384) :
    iblk m c 15 t (ix4 n h r k) = V m c main_v65 (ix4 n h r k) := by
  have h0 : ∀ a, (0 : Fin 4 → ℕ) a = 0 := fun _ => rfl
  blk_point [iblk, V, idx15 t, h0]

end Cert.AttnIdeal.Value

end
-- ==== Proof.Core.lean ====
/- One head of one tile is the reference's: over operands described by what they hold, the kernel's head output at a lane
   of its own half is the reference's element, and at a lane of the other half it is zero. -/
module

public import proofs.«01_k».proof.Proof.Head
public import proofs.«01_k».proof.Proof.RefAt
public import proofs.«01_k».proof.Proof.Bias

@[expose] public section

set_option maxRecDepth 16384

noncomputable section

namespace Cert.AttnIdeal.Value

open Cert.AttnIdeal Cert.AttnIdeal.Gen Idealize.ShloMosaic Idealize.SL.Sem Cert.Attention
open Cert.AttnRefIdeal.Value (keysR valsR scoresR logitsR sinkR sees exists_key attendAt weightsR sumR maxR)

/-- The queries' array. -/
abbrev QArr := FVec Ideal Cert.AttnRefIdeal.S8x4224x512 .bf16
/-- The keys' and values' array. -/
abbrev KVArr := FVec Ideal Cert.AttnRefIdeal.S8x4224x256 .bf16
/-- The sinks. -/
abbrev SArr := FVec Ideal Cert.AttnRefIdeal.S8 .f32

/-- A sum over 128 lanes of which one half holds zeros. -/
theorem sum_half (f : Fin 128 → EReal) (half : Fin 2) (h0 : ∀ x : Fin 64, f ⟨64 * (1 - half) + x, by omega⟩ = 0) :
    ∑ x, f x = ∑ x : Fin 64, f ⟨64 * half + x, by omega⟩ := by
  have e := Fin.sum_univ_two_halves 64 64 rfl f
  rw [e]
  fin_cases half
  · rw [Finset.sum_eq_zero (s := Finset.univ) (f := fun x : Fin 64 => f ⟨64 + x, by omega⟩) (fun x _ => h0 x), add_zero]
    exact Finset.sum_congr rfl fun x _ => congrArg f (Fin.ext (by show (x : ℕ) = 64 * 0 + x; omega))
  · rw [Finset.sum_eq_zero (s := Finset.univ) (f := fun x : Fin 64 => f ⟨x, by omega⟩)
      (fun x _ => (congrArg f (Fin.ext (by show (x : ℕ) = 64 * (1 - 1) + x; omega))).trans (h0 x)), zero_add]
    rfl

/-- Finite queries and keys. -/
def Finite (q : QArr) (kv : KVArr) : Prop :=
  (∀ i, ∃ x : ℝ, q i = (x : EReal)) ∧ ∀ (b : Fin 8) (n : Fin 4224) (l : Fin 128), ∃ x : ℝ, kv (ix3 b n ⟨l, by omega⟩) = (x : EReal)

theorem scores_real (q : QArr) (kv : KVArr) (hf : Finite q kv) (b : Fin 8) (g : Fin 33) (c : Fin 2) (h : Fin 4) (r : Fin 128)
    (k : Fin 384) (hk : exists_key g k) :
    ∃ x : ℝ, (∑ x : Fin 64, keysR kv (ix5 b g k c x) * q (ix3 b ⟨(g : ℕ) * 128 + r, by omega⟩ ⟨(c : ℕ) * 256 + (h : ℕ) * 64 + x, by omega⟩))
      = (x : EReal) := by
  apply exists_real_sum
  intro x
  rw [Cert.AttnRefIdeal.Value.keysR_at _ _ _ _ _ _ hk]
  obtain ⟨u, hu⟩ := hf.1 (ix3 b ⟨(g : ℕ) * 128 + r, by omega⟩ ⟨(c : ℕ) * 256 + (h : ℕ) * 64 + x, by omega⟩)
  obtain ⟨w, hw⟩ := hf.2 b ⟨(g : ℕ) * 128 + k - 128, by have := hk.1; have := hk.2; omega⟩ ⟨(c : ℕ) * 64 + x, by omega⟩
  rw [hu, hw]
  exact ⟨w * u, (EReal.coe_mul w u).symm⟩

theorem logitsR_real (q : QArr) (kv : KVArr) (hf : Finite q kv) (b : Fin 8) (g : Fin 33) (c : Fin 2) (h : Fin 4) (r : Fin 128)
    (k : Fin 384) : logitsR q kv (ix6 b g c h r k) ≠ ⊤ := by
  rw [Cert.AttnRefIdeal.Value.logitsR_at]
  split
  · rename_i hs
    obtain ⟨x, hx⟩ := scores_real q kv hf b g c h r k hs.2
    rw [Cert.AttnRefIdeal.Value.scoresR_at, hx, ← EReal.coe_mul, ← EReal.coe_add]
    exact EReal.coe_ne_top _
  · exact bot_ne_top

/-- The reference's row. -/
abbrev rowR (q : QArr) (kv : KVArr) (b : Fin 8) (g : Fin 33) (c : Fin 2) (h : Fin 4) (r : Fin 128) : Fin 384 → EReal :=
  fun k => logitsR q kv (ix6 b g c h r k)

/-- The reference's element, from its row. -/
theorem attendAt_eq {q : QArr} {kv : KVArr} {s : SArr} {b : Fin 8} {g : Fin 33} {c : Fin 2} {h : Fin 4} {r : Fin 128} (σ : ℝ) (hσ : s (ix1 ⟨(c : ℕ) * 4 + h, by omega⟩) = (σ : EReal)) (v : FVec Ideal Cert.AttnRefIdeal.S8x33x384x2x64 .f32) (d : Fin 64) :
    attendAt (logitsR q kv) (sinkR s) v b g c h r d
      = Ideal.div (∑ k : Fin 384, v (ix5 b g k c d) * Ideal.exp (rowR q kv b g c h r k - rowTop (rowR q kv b g c h r) σ))
        ((∑ k, Ideal.exp (rowR q kv b g c h r k - rowTop (rowR q kv b g c h r) σ)) + Ideal.exp ((σ : EReal) - rowTop (rowR q kv b g c h r) σ)) := by
  have em : maxR (logitsR q kv) (sinkR s) (ix5 b g c h r) = rowTop (rowR q kv b g c h r) σ := by
    rw [Cert.AttnRefIdeal.Value.maxR_at, Cert.AttnRefIdeal.Value.sinkR_at, hσ]
    rfl
  have ew : ∀ k, weightsR (logitsR q kv) (sinkR s) (ix6 b g c h r k) = Ideal.exp (rowR q kv b g c h r k - rowTop (rowR q kv b g c h r) σ) :=
    fun k => by rw [Cert.AttnRefIdeal.Value.weightsR_at, em]
  unfold attendAt
  rw [Cert.AttnRefIdeal.Value.sumR_at, em, Cert.AttnRefIdeal.Value.sinkR_at, hσ]
  refine congrArg₂ Ideal.div (Finset.sum_congr rfl fun k _ => congrArg _ (ew k)) ?_
  exact congrArg (fun z => z + _) (Finset.sum_congr rfl fun k _ => ew k)

variable (q : QArr) (kv : KVArr) (s : SArr) (hf : Finite q kv) (b : Fin 8) (g : Fin 33) (c : Fin 2) (h : Fin 4) (r : Fin 128) (half : Fin 2)
  (o : ℕ) (ho : S1664x128.Slices ![o, 0] S384x128) (ho' : o + 384 ≤ 1664)

/-- What the operands of one head hold: keys in one half of the lanes where the key is visible and zeros in the other half,
    the head's queries in that half, the bias where visible and minus infinity elsewhere. -/
structure Holds (K : FVec Ideal S1664x128 .bf16) (qv : FVec Ideal S1x128x128 .bf16) (bv : FVec Ideal S1x1x128x384 .f32) : Prop where
  keys : ∀ (k : Fin 384), sees g r k → ∀ x : Fin 64, K (ix2 ⟨o + k, by omega⟩ ⟨64 * half + x, by omega⟩) = keysR kv (ix5 b g k c x)
  zeros : ∀ (n : Fin 1664) (x : Fin 64), K (ix2 n ⟨64 * (1 - half) + x, by omega⟩) = 0
  queries : ∀ x : Fin 64, qv (ix3 0 r ⟨64 * half + x, by omega⟩)
    = q (ix3 b ⟨(g : ℕ) * 128 + r, by omega⟩ ⟨(c : ℕ) * 256 + (h : ℕ) * 64 + x, by omega⟩)
  bias : ∀ k : Fin 384, bv (ix4 0 0 r k)
    = if sees g r k then (biasReal ⟨(c : ℕ) * 4 + h, by omega⟩ (distN r k) : EReal) else ⊥

variable {q kv s b g c h r half o ho ho'}
variable {K : FVec Ideal S1664x128 .bf16} {qv : FVec Ideal S1x128x128 .bf16} {bv : FVec Ideal S1x1x128x384 .f32}

include hf in
theorem logits_core (H : Holds q kv b g c h r half o ho' K qv bv) (k : Fin 384) :
    logitsOf K o ho qv bv (ix2 r k) = logitsR q kv (ix6 b g c h r k) * (c2 : EReal) := by
  rw [logits_at _ _ _ ho', Cert.AttnRefIdeal.Value.logitsR_at, H.bias]
  by_cases hs : sees g r k
  · rw [if_pos hs, if_pos hs, Cert.AttnRefIdeal.Value.scoresR_at]
    rw [sum_half (fun x : Fin 128 => qv (ix3 0 r x) * K (ix2 ⟨o + k, by omega⟩ x)) half
      (fun x => by
        show _ * K (ix2 ⟨o + k, _⟩ ⟨64 * (1 - half) + x, _⟩) = 0
        rw [H.zeros, mul_zero])]
    have e : (∑ x : Fin 64, qv (ix3 0 r ⟨64 * half + x, by omega⟩) * K (ix2 ⟨o + k, by omega⟩ ⟨64 * half + x, by omega⟩))
        = ∑ x : Fin 64, keysR kv (ix5 b g k c x) * q (ix3 b ⟨(g : ℕ) * 128 + r, by omega⟩ ⟨(c : ℕ) * 256 + (h : ℕ) * 64 + x, by omega⟩) :=
      Finset.sum_congr rfl fun x _ => by rw [H.queries, H.keys k hs, mul_comm]
    obtain ⟨u, hu⟩ := scores_real q kv hf b g c h r k hs.2
    refine (congrArg (fun z : EReal => z * (((1 : ℝ) / 8 * c2 : ℝ) : EReal) + (biasReal ⟨(c : ℕ) * 4 + h, by omega⟩ (distN r k) : EReal)) e).trans ?_
    show (∑ x : Fin 64, keysR kv (ix5 b g k c x) * q (ix3 b ⟨(g : ℕ) * 128 + r, by omega⟩ ⟨(c : ℕ) * 256 + (h : ℕ) * 64 + x, by omega⟩))
      * (((1 : ℝ) / 8 * c2 : ℝ) : EReal) + (biasReal ⟨(c : ℕ) * 4 + h, by omega⟩ (distN r k) : EReal) = _
    rw [hu, ← EReal.coe_mul, ← EReal.coe_mul, ← EReal.coe_add, ← EReal.coe_add, ← EReal.coe_mul]
    congr 1
    unfold biasReal
    ring
  · rw [if_neg hs, if_neg hs, EReal.add_bot, EReal.bot_mul_coe_of_pos c2_pos]

include hf in
theorem rowMax_core (H : Holds q kv b g c h r half o ho' K qv bv) (σ : ℝ) :
    rowMax (logitsOf K o ho qv bv) ((σ : EReal) * (c2 : EReal)) (ix2 r 0)
      = rowTop (fun k => rowR q kv b g c h r k * (c2 : EReal)) ((σ : EReal) * (c2 : EReal)) := by
  rw [rowMax_at, rowTop]
  exact congrArg (fun f => max (Finset.univ.fold max (⊥ : EReal) f) _) (funext fun k => logits_core hf H k)

include hf in
theorem weights_core (H : Holds q kv b g c h r half o ho' K qv bv) (σ : ℝ) (k : Fin 384) :
    weights (logitsOf K o ho qv bv) ((σ : EReal) * (c2 : EReal)) (ix2 r k)
      = Ideal.exp (rowR q kv b g c h r k - rowTop (rowR q kv b g c h r) σ) := by
  rw [weights_at, logits_core hf H, rowMax_core hf H]
  exact exp2_weight _ σ (logitsR_real q kv hf b g c h r) _ (logitsR_real q kv hf b g c h r k)

include hf in
theorem rowSum_core (H : Holds q kv b g c h r half o ho' K qv bv) (σ : ℝ) :
    rowSum (logitsOf K o ho qv bv) ((σ : EReal) * (c2 : EReal)) (ix2 r 0)
      = (∑ k, Ideal.exp (rowR q kv b g c h r k - rowTop (rowR q kv b g c h r) σ)) + Ideal.exp ((σ : EReal) - rowTop (rowR q kv b g c h r) σ) := by
  rw [rowSum_at, rowMax_core hf H, exp2_weight _ σ (logitsR_real q kv hf b g c h r) _ (EReal.coe_ne_top σ)]
  exact congrArg (fun z => z + _) (Finset.sum_congr rfl fun k _ => weights_core hf H σ k)

include hf in
theorem head_core (H : Holds q kv b g c h r half o ho' K qv bv) (σ : ℝ) (hσ : s (ix1 ⟨(c : ℕ) * 4 + h, by omega⟩) = (σ : EReal))
    (V : FVec Ideal S1664x128 .bf16) (d : Fin 64)
    (hV : ∀ k : Fin 384, sees g r k → V (ix2 ⟨o + k, by omega⟩ ⟨64 * half + d, by omega⟩) = valsR kv (ix5 b g k c d)) :
    headOf V o ho (logitsOf K o ho qv bv) ((σ : EReal) * (c2 : EReal)) (ix2 r ⟨64 * half + d, by omega⟩)
      = attendAt (logitsR q kv) (sinkR s) (valsR kv) b g c h r d := by
  rw [attendAt_eq σ hσ, head_at _ _ _ ho', rowSum_core hf H]
  refine congrArg (fun z => Ideal.div z _) (Finset.sum_congr rfl fun k _ => ?_)
  rw [weights_core hf H]
  by_cases hs : sees g r k
  · rw [hV k hs, mul_comm]
  · have e : rowR q kv b g c h r k = ⊥ := by
      show logitsR q kv (ix6 b g c h r k) = ⊥
      rw [Cert.AttnRefIdeal.Value.logitsR_at, if_neg hs]
    rw [e, EReal.bot_sub, Ideal.exp_bot, zero_mul, mul_zero]

include hf in
theorem head_zero (H : Holds q kv b g c h r half o ho' K qv bv) (σ : ℝ) (V : FVec Ideal S1664x128 .bf16) (l : Fin 128)
    (hV : ∀ n : Fin 1664, V (ix2 n l) = 0) :
    headOf V o ho (logitsOf K o ho qv bv) ((σ : EReal) * (c2 : EReal)) (ix2 r l) = 0 := by
  rw [head_at _ _ _ ho', rowSum_core hf H]
  have e : (∑ k : Fin 384, weights (logitsOf K o ho qv bv) ((σ : EReal) * (c2 : EReal)) (ix2 r k) * V (ix2 ⟨o + k, by omega⟩ l)) = 0 :=
    Finset.sum_eq_zero fun k _ => by rw [hV, mul_zero]
  rw [e, Ideal.div, if_neg (normaliser_ne _ σ (logitsR_real q kv hf b g c h r)), zero_mul]

end Cert.AttnIdeal.Value

end
-- ==== Proof.Mask.lean ====
/- The half-masked keys and values: 128 lanes of two key heads, kept in one half of the lanes (swapped first where the
   head lies in the other half) and zero in the other. -/
module

public import proofs.«01_k».proof.Proof.Core

@[expose] public section

set_option maxRecDepth 16384

noncomputable section

namespace Cert.AttnIdeal.Value

open Cert.AttnIdeal Cert.AttnIdeal.Gen Idealize.ShloMosaic Idealize.SL.Sem Cert.Attention

/-- The lower 64 lanes. -/
def lowHalf : IVec S1664x128 1 := cmpi .slt (iota .tc S1664x128 32 [1] iota_S1664x128_d1_w32) (broadcast S1664x128 64#32)

/-- The keys' lanes. -/
def keyLanes (X : FVec Ideal S1664x256 .bf16) : FVec Ideal S1664x128 .bf16 :=
  extractStridedSlice S1664x128 ![0, 0] X slices_S1664x256_o0_0_S1664x128

/-- The values' lanes. -/
def valLanes (X : FVec Ideal S1664x256 .bf16) : FVec Ideal S1664x128 .bf16 :=
  extractStridedSlice S1664x128 ![0, 128] X slices_S1664x256_o0_128_S1664x128

/-- The two halves exchanged. -/
def swapHalves (A : FVec Ideal S1664x128 .bf16) : FVec Ideal S1664x128 .bf16 :=
  concatenate S1664x128 1 [⟨S1664x64, extractStridedSlice S1664x64 ![0, 64] A slices_S1664x128_o0_64_S1664x64⟩,
    ⟨S1664x64, extractStridedSlice S1664x64 ![0, 0] A slices_S1664x128_o0_0_S1664x64⟩] concatenates_S1664x64_S1664x64_S1664x128_d1

/-- The lower lanes kept. -/
def keepLow (A : FVec Ideal S1664x128 .bf16) : FVec Ideal S1664x128 .bf16 :=
  select lowHalf A (broadcast S1664x128 (FloatOps.ofBits .bf16 0#16))

/-- The upper lanes kept. -/
def keepHigh (A : FVec Ideal S1664x128 .bf16) : FVec Ideal S1664x128 .bf16 :=
  select (xori lowHalf (constantI S1664x128 1 1#1)) A (broadcast S1664x128 (FloatOps.ofBits .bf16 0#16))

theorem lowHalf_at (n : Fin 1664) (l : Fin 128) : lowHalf (ix2 n l) = BitVec.ofBool (decide ((l : ℕ) < 64)) := by
  have hl := l.isLt
  pointwise [lowHalf]
  rw [WordCmp.cmpi_slt_ofNat (by omega) (by omega)]

theorem keepLow_at (A : FVec Ideal S1664x128 .bf16) (n : Fin 1664) (l : Fin 128) :
    keepLow A (ix2 n l) = if (l : ℕ) < 64 then A (ix2 n l) else 0 := by
  pointwise [keepLow]
  rw [lowHalf_at]
  by_cases h : (l : ℕ) < 64 <;> simp [h, Scalar.select]

theorem keepHigh_at (A : FVec Ideal S1664x128 .bf16) (n : Fin 1664) (l : Fin 128) :
    keepHigh A (ix2 n l) = if (l : ℕ) < 64 then 0 else A (ix2 n l) := by
  pointwise [keepHigh]
  rw [lowHalf_at]
  by_cases h : (l : ℕ) < 64 <;> simp [h, Scalar.select, IntOp.xori]

theorem swap_low (A : FVec Ideal S1664x128 .bf16) (n : Fin 1664) (x : Fin 64) :
    swapHalves A (ix2 n ⟨x, by omega⟩) = A (ix2 n ⟨64 + x, by omega⟩) := by
  pointwise [swapHalves]

theorem swap_high (A : FVec Ideal S1664x128 .bf16) (n : Fin 1664) (x : Fin 64) :
    swapHalves A (ix2 n ⟨64 + x, by omega⟩) = A (ix2 n ⟨x, by omega⟩) := by
  pointwise [swapHalves]

/-- `K` holds lanes `off … off + 63` of `X` in its half `half`, and zeros in the other. -/
structure Masked (X : FVec Ideal S1664x256 .bf16) (half : Fin 2) (off : ℕ) (hoff : off + 64 ≤ 256) (K : FVec Ideal S1664x128 .bf16) : Prop where
  kept : ∀ (n : Fin 1664) (x : Fin 64), K (ix2 n ⟨64 * half + x, by omega⟩) = X (ix2 n ⟨off + x, by omega⟩)
  zero : ∀ (n : Fin 1664) (x : Fin 64), K (ix2 n ⟨64 * (1 - half) + x, by omega⟩) = 0

theorem keyLanes_at (X : FVec Ideal S1664x256 .bf16) (n : Fin 1664) (l : Fin 128) :
    keyLanes X (ix2 n l) = X (ix2 n ⟨l, by omega⟩) := by
  pointwise [keyLanes]

theorem valLanes_at (X : FVec Ideal S1664x256 .bf16) (n : Fin 1664) (l : Fin 128) :
    valLanes X (ix2 n l) = X (ix2 n ⟨128 + l, by omega⟩) := by
  pointwise [valLanes]

/-- The first head in the lower half, where it lies already. -/
theorem masked_low {X : FVec Ideal S1664x256 .bf16} {A : FVec Ideal S1664x128 .bf16} {off : ℕ} (hoff : off + 128 ≤ 256)
    (hA : ∀ n l, A (ix2 n l) = X (ix2 n ⟨off + l, by omega⟩)) : Masked X 0 off (by omega) (keepLow A) where
  kept n x := by
    have hx := x.isLt
    rw [keepLow_at, if_pos (by simp), hA]
    exact congrArg X ((ix2_inj ..).2 ⟨rfl, by ext; simp⟩)
  zero n x := by rw [keepLow_at, if_neg (by simp)]

/-- The second head in the upper half, where it lies already. -/
theorem masked_high {X : FVec Ideal S1664x256 .bf16} {A : FVec Ideal S1664x128 .bf16} {off : ℕ} (hoff : off + 128 ≤ 256)
    (hA : ∀ n l, A (ix2 n l) = X (ix2 n ⟨off + l, by omega⟩)) : Masked X 1 (off + 64) (by omega) (keepHigh A) where
  kept n x := by
    have hx := x.isLt
    rw [keepHigh_at, if_neg (by simp), hA]
    exact congrArg X ((ix2_inj ..).2 ⟨rfl, by ext; simp; omega⟩)
  zero n x := by rw [keepHigh_at, if_pos (by simp)]

/-- The second head in the lower half, after the exchange. -/
theorem masked_swap_low {X : FVec Ideal S1664x256 .bf16} {A : FVec Ideal S1664x128 .bf16} {off : ℕ} (hoff : off + 128 ≤ 256)
    (hA : ∀ n l, A (ix2 n l) = X (ix2 n ⟨off + l, by omega⟩)) :
    Masked X 0 (off + 64) (by omega) (keepLow (swapHalves A)) where
  kept n x := by
    have hx := x.isLt
    rw [keepLow_at, if_pos (by simp)]
    refine (congrArg (swapHalves A) ((ix2_inj ..).2 ⟨rfl, by ext; simp⟩)).trans ((swap_low A n x).trans ((hA _ _).trans ?_))
    exact congrArg X ((ix2_inj ..).2 ⟨rfl, by ext; simp; omega⟩)
  zero n x := by rw [keepLow_at, if_neg (by simp)]

/-- The first head in the upper half, after the exchange. -/
theorem masked_swap_high {X : FVec Ideal S1664x256 .bf16} {A : FVec Ideal S1664x128 .bf16} {off : ℕ} (hoff : off + 128 ≤ 256)
    (hA : ∀ n l, A (ix2 n l) = X (ix2 n ⟨off + l, by omega⟩)) :
    Masked X 1 off (by omega) (keepHigh (swapHalves A)) where
  kept n x := by
    have hx := x.isLt
    rw [keepHigh_at, if_neg (by simp)]
    refine (congrArg (swapHalves A) ((ix2_inj ..).2 ⟨rfl, by ext; simp⟩)).trans ((swap_high A n x).trans (hA _ _))
  zero n x := by rw [keepHigh_at, if_pos (by simp)]

end Cert.AttnIdeal.Value

end
-- ==== Proof.Blocks.lean ====
/- The blocks a grid point stages: where each window lies, what its elements are, and the 1664 rows of keys and values
   that the body joins from thirteen of them. -/
module

public import proofs.«01_k».proof.Proof.Gen.AttnIdeal.Value
public import proofs.«01_k».proof.Proof.Mask

@[expose] public section

set_option maxRecDepth 16384

noncomputable section

namespace Cert.AttnIdeal.Value

open Cert.AttnIdeal Cert.AttnIdeal.Gen Idealize.ShloMosaic Idealize.ShloMosaic.TcCoe Idealize.SL.Sem Cert.Attention
open Cert.AttnRefIdeal.Value (sees exists_key)

/-- The batch of a grid point. -/
def batchOf (t : Fin cfg0.N) : Fin 8 := ⟨(t : ℕ) / 3, by have h := t.isLt; have e : cfg0.N = 24 := rfl; omega⟩

/-- The group of query blocks of a grid point. -/
def groupOf (t : Fin cfg0.N) : Fin 3 := ⟨(t : ℕ) % 3, by omega⟩

/-- The block of keys that window `2 + j` stages: the one before the group's first, and so on, held inside the array. -/
def keyBlock (t : Fin cfg0.N) (j : ℕ) : Fin 33 := ⟨min (11 * (groupOf t : ℕ) + j - 1) 32, by omega⟩

/-- The bias variant of query block `g`. -/
def variantOf (g : ℕ) : Fin 4 := if g = 32 then 3 else if g = 1 then 1 else if g = 0 then 0 else 2

theorem idx0 : ∀ t : Fin cfg0.N, win0_0.index t = 0 := (by decide +kernel : ∀ t : Fin grid0.N, _)
theorem idx1 : ∀ t : Fin cfg0.N, win0_1.index t = ![(batchOf t : ℕ), (groupOf t : ℕ), 0] := (by decide +kernel : ∀ t : Fin grid0.N, _)
theorem idx2 : ∀ t : Fin cfg0.N, win0_2.index t = ![(batchOf t : ℕ), (keyBlock t 0 : ℕ), 0] := (by decide +kernel : ∀ t : Fin grid0.N, _)
theorem idx3 : ∀ t : Fin cfg0.N, win0_3.index t = ![(batchOf t : ℕ), (keyBlock t 1 : ℕ), 0] := (by decide +kernel : ∀ t : Fin grid0.N, _)
theorem idx4 : ∀ t : Fin cfg0.N, win0_4.index t = ![(batchOf t : ℕ), (keyBlock t 2 : ℕ), 0] := (by decide +kernel : ∀ t : Fin grid0.N, _)
theorem idx5 : ∀ t : Fin cfg0.N, win0_5.index t = ![(batchOf t : ℕ), (keyBlock t 3 : ℕ), 0] := (by decide +kernel : ∀ t : Fin grid0.N, _)
theorem idx6 : ∀ t : Fin cfg0.N, win0_6.index t = ![(batchOf t : ℕ), (keyBlock t 4 : ℕ), 0] := (by decide +kernel : ∀ t : Fin grid0.N, _)
theorem idx7 : ∀ t : Fin cfg0.N, win0_7.index t = ![(batchOf t : ℕ), (keyBlock t 5 : ℕ), 0] := (by decide +kernel : ∀ t : Fin grid0.N, _)
theorem idx8 : ∀ t : Fin cfg0.N, win0_8.index t = ![(batchOf t : ℕ), (keyBlock t 6 : ℕ), 0] := (by decide +kernel : ∀ t : Fin grid0.N, _)
theorem idx9 : ∀ t : Fin cfg0.N, win0_9.index t = ![(batchOf t : ℕ), (keyBlock t 7 : ℕ), 0] := (by decide +kernel : ∀ t : Fin grid0.N, _)
theorem idx10 : ∀ t : Fin cfg0.N, win0_10.index t = ![(batchOf t : ℕ), (keyBlock t 8 : ℕ), 0] := (by decide +kernel : ∀ t : Fin grid0.N, _)
theorem idx11 : ∀ t : Fin cfg0.N, win0_11.index t = ![(batchOf t : ℕ), (keyBlock t 9 : ℕ), 0] := (by decide +kernel : ∀ t : Fin grid0.N, _)
theorem idx12 : ∀ t : Fin cfg0.N, win0_12.index t = ![(batchOf t : ℕ), (keyBlock t 10 : ℕ), 0] := (by decide +kernel : ∀ t : Fin grid0.N, _)
theorem idx13 : ∀ t : Fin cfg0.N, win0_13.index t = ![(batchOf t : ℕ), (keyBlock t 11 : ℕ), 0] := (by decide +kernel : ∀ t : Fin grid0.N, _)
theorem idx14 : ∀ t : Fin cfg0.N, win0_14.index t = ![(batchOf t : ℕ), (keyBlock t 12 : ℕ), 0] := (by decide +kernel : ∀ t : Fin grid0.N, _)
theorem idx16 : ∀ t : Fin cfg0.N, win0_16.index t = ![(batchOf t : ℕ), (groupOf t : ℕ), 0] := (by decide +kernel : ∀ t : Fin grid0.N, _)

theorem off1_at : ∀ (t : Fin cfg0.N) (n : Fin 11), k0_off1 (grid0.coords t) (BitVec.ofNat 32 n) = ![(variantOf (11 * (groupOf t : ℕ) + n) : ℕ), 0, 0, 0] :=
  (by decide +kernel : ∀ (t : Fin grid0.N) (n : Fin 11), _)
theorem off2_at : ∀ (t : Fin cfg0.N) (n : Fin 11), k0_off2 (grid0.coords t) (BitVec.ofNat 32 n) = ![(variantOf (11 * (groupOf t : ℕ) + n) : ℕ), 1, 0, 0] :=
  (by decide +kernel : ∀ (t : Fin grid0.N) (n : Fin 11), _)
theorem off3_at : ∀ (t : Fin cfg0.N) (n : Fin 11), k0_off3 (grid0.coords t) (BitVec.ofNat 32 n) = ![(variantOf (11 * (groupOf t : ℕ) + n) : ℕ), 2, 0, 0] :=
  (by decide +kernel : ∀ (t : Fin grid0.N) (n : Fin 11), _)
theorem off4_at : ∀ (t : Fin cfg0.N) (n : Fin 11), k0_off4 (grid0.coords t) (BitVec.ofNat 32 n) = ![(variantOf (11 * (groupOf t : ℕ) + n) : ℕ), 3, 0, 0] :=
  (by decide +kernel : ∀ (t : Fin grid0.N) (n : Fin 11), _)
theorem off5_at : ∀ (t : Fin cfg0.N) (n : Fin 11), k0_off5 (grid0.coords t) (BitVec.ofNat 32 n) = ![(variantOf (11 * (groupOf t : ℕ) + n) : ℕ), 4, 0, 0] :=
  (by decide +kernel : ∀ (t : Fin grid0.N) (n : Fin 11), _)
theorem off6_at : ∀ (t : Fin cfg0.N) (n : Fin 11), k0_off6 (grid0.coords t) (BitVec.ofNat 32 n) = ![(variantOf (11 * (groupOf t : ℕ) + n) : ℕ), 5, 0, 0] :=
  (by decide +kernel : ∀ (t : Fin grid0.N) (n : Fin 11), _)
theorem off7_at : ∀ (t : Fin cfg0.N) (n : Fin 11), k0_off7 (grid0.coords t) (BitVec.ofNat 32 n) = ![(variantOf (11 * (groupOf t : ℕ) + n) : ℕ), 6, 0, 0] :=
  (by decide +kernel : ∀ (t : Fin grid0.N) (n : Fin 11), _)
theorem off8_at : ∀ (t : Fin cfg0.N) (n : Fin 11), k0_off8 (grid0.coords t) (BitVec.ofNat 32 n) = ![(variantOf (11 * (groupOf t : ℕ) + n) : ℕ), 7, 0, 0] :=
  (by decide +kernel : ∀ (t : Fin grid0.N) (n : Fin 11), _)

variable (m : (ℓ : Loc nD τ sig) → Buf (Elt Ideal) ℓ) (c : Dev nD) (t : Fin cfg0.N)

theorem iblk0 (h : Fin 8) : iblk m c 0 t (ix1 h) = m ((c.tc).loc main_arg2) (ix1 h) := by
  have h0 : ∀ a, (0 : Fin 1 → ℕ) a = 0 := fun _ => rfl
  blk_point [iblk, V, idx0 t, h0]

theorem iblk1 (r : Fin 1408) (l : Fin 512) :
    iblk m c 1 t (ix3 0 r l) = m ((c.tc).loc main_arg0) (ix3 (batchOf t) ⟨(groupOf t : ℕ) * 1408 + r, by have := (groupOf t).isLt; omega⟩ l) := by
  blk_point [iblk, V, idx1 t]

/-- The key block `j` of a grid point. -/
def kvAt (j : ℕ) (r : Fin 128) (l : Fin 256) : EReal :=
  m ((c.tc).loc main_arg1) (ix3 (batchOf t) ⟨(keyBlock t j : ℕ) * 128 + r, by have := (keyBlock t j).isLt; omega⟩ l)

theorem iblk2 (r : Fin 128) (l : Fin 256) : iblk m c 2 t (ix3 0 r l) = kvAt m c t 0 r l := by
  unfold kvAt
  blk_point [iblk, V, idx2 t]
theorem iblk3 (r : Fin 128) (l : Fin 256) : iblk m c 3 t (ix3 0 r l) = kvAt m c t 1 r l := by
  unfold kvAt
  blk_point [iblk, V, idx3 t]
theorem iblk4 (r : Fin 128) (l : Fin 256) : iblk m c 4 t (ix3 0 r l) = kvAt m c t 2 r l := by
  unfold kvAt
  blk_point [iblk, V, idx4 t]
theorem iblk5 (r : Fin 128) (l : Fin 256) : iblk m c 5 t (ix3 0 r l) = kvAt m c t 3 r l := by
  unfold kvAt
  blk_point [iblk, V, idx5 t]
theorem iblk6 (r : Fin 128) (l : Fin 256) : iblk m c 6 t (ix3 0 r l) = kvAt m c t 4 r l := by
  unfold kvAt
  blk_point [iblk, V, idx6 t]
theorem iblk7 (r : Fin 128) (l : Fin 256) : iblk m c 7 t (ix3 0 r l) = kvAt m c t 5 r l := by
  unfold kvAt
  blk_point [iblk, V, idx7 t]
theorem iblk8 (r : Fin 128) (l : Fin 256) : iblk m c 8 t (ix3 0 r l) = kvAt m c t 6 r l := by
  unfold kvAt
  blk_point [iblk, V, idx8 t]
theorem iblk9 (r : Fin 128) (l : Fin 256) : iblk m c 9 t (ix3 0 r l) = kvAt m c t 7 r l := by
  unfold kvAt
  blk_point [iblk, V, idx9 t]
theorem iblk10 (r : Fin 128) (l : Fin 256) : iblk m c 10 t (ix3 0 r l) = kvAt m c t 8 r l := by
  unfold kvAt
  blk_point [iblk, V, idx10 t]
theorem iblk11 (r : Fin 128) (l : Fin 256) : iblk m c 11 t (ix3 0 r l) = kvAt m c t 9 r l := by
  unfold kvAt
  blk_point [iblk, V, idx11 t]
theorem iblk12 (r : Fin 128) (l : Fin 256) : iblk m c 12 t (ix3 0 r l) = kvAt m c t 10 r l := by
  unfold kvAt
  blk_point [iblk, V, idx12 t]
theorem iblk13 (r : Fin 128) (l : Fin 256) : iblk m c 13 t (ix3 0 r l) = kvAt m c t 11 r l := by
  unfold kvAt
  blk_point [iblk, V, idx13 t]
theorem iblk14 (r : Fin 128) (l : Fin 256) : iblk m c 14 t (ix3 0 r l) = kvAt m c t 12 r l := by
  unfold kvAt
  blk_point [iblk, V, idx14 t]

end Cert.AttnIdeal.Value

end
-- ==== Proof.Join.lean ====
/- The 1664 rows of keys and values that the body joins from its thirteen blocks. -/
module

public import proofs.«01_k».proof.Proof.Blocks

@[expose] public section

set_option maxRecDepth 16384

noncomputable section

namespace Cert.AttnIdeal.Value

open Cert.AttnIdeal Cert.AttnIdeal.Gen Idealize.ShloMosaic Idealize.ShloMosaic.TcCoe Idealize.SL.Sem Cert.Attention
open Cert.AttnRefIdeal.Value (sees exists_key)

/-- A block read whole. -/
def wholeOf {ms : Memref sig .tc .vmem S1x128x256 .bf16} (hs : ms.IsWhole) (B : S1x128x256.Idx → EReal)
    (hr : ∀ a, (![0, 0, 0] : Fin 3 → ℕ) a + (![1, 128, 256] : Fin 3 → ℕ) a ≤ S1x128x256.size a) : FVec Ideal S1x128x256 .bf16 :=
  @View.ld (Elt Ideal) S1x128x256 .bf16 (View.read (Elt Ideal) ms.view (hs.unread (Val := Elt Ideal) B)) (Rect.unit ![0, 0, 0] ![1, 128, 256] hr)

theorem wholeOf_at {ms : Memref sig .tc .vmem S1x128x256 .bf16} (hs : ms.IsWhole) (B : S1x128x256.Idx → EReal)
    (hr : ∀ a, (![0, 0, 0] : Fin 3 → ℕ) a + (![1, 128, 256] : Fin 3 → ℕ) a ≤ S1x128x256.size a) (r : Fin 128) (l : Fin 256) :
    wholeOf hs B hr (ix3 0 r l) = B (ix3 0 r l) := by
  unfold wholeOf
  rw [Memref.IsWhole.read_unread]
  pointwise

/-- The thirteen blocks, one after another. -/
def joined (B0 B1 B2 B3 B4 B5 B6 B7 B8 B9 B10 B11 B12 : FVec Ideal S1x128x256 .bf16) : FVec Ideal S1664x256 .bf16 :=
  concatenate S1664x256 0 [⟨S128x256, shapeCast S128x256 B0 shapeCasts_S1x128x256_S128x256⟩, ⟨S128x256, shapeCast S128x256 B1 shapeCasts_S1x128x256_S128x256⟩, ⟨S128x256, shapeCast S128x256 B2 shapeCasts_S1x128x256_S128x256⟩, ⟨S128x256, shapeCast S128x256 B3 shapeCasts_S1x128x256_S128x256⟩, ⟨S128x256, shapeCast S128x256 B4 shapeCasts_S1x128x256_S128x256⟩, ⟨S128x256, shapeCast S128x256 B5 shapeCasts_S1x128x256_S128x256⟩, ⟨S128x256, shapeCast S128x256 B6 shapeCasts_S1x128x256_S128x256⟩, ⟨S128x256, shapeCast S128x256 B7 shapeCasts_S1x128x256_S128x256⟩, ⟨S128x256, shapeCast S128x256 B8 shapeCasts_S1x128x256_S128x256⟩, ⟨S128x256, shapeCast S128x256 B9 shapeCasts_S1x128x256_S128x256⟩, ⟨S128x256, shapeCast S128x256 B10 shapeCasts_S1x128x256_S128x256⟩, ⟨S128x256, shapeCast S128x256 B11 shapeCasts_S1x128x256_S128x256⟩, ⟨S128x256, shapeCast S128x256 B12 shapeCasts_S1x128x256_S128x256⟩] concatenates_S128x256_S128x256_S128x256_S128x256_S128x256_S128x256_S128x256_S128x256_S128x256_S128x256_S128x256_S128x256_S128x256_S1664x256_d0

/-- One of the thirteen blocks. -/
abbrev pick (B0 B1 B2 B3 B4 B5 B6 B7 B8 B9 B10 B11 B12 : FVec Ideal S1x128x256 .bf16) : Fin 13 → FVec Ideal S1x128x256 .bf16 :=
  ![B0, B1, B2, B3, B4, B5, B6, B7, B8, B9, B10, B11, B12]

theorem joined_pick (B0 B1 B2 B3 B4 B5 B6 B7 B8 B9 B10 B11 B12 : FVec Ideal S1x128x256 .bf16) (n : Fin 1664) (l : Fin 256) :
    joined B0 B1 B2 B3 B4 B5 B6 B7 B8 B9 B10 B11 B12 (ix2 n l)
      = pick B0 B1 B2 B3 B4 B5 B6 B7 B8 B9 B10 B11 B12 ⟨(n : ℕ) / 128, by omega⟩ (ix3 0 ⟨(n : ℕ) % 128, by omega⟩ l) := by
  refine (concatenate_ofFn_apply (t := S1664x256) (s₁ := S128x256) 0
    (fun n : Fin 13 => shapeCast S128x256 (pick B0 B1 B2 B3 B4 B5 B6 B7 B8 B9 B10 B11 B12 n) shapeCasts_S1x128x256_S128x256)
    concatenates_S128x256_S128x256_S128x256_S128x256_S128x256_S128x256_S128x256_S128x256_S128x256_S128x256_S128x256_S128x256_S128x256_S1664x256_d0 rfl 128 rfl (ix2 n l) ⟨(n : ℕ) / 128, by omega⟩ rfl (ix2 ⟨(n : ℕ) % 128, by omega⟩ l) rfl ?_).trans ?_
  · intro b hb
    fin_cases b
    · exact absurd rfl hb
    · rfl
  · pointwise

theorem joined_at (B0 B1 B2 B3 B4 B5 B6 B7 B8 B9 B10 B11 B12 : FVec Ideal S1x128x256 .bf16) (f : ℕ → Fin 128 → Fin 256 → EReal)
    (h0 : ∀ r l, B0 (ix3 0 r l) = f 0 r l)
    (h1 : ∀ r l, B1 (ix3 0 r l) = f 1 r l)
    (h2 : ∀ r l, B2 (ix3 0 r l) = f 2 r l)
    (h3 : ∀ r l, B3 (ix3 0 r l) = f 3 r l)
    (h4 : ∀ r l, B4 (ix3 0 r l) = f 4 r l)
    (h5 : ∀ r l, B5 (ix3 0 r l) = f 5 r l)
    (h6 : ∀ r l, B6 (ix3 0 r l) = f 6 r l)
    (h7 : ∀ r l, B7 (ix3 0 r l) = f 7 r l)
    (h8 : ∀ r l, B8 (ix3 0 r l) = f 8 r l)
    (h9 : ∀ r l, B9 (ix3 0 r l) = f 9 r l)
    (h10 : ∀ r l, B10 (ix3 0 r l) = f 10 r l)
    (h11 : ∀ r l, B11 (ix3 0 r l) = f 11 r l)
    (h12 : ∀ r l, B12 (ix3 0 r l) = f 12 r l)
    (n : Fin 1664) (l : Fin 256) : joined B0 B1 B2 B3 B4 B5 B6 B7 B8 B9 B10 B11 B12 (ix2 n l) = f ((n : ℕ) / 128) ⟨(n : ℕ) % 128, by omega⟩ l := by
  rw [joined_pick]
  have h : ∀ (j : Fin 13) (r : Fin 128), pick B0 B1 B2 B3 B4 B5 B6 B7 B8 B9 B10 B11 B12 j (ix3 0 r l) = f j r l := by
    intro j r
    fin_cases j
    exacts [h0 r l, h1 r l, h2 r l, h3 r l, h4 r l, h5 r l, h6 r l, h7 r l, h8 r l, h9 r l, h10 r l, h11 r l, h12 r l]
  exact h ⟨(n : ℕ) / 128, by omega⟩ ⟨(n : ℕ) % 128, by omega⟩

end Cert.AttnIdeal.Value

end
-- ==== Proof.Tile.lean ====
/- One store of the kernel's: a tile of 128 queries by a pair of heads, as the reference's elements. -/
module

public import proofs.«01_k».proof.Proof.Mask

@[expose] public section

set_option maxRecDepth 16384

noncomputable section

namespace Cert.AttnIdeal.Value

open Cert.AttnIdeal Cert.AttnIdeal.Gen Idealize.ShloMosaic Idealize.SL.Sem Cert.Attention
open Cert.AttnRefIdeal.Value (keysR valsR scoresR logitsR sinkR sees exists_key attendAt attendR)

/-- What one head's operands hold, from the concatenated blocks, the queries' tile and the bias tile. -/
theorem holds_of {q : QArr} {kv : KVArr} {b : Fin 8} {g : Fin 33} {c : Fin 2} {h : Fin 4} {r : Fin 128} {half : Fin 2}
    {o : ℕ} {ho : S1664x128.Slices ![o, 0] S384x128} {ho' : o + 384 ≤ 1664}
    {X : FVec Ideal S1664x256 .bf16} {K : FVec Ideal S1664x128 .bf16} {Q : FVec Ideal S1x128x128 .bf16}
    {B : FVec Ideal S1x1x128x384 .f32} (hh : (h : ℕ) % 2 = half)
    (hX : ∀ (k : Fin 384) (hk : exists_key g k) (l : Fin 256),
      X (ix2 ⟨o + k, by omega⟩ l) = kv (ix3 b ⟨(g : ℕ) * 128 + k - 128, by have := hk.1; have := hk.2; omega⟩ l))
    (hK : Masked X half (64 * c) (by omega) K)
    (hQ : ∀ l : Fin 128, Q (ix3 0 r l) = q (ix3 b ⟨(g : ℕ) * 128 + r, by omega⟩ ⟨(c : ℕ) * 256 + ((h : ℕ) / 2) * 128 + l, by omega⟩))
    (hB : ∀ k : Fin 384, B (ix4 0 0 r k) = if sees g r k then (biasReal ⟨(c : ℕ) * 4 + h, by omega⟩ (distN r k) : EReal) else ⊥) :
    Holds q kv b g c h r half o ho' K Q B where
  keys k hk x := by
    rw [hK.kept, hX k hk.2, Cert.AttnRefIdeal.Value.keysR_at _ _ _ _ _ _ hk.2]
    exact congrArg kv ((ix3_inj ..).2 ⟨rfl, rfl, by ext; simp; omega⟩)
  zeros := hK.zero
  queries x := by
    rw [hQ]
    exact congrArg q ((ix3_inj ..).2 ⟨rfl, rfl, by ext; simp; omega⟩)
  bias := hB

/-- What one store writes is the reference's. -/
theorem pair_core {q : QArr} {kv : KVArr} {s : SArr} (hf : Finite q kv) (hs : ∀ h : Fin 8, ∃ σ : ℝ, s (ix1 h) = (σ : EReal))
    (b : Fin 8) (g : Fin 33) (c p : Fin 2) {o : ℕ} {ho : S1664x128.Slices ![o, 0] S384x128} (ho' : o + 384 ≤ 1664)
    {X : FVec Ideal S1664x256 .bf16} {K0 K1 V0 V1 : FVec Ideal S1664x128 .bf16} {Q : FVec Ideal S1x128x128 .bf16}
    {B0 B1 : FVec Ideal S1x1x128x384 .f32} {s0 s1 : Elt Ideal .f32}
    (hX : ∀ (k : Fin 384) (hk : exists_key g k) (l : Fin 256),
      X (ix2 ⟨o + k, by omega⟩ l) = kv (ix3 b ⟨(g : ℕ) * 128 + k - 128, by have := hk.1; have := hk.2; omega⟩ l))
    (hK0 : Masked X 0 (64 * c) (by omega) K0) (hK1 : Masked X 1 (64 * c) (by omega) K1)
    (hV0 : Masked X 0 (128 + 64 * c) (by omega) V0) (hV1 : Masked X 1 (128 + 64 * c) (by omega) V1)
    (hQ : ∀ r l : Fin 128, Q (ix3 0 r l) = q (ix3 b ⟨(g : ℕ) * 128 + r, by omega⟩ ⟨(c : ℕ) * 256 + (p : ℕ) * 128 + l, by omega⟩))
    (hB0 : ∀ (r : Fin 128) (k : Fin 384), B0 (ix4 0 0 r k) = if sees g r k then (biasReal ⟨(c : ℕ) * 4 + 2 * p, by omega⟩ (distN r k) : EReal) else ⊥)
    (hB1 : ∀ (r : Fin 128) (k : Fin 384), B1 (ix4 0 0 r k) = if sees g r k then (biasReal ⟨(c : ℕ) * 4 + (2 * p + 1), by omega⟩ (distN r k) : EReal) else ⊥)
    (hs0 : s0 = s (ix1 ⟨(c : ℕ) * 4 + 2 * p, by omega⟩)) (hs1 : s1 = s (ix1 ⟨(c : ℕ) * 4 + (2 * p + 1), by omega⟩))
    (r l : Fin 128) (x : Fin 4224) (y : Fin 512) (hx : (x : ℕ) = (g : ℕ) * 128 + r) (hy : (y : ℕ) = (c : ℕ) * 256 + (p : ℕ) * 128 + l) :
    pairOf K0 K1 V0 V1 o ho Q Q B0 B1 s0 s1 (ix3 0 r l) = attendR (logitsR q kv) (sinkR s) (valsR kv) (ix3 b x y) := by
  have hp := p.isLt
  have hl := l.isLt
  have H0 : Holds q kv b g c ⟨2 * p, by omega⟩ r 0 o ho' K0 Q B0 :=
    holds_of (ho := ho) (by simp) hX hK0 (fun l => (hQ r l).trans (congrArg q ((ix3_inj ..).2 ⟨rfl, rfl, by ext; simp⟩))) (hB0 r)
  have H1 : Holds q kv b g c ⟨2 * p + 1, by omega⟩ r 1 o ho' K1 Q B1 :=
    holds_of (ho := ho) (by simp) hX hK1 (fun l => (hQ r l).trans (congrArg q ((ix3_inj ..).2 ⟨rfl, rfl, by ext; simp; omega⟩))) (hB1 r)
  obtain ⟨σ0, e0⟩ := hs ⟨(c : ℕ) * 4 + 2 * p, by omega⟩
  obtain ⟨σ1, e1⟩ := hs ⟨(c : ℕ) * 4 + (2 * p + 1), by omega⟩
  rw [pair_at, sinkOf_eq, sinkOf_eq, hs0, hs1, e0, e1]
  by_cases hlow : (l : ℕ) < 64
  · rw [Cert.AttnRefIdeal.Value.attendR_at _ _ _ b x y g c ⟨2 * p, by omega⟩ r ⟨l, hlow⟩ hx (by simp; omega)]
    rw [head_zero hf H1 σ1 V1 l (fun n => (congrArg V1 ((ix2_inj ..).2 ⟨rfl, by ext; simp⟩)).trans (hV1.zero n ⟨l, hlow⟩)), add_zero]
    refine (congrArg (headOf V0 o ho _ _) ((ix2_inj ..).2 ⟨rfl, by ext; simp⟩)).trans (head_core hf H0 σ0 e0 V0 ⟨l, hlow⟩ fun k hk => ?_)
    rw [hV0.kept, hX k hk.2, Cert.AttnRefIdeal.Value.valsR_at _ _ _ _ _ _ hk.2]
    exact congrArg kv ((ix3_inj ..).2 ⟨rfl, rfl, by ext; simp; omega⟩)
  · rw [Cert.AttnRefIdeal.Value.attendR_at _ _ _ b x y g c ⟨2 * p + 1, by omega⟩ r ⟨l - 64, by omega⟩ hx (by simp; omega)]
    rw [head_zero hf H0 σ0 V0 l (fun n => (congrArg V0 ((ix2_inj ..).2 ⟨rfl, by ext; simp; omega⟩)).trans (hV0.zero n ⟨l - 64, by omega⟩)), zero_add]
    refine (congrArg (headOf V1 o ho _ _) ((ix2_inj ..).2 ⟨rfl, by ext; simp; omega⟩)).trans (head_core hf H1 σ1 e1 V1 ⟨l - 64, by omega⟩ fun k hk => ?_)
    rw [hV1.kept, hX k hk.2, Cert.AttnRefIdeal.Value.valsR_at _ _ _ _ _ _ hk.2]
    exact congrArg kv ((ix3_inj ..).2 ⟨rfl, rfl, by ext; simp; omega⟩)

end Cert.AttnIdeal.Value

end
-- ==== Proof.Piece.lean ====
/- One store of a grid point over the point's staged blocks: the loads it makes and the reference's elements it leaves. -/
module

public import proofs.«01_k».proof.Proof.Join
public import proofs.«01_k».proof.Proof.Tile

@[expose] public section

set_option maxRecDepth 16384

noncomputable section

namespace Cert.AttnIdeal.Value

open Cert.AttnIdeal Cert.AttnIdeal.Gen Idealize.ShloMosaic Idealize.ShloMosaic.TcCoe Idealize.SL.Sem Cert.Attention
open Cert.AttnRefIdeal.Value (keysR valsR scoresR logitsR sinkR sees exists_key attendAt attendR)

theorem key_low (X : FVec Ideal S1664x256 .bf16) : Masked X 0 0 (by omega) (keepLow (keyLanes X)) :=
  masked_low (off := 0) (by omega) fun n l => (keyLanes_at X n l).trans (congrArg X ((ix2_inj ..).2 ⟨rfl, by ext; simp⟩))
theorem key_swap_high (X : FVec Ideal S1664x256 .bf16) : Masked X 1 0 (by omega) (keepHigh (swapHalves (keyLanes X))) :=
  masked_swap_high (off := 0) (by omega) fun n l => (keyLanes_at X n l).trans (congrArg X ((ix2_inj ..).2 ⟨rfl, by ext; simp⟩))
theorem key_swap_low (X : FVec Ideal S1664x256 .bf16) : Masked X 0 64 (by omega) (keepLow (swapHalves (keyLanes X))) :=
  masked_swap_low (off := 0) (by omega) fun n l => (keyLanes_at X n l).trans (congrArg X ((ix2_inj ..).2 ⟨rfl, by ext; simp⟩))
theorem key_high (X : FVec Ideal S1664x256 .bf16) : Masked X 1 64 (by omega) (keepHigh (keyLanes X)) :=
  masked_high (off := 0) (by omega) fun n l => (keyLanes_at X n l).trans (congrArg X ((ix2_inj ..).2 ⟨rfl, by ext; simp⟩))
theorem val_low (X : FVec Ideal S1664x256 .bf16) : Masked X 0 128 (by omega) (keepLow (valLanes X)) :=
  masked_low (off := 128) (by omega) (valLanes_at X)
theorem val_swap_high (X : FVec Ideal S1664x256 .bf16) : Masked X 1 128 (by omega) (keepHigh (swapHalves (valLanes X))) :=
  masked_swap_high (off := 128) (by omega) (valLanes_at X)
theorem val_swap_low (X : FVec Ideal S1664x256 .bf16) : Masked X 0 192 (by omega) (keepLow (swapHalves (valLanes X))) :=
  masked_swap_low (off := 128) (by omega) (valLanes_at X)
theorem val_high (X : FVec Ideal S1664x256 .bf16) : Masked X 1 192 (by omega) (keepHigh (valLanes X)) :=
  masked_high (off := 128) (by omega) (valLanes_at X)

/-- The keys that the bias table shows are the keys the reference's query sees. -/
theorem table_sees (g : Fin 33) (r : Fin 128) (k : Fin 384) (p : EReal) :
    (if tableLo (variantOf g) ≤ (k : ℕ) ∧ (k : ℕ) < tableHi (variantOf g) then
      (if (r : ℕ) ≤ k ∧ (k : ℕ) ≤ r + 256 then p else ⊥) else ⊥) = if sees g r k then p else ⊥ := by
  have hg := g.isLt
  have hk := k.isLt
  have e : (tableLo (variantOf g) ≤ (k : ℕ) ∧ (k : ℕ) < tableHi (variantOf g)) ↔ exists_key g k := by
    unfold exists_key tableLo tableHi variantOf
    split_ifs <;> simp at * <;> omega
  by_cases h1 : exists_key g k
  · rw [if_pos (e.mpr h1)]
    exact if_congr (by simp [sees, h1]) rfl rfl
  · rw [if_neg (fun x => h1 (e.mp x)), if_neg (fun x => h1 x.2)]

variable (m : (ℓ : Loc nD τ sig) → Buf (Elt Ideal) ℓ) (c : Dev nD) (t : Fin cfg0.N)

/-- The queries. -/
def qOf : QArr := m ((c.tc).loc main_arg0)
/-- The keys and values. -/
def kvOf : KVArr := m ((c.tc).loc main_arg1)
/-- The sinks. -/
def sOf : SArr := m ((c.tc).loc main_arg2)

/-- What a grid point writes: the reference's rows. -/
def blockOf (y : S1x1408x512.Idx) : EReal :=
  attendR (logitsR (qOf m c) (kvOf m c)) (sinkR (sOf m c)) (valsR (kvOf m c))
    (ix3 (batchOf t) ⟨(groupOf t : ℕ) * 1408 + (y 1 : ℕ), by have := (groupOf t).isLt; have := (y 1).isLt; change (y 1 : ℕ) < 1408 at this; omega⟩ (y 2))

/-- The joined rows are the group's keys and values in order. -/
def Rows (X : FVec Ideal S1664x256 .bf16) : Prop :=
  ∀ (n : Fin 1664) (l : Fin 256), X (ix2 n l) = kvAt m c t ((n : ℕ) / 128) ⟨(n : ℕ) % 128, by omega⟩ l

theorem bias_load (n : Fin 11) (h : Fin 8) (off : Fin 4 → ℕ) (hoff : off = ![(variantOf (11 * (groupOf t : ℕ) + n) : ℕ), h, 0, 0])
    (hb : ∀ a, off a + (![1, 1, 128, 384] : Fin 4 → ℕ) a ≤ S4x8x128x384.size a) (g : Fin 33) (hg : (g : ℕ) = 11 * (groupOf t : ℕ) + n)
    (r : Fin 128) (k : Fin 384) :
    @View.ld (Elt Ideal) S4x8x128x384 .f32 (iblk m c 15 t) (Rect.unit off ![1, 1, 128, 384] hb) (ix4 0 0 r k)
      = if sees g r k then (biasReal h (distN r k) : EReal) else ⊥ := by
  subst hoff
  rw [← table_sees, hg, ← table_at m c, ← iblk15 m c t]
  refine congrArg (iblk m c 15 t) ?_
  funext a
  fin_cases a <;> ext <;> simp [ix4, Rect.unit]

theorem query_load (o o2 : ℕ) (ho : o + 128 ≤ 1408) (ho2 : o2 + 128 ≤ 512) (hb : ∀ a, (![0, o, o2] : Fin 3 → ℕ) a + (![1, 128, 128] : Fin 3 → ℕ) a ≤ S1x1408x512.size a) (r l : Fin 128) :
    @View.ld (Elt Ideal) S1x1408x512 .bf16 (iblk m c 1 t) (Rect.unit ![0, o, o2] ![1, 128, 128] hb) (ix3 0 r l)
      = qOf m c (ix3 (batchOf t) ⟨(groupOf t : ℕ) * 1408 + (o + r), by have := (groupOf t).isLt; omega⟩ ⟨o2 + l, by omega⟩) := by
  refine Eq.trans ?_ (iblk1 m c t ⟨o + r, by omega⟩ ⟨o2 + l, by omega⟩)
  refine congrArg (iblk m c 1 t) ?_
  funext a
  fin_cases a <;> ext <;> simp [ix3, Rect.unit]

theorem sink_load (a : ℕ) (ha : a < 8) (hb : ∀ x, (![a] : Fin 1 → ℕ) x + (![1] : Fin 1 → ℕ) x ≤ S8.size x) (i : (Shape.mk 1 ![1]).Idx) :
    @View.ld (Elt Ideal) S8 .f32 (iblk m c 0 t) (Rect.unit ![a] ![1] hb) i = sOf m c (ix1 ⟨a, ha⟩) := by
  refine Eq.trans ?_ (iblk0 m c t ⟨a, ha⟩)
  refine congrArg (iblk m c 0 t) ?_
  have hi := (i 0).isLt
  change (i 0 : ℕ) < 1 at hi
  funext x
  fin_cases x
  ext
  simp [ix1, Rect.unit]

/-- One store: its tile of the group's rows by its pair of heads is the reference's. -/
theorem tile (hf : Finite (qOf m c) (kvOf m c)) (hs : ∀ h : Fin 8, ∃ σ : ℝ, sOf m c (ix1 h) = (σ : EReal))
    (n : Fin 11) (u : Fin 4) {o o2 a0 a1 : ℕ} (eo : o = 128 * n) (eo2 : o2 = 128 * u) (ea0 : a0 = 2 * u) (ea1 : a1 = 2 * u + 1)
    {ho : S1664x128.Slices ![o, 0] S384x128} {X : FVec Ideal S1664x256 .bf16} {K0 K1 V0 V1 : FVec Ideal S1664x128 .bf16}
    {off0 off1 : Fin 4 → ℕ}
    {hq : ∀ a, (![0, o, o2] : Fin 3 → ℕ) a + (![1, 128, 128] : Fin 3 → ℕ) a ≤ S1x1408x512.size a}
    {hb0 : ∀ a, off0 a + (![1, 1, 128, 384] : Fin 4 → ℕ) a ≤ S4x8x128x384.size a}
    {hb1 : ∀ a, off1 a + (![1, 1, 128, 384] : Fin 4 → ℕ) a ≤ S4x8x128x384.size a}
    {hs0 : ∀ x, (![a0] : Fin 1 → ℕ) x + (![1] : Fin 1 → ℕ) x ≤ S8.size x}
    {hs1 : ∀ x, (![a1] : Fin 1 → ℕ) x + (![1] : Fin 1 → ℕ) x ≤ S8.size x}
    {i0 i1 : (Shape.mk 1 ![1]).Idx}
    (hX : Rows m c t X)
    (hK0 : Masked X 0 (64 * (u / 2)) (by omega) K0) (hK1 : Masked X 1 (64 * (u / 2)) (by omega) K1)
    (hV0 : Masked X 0 (128 + 64 * (u / 2)) (by omega) V0) (hV1 : Masked X 1 (128 + 64 * (u / 2)) (by omega) V1)
    (hoff0 : off0 = ![(variantOf (11 * (groupOf t : ℕ) + n) : ℕ), 2 * u, 0, 0])
    (hoff1 : off1 = ![(variantOf (11 * (groupOf t : ℕ) + n) : ℕ), 2 * u + 1, 0, 0])
    (x : S1x128x128.Idx) (y : S1x1408x512.Idx) (h1 : (y 1 : ℕ) = o + x 1) (h2 : (y 2 : ℕ) = o2 + x 2) :
    pairOf K0 K1 V0 V1 o ho
      (@View.ld (Elt Ideal) S1x1408x512 .bf16 (iblk m c 1 t) (Rect.unit ![0, o, o2] ![1, 128, 128] hq))
      (@View.ld (Elt Ideal) S1x1408x512 .bf16 (iblk m c 1 t) (Rect.unit ![0, o, o2] ![1, 128, 128] hq))
      (@View.ld (Elt Ideal) S4x8x128x384 .f32 (iblk m c 15 t) (Rect.unit off0 ![1, 1, 128, 384] hb0))
      (@View.ld (Elt Ideal) S4x8x128x384 .f32 (iblk m c 15 t) (Rect.unit off1 ![1, 1, 128, 384] hb1))
      (@View.ld (Elt Ideal) S8 .f32 (iblk m c 0 t) (Rect.unit ![a0] ![1] hs0) i0)
      (@View.ld (Elt Ideal) S8 .f32 (iblk m c 0 t) (Rect.unit ![a1] ![1] hs1) i1) x = blockOf m c t y := by
  have hn := n.isLt
  have hu := u.isLt
  have hg := (groupOf t).isLt
  obtain ⟨z, r, l, e⟩ : ∃ (z : Fin 1) (r l : Fin 128), x = ix3 z r l := ⟨x 0, x 1, x 2, eq_ix3 x⟩
  subst e
  have hz : z = 0 := Fin.ext (by omega)
  subst hz
  change (y 1 : ℕ) = o + r at h1
  change (y 2 : ℕ) = o2 + l at h2
  subst eo eo2 ea0 ea1
  refine pair_core hf hs (batchOf t) ⟨11 * (groupOf t : ℕ) + n, by omega⟩ ⟨(u : ℕ) / 2, by omega⟩ ⟨(u : ℕ) % 2, by omega⟩ (by omega)
    (X := X) ?_ hK0 hK1 hV0 hV1 ?_ ?_ ?_ ?_ ?_ r l _ _ ?_ ?_
  · intro k hk l
    have hk1 := hk.1
    have hk2 := hk.2
    have hkk := k.isLt
    change 240 ≤ (11 * (groupOf t : ℕ) + n) * 128 + k at hk1
    change (11 * (groupOf t : ℕ) + n) * 128 + k < 4352 at hk2
    rw [hX]
    refine congrArg (kvOf m c) ((ix3_inj ..).2 ⟨rfl, ?_, rfl⟩)
    ext
    show min (11 * (groupOf t : ℕ) + (128 * (n : ℕ) + k) / 128 - 1) 32 * 128 + (128 * (n : ℕ) + k) % 128 = (11 * (groupOf t : ℕ) + n) * 128 + k - 128
    omega
  · intro r l
    rw [query_load m c t _ _ (by omega) (by omega)]
    refine congrArg (qOf m c) ((ix3_inj ..).2 ⟨rfl, ?_, ?_⟩)
    · ext
      show (groupOf t : ℕ) * 1408 + (128 * n + r) = (11 * (groupOf t : ℕ) + n) * 128 + r
      omega
    · ext
      show 128 * (u : ℕ) + l = ((u : ℕ) / 2) * 256 + ((u : ℕ) % 2) * 128 + l
      omega
  · intro r k
    rw [bias_load m c t n ⟨2 * u, by omega⟩ off0 hoff0 hb0 ⟨11 * (groupOf t : ℕ) + n, by omega⟩ rfl]
    exact if_congr Iff.rfl (congrArg (fun h => (biasReal h (distN r k) : EReal)) (Fin.ext (by show 2 * (u : ℕ) = (u : ℕ) / 2 * 4 + 2 * ((u : ℕ) % 2); omega))) rfl
  · intro r k
    rw [bias_load m c t n ⟨2 * u + 1, by omega⟩ off1 hoff1 hb1 ⟨11 * (groupOf t : ℕ) + n, by omega⟩ rfl]
    exact if_congr Iff.rfl (congrArg (fun h => (biasReal h (distN r k) : EReal)) (Fin.ext (by show 2 * (u : ℕ) + 1 = (u : ℕ) / 2 * 4 + (2 * ((u : ℕ) % 2) + 1); omega))) rfl
  · exact (sink_load m c t _ (by omega) hs0 i0).trans (congrArg (fun h => sOf m c (ix1 h)) (Fin.ext (by show 2 * (u : ℕ) = (u : ℕ) / 2 * 4 + 2 * ((u : ℕ) % 2); omega)))
  · exact (sink_load m c t _ (by omega) hs1 i1).trans (congrArg (fun h => sOf m c (ix1 h)) (Fin.ext (by show 2 * (u : ℕ) + 1 = (u : ℕ) / 2 * 4 + (2 * ((u : ℕ) % 2) + 1); omega)))
  · show (groupOf t : ℕ) * 1408 + (y 1 : ℕ) = (11 * (groupOf t : ℕ) + n) * 128 + r
    omega
  · show (y 2 : ℕ) = ((u : ℕ) / 2) * 256 + ((u : ℕ) % 2) * 128 + l
    omega

end Cert.AttnIdeal.Value

end
-- ==== Proof.Final.lean ====
/- What a grid point of the kernel leaves in its output block: the reference's rows. -/
module

public import proofs.«01_k».proof.Proof.Piece

@[expose] public section

set_option maxRecDepth 16384

noncomputable section

namespace Cert.AttnIdeal.Value

open Cert.AttnIdeal Cert.AttnIdeal.Gen Idealize.ShloMosaic Idealize.ShloMosaic.TcCoe Idealize.SL.Sem Cert.Attention

variable (m : (ℓ : Loc nD τ sig) → Buf (Elt Ideal) ℓ) (c : Dev nD) (t : Fin cfg0.N)

/-- The rows joined from a grid point's staged blocks. -/
theorem rows_of (hr : ∀ a, (![0, 0, 0] : Fin 3 → ℕ) a + (![1, 128, 256] : Fin 3 → ℕ) a ≤ S1x128x256.size a) : Rows m c t (joined (wholeOf (hs0_2 t) (iblk m c 2 t) hr) (wholeOf (hs0_3 t) (iblk m c 3 t) hr) (wholeOf (hs0_4 t) (iblk m c 4 t) hr) (wholeOf (hs0_5 t) (iblk m c 5 t) hr) (wholeOf (hs0_6 t) (iblk m c 6 t) hr) (wholeOf (hs0_7 t) (iblk m c 7 t) hr) (wholeOf (hs0_8 t) (iblk m c 8 t) hr) (wholeOf (hs0_9 t) (iblk m c 9 t) hr) (wholeOf (hs0_10 t) (iblk m c 10 t) hr) (wholeOf (hs0_11 t) (iblk m c 11 t) hr) (wholeOf (hs0_12 t) (iblk m c 12 t) hr) (wholeOf (hs0_13 t) (iblk m c 13 t) hr) (wholeOf (hs0_14 t) (iblk m c 14 t) hr)) := fun n l =>
  joined_at _ _ _ _ _ _ _ _ _ _ _ _ _ (kvAt m c t)
    (fun r l => (wholeOf_at (hs0_2 t) _ hr r l).trans (iblk2 m c t r l))
    (fun r l => (wholeOf_at (hs0_3 t) _ hr r l).trans (iblk3 m c t r l))
    (fun r l => (wholeOf_at (hs0_4 t) _ hr r l).trans (iblk4 m c t r l))
    (fun r l => (wholeOf_at (hs0_5 t) _ hr r l).trans (iblk5 m c t r l))
    (fun r l => (wholeOf_at (hs0_6 t) _ hr r l).trans (iblk6 m c t r l))
    (fun r l => (wholeOf_at (hs0_7 t) _ hr r l).trans (iblk7 m c t r l))
    (fun r l => (wholeOf_at (hs0_8 t) _ hr r l).trans (iblk8 m c t r l))
    (fun r l => (wholeOf_at (hs0_9 t) _ hr r l).trans (iblk9 m c t r l))
    (fun r l => (wholeOf_at (hs0_10 t) _ hr r l).trans (iblk10 m c t r l))
    (fun r l => (wholeOf_at (hs0_11 t) _ hr r l).trans (iblk11 m c t r l))
    (fun r l => (wholeOf_at (hs0_12 t) _ hr r l).trans (iblk12 m c t r l))
    (fun r l => (wholeOf_at (hs0_13 t) _ hr r l).trans (iblk13 m c t r l))
    (fun r l => (wholeOf_at (hs0_14 t) _ hr r l).trans (iblk14 m c t r l))
    n l

/-- One store, its tile and its pair of heads read off its offsets. -/
theorem tile_at (hf : Finite (qOf m c) (kvOf m c)) (hs : ∀ h : Fin 8, ∃ σ : ℝ, sOf m c (ix1 h) = (σ : EReal))
    {o o2 a0 a1 : ℕ} (hn : o / 128 < 11) (hu : o2 / 128 < 4) (eo : o = 128 * (o / 128)) (eo2 : o2 = 128 * (o2 / 128))
    (ea0 : a0 = 2 * (o2 / 128)) (ea1 : a1 = 2 * (o2 / 128) + 1)
    {ho : S1664x128.Slices ![o, 0] S384x128} {X : FVec Ideal S1664x256 .bf16} {K0 K1 V0 V1 : FVec Ideal S1664x128 .bf16}
    {off0 off1 : Fin 4 → ℕ}
    {hq : ∀ a, (![0, o, o2] : Fin 3 → ℕ) a + (![1, 128, 128] : Fin 3 → ℕ) a ≤ S1x1408x512.size a}
    {hb0 : ∀ a, off0 a + (![1, 1, 128, 384] : Fin 4 → ℕ) a ≤ S4x8x128x384.size a}
    {hb1 : ∀ a, off1 a + (![1, 1, 128, 384] : Fin 4 → ℕ) a ≤ S4x8x128x384.size a}
    {hs0 : ∀ x, (![a0] : Fin 1 → ℕ) x + (![1] : Fin 1 → ℕ) x ≤ S8.size x}
    {hs1 : ∀ x, (![a1] : Fin 1 → ℕ) x + (![1] : Fin 1 → ℕ) x ≤ S8.size x}
    {i0 i1 : (Shape.mk 1 ![1]).Idx}
    (hX : Rows m c t X)
    (hK0 : Masked X 0 (64 * (o2 / 128 / 2)) (by omega) K0) (hK1 : Masked X 1 (64 * (o2 / 128 / 2)) (by omega) K1)
    (hV0 : Masked X 0 (128 + 64 * (o2 / 128 / 2)) (by omega) V0) (hV1 : Masked X 1 (128 + 64 * (o2 / 128 / 2)) (by omega) V1)
    (hoff0 : off0 = ![(variantOf (11 * (groupOf t : ℕ) + o / 128) : ℕ), 2 * (o2 / 128), 0, 0])
    (hoff1 : off1 = ![(variantOf (11 * (groupOf t : ℕ) + o / 128) : ℕ), 2 * (o2 / 128) + 1, 0, 0])
    (x : S1x128x128.Idx) (y : S1x1408x512.Idx) (h1 : (y 1 : ℕ) = o + x 1) (h2 : (y 2 : ℕ) = o2 + x 2) :
    pairOf K0 K1 V0 V1 o ho
      (@View.ld (Elt Ideal) S1x1408x512 .bf16 (iblk m c 1 t) (Rect.unit ![0, o, o2] ![1, 128, 128] hq))
      (@View.ld (Elt Ideal) S1x1408x512 .bf16 (iblk m c 1 t) (Rect.unit ![0, o, o2] ![1, 128, 128] hq))
      (@View.ld (Elt Ideal) S4x8x128x384 .f32 (iblk m c 15 t) (Rect.unit off0 ![1, 1, 128, 384] hb0))
      (@View.ld (Elt Ideal) S4x8x128x384 .f32 (iblk m c 15 t) (Rect.unit off1 ![1, 1, 128, 384] hb1))
      (@View.ld (Elt Ideal) S8 .f32 (iblk m c 0 t) (Rect.unit ![a0] ![1] hs0) i0)
      (@View.ld (Elt Ideal) S8 .f32 (iblk m c 0 t) (Rect.unit ![a1] ![1] hs1) i1) x = blockOf m c t y :=
  tile m c t hf hs ⟨o / 128, hn⟩ ⟨o2 / 128, hu⟩ eo eo2 ea0 ea1 hX hK0 hK1 hV0 hV1 hoff0 hoff1 x y h1 h2

set_option maxHeartbeats 2000000 in
/-- The lanes of the first key head. -/
theorem block_lower (hf : Finite (qOf m c) (kvOf m c)) (hs : ∀ h : Fin 8, ∃ σ : ℝ, sOf m c (ix1 h) = (σ : EReal)) (y : S1x1408x512.Idx)
    (hy : (y 2 : ℕ) < 256) : outsAt0 m c t y = blockOf m c t y := by
  unfold outsAt0
  frame_out
  canon_tiles x h
  all_goals first
    | (exfalso; omega)
    | (open_payloads
       refine tile_at m c t hf hs (by decide) (by decide) (by decide) (by decide) (by decide) (by decide)
         (rows_of m c t (by decide)) (key_low _) (key_swap_high _) (val_low _) (val_swap_high _) ?_ ?_ x y (by omega) (by omega)
       · first | exact off1_at t ⟨_, by decide⟩ | exact off3_at t ⟨_, by decide⟩
       · first | exact off2_at t ⟨_, by decide⟩ | exact off4_at t ⟨_, by decide⟩)

set_option maxHeartbeats 2000000 in
/-- The lanes of the second key head. -/
theorem block_upper (hf : Finite (qOf m c) (kvOf m c)) (hs : ∀ h : Fin 8, ∃ σ : ℝ, sOf m c (ix1 h) = (σ : EReal)) (y : S1x1408x512.Idx)
    (hy : 256 ≤ (y 2 : ℕ)) : outsAt0 m c t y = blockOf m c t y := by
  unfold outsAt0
  frame_out
  canon_tiles x h
  all_goals first
    | (exfalso; omega)
    | (open_payloads
       refine tile_at m c t hf hs (by decide) (by decide) (by decide) (by decide) (by decide) (by decide)
         (rows_of m c t (by decide)) (key_swap_low _) (key_high _) (val_swap_low _) (val_high _) ?_ ?_ x y (by omega) (by omega)
       · first | exact off5_at t ⟨_, by decide⟩ | exact off7_at t ⟨_, by decide⟩
       · first | exact off6_at t ⟨_, by decide⟩ | exact off8_at t ⟨_, by decide⟩)

/-- What a grid point leaves in its block. -/
theorem block_value (hf : Finite (qOf m c) (kvOf m c)) (hs : ∀ h : Fin 8, ∃ σ : ℝ, sOf m c (ix1 h) = (σ : EReal)) (y : S1x1408x512.Idx) :
    outsAt0 m c t y = blockOf m c t y := by
  by_cases hy : (y 2 : ℕ) < 256
  · exact block_lower m c t hf hs y hy
  · exact block_upper m c t hf hs y (by omega)

end Cert.AttnIdeal.Value

end
-- ==== Proof.Result.lean ====
/- The attention call's result is the reference's: the grid points' blocks cover the result array. -/
module

public import proofs.«01_k».proof.Proof.Final
public import proofs.«01_k».proof.Pre_finite_qk
public import proofs.«01_k».proof.Proof.Gen.Pre_finite_qk

@[expose] public section

set_option maxRecDepth 16384

noncomputable section

namespace Cert.AttnIdeal.Value

open Cert.AttnIdeal Cert.AttnIdeal.Gen Idealize.ShloMosaic Idealize.ShloMosaic.TcCoe Idealize.SL.Sem Cert.Attention
open Cert.AttnRefIdeal.Value (keysR valsR scoresR logitsR sinkR sees exists_key attendAt attendR)

/-- A value below plus infinity in magnitude is real. -/
theorem real_of_below (x : EReal) (h : FloatOps.cmpf (F := Ideal) (φ := .f32) .olt (FloatOps.absf (φ := .f32) x) (FloatOps.ofBits .f32 0x7F800000#32) = 1#1) :
    ∃ y : ℝ, x = (y : EReal) := by
  have e : FloatOps.ofBits (F := Ideal) .f32 0x7F800000#32 = (⊤ : EReal) := by
    show Ideal.ofBits .f32 0x7F800000#32 = ⊤
    simp [Ideal.ofBits, Ideal.ieee]
  rw [e] at h
  change Ideal.cmp .olt (max x (-x)) ⊤ = 1#1 at h
  induction x with
  | bot => simp [Ideal.cmp] at h
  | top => simp [Ideal.cmp] at h
  | coe y => exact ⟨y, rfl⟩

variable (m : (ℓ : Loc nD τ sig) → Buf (Elt Ideal) ℓ) (c : Dev nD)

/-- The precondition, as finite queries, keys and sinks. -/
theorem finite_of (h0 : ∀ i, (Cert.Pre_finite_qk.fn (F := Ideal) (qOf m c) (kvOf m c) (sOf m c)).1 i = 1#1)
    (h1 : ∀ i, (Cert.Pre_finite_qk.fn (F := Ideal) (qOf m c) (kvOf m c) (sOf m c)).2.1 i = 1#1)
    (h2 : ∀ i, (Cert.Pre_finite_qk.fn (F := Ideal) (qOf m c) (kvOf m c) (sOf m c)).2.2 i = 1#1) :
    Finite (qOf m c) (kvOf m c) ∧ ∀ h : Fin 8, ∃ σ : ℝ, sOf m c (ix1 h) = (σ : EReal) := by
  refine ⟨⟨fun i => real_of_below _ (h0 i), fun b n l => ?_⟩, fun h => real_of_below _ (h2 (ix1 h))⟩
  obtain ⟨y, hy⟩ := real_of_below _ (h1 (ix3 b n l))
  refine ⟨y, Eq.trans ?_ hy⟩
  pointwise

/-- The result array after the run. -/
theorem final (hf : Finite (qOf m c) (kvOf m c)) (hs : ∀ h : Fin 8, ∃ σ : ℝ, sOf m c (ix1 h) = (σ : EReal)) :
    (dats m 0 c).arrAt 16 (cfgs 0).N = attendR (logitsR (qOf m c) (kvOf m c)) (sinkR (sOf m c)) (valsR (kvOf m c)) := by
  refine (dats m 0 c).arrAt_eq_of_covers 16 _ (by decide +kernel) fun t hf' y => ?_
  blk_simp
  rw [after0_16]
  refine (block_value m c t hf hs _).trans ?_
  unfold blockOf
  blk_ext [idx16 t]

end Cert.AttnIdeal.Value

end
-- ==== Proof.InpRef.lean ====
/- The projection into the mixers: what the reference's four results hold at an index. -/
module

public import proofs.«01_k».proof.Proof.Gen.InpRefIdeal.Run
public import Idealize.ShloMosaic.Lib.Pipeline.ValueKit

@[expose] public section

set_option maxRecDepth 16384

noncomputable section

namespace Cert.InpRefIdeal.Value

open Cert.InpRefIdeal Cert.InpRefIdeal.Gen Idealize.ShloMosaic Idealize.ShloMosaic.TcCoe Idealize.SL.Sem

/-- Every pair of places' product. -/
def products : IVec S128x128 32 := muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))

/-- The divisor of the remainder. -/
def divisor : IVec S_ 32 := select (cmpi .eq (id (constantI S_ 32 128#32)) (constantI S_ 32 0#32)) (constantI S_ 32 1#32) (id (constantI S_ 32 128#32))

/-- The divisor, one for every pair. -/
def divisorM : IVec S128x128 32 := broadcastInDim S128x128 ![] bcast_S_S128x128 divisor

/-- The angle of every pair of places: a whole turn's share of the remainder of their product by the group's width. -/
def turn : FVec Ideal S128x128 .f32 :=
  Host.divf (mulf (broadcastInDim S128x128 ![] bcast_S_S128x128 (constant S_ .f32 0x40C90FDB#32)) (sitofp .f32 (select (andi (cmpi .ne (cmpi .slt (Host.remsi products divisorM) (broadcastInDim S128x128 ![] bcast_S_S128x128 (constantI S_ 32 0#32))) (broadcastInDim S128x128 ![] bcast_S_S128x128 (cmpi .slt divisor (constantI S_ 32 0#32)))) (cmpi .ne (Host.remsi products divisorM) (broadcastInDim S128x128 ![] bcast_S_S128x128 (constantI S_ 32 0#32)))) (addi (Host.remsi products divisorM) divisorM) (Host.remsi products divisorM)))) (broadcastInDim S128x128 ![] bcast_S_S128x128 (constant S_ .f32 0x43000000#32))

/-- The real part's table: the angles' cosines, scaled. -/
def cosines : FVec Ideal S128x128 .f32 := mulf (Host.cos turn) (broadcastInDim S128x128 ![] bcast_S_S128x128 (constant S_ .f32 0x3DB504F3#32))
/-- The other part's table: the angles' sines, scaled. -/
def sines : FVec Ideal S128x128 .f32 := mulf (Host.sin turn) (broadcastInDim S128x128 ![] bcast_S_S128x128 (constant S_ .f32 0x3DB504F3#32))

/-- The whole projection: every row by the weights of layer 1. -/
def proj (h : FVec Ideal S33792x1024 .f32) (w : FVec Ideal S4x1024x3328 .f32) : FVec Ideal S33792x3328 .f32 :=
  Host.dotGeneral dot_S33792x1024_S1024x3328_S33792x3328_1_0_0_1_n_n none h
    (shapeCast S1024x3328 (extractStridedSlice S1x1024x3328 ![1, 0, 0] w slices_S4x1024x3328_S1x1024x3328_1_0_0) shapeCasts_S1x1024x3328_S1024x3328)

theorem proj_at (h : FVec Ideal S33792x1024 .f32) (w : FVec Ideal S4x1024x3328 .f32) (l : Fin 33792) (n : Fin 3328) :
    proj h w (ix2 l n) = ∑ k : Fin 1024, h (ix2 l k) * w (ix3 1 k n) := by
  pointwise [proj]

/-- The queries: the first 512 columns. -/
def queries (p : FVec Ideal S33792x3328 .f32) : FVec Ideal S33792x512 .bf16 :=
  truncf .bf16 (extractStridedSlice S33792x512 ![0, 0] p slices_S33792x3328_S33792x512_0_0) bitsLt_bf16_f32
/-- The keys and values: the next 256 columns. -/
def keysValues (p : FVec Ideal S33792x3328 .f32) : FVec Ideal S33792x256 .bf16 :=
  truncf .bf16 (extractStridedSlice S33792x256 ![0, 512] p slices_S33792x3328_S33792x256_0_512) bitsLt_bf16_f32

theorem queries_at (p : FVec Ideal S33792x3328 .f32) (l : Fin 33792) (n : Fin 512) :
    queries p (ix2 l n) = p (ix2 l ⟨n, by omega⟩) := by
  pointwise [queries]
theorem keysValues_at (p : FVec Ideal S33792x3328 .f32) (l : Fin 33792) (n : Fin 256) :
    keysValues p (ix2 l n) = p (ix2 l ⟨512 + n, by omega⟩) := by
  pointwise [keysValues]

/-- One part of the transform of the next 512 columns, in four groups of 128, by a table. -/
def part (p : FVec Ideal S33792x3328 .f32) (t : FVec Ideal S128x128 .f32) : FVec Ideal S33792x512 .f32 :=
  shapeCast S33792x512 (Host.dotGeneral dot_S33792x4x128_S128x128_S33792x4x128_2_0_01_1_n_n none
    (shapeCast S33792x4x128 (extractStridedSlice S33792x512 ![0, 768] p slices_S33792x3328_S33792x512_0_768) shapeCasts_S33792x512_S33792x4x128) t)
    shapeCasts_S33792x4x128_S33792x512

theorem part_at (p : FVec Ideal S33792x3328 .f32) (t : FVec Ideal S128x128 .f32) (l : Fin 33792) (n : Fin 512) :
    part p t (ix2 l n) = ∑ j : Fin 128, p (ix2 l ⟨768 + ((n : ℕ) / 128 * 128 + j), by omega⟩) * t (ix2 j ⟨(n : ℕ) % 128, by omega⟩) := by
  pointwise [part]

/-- Both parts, side by side. -/
def transformed (p : FVec Ideal S33792x3328 .f32) : FVec Ideal S33792x1024 .bf16 :=
  truncf .bf16 (concatenate S33792x1024 1 [⟨S33792x512, part p cosines⟩, ⟨S33792x512, part p sines⟩] concatenates_S33792x512_S33792x512_S33792x1024_d1) bitsLt_bf16_f32

theorem transformed_at (p : FVec Ideal S33792x3328 .f32) (l : Fin 33792) (n : Fin 1024) :
    transformed p (ix2 l n) = if h : (n : ℕ) < 512 then part p cosines (ix2 l ⟨n, h⟩) else part p sines (ix2 l ⟨n - 512, by omega⟩) := by
  pointwise [transformed]

/-- The gates: the logistic function of the last 2048 columns and their bias. -/
def gates (p : FVec Ideal S33792x3328 .f32) (b : FVec Ideal S4x2x1024 .f32) : FVec Ideal S33792x2048 .f32 :=
  shapeCast S33792x2048 (Host.divf (broadcastInDim S33792x2x1024 ![] bcast_S_S33792x2x1024 (constant S_ .f32 0x3F800000#32))
    (addf (broadcastInDim S33792x2x1024 ![] bcast_S_S33792x2x1024 (constant S_ .f32 0x3F800000#32)) (Host.exp (Host.negf
      (addf (shapeCast S33792x2x1024 (extractStridedSlice S33792x2048 ![0, 1280] p slices_S33792x3328_S33792x2048_0_1280) shapeCasts_S33792x2048_S33792x2x1024)
        (broadcastInDim S33792x2x1024 ![0, 1, 2] bcast_S1x2x1024_S33792x2x1024_0_1_2 (broadcastInDim S1x2x1024 ![1, 2] bcast_S2x1024_S1x2x1024_1_2
          (shapeCast S2x1024 (extractStridedSlice S1x2x1024 ![1, 0, 0] b slices_S4x2x1024_S1x2x1024_1_0_0) shapeCasts_S1x2x1024_S2x1024)))))))) shapeCasts_S33792x2x1024_S33792x2048

theorem gates_at (p : FVec Ideal S33792x3328 .f32) (b : FVec Ideal S4x2x1024 .f32) (l : Fin 33792) (n : Fin 2048) :
    gates p b (ix2 l n) = Ideal.logistic (p (ix2 l ⟨1280 + n, by omega⟩) + b (ix3 1 ⟨(n : ℕ) / 1024, by omega⟩ ⟨(n : ℕ) % 1024, by omega⟩)) := by
  pointwise [gates]
  rfl

/-- The reference's run: its four results over the arguments. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = queries (proj (m ((c.tc : Thread nD τ).loc main_arg0)) (m ((c.tc : Thread nD τ).loc main_arg1)))
      ∧ r.2.mem ((c.tc : Thread nD τ).loc main_v44) = keysValues (proj (m ((c.tc : Thread nD τ).loc main_arg0)) (m ((c.tc : Thread nD τ).loc main_arg1)))
      ∧ r.2.mem ((c.tc : Thread nD τ).loc main_v45) = transformed (proj (m ((c.tc : Thread nD τ).loc main_arg0)) (m ((c.tc : Thread nD τ).loc main_arg1)))
      ∧ r.2.mem ((c.tc : Thread nD τ).loc main_v46) = gates (proj (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InpRefIdeal.Value

end
-- ==== Proof.InpTile.lean ====
/- The projection into the mixers, one tile: what the kernel leaves in its four output blocks, over its input blocks. -/
module

public import proofs.«01_k».proof.Proof.Gen.InpIdeal.Value
public import Idealize.ShloMosaic.Lib.Pipeline.ValueKit

@[expose] public section

set_option maxRecDepth 16384

noncomputable section

namespace Cert.InpIdeal.Value

open Cert.InpIdeal Cert.InpIdeal.Gen Idealize.ShloMosaic Idealize.ShloMosaic.TcCoe Idealize.SL.Sem

/-- A row of the tile by a column of the weights. -/
def dot (x : FVec Ideal S1024x1024 .f32) (w : FVec Ideal S1024x3328 .bf16) (r : Fin 1024) (n : Fin 3328) : EReal :=
  ∑ k : Fin 1024, x (ix2 r k) * w (ix2 k n)

variable (x0 : FVec Ideal S1024x1024 .f32) (x1 : FVec Ideal S1024x3328 .bf16) (x2 : FVec Ideal S1x2048 .f32) (x3 : FVec Ideal S128x256 .bf16)

theorem out4_at (r : Fin 1024) (n : Fin 512) : out0_4 (F := Ideal) x0 x1 x2 x3 (ix2 r n) = dot x0 x1 r ⟨n, by omega⟩ := by
  unfold out0_4
  frame_out
  pointwise [k0_pay2, k0_pay1, dot]

theorem out5_at (r : Fin 1024) (n : Fin 256) : out0_5 (F := Ideal) x0 x1 x2 x3 (ix2 r n) = dot x0 x1 r ⟨512 + n, by omega⟩ := by
  unfold out0_5
  frame_out
  pointwise [k0_pay3, k0_pay1, dot]

theorem out7_at (y : S1024x2048.Idx) : out0_7 (F := Ideal) x0 x1 x2 x3 y
    = Ideal.logistic (dot x0 x1 (y 0) ⟨1280 + (y 1 : ℕ), by have : (y 1 : ℕ) < 2048 := (y 1).isLt; omega⟩ + x2 (ix2 0 (y 1))) := by
  unfold_out out0_7
  frame_out
  canon_tiles x h
  all_goals
    open_payloads
    pointwise [dot]
    refine congrArg Ideal.logistic (congrArg₂ (· + ·) (Finset.sum_congr rfl fun k _ => congrArg₂ (· * ·) ?_ ?_) ?_)
    all_goals blk_ext

theorem out6_at (y : S1024x1024.Idx) : out0_6 (F := Ideal) x0 x1 x2 x3 y
    = ∑ j : Fin 128, dot x0 x1 (y 0) ⟨768 + ((y 1 : ℕ) % 512 / 128 * 128 + j), by omega⟩ * x3 (ix2 j ⟨(y 1 : ℕ) / 512 * 128 + (y 1 : ℕ) % 128, by have : (y 1 : ℕ) < 1024 := (y 1).isLt; omega⟩) := by
  unfold_out out0_6
  frame_out
  canon_tiles x h
  all_goals
    open_payloads
    pointwise [dot]
    refine Finset.sum_congr rfl fun j _ => congrArg₂ (· * ·) (Finset.sum_congr rfl fun k _ => congrArg₂ (· * ·) ?_ ?_) ?_
    all_goals blk_ext

end Cert.InpIdeal.Value

end
-- ==== Proof.InpResult.lean ====
/- The projection into the mixers, the whole arrays: the operands the host prepares, and every block the kernel writes is the
   reference's. -/
module

public import proofs.«01_k».proof.Proof.InpRef
public import proofs.«01_k».proof.Proof.InpTile

@[expose] public section

set_option maxRecDepth 16384

noncomputable section

namespace Cert.InpIdeal.Value

open Cert.InpIdeal Cert.InpIdeal.Gen Idealize.ShloMosaic Idealize.ShloMosaic.TcCoe Idealize.SL.Sem
open Cert.InpRefIdeal.Value (turn cosines sines proj proj_at queries queries_at keysValues keysValues_at part part_at transformed transformed_at gates gates_at)

variable (m : (ℓ : Loc nD τ sig) → Buf (Elt Ideal) ℓ) (c : Dev nD) (t : Fin cfg0.N)

theorem point_lt : t.val < 33 := lt_of_lt_of_eq t.isLt N_0

/-- The weights, as the host hands them over: layer 1. -/
theorem weights_at (k : Fin 1024) (n : Fin 3328) : V m c main_v20 (ix2 k n) = m ((c.tc).loc main_arg1) (ix3 1 k n) := by
  simp only [V, hostOps0, hostOps0_1, hostOps0_2, List.flatten_cons, List.flatten_nil, List.cons_append, List.nil_append, List.append_nil]
  after_results_simp
  pointwise

/-- The gates' bias, as the host hands it over: layer 1, in one row. -/
theorem bias_at (n : Fin 2048) : V m c main_v23 (ix2 0 n)
    = m ((c.tc).loc main_arg2) (ix3 1 ⟨(n : ℕ) / 1024, by omega⟩ ⟨(n : ℕ) % 1024, by omega⟩) := by
  simp only [V, hostOps0, hostOps0_1, hostOps0_2, List.flatten_cons, List.flatten_nil, List.cons_append, List.nil_append, List.append_nil]
  after_results_simp
  pointwise

/-- The table, as the host hands it over: cosines, then sines. -/
theorem table_at (j : Fin 128) (n : Fin 256) : V m c main_v17 (ix2 j n)
    = if h : (n : ℕ) < 128 then cosines (ix2 j ⟨n, h⟩) else sines (ix2 j ⟨n - 128, by omega⟩) := by
  simp only [V, hostOps0, hostOps0_1, hostOps0_2, List.flatten_cons, List.flatten_nil, List.cons_append, List.nil_append, List.append_nil]
  after_results_simp
  pointwise [cosines, sines]
  after_results_simp
  simp only [StableHlo.TRef.ofBuf, StableHlo.TRef.toBuf, cast_eq, eqRec_eq_cast, eq_rec_constant]
  pointwise [turn, Cert.InpRefIdeal.Value.products, Cert.InpRefIdeal.Value.divisor, Cert.InpRefIdeal.Value.divisorM]
  split <;> rfl

theorem idx0 : ∀ t : Fin cfg0.N, win0_0.index t = ![(t : ℕ), 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(t : ℕ), 0] := (by decide +kernel : ∀ t : Fin grid0.N, _)
theorem idx5 : ∀ t : Fin cfg0.N, win0_5.index t = ![(t : ℕ), 0] := (by decide +kernel : ∀ t : Fin grid0.N, _)
theorem idx6 : ∀ t : Fin cfg0.N, win0_6.index t = ![(t : ℕ), 0] := (by decide +kernel : ∀ t : Fin grid0.N, _)
theorem idx7 : ∀ t : Fin cfg0.N, win0_7.index t = ![(t : ℕ), 0] := (by decide +kernel : ∀ t : Fin grid0.N, _)

/-- The row of the arrays that a row of a point's block is. -/
abbrev rowOf (r : Fin 1024) : Fin 33792 := ⟨(t : ℕ) * 1024 + r, by have := point_lt t; omega⟩

theorem iblk0 (r : Fin 1024) (k : Fin 1024) : iblk m c 0 t (ix2 r k) = m ((c.tc).loc main_arg0) (ix2 (rowOf t r) k) := by
  blk_point [iblk, V, idx0 t]
theorem iblk1 (k : Fin 1024) (n : Fin 3328) : iblk m c 1 t (ix2 k n) = m ((c.tc).loc main_arg1) (ix3 1 k n) := by
  refine Eq.trans ?_ (weights_at m c k n)
  blk_point [iblk, idx1 t]
theorem iblk2 (n : Fin 2048) : iblk m c 2 t (ix2 0 n)
    = m ((c.tc).loc main_arg2) (ix3 1 ⟨(n : ℕ) / 1024, by omega⟩ ⟨(n : ℕ) % 1024, by omega⟩) := by
  refine Eq.trans ?_ (bias_at m c n)
  blk_point [iblk, idx2 t]
theorem iblk3 (j : Fin 128) (n : Fin 256) : iblk m c 3 t (ix2 j n)
    = if h : (n : ℕ) < 128 then cosines (ix2 j ⟨n, h⟩) else sines (ix2 j ⟨n - 128, by omega⟩) := by
  refine Eq.trans ?_ (table_at m c j n)
  blk_point [iblk, idx3 t]

/-- The reference's projection over the arguments at launch. -/
def projOf : FVec Ideal Cert.InpRefIdeal.S33792x3328 .f32 := proj (m ((c.tc).loc main_arg0)) (m ((c.tc).loc main_arg1))

/-- A row of a point's tile by a column of the weights is the reference's projection. -/
theorem dot_at (r : Fin 1024) (n : Fin 3328) : dot (iblk m c 0 t) (iblk m c 1 t) r n = projOf m c (ix2 (rowOf t r) n) := by
  unfold projOf
  rw [proj_at]
  unfold dot
  refine Finset.sum_congr rfl fun k _ => ?_
  rw [iblk0, iblk1]

theorem final4 : (dats m 0 c).arrAt 4 (cfgs 0).N = queries (projOf m c) := by
  refine (dats m 0 c).arrAt_eq_of_covers 4 _ (by decide +kernel) fun t hf' y => ?_
  blk_simp
  rw [after0_4]
  obtain ⟨r, n, rfl⟩ : ∃ (r : Fin 1024) (n : Fin 512), y = ix2 r n := ⟨y 0, y 1, eq_ix2 y⟩
  refine ((out4_at _ _ _ _ r n).trans (dot_at m c t r _)).trans ?_
  refine (queries_at (projOf m c) (rowOf t r) n).symm.trans ?_
  blk_ext [idx4 t]

theorem final5 : (dats m 0 c).arrAt 5 (cfgs 0).N = keysValues (projOf m c) := by
  refine (dats m 0 c).arrAt_eq_of_covers 5 _ (by decide +kernel) fun t hf' y => ?_
  blk_simp
  rw [after0_5]
  obtain ⟨r, n, rfl⟩ : ∃ (r : Fin 1024) (n : Fin 256), y = ix2 r n := ⟨y 0, y 1, eq_ix2 y⟩
  refine ((out5_at _ _ _ _ r n).trans (dot_at m c t r _)).trans ?_
  refine (keysValues_at (projOf m c) (rowOf t r) n).symm.trans ?_
  blk_ext [idx5 t]

/-- A point's block of the transform. -/
theorem block6 (r : Fin 1024) (n : Fin 1024) :
    out0_6 (F := Ideal) (iblk m c 0 t) (iblk m c 1 t) (iblk m c 2 t) (iblk m c 3 t) (ix2 r n) = transformed (projOf m c) (ix2 (rowOf t r) n) := by
  rw [out6_at, transformed_at]
  by_cases h : (n : ℕ) < 512
  · rw [dif_pos h, part_at]
    refine Finset.sum_congr rfl fun j _ => congrArg₂ (· * ·) ?_ ?_
    · refine (dot_at m c t r _).trans ?_
      blk_ext
    · refine (iblk3 m c t j _).trans ?_
      refine (dif_pos (show (n : ℕ) / 512 * 128 + (n : ℕ) % 128 < 128 by omega)).trans ?_
      blk_ext
  · rw [dif_neg h, part_at]
    refine Finset.sum_congr rfl fun j _ => congrArg₂ (· * ·) ?_ ?_
    · refine (dot_at m c t r _).trans ?_
      blk_ext
    · refine (iblk3 m c t j _).trans ?_
      refine (dif_neg (show ¬ (n : ℕ) / 512 * 128 + (n : ℕ) % 128 < 128 by omega)).trans ?_
      blk_ext

theorem final6 : (dats m 0 c).arrAt 6 (cfgs 0).N = transformed (projOf m c) := by
  refine (dats m 0 c).arrAt_eq_of_covers 6 _ (by decide +kernel) fun t hf' y => ?_
  blk_simp
  rw [after0_6]
  obtain ⟨r, n, rfl⟩ : ∃ (r : Fin 1024) (n : Fin 1024), y = ix2 r n := ⟨y 0, y 1, eq_ix2 y⟩
  refine (block6 m c t r n).trans ?_
  blk_ext [idx6 t]

theorem final7 : (dats m 0 c).arrAt 7 (cfgs 0).N = gates (projOf m c) (m ((c.tc).loc main_arg2)) := by
  refine (dats m 0 c).arrAt_eq_of_covers 7 _ (by decide +kernel) fun t hf' y => ?_
  blk_simp
  rw [after0_7]
  obtain ⟨r, n, rfl⟩ : ∃ (r : Fin 1024) (n : Fin 2048), y = ix2 r n := ⟨y 0, y 1, eq_ix2 y⟩
  refine (out7_at _ _ _ _ (ix2 r n)).trans ?_
  refine Eq.trans ?_ ((gates_at (projOf m c) (m ((c.tc).loc main_arg2)) (rowOf t r) n).symm.trans ?_)
  · exact congrArg Ideal.logistic (congrArg₂ (· + ·) (dot_at m c t r _) (iblk2 m c t n))
  · blk_ext [idx7 t]

end Cert.InpIdeal.Value

end
-- ==== Proof.OutSpec.lean ====
/- The projection out of the mixers, one row: the row's sum, its normalisation, the router's softmax; and that a normalised row
   is finite whatever the row was. -/
module

public import Idealize.ShloMosaic.Lib.Pipeline.ValueKit

@[expose] public section

set_option maxRecDepth 16384

noncomputable section

namespace Cert.Mixers

open Idealize.ShloMosaic

/-- Both mixers' projections, each by its gate. -/
def merged (a f : Fin 512 → EReal) (g : Fin 2048 → EReal) (wa wf : Fin 512 → Fin 1024 → EReal) (n : Fin 1024) : EReal :=
  g ⟨n, by omega⟩ * (∑ k : Fin 512, a k * wa k n) + g ⟨1024 + n, by omega⟩ * (∑ k : Fin 512, f k * wf k n)

/-- The scaled input row and the merged row's projection. -/
def total (h y : Fin 1024 → EReal) (w : Fin 1024 → Fin 1024 → EReal) (n : Fin 1024) : EReal :=
  Ideal.ofBits .f32 0x3FD744FD#32 * h n + ∑ k : Fin 1024, y k * w k n

/-- A row's mean. -/
def mean (x : Fin 1024 → EReal) : EReal := Ideal.div (∑ k : Fin 1024, x k) (Ideal.ofBits .f32 0x44800000#32)

/-- The inverse of a row's deviation. -/
def scale (x : Fin 1024 → EReal) : EReal :=
  Ideal.rsqrt (Ideal.div (∑ k : Fin 1024, (x k - mean x) * (x k - mean x)) (Ideal.ofBits .f32 0x44800000#32) + Ideal.ofBits .f32 0x3727C5AC#32)

/-- The normalised row. -/
def normed (x g b : Fin 1024 → EReal) (n : Fin 1024) : EReal := (x n - mean x) * scale x * g n + b n

/-- The largest of 16 logits. -/
def top (l : Fin 16 → EReal) : EReal := Finset.univ.fold max ⊥ l

/-- The softmax of 16 logits. -/
def soft (l : Fin 16 → EReal) (e : Fin 16) : EReal :=
  Ideal.div (Ideal.exp (l e - top l)) (∑ k : Fin 16, Ideal.exp (l k - top l))

theorem ofBits_1024 : Ideal.ofBits .f32 0x44800000#32 = ((1024 : ℝ) : EReal) := by
  simp [Ideal.ofBits, Ideal.ieee, -EReal.coe_mul]
  norm_num

theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

theorem div_1024 (x : EReal) : Ideal.div x (Ideal.ofBits .f32 0x44800000#32) = x * (((1024 : ℝ)⁻¹ : ℝ) : EReal) := by
  rw [ofBits_1024]
  unfold Ideal.div
  rw [if_neg (by norm_num), EReal.coe_inv]

theorem sum_real {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem sum_bot {n : ℕ} (f : Fin n → EReal) (i : Fin n) (h : f i = ⊥) : ∑ k, f k = ⊥ := by
  rw [← Finset.add_sum_erase _ _ (Finset.mem_univ i), h, EReal.bot_add]

theorem sum_ne_bot {n : ℕ} (s : Finset (Fin n)) (f : Fin n → EReal) (h : ∀ k, f k ≠ ⊥) : ∑ k ∈ s, f k ≠ ⊥ :=
  Finset.sum_induction f (· ≠ ⊥) (fun a b ha hb => by simp [EReal.add_eq_bot_iff, ha, hb]) (by simp) fun k _ => h k

theorem sum_top {n : ℕ} (f : Fin n → EReal) (h : ∀ k, f k ≠ ⊥) (i : Fin n) (hi : f i = ⊤) : ∑ k, f k = ⊤ := by
  rw [← Finset.add_sum_erase _ _ (Finset.mem_univ i), hi, EReal.top_add_of_ne_bot (sum_ne_bot _ f h)]

/-- A row with infinite differences from its mean has the scale zero. -/
theorem scale_zero (x : Fin 1024 → EReal) (h : ∀ k, x k - mean x = ⊥ ∨ x k - mean x = ⊤) : scale x = 0 := by
  have hs : ∀ k, (x k - mean x) * (x k - mean x) = ⊤ := fun k => by
    rcases h k with e | e <;> rw [e] <;> rfl
  obtain ⟨ε, _, he⟩ := ofBits_eps
  unfold scale
  rw [sum_top _ (fun k => by rw [hs k]; exact top_ne_bot) 0 (hs 0), div_1024, EReal.top_mul_coe_of_pos (by norm_num), he, EReal.top_add_coe]
  rfl

/-- A row is real throughout, or all its differences from its mean are infinite. -/
theorem real_or_infinite (x : Fin 1024 → EReal) :
    (∃ ξ : Fin 1024 → ℝ, ∀ k, x k = (ξ k : EReal)) ∨ ∀ k, x k - mean x = ⊥ ∨ x k - mean x = ⊤ := by
  by_cases hb : ∃ i, x i = ⊥
  · obtain ⟨i, hi⟩ := hb
    have hm : mean x = ⊥ := by
      unfold mean
      rw [sum_bot x i hi, div_1024, EReal.bot_mul_coe_of_pos (by norm_num)]
    refine .inr fun k => ?_
    rw [hm]
    induction x k with
    | bot => exact .inl rfl
    | top => exact .inr rfl
    | coe r => exact .inr rfl
  · have hb' : ∀ k, x k ≠ ⊥ := fun k e => hb ⟨k, e⟩
    by_cases ht : ∃ i, x i = ⊤
    · obtain ⟨i, hi⟩ := ht
      have hm : mean x = ⊤ := by
        unfold mean
        rw [sum_top x hb' i hi, div_1024, EReal.top_mul_coe_of_pos (by norm_num)]
      refine .inr fun k => .inl ?_
      rw [hm]
      induction x k with
      | bot => rfl
      | top => rfl
      | coe r => rfl
    · exact .inl ⟨fun k => (x k).toReal, fun k => (EReal.coe_toReal (fun e => ht ⟨k, e⟩) (hb' k)).symm⟩

/-- A normalised row is finite when its scale and shift are. -/
theorem normed_real (x g b : Fin 1024 → EReal) (n : Fin 1024) (hg : ∃ γ : ℝ, g n = (γ : EReal)) (hb : ∃ β : ℝ, b n = (β : EReal)) :
    ∃ y : ℝ, normed x g b n = (y : EReal) := by
  obtain ⟨γ, hγ⟩ := hg
  obtain ⟨β, hβ⟩ := hb
  unfold normed
  rw [hγ, hβ]
  rcases real_or_infinite x with ⟨ξ, hξ⟩ | h
  · obtain ⟨ε, hε, he⟩ := ofBits_eps
    have hm : mean x = (((∑ k, ξ k) * (1024 : ℝ)⁻¹ : ℝ) : EReal) := by
      unfold mean
      rw [div_1024, Finset.sum_congr rfl fun k _ => hξ k, sum_real, EReal.coe_mul]
    generalize (∑ k, ξ k) * (1024 : ℝ)⁻¹ = μ at hm
    have hq : ∀ k, (x k - mean x) * (x k - mean x) = (((ξ k - μ) * (ξ k - μ) : ℝ) : EReal) := fun k => by
      rw [hξ k, hm, ← EReal.coe_sub, ← EReal.coe_mul]
    have hv : 0 ≤ (∑ k, (ξ k - μ) * (ξ k - μ)) * (1024 : ℝ)⁻¹ := mul_nonneg (Finset.sum_nonneg fun k _ => mul_self_nonneg _) (by norm_num)
    have hs : ∃ σ : ℝ, scale x = (σ : EReal) := by
      unfold scale
      rw [div_1024, Finset.sum_congr rfl fun k _ => hq k, sum_real, ← EReal.coe_mul, he, ← EReal.coe_add]
      generalize (∑ k, (ξ k - μ) * (ξ k - μ)) * (1024 : ℝ)⁻¹ = v at hv
      show ∃ σ : ℝ, (if v + ε < 0 then ⊥ else if v + ε = 0 then ⊤ else (((Real.sqrt (v + ε))⁻¹ : ℝ) : EReal)) = (σ : EReal)
      rw [if_neg (by linarith), if_neg (by linarith)]
      exact ⟨_, rfl⟩
    obtain ⟨σ, hσ⟩ := hs
    exact ⟨(ξ n - μ) * σ * γ + β, by rw [hξ n, hm, hσ, ← EReal.coe_sub, ← EReal.coe_mul, ← EReal.coe_mul, ← EReal.coe_add]⟩
  · exact ⟨β, by rw [scale_zero x h, mul_zero, zero_mul, zero_add]⟩

/-- The logits as the kernel splits them: the parts left over are zero. -/
theorem split_logit (w y : Fin 1024 → EReal) (hw : ∀ k, ∃ ω : ℝ, w k = (ω : EReal)) (hy : ∀ k, ∃ υ : ℝ, y k = (υ : EReal)) :
    (∑ k, w k * y k) + (∑ k, (w k - w k) * y k) + (∑ k, w k * (y k - y k)) = ∑ k, y k * w k := by
  have h1 : ∀ k, (w k - w k) * y k = 0 := fun k => by
    obtain ⟨ω, h⟩ := hw k
    rw [h, ← EReal.coe_sub, sub_self, EReal.coe_zero, zero_mul]
  have h2 : ∀ k, w k * (y k - y k) = 0 := fun k => by
    obtain ⟨υ, h⟩ := hy k
    rw [h, ← EReal.coe_sub, sub_self, EReal.coe_zero, mul_zero]
  rw [Finset.sum_congr rfl fun k _ => h1 k, Finset.sum_congr rfl fun k _ => h2 k, Finset.sum_const_zero, add_zero, add_zero]
  exact Finset.sum_congr rfl fun k _ => mul_comm _ _

end Cert.Mixers

end
-- ==== Proof.OutRef.lean ====
/- The projection out of the mixers: what the reference's three results hold at an index. -/
module

public import proofs.«01_k».proof.Proof.Gen.OutRefIdeal.Run
public import proofs.«01_k».proof.Proof.OutSpec
public import proofs.«01_k».proof.Proof.Words

@[expose] public section

set_option maxRecDepth 16384

noncomputable section

namespace Cert.OutRefIdeal.Value

open Cert.OutRefIdeal Cert.OutRefIdeal.Gen Idealize.ShloMosaic Idealize.ShloMosaic.TcCoe Idealize.SL.Sem Cert.Mixers

/-- Both mixers' projections by the gates. -/
def mergedR (a f : FVec Ideal S33792x512 .bf16) (g : FVec Ideal S33792x2048 .f32) (wa wf : FVec Ideal S512x1024 .f32) : FVec Ideal S33792x1024 .f32 :=
  addf (mulf (shapeCast _ (extractStridedSlice S33792x1x1024 ![0, 0, 0] (shapeCast _ g shapeCasts_S33792x2048_S33792x2x1024) slices_S33792x2x1024_S33792x1x1024_0_0_0) shapeCasts_S33792x1x1024_S33792x1024) (Host.dotGeneral dot_S33792x512_S512x1024_S33792x1024_1_0_0_1_n_n none (extf .f32 a bitsLt_bf16_f32) wa)) (mulf (shapeCast _ (extractStridedSlice S33792x1x1024 ![0, 1, 0] (shapeCast _ g shapeCasts_S33792x2048_S33792x2x1024) slices_S33792x2x1024_S33792x1x1024_0_1_0) shapeCasts_S33792x1x1024_S33792x1024) (Host.dotGeneral dot_S33792x512_S512x1024_S33792x1024_1_0_0_1_n_n none (extf .f32 f bitsLt_bf16_f32) wf))

theorem mergedR_at (a f : FVec Ideal S33792x512 .bf16) (g : FVec Ideal S33792x2048 .f32) (wa wf : FVec Ideal S512x1024 .f32) (l : Fin 33792) (n : Fin 1024) :
    mergedR a f g wa wf (ix2 l n) = merged (fun k => a (ix2 l k)) (fun k => f (ix2 l k)) (fun k => g (ix2 l k)) (fun k n => wa (ix2 k n)) (fun k n => wf (ix2 k n)) n := by
  pointwise [mergedR, merged]

/-- The scaled input and the merged rows' projection. -/
def totalR (h : FVec Ideal S33792x1024 .f32) (y : FVec Ideal S33792x1024 .f32) (w : FVec Ideal S1024x1024 .f32) : FVec Ideal S33792x1024 .f32 :=
  addf (mulf (broadcastInDim S33792x1024 ![] bcast_S_S33792x1024 (constant S_ .f32 0x3FD744FD#32)) h) (Host.dotGeneral dot_S33792x1024_S1024x1024_S33792x1024_1_0_0_1_n_n none y w)

theorem totalR_at (h : FVec Ideal S33792x1024 .f32) (y : FVec Ideal S33792x1024 .f32) (w : FVec Ideal S1024x1024 .f32) (l : Fin 33792) (n : Fin 1024) :
    totalR h y w (ix2 l n) = total (fun k => h (ix2 l k)) (fun k => y (ix2 l k)) (fun k n => w (ix2 k n)) n := by
  pointwise [totalR, total]

/-- The rows' means. -/
def meanR (x : FVec Ideal S33792x1024 .f32) : FVec Ideal S33792x1 .f32 :=
  Host.divf (broadcastInDim S33792x1 ![0] bcast_S33792_S33792x1_0 (Host.reduceAdd x (constant S_ .f32 0x00000000#32) reducesTo_S33792x1024_S33792_d1 h_S_)) (broadcastInDim S33792x1 ![] bcast_S_S33792x1 (constant S_ .f32 0x44800000#32))

theorem meanR_at (x : FVec Ideal S33792x1024 .f32) (l : Fin 33792) : meanR x (ix2 l 0) = mean fun k => x (ix2 l k) := by
  pointwise [meanR, mean]

/-- The rows' differences from their means. -/
def centredR (x : FVec Ideal S33792x1024 .f32) : FVec Ideal S33792x1024 .f32 :=
  subf x (broadcastInDim S33792x1024 ![0, 1] bcast_S33792x1_S33792x1024_0_1 (meanR x))

theorem centredR_at (x : FVec Ideal S33792x1024 .f32) (l : Fin 33792) (n : Fin 1024) : centredR x (ix2 l n) = x (ix2 l n) - mean fun k => x (ix2 l k) := by
  rw [← meanR_at]
  pointwise [centredR]

/-- The inverses of the rows' deviations. -/
def scaleR (x : FVec Ideal S33792x1024 .f32) : FVec Ideal S33792x1 .f32 :=
  Host.rsqrt (addf (meanR (mulf (centredR x) (centredR x))) (broadcastInDim S33792x1 ![] bcast_S_S33792x1 (constant S_ .f32 0x3727C5AC#32)))

theorem scaleR_at (x : FVec Ideal S33792x1024 .f32) (l : Fin 33792) : scaleR x (ix2 l 0) = scale fun k => x (ix2 l k) := by
  refine Eq.trans (b := Ideal.rsqrt (meanR (mulf (centredR x) (centredR x)) (ix2 l 0) + Ideal.ofBits .f32 0x3727C5AC#32)) ?_ ?_
  · pointwise [scaleR]
  · rw [meanR_at]
    unfold scale
    refine congrArg (fun z => Ideal.rsqrt (Ideal.div z _ + _)) (Finset.sum_congr rfl fun k _ => ?_)
    exact congrArg₂ (· * ·) (centredR_at x l k) (centredR_at x l k)

/-- The normalised rows. -/
def normR (x : FVec Ideal S33792x1024 .f32) (g b : FVec Ideal S1024 .f32) : FVec Ideal S33792x1024 .f32 :=
  addf (mulf (mulf (centredR x) (broadcastInDim S33792x1024 ![0, 1] bcast_S33792x1_S33792x1024_0_1 (scaleR x)))
    (broadcastInDim S33792x1024 ![0, 1] bcast_S1x1024_S33792x1024_0_1 (broadcastInDim S1x1024 ![1] bcast_S1024_S1x1024_1 g)))
    (broadcastInDim S33792x1024 ![0, 1] bcast_S1x1024_S33792x1024_0_1 (broadcastInDim S1x1024 ![1] bcast_S1024_S1x1024_1 b))

theorem normR_at (x : FVec Ideal S33792x1024 .f32) (g b : FVec Ideal S1024 .f32) (l : Fin 33792) (n : Fin 1024) :
    normR x g b (ix2 l n) = normed (fun k => x (ix2 l k)) (fun k => g (ix1 k)) (fun k => b (ix1 k)) n := by
  unfold normed
  rw [← scaleR_at, ← centredR_at]
  pointwise [normR]

/-- The router's logits. -/
def logitsR (y : FVec Ideal S33792x1024 .f32) (w : FVec Ideal S1024x16 .f32) : FVec Ideal S33792x16 .f32 :=
  Host.dotGeneral dot_S33792x1024_S1024x16_S33792x16_1_0_0_1_n_n none y w

theorem logitsR_at (y : FVec Ideal S33792x1024 .f32) (w : FVec Ideal S1024x16 .f32) (l : Fin 33792) (e : Fin 16) :
    logitsR y w (ix2 l e) = ∑ k : Fin 1024, y (ix2 l k) * w (ix2 k e) := by
  pointwise [logitsR]

/-- The rows' largest logits. -/
def topR (z : FVec Ideal S33792x16 .f32) : FVec Ideal S33792 .f32 :=
  maximumf (broadcastInDim S33792 ![] bcast_S_S33792 (constant S_ .f32 0xFF800000#32)) (Host.reduce FloatOps.maximumf z (constant S_ .f32 0xFF800000#32) reducesTo_S33792x16_S33792_d1 h_S_)

theorem topR_at (z : FVec Ideal S33792x16 .f32) (l : Fin 33792) : topR z (ix1 l) = top fun k => z (ix2 l k) := by
  pointwise [topR, top]
  rw [Cert.Attention.ofBits_bot, max_eq_right bot_le]

/-- The exponentials of the logits below the largest. -/
def expsR (z : FVec Ideal S33792x16 .f32) : FVec Ideal S33792x16 .f32 :=
  Host.exp (subf z (broadcastInDim S33792x16 ![0, 1] bcast_S33792x1_S33792x16_0_1 (broadcastInDim S33792x1 ![0] bcast_S33792_S33792x1_0 (topR z))))

theorem expsR_at (z : FVec Ideal S33792x16 .f32) (l : Fin 33792) (e : Fin 16) : expsR z (ix2 l e) = Ideal.exp (z (ix2 l e) - top fun k => z (ix2 l k)) := by
  rw [← topR_at]
  pointwise [expsR]

/-- The router's softmax, an expert's in a row. -/
def softR (z : FVec Ideal S33792x16 .f32) : FVec Ideal S16x33792 .f32 :=
  transpose S16x33792 [1, 0] (Host.divf (expsR z) (broadcastInDim S33792x16 ![0, 1] bcast_S33792x1_S33792x16_0_1 (broadcastInDim S33792x1 ![0] bcast_S33792_S33792x1_0 (Host.reduceAdd (expsR z) (constant S_ .f32 0x00000000#32) reducesTo_S33792x16_S33792_d1 h_S_)))) transposes_S33792x16_S16x33792_1_0

theorem softR_at (z : FVec Ideal S33792x16 .f32) (l : Fin 33792) (e : Fin 16) : softR z (ix2 e l) = soft (fun k => z (ix2 l k)) e := by
  unfold soft
  rw [← expsR_at, Finset.sum_congr rfl fun k _ => (expsR_at z l k).symm]
  pointwise [softR]

/-- The first result: the normalised rows. -/
def rows (a f : FVec Ideal S33792x512 .bf16) (g : FVec Ideal S33792x2048 .f32) (h : FVec Ideal S33792x1024 .f32) (wa wf : FVec Ideal S512x1024 .f32) (wo : FVec Ideal S1024x1024 .f32) (gn sh : FVec Ideal S1024 .f32) : FVec Ideal S33792x1024 .f32 :=
  normR (totalR h (mergedR a f g wa wf) wo) gn sh

/-- The second result: the same, narrowed. -/
def rowsBf (a f : FVec Ideal S33792x512 .bf16) (g : FVec Ideal S33792x2048 .f32) (h : FVec Ideal S33792x1024 .f32) (wa wf : FVec Ideal S512x1024 .f32) (wo : FVec Ideal S1024x1024 .f32) (gn sh : FVec Ideal S1024 .f32) : FVec Ideal S33792x1024 .bf16 :=
  truncf .bf16 (rows a f g h wa wf wo gn sh) bitsLt_bf16_f32

/-- The third result: the router's softmax. -/
def affinity (a f : FVec Ideal S33792x512 .bf16) (g : FVec Ideal S33792x2048 .f32) (h : FVec Ideal S33792x1024 .f32) (wa wf : FVec Ideal S512x1024 .f32) (wo : FVec Ideal S1024x1024 .f32) (gn sh : FVec Ideal S1024 .f32) (wr : FVec Ideal S1024x16 .f32) : FVec Ideal S16x33792 .f32 :=
  softR (logitsR (rows a f g h wa wf wo gn sh) wr)

/-- The reference's run: its three results over the arguments. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v52) = rowsBf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v53) = affinity (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  run m ρ

end Cert.OutRefIdeal.Value

end
-- ==== Proof.OutTile.lean ====
/- The projection out of the mixers, one tile: what the kernel leaves in its three output blocks, over its input blocks. -/
module

public import proofs.«01_k».proof.Proof.Gen.OutIdeal.Value
public import proofs.«01_k».proof.Proof.OutSpec
public import proofs.«01_k».proof.Proof.Words

@[expose] public section

set_option maxRecDepth 16384

noncomputable section

namespace Cert.OutIdeal.Value

open Cert.OutIdeal Cert.OutIdeal.Gen Idealize.ShloMosaic Idealize.ShloMosaic.TcCoe Idealize.SL.Sem Cert.Mixers

theorem pay15_at (v55 : FVec Ideal S256x1024 .f32) (v68 : Vec Ideal S256x1024 .f32) (v72 v74 : Vec Ideal S1x1024 .f32) (r : Fin 256) (n : Fin 1024) :
    k0_pay15 v55 v68 v72 v74 (ix2 r n) = normed (fun k => Ideal.ofBits .f32 0x3FD744FD#32 * v68 (ix2 r k) + v55 (ix2 r k)) (fun k => v72 (ix2 0 k)) (fun k => v74 (ix2 0 k)) n := by
  pointwise [k0_pay15, normed, scale, mean]

theorem pay26_at (v63 : FVec Ideal S256x1024 .f32) (v178 : Vec Ideal S256x1024 .f32) (v182 v184 : Vec Ideal S1x1024 .f32) (r : Fin 256) (n : Fin 1024) :
    k0_pay26 v63 v178 v182 v184 (ix2 r n) = normed (fun k => Ideal.ofBits .f32 0x3FD744FD#32 * v178 (ix2 r k) + v63 (ix2 r k)) (fun k => v182 (ix2 0 k)) (fun k => v184 (ix2 0 k)) n := by
  pointwise [k0_pay26, normed, scale, mean]

theorem pay21_at (v126 : FVec Ideal S256x1024 .f32) (v128 v130 : FVec Ideal S1x1024 .f32) (r : Fin 256) (n : Fin 1024) :
    k0_pay21 v126 v128 v130 (ix2 r n) = normed (fun k => v126 (ix2 r k)) (fun k => v128 (ix2 0 k)) (fun k => v130 (ix2 0 k)) n := by
  pointwise [k0_pay21, normed, scale, mean]

theorem pay18_at (v59 : FVec Ideal S256x1024 .f32) (v123 : Vec Ideal S256x1024 .f32) (r : Fin 256) (n : Fin 1024) :
    k0_pay18 v59 v123 (ix2 r n) = Ideal.ofBits .f32 0x3FD744FD#32 * v123 (ix2 r n) + v59 (ix2 r n) := by
  pointwise [k0_pay18]

theorem pay30_at (v67 : FVec Ideal S256x1024 .f32) (v233 : Vec Ideal S256x1024 .f32) (r : Fin 256) (n : Fin 1024) :
    k0_pay30 v67 v233 (ix2 r n) = Ideal.ofBits .f32 0x3FD744FD#32 * v233 (ix2 r n) + v67 (ix2 r n) := by
  pointwise [k0_pay30]

theorem pay33_at (v67 : FVec Ideal S256x1024 .f32) (v233 : Vec Ideal S256x1024 .f32) (r : Fin 256) (n : Fin 1024) :
    k0_pay33 v67 v233 (ix2 r n) = mean fun k => k0_pay30 v67 v233 (ix2 r k) := by
  pointwise [k0_pay33, mean]

theorem pay34_at (v236 : FVec Ideal S256x1024 .f32) (v238 v240 : FVec Ideal S1x1024 .f32) (v245 : FVec Ideal S256x1024 .f32)
    (h : ∀ (r : Fin 256) (n : Fin 1024), v245 (ix2 r n) = mean fun k => v236 (ix2 r k)) (r : Fin 256) (n : Fin 1024) :
    k0_pay34 v236 v238 v240 v245 (ix2 r n) = normed (fun k => v236 (ix2 r k)) (fun k => v238 (ix2 0 k)) (fun k => v240 (ix2 0 k)) n := by
  unfold normed scale
  rw [Finset.sum_congr rfl fun k _ => congrArg₂ (· * ·) (congrArg (_ - ·) (h r k).symm) (congrArg (_ - ·) (h r k).symm)]
  rw [← h r n]
  pointwise [k0_pay34]

/-- A row of the tile before normalisation. -/
def xRow (x0 x1 : FVec Ideal S1024x512 .bf16) (x2 : FVec Ideal S1024x2048 .f32) (x3 : FVec Ideal S1024x1024 .f32) (x4 x5 : FVec Ideal S512x1024 .bf16) (x6 : FVec Ideal S1024x1024 .bf16) (r : Fin 1024) : Fin 1024 → EReal :=
  total (fun k => x3 (ix2 r k)) (merged (fun k => x0 (ix2 r k)) (fun k => x1 (ix2 r k)) (fun k => x2 (ix2 r k)) (fun k n => x4 (ix2 k n)) (fun k n => x5 (ix2 k n))) (fun k n => x6 (ix2 k n))

theorem normed_congr {x x' g g' b b' : Fin 1024 → EReal} (hx : ∀ k, x k = x' k) (hg : ∀ k, g k = g' k) (hb : ∀ k, b k = b' k) (n : Fin 1024) :
    normed x g b n = normed x' g' b' n := by
  rw [funext hx, funext hg, funext hb]

theorem total_of {h y : Fin 1024 → EReal} {w : Fin 1024 → Fin 1024 → EReal} {n : Fin 1024} {p q : EReal} (hp : p = h n) (hq : q = ∑ k : Fin 1024, y k * w k n) :
    Ideal.ofBits .f32 0x3FD744FD#32 * p + q = total h y w n := by
  rw [hp, hq]
  rfl

theorem merged_of {a f : Fin 512 → EReal} {g : Fin 2048 → EReal} {wa wf : Fin 512 → Fin 1024 → EReal} {n : Fin 1024} {p q u v : EReal}
    (hp : p = g ⟨n, by omega⟩) (hu : u = ∑ k : Fin 512, a k * wa k n) (hq : q = g ⟨1024 + n, by omega⟩) (hv : v = ∑ k : Fin 512, f k * wf k n) :
    p * u + q * v = merged a f g wa wf n := by
  rw [hp, hq, hu, hv]
  rfl

variable (x0 x1 : FVec Ideal S1024x512 .bf16) (x2 : FVec Ideal S1024x2048 .f32) (x3 : FVec Ideal S1024x1024 .f32) (x4 x5 : FVec Ideal S512x1024 .bf16) (x6 : FVec Ideal S1024x1024 .bf16) (x7 x8 : FVec Ideal S1x1024 .f32) (x9 x10 : FVec Ideal S16x1024 .bf16)

theorem rows0 (r : Fin 256) (n : Fin 1024) : k0_pay40 (F := Ideal) x0 x1 x2 x3 x4 x5 x6 x7 x8 x9 x10 (ix2 r n)
    = normed (xRow x0 x1 x2 x3 x4 x5 x6 ⟨r, by omega⟩) (fun k => x7 (ix2 0 k)) (fun k => x8 (ix2 0 k)) n := by
  unfold k0_pay40
  rw [pay15_at]
  refine normed_congr (fun k => ?_) (fun k => ?_) (fun k => ?_) n
  · refine total_of ?_ ?_
    · pointwise
      all_goals blk_ext
    · pointwise [k0_pay10, k0_pay2, k0_pay6]
      refine Finset.sum_congr rfl fun j _ => congrArg₂ (· * ·) (merged_of ?_ (Finset.sum_congr rfl fun i _ => congrArg₂ (· * ·) ?_ ?_) ?_ (Finset.sum_congr rfl fun i _ => congrArg₂ (· * ·) ?_ ?_)) ?_
      all_goals blk_ext
  · pointwise [k0_pay19, k0_pay31]
    all_goals blk_ext
  · pointwise [k0_pay20, k0_pay32]
    all_goals blk_ext

theorem rows1 (r : Fin 256) (n : Fin 1024) : k0_pay21 (F := Ideal) (k0_pay41 x0 x1 x2 x3 x4 x5 x6 x7 x8 x9 x10) (k0_pay42 x0 x1 x2 x3 x4 x5 x6 x7 x8 x9 x10) (k0_pay43 x0 x1 x2 x3 x4 x5 x6 x7 x8 x9 x10) (ix2 r n)
    = normed (xRow x0 x1 x2 x3 x4 x5 x6 ⟨256 + r, by omega⟩) (fun k => x7 (ix2 0 k)) (fun k => x8 (ix2 0 k)) n := by
  unfold k0_pay41 k0_pay42 k0_pay43
  rw [pay21_at]
  refine normed_congr (fun k => ?_) (fun k => ?_) (fun k => ?_) n
  · refine (pay18_at _ _ r k).trans (total_of ?_ ?_)
    · pointwise
      all_goals blk_ext
    · pointwise [k0_pay12, k0_pay11, k0_pay3, k0_pay7]
      refine Finset.sum_congr rfl fun j _ => congrArg₂ (· * ·) (merged_of ?_ (Finset.sum_congr rfl fun i _ => congrArg₂ (· * ·) ?_ ?_) ?_ (Finset.sum_congr rfl fun i _ => congrArg₂ (· * ·) ?_ ?_)) ?_
      all_goals blk_ext
  · pointwise [k0_pay19, k0_pay31]
    all_goals blk_ext
  · pointwise [k0_pay20, k0_pay32]
    all_goals blk_ext

theorem rows2 (r : Fin 256) (n : Fin 1024) : k0_pay26 (F := Ideal) (k0_pay38 x0 x1 x2 x3 x4 x5 x6 x7 x8 x9 x10) (View.ld x3 r0_20) x7 x8 (ix2 r n)
    = normed (xRow x0 x1 x2 x3 x4 x5 x6 ⟨512 + r, by omega⟩) (fun k => x7 (ix2 0 k)) (fun k => x8 (ix2 0 k)) n := by
  unfold k0_pay38
  rw [pay26_at]
  refine normed_congr (fun k => ?_) (fun k => ?_) (fun k => ?_) n
  · refine total_of ?_ ?_
    · pointwise
      all_goals blk_ext
    · pointwise [k0_pay13, k0_pay8, k0_pay4]
      refine Finset.sum_congr rfl fun j _ => congrArg₂ (· * ·) (merged_of ?_ (Finset.sum_congr rfl fun i _ => congrArg₂ (· * ·) ?_ ?_) ?_ (Finset.sum_congr rfl fun i _ => congrArg₂ (· * ·) ?_ ?_)) ?_
      all_goals blk_ext
  · rfl
  · rfl

theorem rows3 (r : Fin 256) (n : Fin 1024) : k0_pay34 (F := Ideal) (k0_pay45 x0 x1 x2 x3 x4 x5 x6 x7 x8 x9 x10) (k0_pay46 x0 x1 x2 x3 x4 x5 x6 x7 x8 x9 x10) (k0_pay47 x0 x1 x2 x3 x4 x5 x6 x7 x8 x9 x10) (k0_pay48 x0 x1 x2 x3 x4 x5 x6 x7 x8 x9 x10) (ix2 r n)
    = normed (xRow x0 x1 x2 x3 x4 x5 x6 ⟨768 + r, by omega⟩) (fun k => x7 (ix2 0 k)) (fun k => x8 (ix2 0 k)) n := by
  unfold k0_pay45 k0_pay46 k0_pay47 k0_pay48 k0_pay39
  rw [pay34_at _ _ _ _ (fun r n => pay33_at _ _ r n)]
  refine normed_congr (fun k => ?_) (fun k => ?_) (fun k => ?_) n
  · refine (pay30_at _ _ r k).trans (total_of ?_ ?_)
    · pointwise
      all_goals blk_ext
    · pointwise [k0_pay14, k0_pay9, k0_pay5]
      refine Finset.sum_congr rfl fun j _ => congrArg₂ (· * ·) (merged_of ?_ (Finset.sum_congr rfl fun i _ => congrArg₂ (· * ·) ?_ ?_) ?_ (Finset.sum_congr rfl fun i _ => congrArg₂ (· * ·) ?_ ?_)) ?_
      all_goals blk_ext
  · pointwise [k0_pay19, k0_pay31]
    all_goals blk_ext
  · pointwise [k0_pay20, k0_pay32]
    all_goals blk_ext

/-- An expert's logit for a row, as the kernel splits it. -/
def lg (wh wl wh' : FVec Ideal S16x1024 .bf16) (y : Fin 1024 → EReal) (e : Fin 16) : EReal :=
  (∑ k : Fin 1024, wh (ix2 e k) * y k) + (∑ k : Fin 1024, wl (ix2 e k) * y k) + (∑ k : Fin 1024, wh' (ix2 e k) * (y k - y k))

theorem pay17_at (v95 : FVec Ideal S256x1024 .f32) (wh wl wh' : FVec Ideal S16x1024 .bf16) (e : Fin 16) (r : Fin 256) :
    k0_pay17 v95 wh wl wh' (ix2 e r) = soft (lg wh wl wh' fun k => v95 (ix2 r k)) e := by
  pointwise [k0_pay17, k0_pay16, soft, top, lg]
  rw [Cert.Attention.ofBits_bot]

theorem pay23_at (v126 : FVec Ideal S256x1024 .f32) (v128 v130 : FVec Ideal S1x1024 .f32) (wh wl wh' : FVec Ideal S16x1024 .bf16) (e : Fin 16) (r : Fin 256) :
    k0_pay23 v126 v128 v130 wh wl wh' (ix2 e r) = lg wh wl wh' (fun k => k0_pay21 v126 v128 v130 (ix2 r k)) e := by
  pointwise [k0_pay23, k0_pay22, lg]

theorem pay24_at (v126 : FVec Ideal S256x1024 .f32) (v128 v130 : FVec Ideal S1x1024 .f32) (wh wl wh' : FVec Ideal S16x1024 .bf16) (e : Fin 16) (r : Fin 256) :
    k0_pay24 v126 v128 v130 wh wl wh' (ix2 e r) = top fun e => k0_pay23 v126 v128 v130 wh wl wh' (ix2 e r) := by
  pointwise [k0_pay24, top]
  rw [Cert.Attention.ofBits_bot]

theorem pay25_at (z t : FVec Ideal S16x256 .f32) (h : ∀ (e : Fin 16) (r : Fin 256), t (ix2 e r) = top fun e => z (ix2 e r)) (e : Fin 16) (r : Fin 256) :
    k0_pay25 z t (ix2 e r) = soft (fun e => z (ix2 e r)) e := by
  unfold soft
  rw [Finset.sum_congr rfl fun k _ => congrArg (fun u => Ideal.exp (_ - u)) (h k r).symm]
  rw [← h e r]
  pointwise [k0_pay25]

theorem pay29_at (hi lo : FVec Ideal S256x1024 .bf16) (wh wl wh' : FVec Ideal S16x1024 .bf16) (y : Fin 1024 → EReal) (r : Fin 256)
    (hh : ∀ k : Fin 1024, hi (ix2 r k) = y k) (hl : ∀ k : Fin 1024, lo (ix2 r k) = y k - y k) (e : Fin 16) :
    k0_pay29 hi lo wh wl wh' (ix2 e r) = soft (lg wh wl wh' y) e := by
  have hz : ∀ e, lg wh wl wh' y e = (∑ k : Fin 1024, wh (ix2 e k) * hi (ix2 r k)) + (∑ k : Fin 1024, wl (ix2 e k) * hi (ix2 r k)) + (∑ k : Fin 1024, wh' (ix2 e k) * lo (ix2 r k)) := fun e => by
    unfold lg
    simp only [hh, hl]
  rw [funext hz]
  pointwise [k0_pay29, soft, top]
  rw [Cert.Attention.ofBits_bot]

theorem pay28_at (v63 : FVec Ideal S256x1024 .f32) (v178 : Vec Ideal S256x1024 .f32) (v182 v184 : Vec Ideal S1x1024 .f32) (r : Fin 256) (n : Fin 1024) :
    k0_pay28 v63 v178 v182 v184 (ix2 r n) = k0_pay26 v63 v178 v182 v184 (ix2 r n) - k0_pay26 v63 v178 v182 v184 (ix2 r n) := by
  pointwise [k0_pay28, k0_pay27]

/-- The exponential of a logit below its row's largest, as the last quarter computes it. -/
theorem pay36_at (v236 : FVec Ideal S256x1024 .f32) (v238 v240 : FVec Ideal S1x1024 .f32) (v245 : FVec Ideal S256x1024 .f32) (wh wl wh' : FVec Ideal S16x1024 .bf16) (e : Fin 16) (r : Fin 256) :
    k0_pay36 v236 v238 v240 v245 wh wl wh' (ix2 e r) = Ideal.exp (lg wh wl wh' (fun k => k0_pay34 v236 v238 v240 v245 (ix2 r k)) e
      - top (lg wh wl wh' fun k => k0_pay34 v236 v238 v240 v245 (ix2 r k))) := by
  pointwise [k0_pay36, k0_pay35, lg, top]
  rw [Cert.Attention.ofBits_bot]

theorem pay37_at (v236 : FVec Ideal S256x1024 .f32) (v238 v240 : FVec Ideal S1x1024 .f32) (v245 : FVec Ideal S256x1024 .f32) (wh wl wh' : FVec Ideal S16x1024 .bf16) (e : Fin 16) (r : Fin 256) :
    k0_pay37 v236 v238 v240 v245 wh wl wh' (ix2 e r) = ∑ e : Fin 16, k0_pay36 v236 v238 v240 v245 wh wl wh' (ix2 e r) := by
  pointwise [k0_pay37]

theorem pay1_at (v236 : FVec Ideal S256x1024 .f32) (v238 v240 : FVec Ideal S1x1024 .f32) (v245 : FVec Ideal S256x1024 .f32) (wh wl wh' : FVec Ideal S16x1024 .bf16) (e : Fin 16) (r : Fin 256) :
    k0_pay1 (k0_pay36 v236 v238 v240 v245 wh wl wh') (k0_pay37 v236 v238 v240 v245 wh wl wh') (ix2 e r)
      = soft (lg wh wl wh' fun k => k0_pay34 v236 v238 v240 v245 (ix2 r k)) e := by
  unfold soft
  rw [Finset.sum_congr rfl fun e _ => (pay36_at v236 v238 v240 v245 wh wl wh' e r).symm, ← pay36_at, ← pay37_at _ _ _ _ _ _ _ e r]
  pointwise [k0_pay1]

/-- A normalised row of the tile. -/
abbrev yRow (r : Fin 1024) : Fin 1024 → EReal :=
  normed (xRow x0 x1 x2 x3 x4 x5 x6 r) (fun k => x7 (ix2 0 k)) (fun k => x8 (ix2 0 k))

theorem out11_at (y : S1024x1024.Idx) : out0_11 (F := Ideal) x0 x1 x2 x3 x4 x5 x6 x7 x8 x9 x10 y = yRow x0 x1 x2 x3 x4 x5 x6 x7 x8 (y 0) (y 1) := by
  unfold out0_11
  frame_out
  canon_tiles x h
  · rw [eq_ix2 x]
    exact (rows3 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (rows2 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (rows1 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (rows0 x0 x1 x2 x3 x4 x5 x6 x7 x8 x9 x10 (x 0) (x 1)).trans (congrArg₂ (yRow x0 x1 x2 x3 x4 x5 x6 x7 x8) (Fin.ext h0.symm) (Fin.ext h1.symm))

theorem half2 (r : Fin 256) (n : Fin 1024) : k0_pay44 (F := Ideal) x0 x1 x2 x3 x4 x5 x6 x7 x8 x9 x10 (ix2 r n) = yRow x0 x1 x2 x3 x4 x5 x6 x7 x8 ⟨512 + r, by omega⟩ n := by
  refine Eq.trans ?_ (rows2 x0 x1 x2 x3 x4 x5 x6 x7 x8 x9 x10 r n)
  unfold k0_pay44 k0_pay27
  frame_out
  rfl

theorem out12_at (y : S1024x1024.Idx) : out0_12 (F := Ideal) x0 x1 x2 x3 x4 x5 x6 x7 x8 x9 x10 y = yRow x0 x1 x2 x3 x4 x5 x6 x7 x8 (y 0) (y 1) := by
  unfold out0_12
  canon_tiles x h
  · rw [eq_ix2 x]
    exact (rows3 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (half2 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (rows1 x0 x1 x2 x3 x4 x5 x6 x7 x8 x9 x10 (x 0) (x 1)).trans (congrArg₂ (yRow x0 x1 x2 x3 x4 x5 x6 x7 x8) (Fin.ext h0.symm) (Fin.ext h1.symm))
  · rw [eq_ix2 x]
    exact (rows0 x0 x1 x2 x3 x4 x5 x6 x7 x8 x9 x10 (x 0) (x 1)).trans (congrArg₂ (yRow x0 x1 x2 x3 x4 x5 x6 x7 x8) (Fin.ext h0.symm) (Fin.ext h1.symm))

theorem lg_congr (wh wl : FVec Ideal S16x1024 .bf16) {z z' : Fin 1024 → EReal} (h : ∀ k, z k = z' k) (e : Fin 16) : soft (lg wh wl wh z) e = soft (lg wh wl wh z') e := by
  rw [funext h]

theorem out13_at (y : S16x1024.Idx) : out0_13 (F := Ideal) x0 x1 x2 x3 x4 x5 x6 x7 x8 x9 x10 y = soft (lg x9 x10 x9 (yRow x0 x1 x2 x3 x4 x5 x6 x7 x8 (y 1))) (y 0) := by
  unfold out0_13
  frame_out
  canon_tiles x h
  · rw [eq_ix2 x]
    refine (pay1_at _ _ _ _ _ _ _ (x 0) (x 1)).trans ((lg_congr x9 x10 (fun k => rows3 x0 x1 x2 x3 x4 x5 x6 x7 x8 x9 x10 (x 1) k) (x 0)).trans ?_)
    exact congrArg₂ (fun r e => soft (lg x9 x10 x9 (yRow x0 x1 x2 x3 x4 x5 x6 x7 x8 r)) e) (Fin.ext h1.symm) (Fin.ext h0.symm)
  · rw [eq_ix2 x]
    refine (pay29_at _ _ _ _ _ _ (x 1) (fun k => half2 x0 x1 x2 x3 x4 x5 x6 x7 x8 x9 x10 (x 1) k) (fun k => ?_) (x 0)).trans ?_
    · refine (pay28_at _ _ _ _ _ _).trans ?_
      rw [rows2 x0 x1 x2 x3 x4 x5 x6 x7 x8 x9 x10 (x 1) k]
    · exact congrArg₂ (fun r e => soft (lg x9 x10 x9 (yRow x0 x1 x2 x3 x4 x5 x6 x7 x8 r)) e) (Fin.ext h1.symm) (Fin.ext h0.symm)
  · rw [eq_ix2 x]
    refine (pay25_at _ _ (fun e r => pay24_at _ _ _ _ _ _ e r) (x 0) (x 1)).trans ?_
    refine (congrArg (fun l => soft l (x 0)) (funext fun e => pay23_at _ _ _ _ _ _ e (x 1))).trans ((lg_congr x9 x10 (fun k => rows1 x0 x1 x2 x3 x4 x5 x6 x7 x8 x9 x10 (x 1) k) (x 0)).trans ?_)
    exact congrArg₂ (fun r e => soft (lg x9 x10 x9 (yRow x0 x1 x2 x3 x4 x5 x6 x7 x8 r)) e) (Fin.ext h1.symm) (Fin.ext h0.symm)
  · rw [eq_ix2 x]
    refine (pay17_at _ _ _ _ (x 0) (x 1)).trans ((lg_congr x9 x10 (fun k => rows0 x0 x1 x2 x3 x4 x5 x6 x7 x8 x9 x10 (x 1) k) (x 0)).trans ?_)
    exact congrArg₂ (fun r e => soft (lg x9 x10 x9 (yRow x0 x1 x2 x3 x4 x5 x6 x7 x8 r)) e) (Fin.ext h1.symm) (Fin.ext h0.symm)

end Cert.OutIdeal.Value

end
-- ==== Proof.OutResult.lean ====
/- The projection out of the mixers, the whole arrays: the operands the host prepares, and every block the kernel writes is the
   reference's. -/
module

public import proofs.«01_k».proof.Proof.OutRef
public import proofs.«01_k».proof.Proof.OutTile
public import proofs.«01_k».proof.Proof.Result
public import proofs.«01_k».proof.Proof.Gen.Pre_finite_router

@[expose] public section

set_option maxRecDepth 16384

noncomputable section

namespace Cert.OutIdeal.Value

open Cert.OutIdeal Cert.OutIdeal.Gen Idealize.ShloMosaic Idealize.ShloMosaic.TcCoe Idealize.SL.Sem Cert.Mixers
open Cert.OutRefIdeal.Value (mergedR mergedR_at totalR totalR_at normR normR_at logitsR logitsR_at softR softR_at rows rowsBf affinity)

variable (m : (ℓ : Loc nD τ sig) → Buf (Elt Ideal) ℓ) (c : Dev nD) (t : Fin cfg0.N)

theorem point_lt : t.val < 33 := lt_of_lt_of_eq t.isLt N_0

/-- The router's weights, as the host hands them over: turned. -/
theorem router_at (e : Fin 16) (k : Fin 1024) : V m c main_v4 (ix2 e k) = m ((c.tc).loc main_arg9) (ix2 k e) := by
  simp only [V, hostOps0, List.flatten_cons, List.flatten_nil, List.cons_append, List.nil_append, List.append_nil]
  after_results_simp
  pointwise

/-- What a weight of the router leaves over. -/
def leftOver (w : FVec Ideal S1024x16 .f32) (k : Fin 1024) (e : Fin 16) : EReal := w (ix2 k e) - w (ix2 k e)

/-- What the router's weights leave over, as the host hands it over. -/
theorem left_at (e : Fin 16) (k : Fin 1024) : V m c main_v7 (ix2 e k) = leftOver (m ((c.tc).loc main_arg9)) k e := by
  simp only [V, hostOps0, List.flatten_cons, List.flatten_nil, List.cons_append, List.nil_append, List.append_nil]
  after_results_simp
  pointwise [leftOver]

/-- The normalisation's scale, in one row. -/
theorem gain_at (k : Fin 1024) : V m c main_v8 (ix2 0 k) = m ((c.tc).loc main_arg7) (ix1 k) := by
  simp only [V, hostOps0, List.flatten_cons, List.flatten_nil, List.cons_append, List.nil_append, List.append_nil]
  after_results_simp
  pointwise

/-- The normalisation's shift, in one row. -/
theorem shift_at (k : Fin 1024) : V m c main_v9 (ix2 0 k) = m ((c.tc).loc main_arg8) (ix1 k) := by
  simp only [V, hostOps0, List.flatten_cons, List.flatten_nil, List.cons_append, List.nil_append, List.append_nil]
  after_results_simp
  pointwise

theorem wa_at (j : Fin 512) (k : Fin 1024) : V m c main_v0 (ix2 j k) = m ((c.tc).loc main_arg4) (ix2 j k) := by
  simp only [V, hostOps0, List.flatten_cons, List.flatten_nil, List.cons_append, List.nil_append, List.append_nil]
  after_results_simp
  pointwise
theorem wf_at (j : Fin 512) (k : Fin 1024) : V m c main_v1 (ix2 j k) = m ((c.tc).loc main_arg5) (ix2 j k) := by
  simp only [V, hostOps0, List.flatten_cons, List.flatten_nil, List.cons_append, List.nil_append, List.append_nil]
  after_results_simp
  pointwise
theorem wo_at (j : Fin 1024) (k : Fin 1024) : V m c main_v2 (ix2 j k) = m ((c.tc).loc main_arg6) (ix2 j k) := by
  simp only [V, hostOps0, List.flatten_cons, List.flatten_nil, List.cons_append, List.nil_append, List.append_nil]
  after_results_simp
  pointwise

theorem idx0 : ∀ t : Fin cfg0.N, win0_0.index t = ![(t : ℕ), 0] := (by decide +kernel : ∀ t : Fin grid0.N, _)
theorem idx1 : ∀ t : Fin cfg0.N, win0_1.index t = ![(t : ℕ), 0] := (by decide +kernel : ∀ t : Fin grid0.N, _)
theorem idx2 : ∀ t : Fin cfg0.N, win0_2.index t = ![(t : ℕ), 0] := (by decide +kernel : ∀ t : Fin grid0.N, _)
theorem idx3 : ∀ t : Fin cfg0.N, win0_3.index t = ![(t : ℕ), 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(t : ℕ), 0] := (by decide +kernel : ∀ t : Fin grid0.N, _)
theorem idx12 : ∀ t : Fin cfg0.N, win0_12.index t = ![(t : ℕ), 0] := (by decide +kernel : ∀ t : Fin grid0.N, _)
theorem idx13 : ∀ t : Fin cfg0.N, win0_13.index t = ![0, (t : ℕ)] := (by decide +kernel : ∀ t : Fin grid0.N, _)

/-- The row of the arrays that a row of a point's block is. -/
abbrev rowOf (r : Fin 1024) : Fin 33792 := ⟨(t : ℕ) * 1024 + r, by have := point_lt t; omega⟩

theorem iblk0 (r : Fin 1024) (k : Fin 512) : iblk m c 0 t (ix2 r k) = m ((c.tc).loc main_arg0) (ix2 (rowOf t r) k) := by
  blk_point [iblk, V, idx0 t]
theorem iblk1 (r : Fin 1024) (k : Fin 512) : iblk m c 1 t (ix2 r k) = m ((c.tc).loc main_arg1) (ix2 (rowOf t r) k) := by
  blk_point [iblk, V, idx1 t]
theorem iblk2 (r : Fin 1024) (k : Fin 2048) : iblk m c 2 t (ix2 r k) = m ((c.tc).loc main_arg2) (ix2 (rowOf t r) k) := by
  blk_point [iblk, V, idx2 t]
theorem iblk3 (r : Fin 1024) (k : Fin 1024) : iblk m c 3 t (ix2 r k) = m ((c.tc).loc main_arg3) (ix2 (rowOf t r) k) := by
  blk_point [iblk, V, idx3 t]
theorem iblk4 (j : Fin 512) (k : Fin 1024) : iblk m c 4 t (ix2 j k) = m ((c.tc).loc main_arg4) (ix2 j k) := by
  refine Eq.trans ?_ (wa_at m c j k)
  blk_point [iblk, idx4 t]
theorem iblk5 (j : Fin 512) (k : Fin 1024) : iblk m c 5 t (ix2 j k) = m ((c.tc).loc main_arg5) (ix2 j k) := by
  refine Eq.trans ?_ (wf_at m c j k)
  blk_point [iblk, idx5 t]
theorem iblk6 (j : Fin 1024) (k : Fin 1024) : iblk m c 6 t (ix2 j k) = m ((c.tc).loc main_arg6) (ix2 j k) := by
  refine Eq.trans ?_ (wo_at m c j k)
  blk_point [iblk, idx6 t]
theorem iblk7 (k : Fin 1024) : iblk m c 7 t (ix2 0 k) = m ((c.tc).loc main_arg7) (ix1 k) := by
  refine Eq.trans ?_ (gain_at m c k)
  blk_point [iblk, idx7 t]
theorem iblk8 (k : Fin 1024) : iblk m c 8 t (ix2 0 k) = m ((c.tc).loc main_arg8) (ix1 k) := by
  refine Eq.trans ?_ (shift_at m c k)
  blk_point [iblk, idx8 t]
theorem iblk9 (e : Fin 16) (k : Fin 1024) : iblk m c 9 t (ix2 e k) = m ((c.tc).loc main_arg9) (ix2 k e) := by
  refine Eq.trans ?_ (router_at m c e k)
  blk_point [iblk, idx9 t]
theorem iblk10 (e : Fin 16) (k : Fin 1024) : iblk m c 10 t (ix2 e k) = leftOver (m ((c.tc).loc main_arg9)) k e := by
  refine Eq.trans ?_ (left_at m c e k)
  blk_point [iblk, idx10 t]

/-- The reference's normalised rows over the arguments at launch. -/
def rowsOf : FVec Ideal Cert.OutRefIdeal.S33792x1024 .f32 :=
  rows (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8))

/-- A row of a point's tile before normalisation is the reference's. -/
theorem xRow_at (r n : Fin 1024) : xRow (iblk m c 0 t) (iblk m c 1 t) (iblk m c 2 t) (iblk m c 3 t) (iblk m c 4 t) (iblk m c 5 t) (iblk m c 6 t) r n
    = totalR (m ((c.tc).loc main_arg3)) (mergedR (m ((c.tc).loc main_arg0)) (m ((c.tc).loc main_arg1)) (m ((c.tc).loc main_arg2))
      (m ((c.tc).loc main_arg4)) (m ((c.tc).loc main_arg5))) (m ((c.tc).loc main_arg6)) (ix2 (rowOf t r) n) := by
  rw [totalR_at]
  refine total_of (iblk3 m c t r n) (Finset.sum_congr rfl fun j _ => congrArg₂ (· * ·) ?_ (iblk6 m c t j n))
  rw [mergedR_at]
  refine merged_of (iblk2 m c t r _) (Finset.sum_congr rfl fun i _ => congrArg₂ (· * ·) (iblk0 m c t r i) (iblk4 m c t i j))
    (iblk2 m c t r _) (Finset.sum_congr rfl fun i _ => congrArg₂ (· * ·) (iblk1 m c t r i) (iblk5 m c t i j))

/-- A normalised row of a point's tile is the reference's. -/
theorem yRow_at (r n : Fin 1024) : yRow (iblk m c 0 t) (iblk m c 1 t) (iblk m c 2 t) (iblk m c 3 t) (iblk m c 4 t) (iblk m c 5 t) (iblk m c 6 t) (iblk m c 7 t) (iblk m c 8 t) r n
    = rowsOf m c (ix2 (rowOf t r) n) := by
  unfold rowsOf rows
  rw [normR_at]
  exact normed_congr (fun k => xRow_at m c t r k) (fun k => iblk7 m c t k) (fun k => iblk8 m c t k) n

/-- Finite scale, shift and router weights. -/
structure Finite : Prop where
  gain : ∀ k : Fin 1024, ∃ γ : ℝ, m ((c.tc).loc main_arg7) (ix1 k) = (γ : EReal)
  shift : ∀ k : Fin 1024, ∃ β : ℝ, m ((c.tc).loc main_arg8) (ix1 k) = (β : EReal)
  router : ∀ (k : Fin 1024) (e : Fin 16), ∃ ω : ℝ, m ((c.tc).loc main_arg9) (ix2 k e) = (ω : EReal)

/-- An expert's logit for a row of a point's tile is the reference's. -/
theorem lg_at (hf : Finite m c) (r : Fin 1024) (e : Fin 16) : lg (iblk m c 9 t) (iblk m c 10 t) (iblk m c 9 t)
      (yRow (iblk m c 0 t) (iblk m c 1 t) (iblk m c 2 t) (iblk m c 3 t) (iblk m c 4 t) (iblk m c 5 t) (iblk m c 6 t) (iblk m c 7 t) (iblk m c 8 t) r) e
    = logitsR (rowsOf m c) (m ((c.tc).loc main_arg9)) (ix2 (rowOf t r) e) := by
  rw [logitsR_at, show (yRow (iblk m c 0 t) (iblk m c 1 t) (iblk m c 2 t) (iblk m c 3 t) (iblk m c 4 t) (iblk m c 5 t) (iblk m c 6 t) (iblk m c 7 t) (iblk m c 8 t) r)
    = fun n => rowsOf m c (ix2 (rowOf t r) n) from funext fun n => yRow_at m c t r n]
  refine Eq.trans ?_ (split_logit (fun k => m ((c.tc).loc main_arg9) (ix2 k e)) (fun k => rowsOf m c (ix2 (rowOf t r) k)) (fun k => hf.router k e) (fun k => ?_))
  · unfold lg
    refine congrArg₂ (· + ·) (congrArg₂ (· + ·) ?_ ?_) ?_
    · exact Finset.sum_congr rfl fun k _ => congrArg (· * _) (iblk9 m c t e k)
    · exact Finset.sum_congr rfl fun k _ => congrArg (· * _) (iblk10 m c t e k)
    · exact Finset.sum_congr rfl fun k _ => congrArg (· * _) (iblk9 m c t e k)
  · unfold rowsOf rows
    rw [normR_at]
    exact normed_real _ _ _ k (hf.gain k) (hf.shift k)

theorem final11 : (dats m 0 c).arrAt 11 (cfgs 0).N = rows (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) := by
  show _ = rowsOf m c
  refine (dats m 0 c).arrAt_eq_of_covers 11 _ (by decide +kernel) fun t hf' y => ?_
  blk_simp
  rw [after0_11]
  obtain ⟨r, n, rfl⟩ : ∃ (r : Fin 1024) (n : Fin 1024), y = ix2 r n := ⟨y 0, y 1, eq_ix2 y⟩
  refine ((out11_at _ _ _ _ _ _ _ _ _ _ _ (ix2 r n)).trans (yRow_at m c t r n)).trans ?_
  blk_ext [idx11 t]

theorem final12 : (dats m 0 c).arrAt 12 (cfgs 0).N = rowsBf (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) := by
  refine (dats m 0 c).arrAt_eq_of_covers 12 _ (by decide +kernel) fun t hf' y => ?_
  blk_simp
  rw [after0_12]
  obtain ⟨r, n, rfl⟩ : ∃ (r : Fin 1024) (n : Fin 1024), y = ix2 r n := ⟨y 0, y 1, eq_ix2 y⟩
  refine ((out12_at _ _ _ _ _ _ _ _ _ _ _ (ix2 r n)).trans (yRow_at m c t r n)).trans ?_
  show rowsOf m c _ = rowsOf m c _
  blk_ext [idx12 t]

theorem final13 (hf : Finite m c) : (dats m 0 c).arrAt 13 (cfgs 0).N = affinity (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) (m ((c.tc).loc main_arg9)) := by
  refine (dats m 0 c).arrAt_eq_of_covers 13 _ (by decide +kernel) fun t hf' y => ?_
  blk_simp
  rw [after0_13]
  obtain ⟨e, r, rfl⟩ : ∃ (e : Fin 16) (r : Fin 1024), y = ix2 e r := ⟨y 0, y 1, eq_ix2 y⟩
  refine (out13_at _ _ _ _ _ _ _ _ _ _ _ (ix2 e r)).trans ?_
  refine (congrArg (fun l => soft l e) (funext fun e => lg_at m c t hf r e)).trans ?_
  unfold affinity
  refine (softR_at (logitsR (rowsOf m c) (m ((c.tc).loc main_arg9))) (rowOf t r) e).symm.trans ?_
  show softR (logitsR (rowsOf m c) (m ((c.tc).loc main_arg9))) _ = softR (logitsR (rowsOf m c) (m ((c.tc).loc main_arg9))) _
  generalize softR (logitsR (rowsOf m c) (m ((c.tc).loc main_arg9))) = s
  blk_ext [idx13 t]

/-- The precondition, as finite scale, shift and router weights. -/
theorem finite_of (h : ∀ i, (Cert.Pre_finite_router.fn (F := Ideal) (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) (m ((c.tc).loc main_arg9))).1 i = 1#1)
    (h1 : ∀ i, (Cert.Pre_finite_router.fn (F := Ideal) (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) (m ((c.tc).loc main_arg9))).2.1 i = 1#1)
    (h2 : ∀ i, (Cert.Pre_finite_router.fn (F := Ideal) (m ((c.tc).loc main_arg0)) (m ((c.tc).loc main_arg1)) (m ((c.tc).loc main_arg2)) (m ((c.tc).loc main_arg3)) (m ((c.tc).loc main_arg4)) (m ((c.tc).loc main_arg5)) (m ((c.tc).loc main_arg6)) (m ((c.tc).loc main_arg7)) (m ((c.tc).loc main_arg8)) (m ((c.tc).loc main_arg9))).2.2 i = 1#1) : Finite m c :=
  ⟨fun k => Cert.AttnIdeal.Value.real_of_below _ (h (ix1 k)), fun k => Cert.AttnIdeal.Value.real_of_below _ (h1 (ix1 k)), fun k e => Cert.AttnIdeal.Value.real_of_below _ (h2 (ix2 k e))⟩

end Cert.OutIdeal.Value

end
-- ==== Proof.EmbRef.lean ====
/- The first norm: what the reference's result holds at an index. -/
module

public import proofs.«01_k».proof.Proof.Gen.EmbRefIdeal.Run
public import proofs.«01_k».proof.Proof.OutSpec
public import proofs.«01_k».proof.Proof.Words

@[expose] public section

set_option maxRecDepth 16384

noncomputable section

namespace Cert.EmbRefIdeal.Value

open Cert.EmbRefIdeal Cert.EmbRefIdeal.Gen Idealize.ShloMosaic Idealize.ShloMosaic.TcCoe Idealize.SL.Sem Cert.Mixers

/-- The meta tokens before every sequence. -/
def joined (x : FVec Ideal S8x4096x1024 .f32) (e : FVec Ideal S16x1024 .f32) : FVec Ideal S8x4112x1024 .f32 :=
  concatenate S8x4112x1024 1 [⟨S8x16x1024, broadcastInDim S8x16x1024 ![0, 1, 2] bcast_S1x16x1024_S8x16x1024_0_1_2 (broadcastInDim S1x16x1024 ![1, 2] bcast_S16x1024_S1x16x1024_1_2 e)⟩, ⟨S8x4096x1024, x⟩] concatenates_S8x16x1024_S8x4096x1024_S8x4112x1024_d1

theorem joined_at (x : FVec Ideal S8x4096x1024 .f32) (e : FVec Ideal S16x1024 .f32) (b : Fin 8) (l : Fin 4112) (n : Fin 1024) :
    joined x e (ix3 b l n) = if h : (l : ℕ) < 16 then e (ix2 ⟨l, h⟩ n) else x (ix3 b ⟨l - 16, by omega⟩ n) := by
  pointwise [joined]

/-- The rows' means. -/
def meanE (x : FVec Ideal S8x4112x1024 .f32) : FVec Ideal S8x4112x1 .f32 :=
  Host.divf (broadcastInDim S8x4112x1 ![0, 1] bcast_S8x4112_S8x4112x1_0_1 (Host.reduceAdd x (constant S_ .f32 0x00000000#32) reducesTo_S8x4112x1024_S8x4112_d2 h_S_)) (broadcastInDim S8x4112x1 ![] bcast_S_S8x4112x1 (constant S_ .f32 0x44800000#32))

theorem meanE_at (x : FVec Ideal S8x4112x1024 .f32) (b : Fin 8) (l : Fin 4112) : meanE x (ix3 b l 0) = mean fun k => x (ix3 b l k) := by
  pointwise [meanE, mean]

/-- The rows' differences from their means. -/
def centredE (x : FVec Ideal S8x4112x1024 .f32) : FVec Ideal S8x4112x1024 .f32 :=
  subf x (broadcastInDim S8x4112x1024 ![0, 1, 2] bcast_S8x4112x1_S8x4112x1024_0_1_2 (meanE x))

theorem centredE_at (x : FVec Ideal S8x4112x1024 .f32) (b : Fin 8) (l : Fin 4112) (n : Fin 1024) : centredE x (ix3 b l n) = x (ix3 b l n) - mean fun k => x (ix3 b l k) := by
  rw [← meanE_at]
  pointwise [centredE]

/-- The inverses of the rows' deviations. -/
def scaleE (x : FVec Ideal S8x4112x1024 .f32) : FVec Ideal S8x4112x1 .f32 :=
  Host.rsqrt (addf (meanE (mulf (centredE x) (centredE x))) (broadcastInDim S8x4112x1 ![] bcast_S_S8x4112x1 (constant S_ .f32 0x3727C5AC#32)))

theorem scaleE_at (x : FVec Ideal S8x4112x1024 .f32) (b : Fin 8) (l : Fin 4112) : scaleE x (ix3 b l 0) = scale fun k => x (ix3 b l k) := by
  refine Eq.trans (b := Ideal.rsqrt (meanE (mulf (centredE x) (centredE x)) (ix3 b l 0) + Ideal.ofBits .f32 0x3727C5AC#32)) ?_ ?_
  · pointwise [scaleE]
  · rw [meanE_at]
    unfold scale
    refine congrArg (fun z => Ideal.rsqrt (Ideal.div z _ + _)) (Finset.sum_congr rfl fun k _ => ?_)
    exact congrArg₂ (· * ·) (centredE_at x b l k) (centredE_at x b l k)

/-- The normalised rows. -/
def normE (x : FVec Ideal S8x4112x1024 .f32) (g s : FVec Ideal S1024 .f32) : FVec Ideal S8x4112x1024 .f32 :=
  addf (mulf (mulf (centredE x) (broadcastInDim S8x4112x1024 ![0, 1, 2] bcast_S8x4112x1_S8x4112x1024_0_1_2 (scaleE x)))
    (broadcastInDim S8x4112x1024 ![0, 1, 2] bcast_S1x1x1024_S8x4112x1024_0_1_2 (broadcastInDim S1x1x1024 ![2] bcast_S1024_S1x1x1024_2 g)))
    (broadcastInDim S8x4112x1024 ![0, 1, 2] bcast_S1x1x1024_S8x4112x1024_0_1_2 (broadcastInDim S1x1x1024 ![2] bcast_S1024_S1x1x1024_2 s))

theorem normE_at (x : FVec Ideal S8x4112x1024 .f32) (g s : FVec Ideal S1024 .f32) (b : Fin 8) (l : Fin 4112) (n : Fin 1024) :
    normE x g s (ix3 b l n) = normed (fun k => x (ix3 b l k)) (fun k => g (ix1 k)) (fun k => s (ix1 k)) n := by
  unfold normed
  rw [← scaleE_at, ← centredE_at]
  pointwise [normE]

/-- 112 rows of zeros before every sequence. -/
def padded (y : FVec Ideal S8x4112x1024 .f32) : FVec Ideal S8x4224x1024 .f32 :=
  pad S8x4224x1024 ![0, 112, 0] ![0, 0, 0] ![0, 0, 0] y (sitofp .f32 (constantI S_ 32 0#32)) pads_S8x4112x1024_S8x4224x1024_000_11200_000 h_S_

theorem padded_at (y : FVec Ideal S8x4112x1024 .f32) (b : Fin 8) (l : Fin 4224) (n : Fin 1024) :
    padded y (ix3 b l n) = if h : 112 ≤ (l : ℕ) then y (ix3 b ⟨l - 112, by omega⟩ n) else 0 := by
  pointwise [padded]
  by_cases h : 112 ≤ (l : ℕ)
  · rw [dif_pos ⟨h, by omega⟩, dif_pos h]
  · rw [dif_neg fun e => h e.1, dif_neg h]
    show (((0 : ℤ) : ℝ) : EReal) = 0
    simp

/-- The result. -/
def embedded (x : FVec Ideal S8x4096x1024 .f32) (e : FVec Ideal S16x1024 .f32) (g s : FVec Ideal S1024 .f32) : FVec Ideal S8x4224x1024 .f32 :=
  padded (normE (joined x e) g s)

/-- The reference's run: its result over the arguments. -/
theorem run_embedded (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = embedded (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.EmbRefIdeal.Value

end
-- ==== Proof.EmbTile.lean ====
/- The first norm, one tile: what the kernel leaves in its output block, over its input blocks. -/
module

public import proofs.«01_k».proof.Proof.Gen.EmbIdeal.Value
public import proofs.«01_k».proof.Proof.OutSpec
public import proofs.«01_k».proof.Proof.Words

@[expose] public section

set_option maxRecDepth 16384

noncomputable section

namespace Cert.EmbIdeal.Value

open Cert.EmbIdeal Cert.EmbIdeal.Gen Idealize.ShloMosaic Idealize.ShloMosaic.TcCoe Idealize.SL.Sem Cert.Mixers

theorem pay5_at (v : Vec Ideal S1x128x1024 .f32) (g b : Vec Ideal S1x1024 .f32) (r : Fin 128) (n : Fin 1024) :
    k0_pay5 v g b (ix3 0 r n) = normed (fun k => v (ix3 0 r k)) (fun k => g (ix2 0 k)) (fun k => b (ix2 0 k)) n := by
  pointwise [k0_pay5, normed, scale, mean]

theorem pay3_at (v : Vec Ideal S16x1024 .f32) (g b : Vec Ideal S1x1024 .f32) (r : Fin 16) (n : Fin 1024) :
    k0_pay3 v g b (ix3 0 r n) = normed (fun k => v (ix2 r k)) (fun k => g (ix2 0 k)) (fun k => b (ix2 0 k)) n := by
  pointwise [k0_pay3, normed, scale, mean]

theorem pay2_at (x : S1x112x1024.Idx) : k0_pay2 (F := Ideal) x = 0 := by
  pointwise [k0_pay2]

variable (v : Vec Ideal S1x128x1024 .f32) (g b : Vec Ideal S1x1024 .f32)

theorem pay1_eq : k0_pay1 (k0_pay30 v) (k0_pay31 g) (k0_pay32 b) = k0_pay5 v g b := rfl
theorem pay4_eq : k0_pay4 v g b = k0_pay5 v g b := rfl
theorem pay9_eq : k0_pay9 (k0_pay6 v) (k0_pay7 g) (k0_pay8 b) = k0_pay5 v g b := rfl
theorem pay14_eq : k0_pay14 (k0_pay10 g) (k0_pay11 b) (k0_pay12 v) (k0_pay13 v) = k0_pay5 v g b := rfl
theorem pay16_eq : k0_pay16 (k0_pay15 v g b) = k0_pay5 v g b := rfl
theorem pay17_eq : k0_pay17 v g b = k0_pay5 v g b := rfl
theorem pay21_eq : k0_pay21 (k0_pay18 v) (k0_pay19 g) (k0_pay20 b) = k0_pay5 v g b := rfl
theorem pay26_eq : k0_pay26 (k0_pay22 g) (k0_pay23 b) (k0_pay24 v) (k0_pay25 v) = k0_pay5 v g b := rfl
theorem pay28_eq : k0_pay28 (k0_pay27 v g b) = k0_pay5 v g b := rfl
theorem pay29_eq : k0_pay29 v g b = k0_pay5 v g b := rfl

end Cert.EmbIdeal.Value

end
-- ==== Proof.EmbResult.lean ====
/- The first norm, the whole array: the operands the host prepares, and every block the kernel writes is the reference's. -/
module

public import proofs.«01_k».proof.Proof.EmbRef
public import proofs.«01_k».proof.Proof.EmbTile

@[expose] public section

set_option maxRecDepth 16384

noncomputable section

namespace Cert.EmbIdeal.Value

open Cert.EmbIdeal Cert.EmbIdeal.Gen Idealize.ShloMosaic Idealize.ShloMosaic.TcCoe Idealize.SL.Sem Cert.Mixers
open Cert.EmbRefIdeal.Value (joined joined_at normE normE_at padded padded_at embedded)

variable (m : (ℓ : Loc nD τ sig) → Buf (Elt Ideal) ℓ) (c : Dev nD) (t : Fin cfg0.N)

/-- The sequence of a grid point. -/
def seqOf : Fin 8 := ⟨(t : ℕ) / 3, by have h := t.isLt; have e : cfg0.N = 24 := rfl; omega⟩

/-- The block of a sequence that window `k` stages: the one before the tile's, and so on, from the first. -/
def rowBlock (k : ℕ) (hk : k < 11) : Fin 32 := ⟨11 * ((t : ℕ) % 3) + k - 1, by omega⟩

/-- The norm's scale, in one row. -/
theorem gain_at (k : Fin 1024) : V m c main_v0 (ix2 0 k) = m ((c.tc).loc main_arg2) (ix1 k) := by
  simp only [V, hostOps0, List.flatten_cons, List.flatten_nil, List.cons_append, List.nil_append, List.append_nil]
  after_results_simp
  pointwise

/-- The norm's shift, in one row. -/
theorem shift_at (k : Fin 1024) : V m c main_v1 (ix2 0 k) = m ((c.tc).loc main_arg3) (ix1 k) := by
  simp only [V, hostOps0, List.flatten_cons, List.flatten_nil, List.cons_append, List.nil_append, List.append_nil]
  after_results_simp
  pointwise

theorem idx0 : ∀ t : Fin cfg0.N, win0_0.index t = ![(seqOf t : ℕ), (rowBlock t 0 (by decide) : ℕ), 0] := (by decide +kernel : ∀ t : Fin grid0.N, _)
theorem idx1 : ∀ t : Fin cfg0.N, win0_1.index t = ![(seqOf t : ℕ), (rowBlock t 1 (by decide) : ℕ), 0] := (by decide +kernel : ∀ t : Fin grid0.N, _)
theorem idx2 : ∀ t : Fin cfg0.N, win0_2.index t = ![(seqOf t : ℕ), (rowBlock t 2 (by decide) : ℕ), 0] := (by decide +kernel : ∀ t : Fin grid0.N, _)
theorem idx3 : ∀ t : Fin cfg0.N, win0_3.index t = ![(seqOf t : ℕ), (rowBlock t 3 (by decide) : ℕ), 0] := (by decide +kernel : ∀ t : Fin grid0.N, _)
theorem idx4 : ∀ t : Fin cfg0.N, win0_4.index t = ![(seqOf t : ℕ), (rowBlock t 4 (by decide) : ℕ), 0] := (by decide +kernel : ∀ t : Fin grid0.N, _)
theorem idx5 : ∀ t : Fin cfg0.N, win0_5.index t = ![(seqOf t : ℕ), (rowBlock t 5 (by decide) : ℕ), 0] := (by decide +kernel : ∀ t : Fin grid0.N, _)
theorem idx6 : ∀ t : Fin cfg0.N, win0_6.index t = ![(seqOf t : ℕ), (rowBlock t 6 (by decide) : ℕ), 0] := (by decide +kernel : ∀ t : Fin grid0.N, _)
theorem idx7 : ∀ t : Fin cfg0.N, win0_7.index t = ![(seqOf t : ℕ), (rowBlock t 7 (by decide) : ℕ), 0] := (by decide +kernel : ∀ t : Fin grid0.N, _)
theorem idx8 : ∀ t : Fin cfg0.N, win0_8.index t = ![(seqOf t : ℕ), (rowBlock t 8 (by decide) : ℕ), 0] := (by decide +kernel : ∀ t : Fin grid0.N, _)
theorem idx9 : ∀ t : Fin cfg0.N, win0_9.index t = ![(seqOf t : ℕ), (rowBlock t 9 (by decide) : ℕ), 0] := (by decide +kernel : ∀ t : Fin grid0.N, _)
theorem idx10 : ∀ t : Fin cfg0.N, win0_10.index t = ![(seqOf t : ℕ), (rowBlock t 10 (by decide) : ℕ), 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![(seqOf t : ℕ), (t : ℕ) % 3, 0] := (by decide +kernel : ∀ t : Fin grid0.N, _)

/-- A row of a block of a sequence. -/
def xAt (k : ℕ) (hk : k < 11) (r : Fin 128) (l : Fin 1024) : EReal :=
  m ((c.tc).loc main_arg0) (ix3 (seqOf t) ⟨(rowBlock t k hk : ℕ) * 128 + r, by have := (rowBlock t k hk).isLt; omega⟩ l)

theorem iblk0 (r : Fin 128) (l : Fin 1024) : iblk m c 0 t (ix3 0 r l) = xAt m c t 0 (by decide) r l := by
  unfold xAt
  blk_point [iblk, V, idx0 t]
theorem iblk1 (r : Fin 128) (l : Fin 1024) : iblk m c 1 t (ix3 0 r l) = xAt m c t 1 (by decide) r l := by
  unfold xAt
  blk_point [iblk, V, idx1 t]
theorem iblk2 (r : Fin 128) (l : Fin 1024) : iblk m c 2 t (ix3 0 r l) = xAt m c t 2 (by decide) r l := by
  unfold xAt
  blk_point [iblk, V, idx2 t]
theorem iblk3 (r : Fin 128) (l : Fin 1024) : iblk m c 3 t (ix3 0 r l) = xAt m c t 3 (by decide) r l := by
  unfold xAt
  blk_point [iblk, V, idx3 t]
theorem iblk4 (r : Fin 128) (l : Fin 1024) : iblk m c 4 t (ix3 0 r l) = xAt m c t 4 (by decide) r l := by
  unfold xAt
  blk_point [iblk, V, idx4 t]
theorem iblk5 (r : Fin 128) (l : Fin 1024) : iblk m c 5 t (ix3 0 r l) = xAt m c t 5 (by decide) r l := by
  unfold xAt
  blk_point [iblk, V, idx5 t]
theorem iblk6 (r : Fin 128) (l : Fin 1024) : iblk m c 6 t (ix3 0 r l) = xAt m c t 6 (by decide) r l := by
  unfold xAt
  blk_point [iblk, V, idx6 t]
theorem iblk7 (r : Fin 128) (l : Fin 1024) : iblk m c 7 t (ix3 0 r l) = xAt m c t 7 (by decide) r l := by
  unfold xAt
  blk_point [iblk, V, idx7 t]
theorem iblk8 (r : Fin 128) (l : Fin 1024) : iblk m c 8 t (ix3 0 r l) = xAt m c t 8 (by decide) r l := by
  unfold xAt
  blk_point [iblk, V, idx8 t]
theorem iblk9 (r : Fin 128) (l : Fin 1024) : iblk m c 9 t (ix3 0 r l) = xAt m c t 9 (by decide) r l := by
  unfold xAt
  blk_point [iblk, V, idx9 t]
theorem iblk10 (r : Fin 128) (l : Fin 1024) : iblk m c 10 t (ix3 0 r l) = xAt m c t 10 (by decide) r l := by
  unfold xAt
  blk_point [iblk, V, idx10 t]
theorem iblk11 (r : Fin 16) (l : Fin 1024) : iblk m c 11 t (ix2 r l) = m ((c.tc).loc main_arg1) (ix2 r l) := by
  blk_point [iblk, V, idx11 t]
theorem iblk12 (k : Fin 1024) : iblk m c 12 t (ix2 0 k) = m ((c.tc).loc main_arg2) (ix1 k) := by
  refine Eq.trans ?_ (gain_at m c k)
  blk_point [iblk, idx12 t]
theorem iblk13 (k : Fin 1024) : iblk m c 13 t (ix2 0 k) = m ((c.tc).loc main_arg3) (ix1 k) := by
  refine Eq.trans ?_ (shift_at m c k)
  blk_point [iblk, idx13 t]

theorem normed_eq {x x' g g' b b' : Fin 1024 → EReal} (hx : ∀ k, x k = x' k) (hg : ∀ k, g k = g' k) (hb : ∀ k, b k = b' k) (n : Fin 1024) :
    normed x g b n = normed x' g' b' n := by
  rw [funext hx, funext hg, funext hb]

/-- The reference's result over the arguments at launch, and the block of it that a grid point writes. -/
def resultOf : FVec Ideal Cert.EmbRefIdeal.S8x4224x1024 .f32 :=
  embedded (m ((c.tc).loc main_arg0)) (m ((c.tc).loc main_arg1)) (m ((c.tc).loc main_arg2)) (m ((c.tc).loc main_arg3))

def blockRow (l : Fin 1408) (n : Fin 1024) : EReal := resultOf m c (ix3 (seqOf t) ⟨(t : ℕ) % 3 * 1408 + l, by omega⟩ n)

/-- A block of 128 rows of a tile, all of the sequence. -/
theorem rows_eq (k : ℕ) (hk : k < 11) (h : 1 ≤ (t : ℕ) % 3 ∨ 1 ≤ k) (v : Vec Ideal S1x128x1024 .f32) (hv : ∀ r l, v (ix3 0 r l) = xAt m c t k hk r l)
    (x : S1x128x1024.Idx) (l : Fin 1408) (j : Fin 1024) (h1 : (l : ℕ) = 128 * k + x 1) (h2 : (j : ℕ) = x 2) :
    k0_pay5 v (iblk m c 12 t) (iblk m c 13 t) x = blockRow m c t l j := by
  obtain ⟨r, n, rfl⟩ : ∃ (r : Fin 128) (n : Fin 1024), x = ix3 0 r n := ⟨x 1, x 2,
    (eq_ix3 x).trans (congrArg (fun z : Fin 1 => ix3 z (x 1) (x 2)) (Subsingleton.elim (α := Fin 1) _ _))⟩
  have h1' : (l : ℕ) = 128 * k + r := h1
  have h2' : j = n := Fin.ext h2
  rw [pay5_at]
  unfold blockRow resultOf embedded
  rw [padded_at, dif_pos (by show 112 ≤ (t : ℕ) % 3 * 1408 + (l : ℕ); omega), normE_at, h2']
  refine normed_eq (fun i => ?_) (iblk12 m c t) (iblk13 m c t) n
  rw [joined_at, dif_neg (by show ¬ (t : ℕ) % 3 * 1408 + (l : ℕ) - 112 < 16; omega), hv]
  unfold xAt
  refine congrArg (fun z => m ((c.tc).loc main_arg0) (ix3 (seqOf t) z i)) (Fin.ext ?_)
  show (11 * ((t : ℕ) % 3) + k - 1) * 128 + r = (t : ℕ) % 3 * 1408 + (l : ℕ) - 112 - 16
  omega

/-- The meta tokens' rows of a sequence's first tile. -/
theorem meta_eq (h : (t : ℕ) % 3 = 0) (x : S1x16x1024.Idx) (l : Fin 1408) (j : Fin 1024) (h1 : (l : ℕ) = 112 + x 1) (h2 : (j : ℕ) = x 2) :
    k0_pay3 (iblk m c 11 t) (iblk m c 12 t) (iblk m c 13 t) x = blockRow m c t l j := by
  obtain ⟨r, n, rfl⟩ : ∃ (r : Fin 16) (n : Fin 1024), x = ix3 0 r n := ⟨x 1, x 2,
    (eq_ix3 x).trans (congrArg (fun z : Fin 1 => ix3 z (x 1) (x 2)) (Subsingleton.elim (α := Fin 1) _ _))⟩
  have h1' : (l : ℕ) = 112 + r := h1
  have h2' : j = n := Fin.ext h2
  have hr := r.isLt
  rw [pay3_at]
  unfold blockRow resultOf embedded
  rw [padded_at, dif_pos (by show 112 ≤ (t : ℕ) % 3 * 1408 + (l : ℕ); omega), normE_at, h2']
  refine normed_eq (fun i => ?_) (iblk12 m c t) (iblk13 m c t) n
  rw [joined_at, dif_pos (by show (t : ℕ) % 3 * 1408 + (l : ℕ) - 112 < 16; omega), iblk11]
  refine congrArg (fun z => m ((c.tc).loc main_arg1) (ix2 z i)) (Fin.ext ?_)
  show (r : ℕ) = (t : ℕ) % 3 * 1408 + (l : ℕ) - 112
  omega

/-- The rows of zeros before a sequence's first tile. -/
theorem zeros_eq (h : (t : ℕ) % 3 = 0) (x : S1x112x1024.Idx) (l : Fin 1408) (j : Fin 1024) (h1 : (l : ℕ) < 112) :
    k0_pay2 (F := Ideal) x = blockRow m c t l j := by
  rw [pay2_at]
  unfold blockRow resultOf embedded
  rw [padded_at, dif_neg (by show ¬ 112 ≤ (t : ℕ) % 3 * 1408 + (l : ℕ); omega)]

set_option maxHeartbeats 2000000 in
/-- What a sequence's first tile leaves in its block. -/
theorem first_tile (h : (t : ℕ) % 3 = 0) (y : S1x1408x1024.Idx) : outsAt0 m c t t.isLt y = blockRow m c t (y 1) (y 2) := by
  rw [outsAt0_A m c t h (by omega)]
  unfold out0_A_14
  frame_out
  canon_tiles x h using View.cover_of_tiledBy _ ![1, 16, 1024] (by sl_kernel_rfl) y
  · exact meta_eq m c t h x _ _ (by omega) (by omega)
  · exact zeros_eq m c t h x _ _ (by omega)
  · exact (congrFun (pay1_eq (iblk m c 10 t) (iblk m c 12 t) (iblk m c 13 t)) x).trans (rows_eq m c t 10 (by decide) (by omega) _ (iblk10 m c t) x _ _ (by omega) (by omega))
  · exact (congrFun (pay29_eq (iblk m c 9 t) (iblk m c 12 t) (iblk m c 13 t)) x).trans (rows_eq m c t 9 (by decide) (by omega) _ (iblk9 m c t) x _ _ (by omega) (by omega))
  · exact (congrFun (pay28_eq (iblk m c 8 t) (iblk m c 12 t) (iblk m c 13 t)) x).trans (rows_eq m c t 8 (by decide) (by omega) _ (iblk8 m c t) x _ _ (by omega) (by omega))
  · exact (congrFun (pay26_eq (iblk m c 7 t) (iblk m c 12 t) (iblk m c 13 t)) x).trans (rows_eq m c t 7 (by decide) (by omega) _ (iblk7 m c t) x _ _ (by omega) (by omega))
  · exact (congrFun (pay21_eq (iblk m c 6 t) (iblk m c 12 t) (iblk m c 13 t)) x).trans (rows_eq m c t 6 (by decide) (by omega) _ (iblk6 m c t) x _ _ (by omega) (by omega))
  · exact (congrFun (pay17_eq (iblk m c 5 t) (iblk m c 12 t) (iblk m c 13 t)) x).trans (rows_eq m c t 5 (by decide) (by omega) _ (iblk5 m c t) x _ _ (by omega) (by omega))
  · exact (congrFun (pay16_eq (iblk m c 4 t) (iblk m c 12 t) (iblk m c 13 t)) x).trans (rows_eq m c t 4 (by decide) (by omega) _ (iblk4 m c t) x _ _ (by omega) (by omega))
  · exact (congrFun (pay14_eq (iblk m c 3 t) (iblk m c 12 t) (iblk m c 13 t)) x).trans (rows_eq m c t 3 (by decide) (by omega) _ (iblk3 m c t) x _ _ (by omega) (by omega))
  · exact (congrFun (pay9_eq (iblk m c 2 t) (iblk m c 12 t) (iblk m c 13 t)) x).trans (rows_eq m c t 2 (by decide) (by omega) _ (iblk2 m c t) x _ _ (by omega) (by omega))
  · exact (rows_eq m c t 1 (by decide) (by omega) _ (iblk1 m c t) x _ _ (by omega) (by omega))

set_option maxHeartbeats 2000000 in
/-- What a later tile leaves in its block. -/
theorem later_tile (h : 1 ≤ (t : ℕ) % 3) (y : S1x1408x1024.Idx) : outsAt0 m c t t.isLt y = blockRow m c t (y 1) (y 2) := by
  rw [outsAt0_B m c t (by omega) h]
  unfold out0_B_14
  frame_out
  canon_tiles x h
  · exact (congrFun (pay4_eq (iblk m c 0 t) (iblk m c 12 t) (iblk m c 13 t)) x).trans (rows_eq m c t 0 (by decide) (by omega) _ (iblk0 m c t) x _ _ (by omega) (by omega))
  · exact (congrFun (pay1_eq (iblk m c 10 t) (iblk m c 12 t) (iblk m c 13 t)) x).trans (rows_eq m c t 10 (by decide) (by omega) _ (iblk10 m c t) x _ _ (by omega) (by omega))
  · exact (congrFun (pay29_eq (iblk m c 9 t) (iblk m c 12 t) (iblk m c 13 t)) x).trans (rows_eq m c t 9 (by decide) (by omega) _ (iblk9 m c t) x _ _ (by omega) (by omega))
  · exact (congrFun (pay28_eq (iblk m c 8 t) (iblk m c 12 t) (iblk m c 13 t)) x).trans (rows_eq m c t 8 (by decide) (by omega) _ (iblk8 m c t) x _ _ (by omega) (by omega))
  · exact (congrFun (pay26_eq (iblk m c 7 t) (iblk m c 12 t) (iblk m c 13 t)) x).trans (rows_eq m c t 7 (by decide) (by omega) _ (iblk7 m c t) x _ _ (by omega) (by omega))
  · exact (congrFun (pay21_eq (iblk m c 6 t) (iblk m c 12 t) (iblk m c 13 t)) x).trans (rows_eq m c t 6 (by decide) (by omega) _ (iblk6 m c t) x _ _ (by omega) (by omega))
  · exact (congrFun (pay17_eq (iblk m c 5 t) (iblk m c 12 t) (iblk m c 13 t)) x).trans (rows_eq m c t 5 (by decide) (by omega) _ (iblk5 m c t) x _ _ (by omega) (by omega))
  · exact (congrFun (pay16_eq (iblk m c 4 t) (iblk m c 12 t) (iblk m c 13 t)) x).trans (rows_eq m c t 4 (by decide) (by omega) _ (iblk4 m c t) x _ _ (by omega) (by omega))
  · exact (congrFun (pay14_eq (iblk m c 3 t) (iblk m c 12 t) (iblk m c 13 t)) x).trans (rows_eq m c t 3 (by decide) (by omega) _ (iblk3 m c t) x _ _ (by omega) (by omega))
  · exact (congrFun (pay9_eq (iblk m c 2 t) (iblk m c 12 t) (iblk m c 13 t)) x).trans (rows_eq m c t 2 (by decide) (by omega) _ (iblk2 m c t) x _ _ (by omega) (by omega))
  · exact (rows_eq m c t 1 (by decide) (by omega) _ (iblk1 m c t) x _ _ (by omega) (by omega))

/-- The array the kernel leaves is the reference's result. -/
theorem final14 : (dats m 0 c).arrAt 14 (cfgs 0).N = embedded (m ((c.tc).loc main_arg0)) (m ((c.tc).loc main_arg1)) (m ((c.tc).loc main_arg2)) (m ((c.tc).loc main_arg3)) := by
  show _ = resultOf m c
  refine (dats m 0 c).arrAt_eq_of_covers 14 _ (by decide +kernel) fun t hf' y => ?_
  blk_simp
  rw [after0_14]
  refine Eq.trans (b := blockRow m c t (y 1) (y 2)) ?_ ?_
  · by_cases h : (t : ℕ) % 3 = 0
    · exact first_tile m c t h y
    · exact later_tile m c t (by omega) y
  · unfold blockRow
    generalize resultOf m c = s
    blk_ext [idx14 t]

end Cert.EmbIdeal.Value

end
-- ==== Proof.FouRuns.lean ====
/-
The Fourier transform: the body of the kernel runs, case by case. The stores of the output go to
rows computed from the tile, so nothing is said here of what they leave there. -/
module

public import proofs.«01_k».proof.Proof.Gen.FouIdeal.Launch
public import proofs.«01_k».proof.Proof.Gen.FouIdeal.Skeleton
public import proofs.«01_k».proof.Proof.Gen.FouIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FouFrame

open Cert.FouIdeal Cert.FouIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

/-- The monad of assertions of this program, at one unit of index and natural names. -/
abbrev MM (F : FTy → Type) [FloatOps F] := MT nD τ sig Unit (Elt F) ℕ (UR sig nD τ) ℕ

/-- First tile of a sequence: the folded rows are made. -/
abbrev cond0_0 (i : grid0.Coords) : Prop := (Scalar.cmpi .ne (Scalar.extui (Scalar.cmpi .eq (BitVec.ofNat 32 (i 1).val) 0#32)) 0#32) = 1#1
/-- The first tiles are the points 0, 3, 6 and so on. -/
theorem hcond0_0 : ∀ t : Fin cfg0.N, cond0_0 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- A tile before the last: the mirrored half goes to a later block. -/
abbrev cond0_1 (i : grid0.Coords) : Prop := k0_cond2 i = 1#1
/-- The tiles before the last, by the point. -/
theorem hcond0_1 : ∀ t : Fin cfg0.N, cond0_1 (grid0.coords t) ↔ t.val % 3 ≤ 1 :=
  (by decide +kernel : ∀ t : Fin grid0.N, cond0_1 (grid0.coords t) ↔ t.val % 3 ≤ 1)

/-- The last tile: it meets its own mirror image. -/
abbrev cond0_2 (i : grid0.Coords) : Prop := (Scalar.cmpi .ne (Scalar.extui (Scalar.cmpi .eq (BitVec.ofNat 32 (i 1).val) 2#32)) 0#32) = 1#1
/-- The last tiles, by the point. -/
theorem hcond0_2 : ∀ t : Fin cfg0.N, cond0_2 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_2, e0, e1]
    word_cmp
   : ∀ t : Fin grid0.N, cond0_2 (grid0.coords t) ↔ t.val % 3 = 2)

set_option maxHeartbeats 1000000 in
/-- The body at the first tile of a sequence runs from any contents of the output block and of the scratch, and gives every buffer back; the inputs as they were. -/
theorem runA (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : cond0_0 i) (hc1 : cond0_1 i) (hc2 : ¬cond0_2 i)
    (x0 : Vec F S768x4608 .bf16) (x1 : Vec F S1x4224x512 .bf16) (x2 : Vec F S1x4224x512 .bf16) (E : Set ℕ) (K : PUnit → sProp (MM F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fourier i arg2 harg2 arg3 harg3 arg4 harg4 arg5 harg5 arg6 harg6 arg7 harg7 arg8 harg8) K := by
  simp only [cc0_fourier_eq_skeleton]; unfold cc0_fourier_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr
    swap; · iexact H3
    ipureintro; rfl
  isplitl [HS0]
  · iexists _; iexists _; isplitr
    swap; · iexact HS0
    ipureintro; rfl
  isplitl [HS1]
  · iexists _; iexists _; isplitr
    swap; · iexact HS1
    ipureintro; rfl
  iexists _; iexists _; isplitr
  swap; · iexact HS2
  ipureintro; rfl

set_option maxHeartbeats 1000000 in
/-- The same at the middle tile. -/
theorem runB (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : cond0_1 i) (hc2 : ¬cond0_2 i)
    (x0 : Vec F S768x4608 .bf16) (x1 : Vec F S1x4224x512 .bf16) (x2 : Vec F S1x4224x512 .bf16) (E : Set ℕ) (K : PUnit → sProp (MM F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fourier i arg2 harg2 arg3 harg3 arg4 harg4 arg5 harg5 arg6 harg6 arg7 harg7 arg8 harg8) K := by
  simp only [cc0_fourier_eq_skeleton]; unfold cc0_fourier_skel
  simp only [k0_part10_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr
    swap; · iexact H3
    ipureintro; rfl
  isplitl [HS0]
  · iexists _; iexists _; isplitr
    swap; · iexact HS0
    ipureintro; rfl
  isplitl [HS1]
  · iexists _; iexists _; isplitr
    swap; · iexact HS1
    ipureintro; rfl
  iexists _; iexists _; isplitr
  swap; · iexact HS2
  ipureintro; rfl

set_option maxHeartbeats 1000000 in
/-- The same at the last tile. -/
theorem runC (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : ¬cond0_1 i) (hc2 : cond0_2 i)
    (x0 : Vec F S768x4608 .bf16) (x1 : Vec F S1x4224x512 .bf16) (x2 : Vec F S1x4224x512 .bf16) (E : Set ℕ) (K : PUnit → sProp (MM F)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fourier i arg2 harg2 arg3 harg3 arg4 harg4 arg5 harg5 arg6 harg6 arg7 harg7 arg8 harg8) K := by
  simp only [cc0_fourier_eq_skeleton]; unfold cc0_fourier_skel
  simp only [k0_part10_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr
    swap; · iexact H3
    ipureintro; rfl
  isplitl [HS0]
  · iexists _; iexists _; isplitr
    swap; · iexact HS0
    ipureintro; rfl
  isplitl [HS1]
  · iexists _; iexists _; isplitr
    swap; · iexact HS1
    ipureintro; rfl
  iexists _; iexists _; isplitr
  swap; · iexact HS2
  ipureintro; rfl

end Cert.FouFrame

end

end
-- ==== Proof.FouFrame.lean ====
/- The Fourier transform: the program runs to its end, leaves its argument as it was and every counter at zero. -/
module

public import proofs.«01_k».proof.Proof.FouRuns

@[expose] public section

set_option maxRecDepth 16384

noncomputable section

namespace Cert.FouFrame

open Cert.FouIdeal Cert.FouIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

variable (m : (ℓ : Loc nD τ sig) → Buf (Elt F) ℓ) (ρ : Dev nD → PrngReg)

/-- What the buffers hold when the grid starts: the table is made by then. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program is its host operations and then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of a window at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds the block of input window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds the block of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds the block of input window 2. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S768x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4224x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4224x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4224x512 .bf16 := win0_3.stage (cfg0.slots t 3)
abbrev hs0_3 (t : Fin cfg0.N) : (ms0_3 t).IsWhole := hstage0_3 ((cfg0.slots t 3).cast nbuf0_3)
abbrev scM0_0 : Memref sig .tc .vmem S384x512 .f32 := Memref.whole cc0_scratch0
abbrev scM0_1 : Memref sig .tc .vmem S2304x512 .bf16 := Memref.whole cc0_scratch1
abbrev scM0_2 : Memref sig .tc .vmem S2304x512 .bf16 := Memref.whole cc0_scratch2
/-- The scratch buffers, each at some contents. -/
theorem PhiA0_eq (c : Dev nD) :
    (Pipeline.ΦA spec0 c : sProp (MM F))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The data of the grid: the inputs' blocks as they stand, of the output nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q w := Pipeline.shareOf spec0 w
  owed _ := 0

/-- Only the output's contents are left open. -/
def fgt : Fin cfg0.W → Bool := fun w => match w with
  | ⟨0, _⟩ => false
  | ⟨1, _⟩ => false
  | ⟨2, _⟩ => false
  | ⟨3, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at a point, -/
def bodyPre (c : Dev nD) (t : Fin cfg0.N) : sProp (MM F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it gives back. -/
def bodyPost (c : Dev nD) (t : Fin cfg0.N) : sProp (MM F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2]
  rw [show (dats m 0 c).Φ t.succ = Pipeline.ΦA spec0 c from rfl, show (dats m 0 c).Φ t.castSucc = Pipeline.ΦA spec0 c from rfl, PhiA0_eq]
  by_cases h0 : t.val % 3 = 0
  · have h1 : t.val % 3 ≤ 1 := by omega
    have h2 : ¬t.val % 3 = 2 := by omega
    iintro ⟨⟨⟨HS0, HS1, HS2⟩, Hg⟩, Ho, ⟨%d0, H0⟩, ⟨%d1, H1⟩, ⟨%d2, H2⟩, H3⟩
    iapply (runA c (grid0.coords t) _ _ _ _ _ _ _ _ _ _ _ _ _ _ ((hcond0_0 t).mpr h0) ((hcond0_1 t).mpr h1) (fun h => h2 ((hcond0_2 t).mp h)) (iblk m c 0 t) (iblk m c 1 t) (iblk m c 2 t) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  by_cases h2 : t.val % 3 = 2
  · have h1 : ¬t.val % 3 ≤ 1 := by omega
    iintro ⟨⟨⟨HS0, HS1, HS2⟩, Hg⟩, Ho, ⟨%d0, H0⟩, ⟨%d1, H1⟩, ⟨%d2, H2⟩, H3⟩
    iapply (runC c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  have h1 : t.val % 3 ≤ 1 := by have := Nat.mod_lt t.val (show 0 < 3 by omega); omega
  iintro ⟨⟨⟨HS0, HS1, HS2⟩, Hg⟩, Ho, ⟨%d0, H0⟩, ⟨%d1, H1⟩, ⟨%d2, H2⟩, H3⟩
  iapply (runB c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body meets what the grid asks of it. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The whole program runs, its input arrays as they were, and every counter at zero. -/
theorem run_quiescent : θ_run defs (onTc (τ := τ) (main (F := F))) (s₀ m ρ) (fun r => (RDat.FramePost cfg0 (fun c => (dats m 0 c).toRForget fgt) (V m)) r ∧ r.2.sem = fun _ => 0) :=
  Pipeline.θ_run_frame_track_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m)
    (hin := fun _ => .rfl) (hout := fun _ => .rfl) (hQ' := fun _ h => h)

/-- The program leaves its argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1.arr_in c 2 rfl).trans ((A_eq m c 2).trans (V_main_arg0 m c)), h.2⟩)
    (run_quiescent m ρ)

end Cert.FouFrame

end

end
-- ==== Proof.Same.lean ====
/- The experts' two calls, the two projections and the first norm as launched and as idealized are the same text: their body tables are equal, so one run serves both. -/
module

public import proofs.«01_k».proof.Proof.Gen.Up
public import proofs.«01_k».proof.Proof.Gen.Down
public import proofs.«01_k».proof.Proof.Gen.Inp
public import proofs.«01_k».proof.Proof.Gen.Out
public import proofs.«01_k».proof.Proof.Gen.Emb
public import proofs.«01_k».proof.Proof.Gen.Fou
public import proofs.«01_k».proof.Proof.Gen.UpIdeal.Frame
public import proofs.«01_k».proof.Proof.Gen.DownIdeal.Frame
public import proofs.«01_k».proof.Proof.Gen.InpIdeal.Frame
public import proofs.«01_k».proof.Proof.Gen.OutIdeal.Frame
public import proofs.«01_k».proof.Proof.Gen.EmbIdeal.Frame
public import proofs.«01_k».proof.Proof.FouFrame

@[expose] public section

set_option maxRecDepth 16384

noncomputable section

open Idealize.ShloMosaic Idealize.SL.Sem

namespace Cert.Up

variable {F : FTy → Type} [FloatOps F]

theorem bodies_eq : defs₀ (F := F) = Cert.UpIdeal.defs₀ (F := F) := by
  refine congrArg Defs.onTc (funext fun l => funext fun p => ?_)
  match l, p with
  | 0, (t, s) => rfl

theorem defs_eq : defs (F := F) = Cert.UpIdeal.defs (F := F) :=
  congrArg (Pipeline.defs Cert.UpIdeal.pcfgs) bodies_eq

end Cert.Up

namespace Cert.Down

variable {F : FTy → Type} [FloatOps F]

theorem bodies_eq : defs₀ (F := F) = Cert.DownIdeal.defs₀ (F := F) := by
  refine congrArg Defs.onTc (funext fun l => funext fun p => ?_)
  match l, p with
  | 0, (t, s) => rfl

theorem defs_eq : defs (F := F) = Cert.DownIdeal.defs (F := F) :=
  congrArg (Pipeline.defs Cert.DownIdeal.pcfgs) bodies_eq

end Cert.Down

namespace Cert.Inp

variable {F : FTy → Type} [FloatOps F]

theorem bodies_eq : defs₀ (F := F) = Cert.InpIdeal.defs₀ (F := F) := by
  refine congrArg Defs.onTc (funext fun l => funext fun p => ?_)
  match l, p with
  | 0, (t, s) => rfl

theorem defs_eq : defs (F := F) = Cert.InpIdeal.defs (F := F) :=
  congrArg (Pipeline.defs Cert.InpIdeal.pcfgs) bodies_eq

theorem main_eq : main (F := F) = Cert.InpIdeal.main (F := F) := by
  unfold main Cert.InpIdeal.main
  rfl

end Cert.Inp

namespace Cert.Out

variable {F : FTy → Type} [FloatOps F]

theorem bodies_eq : defs₀ (F := F) = Cert.OutIdeal.defs₀ (F := F) := by
  refine congrArg Defs.onTc (funext fun l => funext fun p => ?_)
  match l, p with
  | 0, (t, s) => rfl

theorem defs_eq : defs (F := F) = Cert.OutIdeal.defs (F := F) :=
  congrArg (Pipeline.defs Cert.OutIdeal.pcfgs) bodies_eq

theorem main_eq : main (F := F) = Cert.OutIdeal.main (F := F) := by
  unfold main Cert.OutIdeal.main
  rfl

end Cert.Out

namespace Cert.Emb

variable {F : FTy → Type} [FloatOps F]

theorem bodies_eq : defs₀ (F := F) = Cert.EmbIdeal.defs₀ (F := F) := by
  refine congrArg Defs.onTc (funext fun l => funext fun p => ?_)
  match l, p with
  | 0, (t, s) => rfl

theorem defs_eq : defs (F := F) = Cert.EmbIdeal.defs (F := F) :=
  congrArg (Pipeline.defs Cert.EmbIdeal.pcfgs) bodies_eq

theorem main_eq : main (F := F) = Cert.EmbIdeal.main (F := F) := by
  unfold main Cert.EmbIdeal.main
  rfl

end Cert.Emb

namespace Cert.Fou

variable {F : FTy → Type} [FloatOps F]

theorem bodies_eq : defs₀ (F := F) = Cert.FouIdeal.defs₀ (F := F) := by
  refine congrArg Defs.onTc (funext fun l => funext fun p => ?_)
  match l, p with
  | 0, (t, s) => rfl

theorem defs_eq : defs (F := F) = Cert.FouIdeal.defs (F := F) :=
  congrArg (Pipeline.defs Cert.FouIdeal.pcfgs) bodies_eq

theorem main_eq : main (F := F) = Cert.FouIdeal.main (F := F) := by
  unfold main Cert.FouIdeal.main
  rfl

end Cert.Fou

end
-- ==== Proof.UpTile.lean ====
/- The experts' first product, one tile: what the kernel computes from its operands, and what the reference holds at an index. -/
module

public import proofs.«01_k».proof.Proof.Gen.UpIdeal.Value
public import proofs.«01_k».proof.Proof.Gen.UpRefIdeal.Run
public import Idealize.ShloMosaic.Lib.Pipeline.ValueKit

@[expose] public section

set_option maxRecDepth 16384

noncomputable section

namespace Cert.UpRefIdeal.Value

open Cert.UpRefIdeal Cert.UpRefIdeal.Gen Idealize.ShloMosaic Idealize.ShloMosaic.TcCoe Idealize.SL.Sem

/-- One of the two products: every row of an expert's slots by that expert's weights of layer 1. -/
def product (x : FVec Ideal S8x16x528x1024 .bf16) (w : FVec Ideal S4x16x1024x1536 .f32) : FVec Ideal S8x16x528x1536 .f32 :=
  transpose S8x16x528x1536 [2, 0, 3, 1] (Host.dotGeneral dot_S16x1024x1536_S8x16x528x1024_S16x1536x8x528_1_3_2_02_0_1 none
    (shapeCast S16x1024x1536 (extractStridedSlice S1x16x1024x1536 ![1, 0, 0, 0] w slices_S4x16x1024x1536_S1x16x1024x1536_1_0_0_0) shapeCasts_S1x16x1024x1536_S16x1024x1536)
    (extf .f32 x bitsLt_bf16_f32)) transposes_S16x1536x8x528_S8x16x528x1536_2_0_3_1

/-- The gated product. -/
def gated (a b : FVec Ideal S8x16x528x1536 .f32) : FVec Ideal S8x16x528x1536 .bf16 :=
  truncf .bf16 (mulf (mulf a (Host.divf (broadcastInDim S8x16x528x1536 ![] bcast_S_S8x16x528x1536 (constant S_ .f32 0x3F800000#32))
    (addf (broadcastInDim S8x16x528x1536 ![] bcast_S_S8x16x528x1536 (constant S_ .f32 0x3F800000#32)) (Host.exp (Host.negf a))))) b) bitsLt_bf16_f32

theorem product_at (x : FVec Ideal S8x16x528x1024 .bf16) (w : FVec Ideal S4x16x1024x1536 .f32) (b : Fin 8) (e : Fin 16) (r : Fin 528) (f : Fin 1536) :
    product x w (ix4 b e r f) = ∑ k : Fin 1024, w (ix4 1 e k f) * x (ix4 b e r k) := by
  pointwise [product]

theorem gated_at (A B : FVec Ideal S8x16x528x1536 .f32) (i : S8x16x528x1536.Idx) :
    gated A B i = A i * Ideal.logistic (A i) * B i := by
  pointwise [gated]
  rfl

/-- The reference's run: its result is the gated product. -/
theorem run_gated (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = gated
          (product (m ((c.tc : Thread nD τ).loc main_arg0)) (m ((c.tc : Thread nD τ).loc main_arg1)))
          (product (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.UpRefIdeal.Value

namespace Cert.UpIdeal.Value

open Cert.UpIdeal Cert.UpIdeal.Gen Idealize.ShloMosaic Idealize.ShloMosaic.TcCoe Idealize.SL.Sem

theorem pay1_at (w : Vec Ideal S1x1x1024x1536 .f32) (k : Fin 1024) (f : Fin 1536) : k0_pay1 (F := Ideal) w (ix2 k f) = w (ix4 0 0 k f) := by
  pointwise [k0_pay1]

theorem pay2_at (w : Vec Ideal S1x1x1024x1536 .f32) (k : Fin 1024) (f : Fin 1536) : k0_pay2 (F := Ideal) w (ix2 k f) = w (ix4 0 0 k f) := by
  pointwise [k0_pay2]

/-- A row of the tile by a column of the weights. -/
def dot (x : Vec Ideal S2x1x528x1024 .bf16) (w : Vec Ideal S1024x1536 .bf16) (s : Fin 2) (r : Fin 528) (f : Fin 1536) : EReal :=
  ∑ k : Fin 1024, w (ix2 k f) * x (ix4 s 0 r k)

theorem pay3_at (x : Vec Ideal S2x1x528x1024 .bf16) (g u : Vec Ideal S1024x1536 .bf16) (s : Fin 2) (r : Fin 528) (f : Fin 1536) :
    k0_pay3 (F := Ideal) x g u (ix4 s 0 r f) = dot x g s r f * Ideal.logistic (dot x g s r f) * dot x u s r f := by
  have e : ∀ w : Vec Ideal S1024x1536 .bf16, dot x w s r f = ∑ k : Fin 1024, (show EReal from x (ix4 s 0 r k)) * w (ix2 k f) :=
    fun w => Finset.sum_congr rfl fun k _ => mul_comm _ _
  rw [e g, e u]
  pointwise [k0_pay3]

end Cert.UpIdeal.Value

end
-- ==== Proof.UpResult.lean ====
/- The experts' first product, the whole array: the weights the scratch carries from point to point are the expert's own, so
   that every block the kernel writes is the reference's. -/
module

public import proofs.«01_k».proof.Proof.UpTile
public import Idealize.ShloMosaic.Lib.Pipeline.ReadBack

@[expose] public section

set_option maxRecDepth 16384

noncomputable section

namespace Cert.UpIdeal.Value

open Cert.UpIdeal Cert.UpIdeal.Gen Idealize.ShloMosaic Idealize.ShloMosaic.TcCoe Idealize.SL.Sem
open Cert.UpRefIdeal.Value (product gated product_at gated_at)

variable (m : (ℓ : Loc nD τ sig) → Buf (Elt Ideal) ℓ) (c : Dev nD) (t : Fin cfg0.N)

theorem point_lt : t.val < 64 := lt_of_lt_of_eq t.isLt N_0

/-- The expert of a point. -/
def expertOf : Fin 16 := ⟨t.val / 4, by have := point_lt t; omega⟩
/-- The pair of sequences of a point. -/
def pairIx : Fin 4 := ⟨t.val % 4, by omega⟩

theorem idx0 : ∀ t : Fin cfg0.N, win0_0.index t = ![(pairIx t : ℕ), (expertOf t : ℕ), 0, 0] := (by decide +kernel : ∀ t : Fin grid0.N, _)
theorem idx1 : ∀ t : Fin cfg0.N, win0_1.index t = ![1, (expertOf t : ℕ), 0, 0] := (by decide +kernel : ∀ t : Fin grid0.N, _)
theorem idx2 : ∀ t : Fin cfg0.N, win0_2.index t = ![1, (expertOf t : ℕ), 0, 0] := (by decide +kernel : ∀ t : Fin grid0.N, _)
theorem idx3 : ∀ t : Fin cfg0.N, win0_3.index t = ![(pairIx t : ℕ), (expertOf t : ℕ), 0, 0] := (by decide +kernel : ∀ t : Fin grid0.N, _)

theorem iblk0 (s : Fin 2) (r : Fin 528) (k : Fin 1024) :
    iblk m c 0 t (ix4 s 0 r k) = m ((c.tc).loc main_arg0) (ix4 ⟨(pairIx t : ℕ) * 2 + s, by have := (pairIx t).isLt; omega⟩ (expertOf t) r k) := by
  blk_point [iblk, V, idx0 t]

theorem iblk1 (k : Fin 1024) (f : Fin 1536) :
    iblk m c 1 t (ix4 0 0 k f) = m ((c.tc).loc main_arg1) (ix4 1 (expertOf t) k f) := by
  blk_point [iblk, V, idx1 t]

theorem iblk2 (k : Fin 1024) (f : Fin 1536) :
    iblk m c 2 t (ix4 0 0 k f) = m ((c.tc).loc main_arg2) (ix4 1 (expertOf t) k f) := by
  blk_point [iblk, V, idx2 t]

/-- Weights held for an expert: those of layer 1, of one of the two arrays. -/
def Held (w : FVec Ideal S4x16x1024x1536 .f32) (e : Fin 16) (s : Vec Ideal S1024x1536 .bf16) : Prop :=
  ∀ (k : Fin 1024) (f : Fin 1536), s (ix2 k f) = w (ix4 1 e k f)

/-- After every point the two scratch buffers hold the weights of the point's expert. -/
theorem held : ∀ (n : ℕ) (hn : n < cfg0.N),
    Held (m ((c.tc).loc main_arg1)) (expertOf ⟨n, hn⟩) (outsAt0 m c n hn).2.1
    ∧ Held (m ((c.tc).loc main_arg2)) (expertOf ⟨n, hn⟩) (outsAt0 m c n hn).2.2 := by
  intro n
  induction n using Nat.strong_induction_on with
  | _ n ih =>
    intro hn
    by_cases h : n % 4 = 0
    · have e := outsAt0_A m c ⟨n, hn⟩ h
      dsimp only at e
      rw [e]
      constructor
      · intro k f
        refine Eq.trans ?_ (iblk1 m c ⟨n, hn⟩ k f)
        frame_out
        rw [pay1_at]
      · intro k f
        refine Eq.trans ?_ (iblk2 m c ⟨n, hn⟩ k f)
        frame_out
        rw [pay2_at]
    · have e := outsAt0_B m c ⟨n, hn⟩ h
      dsimp only at e
      rw [e]
      have hp := ih (n - 1) (by omega) (by omega)
      have he : expertOf ⟨n, hn⟩ = expertOf ⟨n - 1, by omega⟩ := Fin.ext (by show n / 4 = (n - 1) / 4; omega)
      rw [he]
      exact hp

/-- A row of the tile by a held weight column is the reference's product. -/
theorem dot_held (a : FVec Ideal S4x16x1024x1536 .f32) (w : Vec Ideal S1024x1536 .bf16) (hw : Held a (expertOf t) w)
    (s : Fin 2) (r : Fin 528) (f : Fin 1536) :
    dot (iblk m c 0 t) w s r f = product (m ((c.tc).loc main_arg0)) a (ix4 ⟨(pairIx t : ℕ) * 2 + s, by have := (pairIx t).isLt; omega⟩ (expertOf t) r f) := by
  rw [product_at]
  unfold dot
  refine Finset.sum_congr rfl fun k _ => ?_
  rw [hw k f, iblk0]

/-- The reference's array over the arguments at launch. -/
def outOf : FVec Ideal S8x16x528x1536 .bf16 :=
  gated (product (m ((c.tc).loc main_arg0)) (m ((c.tc).loc main_arg1))) (product (m ((c.tc).loc main_arg0)) (m ((c.tc).loc main_arg2)))

/-- The tile over held weights is the reference's block. -/
theorem tile_at (g u : Vec Ideal S1024x1536 .bf16) (hg : Held (m ((c.tc).loc main_arg1)) (expertOf t) g)
    (hu : Held (m ((c.tc).loc main_arg2)) (expertOf t) u) (s : Fin 2) (r : Fin 528) (f : Fin 1536) :
    k0_pay3 (F := Ideal) (iblk m c 0 t) g u (ix4 s 0 r f)
      = outOf m c (ix4 ⟨(pairIx t : ℕ) * 2 + s, by have := (pairIx t).isLt; omega⟩ (expertOf t) r f) := by
  rw [pay3_at, dot_held m c t _ g hg, dot_held m c t _ u hu]
  unfold outOf
  rw [gated_at]

/-- The weights as the first point of an expert stores them. -/
theorem held_pay1 : Held (m ((c.tc).loc main_arg1)) (expertOf t) (k0_pay1 (F := Ideal) (iblk m c 1 t)) := fun k f =>
  (pay1_at _ k f).trans (iblk1 m c t k f)
theorem held_pay2 : Held (m ((c.tc).loc main_arg2)) (expertOf t) (k0_pay2 (F := Ideal) (iblk m c 2 t)) := fun k f =>
  (pay2_at _ k f).trans (iblk2 m c t k f)

/-- What a point leaves in its output block. -/
theorem block_at (s : Fin 2) (r : Fin 528) (f : Fin 1536) :
    (outsAt0 m c t.val t.isLt).1 (ix4 s 0 r f)
      = outOf m c (ix4 ⟨(pairIx t : ℕ) * 2 + s, by have := (pairIx t).isLt; omega⟩ (expertOf t) r f) := by
  by_cases h : t.val % 4 = 0
  · rw [outsAt0_A m c t h]
    frame_out
    exact tile_at m c t _ _ (held_pay1 m c t) (held_pay2 m c t) s r f
  · rw [outsAt0_B m c t h]
    frame_out
    have hN := point_lt t
    have hp := held m c (t.val - 1) (by have := t.isLt; omega)
    have he : expertOf ⟨t.val - 1, by have := t.isLt; omega⟩ = expertOf t := Fin.ext (by show (t.val - 1) / 4 = t.val / 4; omega)
    rw [he] at hp
    rw [read_unread_whole, read_unread_whole]
    exact tile_at m c t _ _ hp.1 hp.2 s r f

/-- The result array after the run. -/
theorem final : (dats m 0 c).arrAt 3 (cfgs 0).N = outOf m c := by
  refine (dats m 0 c).arrAt_eq_of_covers 3 _ (by decide +kernel) fun t hf' y => ?_
  blk_simp
  rw [after0_3]
  obtain ⟨s, z, r, f, rfl⟩ : ∃ (s : Fin 2) (z : Fin 1) (r : Fin 528) (f : Fin 1536), y = ix4 s z r f := ⟨y 0, y 1, y 2, y 3, eq_ix4 y⟩
  obtain rfl : z = 0 := Subsingleton.elim _ _
  refine (block_at m c t s r f).trans ?_
  blk_ext [idx3 t]

end Cert.UpIdeal.Value

end
-- ==== Proof.DownResult.lean ====
/- The experts' second product: what the kernel computes from its operands, what the reference holds at an index, and that the
   array the kernel leaves is the reference's. -/
module

public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack

@[expose] public section

set_option maxRecDepth 16384

noncomputable section

namespace Cert.DownRefIdeal.Value

open Cert.DownRefIdeal Cert.DownRefIdeal.Gen Idealize.ShloMosaic Idealize.ShloMosaic.TcCoe Idealize.SL.Sem

/-- Every row of an expert's slots by that expert's weights of layer 1, times the slot's gate. -/
def weighted (x : FVec Ideal S8x16x528x1536 .bf16) (g : FVec Ideal S8x16x528x1 .f32) (w : FVec Ideal S4x16x1536x1024 .f32) : FVec Ideal S8x16x528x1024 .bf16 :=
  truncf .bf16 (mulf (transpose S8x16x528x1024 [2, 0, 3, 1] (Host.dotGeneral dot_S16x1536x1024_S8x16x528x1536_S16x1024x8x528_1_3_2_02_0_1 none
    (shapeCast S16x1536x1024 (extractStridedSlice S1x16x1536x1024 ![1, 0, 0, 0] w slices_S4x16x1536x1024_S1x16x1536x1024_1_0_0_0) shapeCasts_S1x16x1536x1024_S16x1536x1024)
    (extf .f32 x bitsLt_bf16_f32)) transposes_S16x1024x8x528_S8x16x528x1024_2_0_3_1)
    (broadcastInDim S8x16x528x1024 ![0, 1, 2, 3] bcast_S8x16x528x1_S8x16x528x1024_0_1_2_3 g)) bitsLt_bf16_f32

theorem weighted_at (x : FVec Ideal S8x16x528x1536 .bf16) (g : FVec Ideal S8x16x528x1 .f32) (w : FVec Ideal S4x16x1536x1024 .f32)
    (b : Fin 8) (e : Fin 16) (r : Fin 528) (f : Fin 1024) :
    weighted x g w (ix4 b e r f) = (∑ k : Fin 1536, w (ix4 1 e k f) * x (ix4 b e r k)) * g (ix4 b e r 0) := by
  pointwise [weighted]

/-- The reference's run: its result is the weighted product. -/
theorem run_weighted (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = weighted (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DownRefIdeal.Value

namespace Cert.DownIdeal.Value

open Cert.DownIdeal Cert.DownIdeal.Gen Idealize.ShloMosaic Idealize.ShloMosaic.TcCoe Idealize.SL.Sem
open Cert.DownRefIdeal.Value (weighted weighted_at)

theorem pay1_at (w : Vec Ideal S1x1x1536x1024 .f32) (k : Fin 1536) (f : Fin 1024) : k0_pay1 (F := Ideal) w (ix2 k f) = w (ix4 0 0 k f) := by
  pointwise [k0_pay1]

theorem pay2_at (x : Vec Ideal S4x1x528x1536 .bf16) (w : Vec Ideal S1536x1024 .bf16) (g : Vec Ideal S4x1x528x1 .f32) (s : Fin 4) (r : Fin 528) (f : Fin 1024) :
    k0_pay2 (F := Ideal) x w g (ix4 s 0 r f) = (∑ k : Fin 1536, (show EReal from x (ix4 s 0 r k)) * w (ix2 k f)) * g (ix4 s 0 r 0) := by
  pointwise [k0_pay2]

variable (m : (ℓ : Loc nD τ sig) → Buf (Elt Ideal) ℓ) (c : Dev nD) (t : Fin cfg0.N)

theorem point_lt : t.val < 32 := lt_of_lt_of_eq t.isLt N_0

/-- The expert of a point. -/
def expertOf : Fin 16 := ⟨t.val / 2, by have := point_lt t; omega⟩
/-- Which half of the sequences a point works on. -/
def halfIx : Fin 2 := ⟨t.val % 2, by omega⟩

theorem idx0 : ∀ t : Fin cfg0.N, win0_0.index t = ![(halfIx t : ℕ), (expertOf t : ℕ), 0, 0] := (by decide +kernel : ∀ t : Fin grid0.N, _)
theorem idx1 : ∀ t : Fin cfg0.N, win0_1.index t = ![(halfIx t : ℕ), (expertOf t : ℕ), 0, 0] := (by decide +kernel : ∀ t : Fin grid0.N, _)
theorem idx2 : ∀ t : Fin cfg0.N, win0_2.index t = ![1, (expertOf t : ℕ), 0, 0] := (by decide +kernel : ∀ t : Fin grid0.N, _)
theorem idx3 : ∀ t : Fin cfg0.N, win0_3.index t = ![(halfIx t : ℕ), (expertOf t : ℕ), 0, 0] := (by decide +kernel : ∀ t : Fin grid0.N, _)

/-- The sequence a point's row of its block belongs to. -/
abbrev seqOf (s : Fin 4) : Fin 8 := ⟨(halfIx t : ℕ) * 4 + s, by have := (halfIx t).isLt; omega⟩

theorem iblk0 (s : Fin 4) (r : Fin 528) (k : Fin 1536) :
    iblk m c 0 t (ix4 s 0 r k) = m ((c.tc).loc main_arg0) (ix4 (seqOf t s) (expertOf t) r k) := by
  blk_point [iblk, V, idx0 t]

theorem iblk1 (s : Fin 4) (r : Fin 528) :
    iblk m c 1 t (ix4 s 0 r 0) = m ((c.tc).loc main_arg1) (ix4 (seqOf t s) (expertOf t) r 0) := by
  blk_point [iblk, V, idx1 t]

theorem iblk2 (k : Fin 1536) (f : Fin 1024) :
    iblk m c 2 t (ix4 0 0 k f) = m ((c.tc).loc main_arg2) (ix4 1 (expertOf t) k f) := by
  blk_point [iblk, V, idx2 t]

/-- Weights held for an expert: those of layer 1. -/
def Held (e : Fin 16) (s : Vec Ideal S1536x1024 .bf16) : Prop :=
  ∀ (k : Fin 1536) (f : Fin 1024), s (ix2 k f) = m ((c.tc).loc main_arg2) (ix4 1 e k f)

/-- The weights as the first point of an expert stores them. -/
theorem held_pay1 : Held m c (expertOf t) (k0_pay1 (F := Ideal) (iblk m c 2 t)) := fun k f =>
  (pay1_at _ k f).trans (iblk2 m c t k f)

/-- After every point the scratch buffer holds the weights of the point's expert. -/
theorem held : ∀ (n : ℕ) (hn : n < cfg0.N), Held m c (expertOf ⟨n, hn⟩) (outsAt0 m c n hn).2 := by
  intro n
  induction n using Nat.strong_induction_on with
  | _ n ih =>
    intro hn
    by_cases h : n % 2 = 0
    · have e := outsAt0_A m c ⟨n, hn⟩ h
      dsimp only at e
      rw [e]
      intro k f
      refine Eq.trans ?_ (iblk2 m c ⟨n, hn⟩ k f)
      frame_out
      rw [pay1_at]
    · have e := outsAt0_B m c ⟨n, hn⟩ h
      dsimp only at e
      rw [e]
      have hp := ih (n - 1) (by omega) (by omega)
      have he : expertOf ⟨n, hn⟩ = expertOf ⟨n - 1, by omega⟩ := Fin.ext (by show n / 2 = (n - 1) / 2; omega)
      rw [he]
      exact hp

/-- The reference's array over the arguments at launch. -/
def outOf : FVec Ideal S8x16x528x1024 .bf16 :=
  weighted (m ((c.tc).loc main_arg0)) (m ((c.tc).loc main_arg1)) (m ((c.tc).loc main_arg2))

/-- The tile over held weights is the reference's block. -/
theorem tile_at (w : Vec Ideal S1536x1024 .bf16) (hw : Held m c (expertOf t) w) (s : Fin 4) (r : Fin 528) (f : Fin 1024) :
    k0_pay2 (F := Ideal) (iblk m c 0 t) w (iblk m c 1 t) (ix4 s 0 r f) = outOf m c (ix4 (seqOf t s) (expertOf t) r f) := by
  rw [pay2_at, iblk1]
  unfold outOf
  rw [weighted_at]
  refine congrArg (· * _) (Finset.sum_congr rfl fun k _ => ?_)
  rw [hw k f, iblk0]
  exact mul_comm _ _

/-- What a point leaves in its output block. -/
theorem block_at (s : Fin 4) (r : Fin 528) (f : Fin 1024) :
    (outsAt0 m c t.val t.isLt).1 (ix4 s 0 r f) = outOf m c (ix4 (seqOf t s) (expertOf t) r f) := by
  by_cases h : t.val % 2 = 0
  · rw [outsAt0_A m c t h]
    frame_out
    exact tile_at m c t _ (held_pay1 m c t) s r f
  · rw [outsAt0_B m c t h]
    frame_out
    have hN := point_lt t
    have hp := held m c (t.val - 1) (by have := t.isLt; omega)
    have he : expertOf ⟨t.val - 1, by have := t.isLt; omega⟩ = expertOf t := Fin.ext (by show (t.val - 1) / 2 = t.val / 2; omega)
    rw [he] at hp
    rw [read_unread_whole]
    exact tile_at m c t _ hp s r f

/-- The result array after the run. -/
theorem final : (dats m 0 c).arrAt 3 (cfgs 0).N = outOf m c := by
  refine (dats m 0 c).arrAt_eq_of_covers 3 _ (by decide +kernel) fun t hf' y => ?_
  blk_simp
  rw [after0_3]
  obtain ⟨s, z, r, f, rfl⟩ : ∃ (s : Fin 4) (z : Fin 1) (r : Fin 528) (f : Fin 1024), y = ix4 s z r f := ⟨y 0, y 1, y 2, y 3, eq_ix4 y⟩
  obtain rfl : z = 0 := Subsingleton.elim _ _
  refine (block_at m c t s r f).trans ?_
  blk_ext [idx3 t]

end Cert.DownIdeal.Value

end
-- ==== Proof.FouPieces.lean ====
/-
The Fourier transform: the body of the kernel runs, case by case. The stores of the output go to
rows computed from the tile, so nothing is said here of what they leave there. -/
module

public import proofs.«01_k».proof.Proof.Gen.FouIdeal.Launch
public import proofs.«01_k».proof.Proof.Gen.FouIdeal.Skeleton
public import proofs.«01_k».proof.Proof.Gen.FouIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FouVal

open Cert.FouIdeal Cert.FouIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

/-- The monad of assertions of this program, at one unit of index and natural names. -/
abbrev MM (F : FTy → Type) [FloatOps F] := MT nD τ sig Unit (Elt F) ℕ (UR sig nD τ) ℕ

/-- First tile of a sequence: the folded rows are made. -/
abbrev cond0_0 (i : grid0.Coords) : Prop := (Scalar.cmpi .ne (Scalar.extui (Scalar.cmpi .eq (BitVec.ofNat 32 (i 1).val) 0#32)) 0#32) = 1#1
/-- The first tiles are the points 0, 3, 6 and so on. -/
theorem hcond0_0 : ∀ t : Fin cfg0.N, cond0_0 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- A tile before the last: the mirrored half goes to a later block. -/
abbrev cond0_1 (i : grid0.Coords) : Prop := k0_cond2 i = 1#1
/-- The tiles before the last, by the point. -/
theorem hcond0_1 : ∀ t : Fin cfg0.N, cond0_1 (grid0.coords t) ↔ t.val % 3 ≤ 1 :=
  (by decide +kernel : ∀ t : Fin grid0.N, cond0_1 (grid0.coords t) ↔ t.val % 3 ≤ 1)

/-- The last tile: it meets its own mirror image. -/
abbrev cond0_2 (i : grid0.Coords) : Prop := (Scalar.cmpi .ne (Scalar.extui (Scalar.cmpi .eq (BitVec.ofNat 32 (i 1).val) 2#32)) 0#32) = 1#1
/-- The last tiles, by the point. -/
theorem hcond0_2 : ∀ t : Fin cfg0.N, cond0_2 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_2, e0, e1]
    word_cmp
   : ∀ t : Fin grid0.N, cond0_2 (grid0.coords t) ↔ t.val % 3 = 2)

set_option maxHeartbeats 1000000 in
/-- The pieces that the body stores, case A. -/
noncomputable def runA (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : cond0_0 i) (hc1 : cond0_1 i) (hc2 : ¬cond0_2 i)
    (x0 : Vec F S768x4608 .bf16) (x1 : Vec F S1x4224x512 .bf16) (x2 : Vec F S1x4224x512 .bf16) (x3 : Vec F S1x4224x512 .bf16) :
    Σ' (L3 : List (View.Piece (Elt F) S1x4224x512 .bf16)), Σ' (LS0 : List (View.Piece (Elt F) S384x512 .f32)), Σ' (LS1 : List (View.Piece (Elt F) S2304x512 .bf16)), { LS2 : List (View.Piece (Elt F) S2304x512 .bf16) //
      ∀ (E : Set ℕ) (K : PUnit → sProp (MM F)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread x3) L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_fourier i arg2 harg2 arg3 harg3 arg4 harg4 arg5 harg5 arg6 harg6 arg7 harg7 arg8 harg8) K } := by
  refine ⟨?_, ?_, ?_, ?_, fun E K => ?run⟩
  case run =>
    simp only [cc0_fourier_eq_skeleton]; unfold cc0_fourier_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [HS0]; · iexists _; iexact HS0
    isplitl [HS1]; · iexists _; iexact HS1
    iexists _; iexact HS2

set_option maxHeartbeats 1000000 in
/-- The pieces that the body stores, case B. -/
noncomputable def runB (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : cond0_1 i) (hc2 : ¬cond0_2 i)
    (x0 : Vec F S768x4608 .bf16) (x1 : Vec F S1x4224x512 .bf16) (x2 : Vec F S1x4224x512 .bf16) (x3 : Vec F S1x4224x512 .bf16) (xs0 : Vec F S384x512 .f32) (xs1 : Vec F S2304x512 .bf16) (xs2 : Vec F S2304x512 .bf16) :
    Σ' (L3 : List (View.Piece (Elt F) S1x4224x512 .bf16)), { LS0 : List (View.Piece (Elt F) S384x512 .f32) //
      ∀ (E : Set ℕ) (K : PUnit → sProp (MM F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread x3) L3) ∗ (arg6.view.loc (c : Thread nD τ) ↦[arg6.view.set]{fullShare} arg6.view.writes (Elt F) (harg6.unread xs0) LS0) ∗ owns (c : Thread nD τ) arg7 fullShare xs1 ∗ owns (c : Thread nD τ) arg8 fullShare xs2) -∗ K ⟨⟩))
          ⊢ wp frame (wpE (defs₀ (F := F)) Variants.none c none) E (cc0_fourier i arg2 harg2 arg3 harg3 arg4 harg4 arg5 harg5 arg6 harg6 arg7 harg7 arg8 harg8) K } := by
  refine ⟨?_, ?_, fun E K => ?run⟩
  case run =>
    simp only [cc0_fourier_eq_skeleton]; unfold cc0_fourier_skel
    simp only [k0_part10_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [HS0]; · iexact HS0
    isplitl [HS1]
    · iexists _; isplitr; · ipureintro; exact harg7.read_unread _
      iexact HS1
    iexists _; isplitr; · ipureintro; exact harg8.read_unread _
    iexact HS2

set_option maxHeartbeats 1000000 in
/-- The pieces that the body stores, case C. -/
noncomputable def runC (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : ¬cond0_1 i) (hc2 : cond0_2 i)
    (x0 : Vec F S768x4608 .bf16) (x1 : Vec F S1x4224x512 .bf16) (x2 : Vec F S1x4224x512 .bf16) (x3 : Vec F S1x4224x512 .bf16) (xs0 : Vec F S384x512 .f32) (xs1 : Vec F S2304x512 .bf16) (xs2 : Vec F S2304x512 .bf16) :
    Σ' (L3 : List (View.Piece (Elt F) S1x4224x512 .bf16)), { LS0 : List (View.Piece (Elt F) S384x512 .f32) //
      ∀ (E : Set ℕ) (K : PUnit → sProp (MM F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread x3) L3) ∗ (arg6.view.loc (c : Thread nD τ) ↦[arg6.view.set]{fullShare} arg6.view.writes (Elt F) (harg6.unread xs0) LS0) ∗ owns (c : Thread nD τ) arg7 fullShare xs1 ∗ owns (c : Thread nD τ) arg8 fullShare xs2) -∗ K ⟨⟩))
          ⊢ wp frame (wpE (defs₀ (F := F)) Variants.none c none) E (cc0_fourier i arg2 harg2 arg3 harg3 arg4 harg4 arg5 harg5 arg6 harg6 arg7 harg7 arg8 harg8) K } := by
  refine ⟨?_, ?_, fun E K => ?run⟩
  case run =>
    simp only [cc0_fourier_eq_skeleton]; unfold cc0_fourier_skel
    simp only [k0_part10_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [HS0]; · iexact HS0
    isplitl [HS1]
    · iexists _; isplitr; · ipureintro; exact harg7.read_unread _
      iexact HS1
    iexists _; isplitr; · ipureintro; exact harg8.read_unread _
    iexact HS2

end Cert.FouVal

end

end
-- ==== Proof.FouMath.lean ====
/- The sums behind the Fourier call: half of the positions carry the whole sum. -/
module

public import proofs.«01_k».proof.Proof.Words

@[expose] public section

noncomputable section

namespace Cert.FouMath

/-- The angle of a whole number of steps of a turn in 4112. -/
def ang (z : ℤ) : ℝ := 2 * Real.pi * (z : ℝ) / 4112

theorem ang_add (a b : ℤ) : ang (a + b) = ang a + ang b := by unfold ang; push_cast; ring

theorem cos_mod (a : ℤ) : Real.cos (ang (a % 4112)) = Real.cos (ang a) := by
  have h := Int.mul_ediv_add_emod a 4112
  have e : ang a = ang (a % 4112) + (a / 4112 : ℤ) * (2 * Real.pi) := by
    conv_lhs => rw [← h]
    unfold ang; push_cast; ring
  rw [e, Real.cos_add_int_mul_two_pi]

theorem sin_mod (a : ℤ) : Real.sin (ang (a % 4112)) = Real.sin (ang a) := by
  have h := Int.mul_ediv_add_emod a 4112
  have e : ang a = ang (a % 4112) + (a / 4112 : ℤ) * (2 * Real.pi) := by
    conv_lhs => rw [← h]
    unfold ang; push_cast; ring
  rw [e, Real.sin_add_int_mul_two_pi]

theorem cos_mirror (k n : ℤ) : Real.cos (ang (k * (4112 - n))) = Real.cos (ang (k * n)) := by
  have e : ang (k * (4112 - n)) = -ang (k * n) + (k : ℤ) * (2 * Real.pi) := by unfold ang; push_cast; ring
  rw [e, Real.cos_add_int_mul_two_pi, Real.cos_neg]

theorem sin_mirror (k n : ℤ) : Real.sin (ang (k * (4112 - n))) = -Real.sin (ang (k * n)) := by
  have e : ang (k * (4112 - n)) = -ang (k * n) + (k : ℤ) * (2 * Real.pi) := by unfold ang; push_cast; ring
  rw [e, Real.sin_add_int_mul_two_pi, Real.sin_neg]

/-- A row's entry of the table: the weight of the positions of the first half, nothing elsewhere. -/
def onHalf (f : ℤ → ℝ) (g : ℕ) : ℝ := if 112 ≤ g ∧ g ≤ 2168 then f ((g : ℤ) - 112) else 0

/-- The sum of two mirrored rows, the row itself where it is its own mirror, nothing elsewhere. -/
def foldP (P : ℕ → ℝ) (g : ℕ) : ℝ := if 113 ≤ g ∧ g ≤ 2167 then P g + P (4336 - g) else if g = 112 ∨ g = 2168 then P g else 0

/-- The difference of two mirrored rows. -/
def foldQ (Q : ℕ → ℝ) (g : ℕ) : ℝ := if 113 ≤ g ∧ g ≤ 2167 then Q g - Q (4336 - g) else 0

theorem sum_half (h : ℕ → ℝ) : ∑ n ∈ Finset.range 4112, h n = h 0 + h 2056 + ∑ n ∈ Finset.Ico 1 2056, (h n + h (4112 - n)) := by
  have hr := Finset.sum_Ico_reflect h 1 (show 2056 ≤ 4112 + 1 by omega)
  rw [Finset.sum_add_distrib, hr, Finset.range_eq_Ico, ← Finset.sum_Ico_consecutive h (show 0 ≤ 1 by omega) (show 1 ≤ 4112 by omega),
    ← Finset.sum_Ico_consecutive h (show 1 ≤ 2056 by omega) (show 2056 ≤ 4112 by omega),
    ← Finset.sum_Ico_consecutive h (show 2056 ≤ 2057 by omega) (show 2057 ≤ 4112 by omega)]
  simp only [Nat.Ico_succ_singleton, Finset.sum_singleton, Nat.reduceAdd, Nat.reduceSub, zero_add, Finset.range_one, Nat.Ico_zero_eq_range]
  ring

theorem sum_rows (F : ℕ → ℝ) (h0 : ∀ g, ¬(112 ≤ g ∧ g ≤ 2168) → F g = 0) :
    ∑ g ∈ Finset.range 2304, F g = F 112 + F 2168 + ∑ n ∈ Finset.Ico 1 2056, F (112 + n) := by
  rw [Finset.range_eq_Ico, ← Finset.sum_Ico_consecutive F (show 0 ≤ 112 by omega) (show 112 ≤ 2304 by omega),
    ← Finset.sum_Ico_consecutive F (show 112 ≤ 113 by omega) (show 113 ≤ 2304 by omega),
    ← Finset.sum_Ico_consecutive F (show 113 ≤ 2168 by omega) (show 2168 ≤ 2304 by omega),
    ← Finset.sum_Ico_consecutive F (show 2168 ≤ 2169 by omega) (show 2169 ≤ 2304 by omega)]
  have a : ∑ g ∈ Finset.Ico 0 112, F g = 0 := Finset.sum_eq_zero fun g hg => h0 g (by simp only [Finset.mem_Ico] at hg; omega)
  have b : ∑ g ∈ Finset.Ico 2169 2304, F g = 0 := Finset.sum_eq_zero fun g hg => h0 g (by simp only [Finset.mem_Ico] at hg; omega)
  have c : Finset.Ico 112 113 = {112} := Nat.Ico_succ_singleton 112
  have d : Finset.Ico 2168 2169 = {2168} := Nat.Ico_succ_singleton 2168
  have e : ∑ g ∈ Finset.Ico 113 2168, F g = ∑ n ∈ Finset.Ico 1 2056, F (112 + n) := by
    rw [Finset.sum_Ico_add (fun g => F g) 1 2056 112]
  rw [a, b, c, d, e, Finset.sum_singleton, Finset.sum_singleton]; ring

/-- The cosine half of a frequency: the folded rows carry the whole sum. -/
theorem cos_sum (P : ℕ → ℝ) (k : ℤ) (s : ℝ) :
    ∑ g ∈ Finset.range 2304, onHalf (fun n => Real.cos (ang (k * n)) * s) g * foldP P g
      = s * ∑ n ∈ Finset.range 4112, P (112 + n) * Real.cos (ang (k * n)) := by
  rw [sum_rows _ (fun g hg => by unfold onHalf; rw [if_neg hg, zero_mul]), sum_half, mul_add, mul_add, Finset.mul_sum]
  congr 1
  · unfold onHalf foldP; norm_num; ring
  · refine Finset.sum_congr rfl fun n hn => ?_
    simp only [Finset.mem_Ico] at hn
    have e : ((4112 - n : ℕ) : ℤ) = 4112 - (n : ℤ) := by omega
    unfold onHalf foldP
    rw [if_pos (by omega), if_pos (by omega), e, cos_mirror, show ((112 + n : ℕ) : ℤ) - 112 = n by omega,
      show 4336 - (112 + n) = 112 + (4112 - n) by omega]
    ring

/-- The sine half. -/
theorem sin_sum (Q : ℕ → ℝ) (k : ℤ) (s : ℝ) :
    ∑ g ∈ Finset.range 2304, onHalf (fun n => -Real.sin (ang (k * n)) * s) g * foldQ Q g
      = -(s * ∑ n ∈ Finset.range 4112, Q (112 + n) * Real.sin (ang (k * n))) := by
  rw [sum_rows _ (fun g hg => by unfold onHalf; rw [if_neg hg, zero_mul]), sum_half, mul_add, mul_add, neg_add, Finset.mul_sum, ← Finset.sum_neg_distrib]
  have hpi : Real.sin (ang (k * (2056 : ℕ))) = 0 := by
    have : ang (k * (2056 : ℕ)) = k * Real.pi := by unfold ang; push_cast; ring
    rw [this, Real.sin_int_mul_pi]
  have h0 : Real.sin (ang (k * (0 : ℕ))) = 0 := by unfold ang; simp
  congr 1
  · rw [hpi, h0]; unfold onHalf foldQ; norm_num
  · refine Finset.sum_congr rfl fun n hn => ?_
    simp only [Finset.mem_Ico] at hn
    have e : ((4112 - n : ℕ) : ℤ) = 4112 - (n : ℤ) := by omega
    unfold onHalf foldQ
    rw [if_pos (by omega), if_pos (by omega), e, sin_mirror, show ((112 + n : ℕ) : ℤ) - 112 = n by omega,
      show 4336 - (112 + n) = 112 + (4112 - n) by omega]
    ring

/-- The frequencies of the second half, from those of the first. -/
theorem cos_rev (k n : ℤ) : Real.cos (ang ((4112 - k) * n)) = Real.cos (ang (k * n)) := by
  rw [mul_comm, cos_mirror, mul_comm]
theorem sin_rev (k n : ℤ) : Real.sin (ang ((4112 - k) * n)) = -Real.sin (ang (k * n)) := by
  rw [mul_comm, sin_mirror, mul_comm]

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

open Finset in
/-- The transform's rows: the zero frequency is row 112, and the rows before it are zero. -/
def spec (s : ℝ) (P Q : ℕ → ℝ) (row : ℕ) : ℝ :=
  if 112 ≤ row then (∑ n ∈ range 4112, P (112 + n) * Real.cos (ang (((row : ℤ) - 112) * n)) - ∑ n ∈ range 4112, Q (112 + n) * Real.sin (ang (((row : ℤ) - 112) * n))) * s else 0

open Finset in
theorem spec_direct (s : ℝ) (P Q : ℕ → ℝ) (k : ℕ) :
    ∑ g ∈ range 2304, onHalf (fun n => Real.cos (ang ((k : ℤ) * n)) * s) g * foldP P g
      + ∑ g ∈ range 2304, onHalf (fun n => -Real.sin (ang ((k : ℤ) * n)) * s) g * foldQ Q g = spec s P Q (112 + k) := by
  rw [cos_sum, sin_sum]
  unfold spec
  rw [if_pos (by omega)]
  have e : (((112 + k : ℕ) : ℤ) - 112) = k := by omega
  rw [e]; ring

open Finset in
theorem spec_mirror (s : ℝ) (P Q : ℕ → ℝ) (k : ℕ) (hk : k ≤ 4112) :
    ∑ g ∈ range 2304, onHalf (fun n => Real.cos (ang ((k : ℤ) * n)) * s) g * foldP P g
      - ∑ g ∈ range 2304, onHalf (fun n => -Real.sin (ang ((k : ℤ) * n)) * s) g * foldQ Q g = spec s P Q (4224 - k) := by
  rw [cos_sum, sin_sum]
  unfold spec
  rw [if_pos (by omega)]
  have e : (((4224 - k : ℕ) : ℤ) - 112) = 4112 - k := by omega
  rw [e]
  simp only [cos_rev, sin_rev, mul_neg, Finset.sum_neg_distrib]
  ring

open Finset in
theorem spec_zero (s : ℝ) (P Q : ℕ → ℝ) : spec s P Q 112 = (∑ n ∈ range 4112, P (112 + n)) * s := by
  unfold spec
  rw [if_pos (le_refl _)]
  have e : (((112 : ℕ) : ℤ) - 112) = 0 := by omega
  rw [e]
  simp [ang]

theorem spec_pad (s : ℝ) (P Q : ℕ → ℝ) (r : ℕ) (h : r < 112) : spec s P Q r = 0 := by
  unfold spec; rw [if_neg (by omega)]

end Cert.FouMath
-- ==== Proof.FouWords.lean ====
/- The words and constants that the Fourier call's table and its reference compute: a remainder, a turn's share of it, its
   cosine and sine. -/
module

public import proofs.«01_k».proof.Proof.Words
public import proofs.«01_k».proof.Proof.FouMath

@[expose] public section

noncomputable section

namespace Cert.FouMath

open Idealize.ShloMosaic Idealize.SL.Sem Cert.Attention

/-- The remainder by 4112, of the sign of the divisor, as the host computes it. -/
theorem rem_toInt (w : BitVec 32) :
    (Scalar.select (IntOp.andi (IntOp.cmpi .ne (IntOp.cmpi .slt (IntOp.remsi .host w 4112#32) 0#32) (IntOp.cmpi .slt (4112#32 : BitVec 32) 0#32))
        (IntOp.cmpi .ne (IntOp.remsi .host w 4112#32) 0#32)) (IntOp.addi (IntOp.remsi .host w 4112#32) 4112#32) (IntOp.remsi .host w 4112#32)).toInt
      = w.toInt % 4112 := by
  have hr : IntOp.remsi .host w 4112#32 = w.srem 4112#32 := by
    unfold IntOp.remsi
    rw [if_neg]
    rintro (h | ⟨_, h⟩)
    · exact absurd h (by decide)
    · exact absurd h (by decide)
  have e0 : (4112#32 : BitVec 32).toInt = 4112 := by decide
  have ht : (w.srem 4112#32).toInt = w.toInt.tmod 4112 := by rw [BitVec.toInt_srem, e0]
  rw [hr]
  generalize hv : w.srem 4112#32 = v at ht
  have hc : (0 ≤ v.toInt ∧ v.toInt = w.toInt % 4112) ∨ (v.toInt < 0 ∧ v.toInt + 4112 = w.toInt % 4112) := by
    rw [Int.tmod_eq_emod] at ht
    split at ht <;> omega
  have hb : 0 ≤ w.toInt % 4112 ∧ w.toInt % 4112 < 4112 := by omega
  have hz : (0#32 : BitVec 32).toInt = 0 := by decide
  have hs : IntOp.cmpi .slt (4112#32 : BitVec 32) 0#32 = 0#1 := by decide
  rw [hs]
  by_cases hneg : v.toInt < 0
  · have h1 : IntOp.cmpi .slt v 0#32 = 1#1 := by
      simp only [IntOp.cmpi, BitVec.slt, hz, hneg]; decide
    have hne : v ≠ 0#32 := fun h => by rw [h, hz] at hneg; omega
    have h2 : IntOp.cmpi .ne v 0#32 = 1#1 := by
      show BitVec.ofBool (v != 0#32) = 1#1
      rw [bne_iff_ne.mpr hne]; rfl
    rw [h1, h2]
    have : (v + 4112#32).toInt = v.toInt + 4112 := by
      rw [BitVec.toInt_add, e0, Int.bmod]; omega
    show (v + 4112#32).toInt = _
    rw [this]; omega
  · have h1 : IntOp.cmpi .slt v 0#32 = 0#1 := by
      simp only [IntOp.cmpi, BitVec.slt, hz, hneg]; decide
    rw [h1]
    show (Scalar.select (IntOp.andi (0#1) _) _ v).toInt = _
    have : IntOp.andi (0#1) (IntOp.cmpi .ne v 0#32) = 0#1 := by
      show (0#1 : BitVec 1) &&& _ = 0#1
      simp
    rw [this]
    show v.toInt = _
    omega

theorem two_bits : Ideal.ofBits .f32 1073741824#32 = ((2 : ℝ) : EReal) := by
  simp [Ideal.ofBits, Ideal.ieee, -EReal.coe_mul]
  try norm_num
theorem neg_one_bits : Ideal.ofBits .f32 3212836864#32 = ((-1 : ℝ) : EReal) := by
  simp [Ideal.ofBits, Ideal.ieee, -EReal.coe_mul]
  try norm_num
theorem period_bits : Ideal.ofBits .f32 1166049280#32 = ((4112 : ℝ) : EReal) := by
  simp [Ideal.ofBits, Ideal.ieee, -EReal.coe_mul]
  try norm_num
/-- The transform's scale. -/
theorem scale_bits : ∃ s : ℝ, Ideal.ofBits .f32 1014988896#32 = ((s : ℝ) : EReal) := by
  simp [Ideal.ofBits, Ideal.ieee, -EReal.coe_mul]

/-- One step of the turn. -/
theorem step_eq : Ideal.div (Ideal.ofBits FTy.f32 1073741824#32 * Ideal.acos (Ideal.ofBits FTy.f32 3212836864#32)) (Ideal.ofBits FTy.f32 1166049280#32)
    = ((2 * Real.pi / 4112 : ℝ) : EReal) := by
  rw [two_bits, neg_one_bits, period_bits]
  have : Ideal.acos ((-1 : ℝ) : EReal) = ((Real.pi : ℝ) : EReal) := by
    show (if -1 ≤ (-1 : ℝ) ∧ (-1 : ℝ) ≤ 1 then ((Real.arccos (-1) : ℝ) : EReal) else ⊥) = _
    rw [if_pos (by norm_num), Real.arccos_neg_one]
  rw [this, ← EReal.coe_mul]
  unfold Ideal.div
  rw [if_neg (by norm_num), ← EReal.coe_inv, ← EReal.coe_mul, div_eq_mul_inv]

/-- The angle of a remainder. -/
theorem angle_eq (w : BitVec 32) : FloatOps.sitofp (F := Ideal) FTy.f32 w * ((2 * Real.pi / 4112 : ℝ) : EReal) = ((ang w.toInt : ℝ) : EReal) := by
  show (((w.toInt : ℝ)) : EReal) * _ = _
  rw [← EReal.coe_mul]
  unfold ang
  congr 1; ring

theorem cos_turn (w : BitVec 32) :
    Ideal.cos (FloatOps.sitofp (F := Ideal) FTy.f32 (Scalar.select (IntOp.andi (IntOp.cmpi .ne (IntOp.cmpi .slt (IntOp.remsi .host w 4112#32) 0#32) (IntOp.cmpi .slt (4112#32 : BitVec 32) 0#32))
        (IntOp.cmpi .ne (IntOp.remsi .host w 4112#32) 0#32)) (IntOp.addi (IntOp.remsi .host w 4112#32) 4112#32) (IntOp.remsi .host w 4112#32)) * ((2 * Real.pi / 4112 : ℝ) : EReal))
      = ((Real.cos (ang w.toInt) : ℝ) : EReal) := by
  rw [angle_eq, rem_toInt, ← cos_mod]; rfl
theorem sin_turn (w : BitVec 32) :
    Ideal.sin (FloatOps.sitofp (F := Ideal) FTy.f32 (Scalar.select (IntOp.andi (IntOp.cmpi .ne (IntOp.cmpi .slt (IntOp.remsi .host w 4112#32) 0#32) (IntOp.cmpi .slt (4112#32 : BitVec 32) 0#32))
        (IntOp.cmpi .ne (IntOp.remsi .host w 4112#32) 0#32)) (IntOp.addi (IntOp.remsi .host w 4112#32) 4112#32) (IntOp.remsi .host w 4112#32)) * ((2 * Real.pi / 4112 : ℝ) : EReal))
      = ((Real.sin (ang w.toInt) : ℝ) : EReal) := by
  rw [angle_eq, rem_toInt, ← sin_mod]; rfl

theorem ofNat_toInt (n : ℕ) (h : n < 2147483648) : (BitVec.ofNat 32 n).toInt = n := WordCmp.toInt_ofNat_of_lt (by omega)

theorem mul_toInt (x y : BitVec 32) (h1 : -2147483648 ≤ x.toInt * y.toInt) (h2 : x.toInt * y.toInt < 2147483648) :
    (IntOp.muli x y).toInt = x.toInt * y.toInt := by
  show (x * y).toInt = _
  rw [BitVec.toInt_mul, Int.bmod]; omega
theorem add_toInt (x y : BitVec 32) (h1 : -2147483648 ≤ x.toInt + y.toInt) (h2 : x.toInt + y.toInt < 2147483648) :
    (IntOp.addi x y).toInt = x.toInt + y.toInt := by
  show (x + y).toInt = _
  rw [BitVec.toInt_add, Int.bmod]; omega
theorem sub_toInt (x y : BitVec 32) (h1 : -2147483648 ≤ x.toInt - y.toInt) (h2 : x.toInt - y.toInt < 2147483648) :
    (IntOp.subi x y).toInt = x.toInt - y.toInt := toInt_sub_small x y h1 h2

/-- A frequency by a position. -/
theorem freq_low (j r : ℕ) (hj : j < 2304) (hr : r < 128) :
    (IntOp.muli (IntOp.addi (BitVec.ofNat 32 j) 1#32) (BitVec.ofNat 32 r)).toInt = ((j : ℤ) + 1) * r := by
  have e1 : (IntOp.addi (BitVec.ofNat 32 j) 1#32).toInt = (j : ℤ) + 1 := by
    rw [add_toInt] <;> rw [ofNat_toInt j (by omega), show (1#32 : BitVec 32).toInt = 1 by decide] <;> omega
  have hb : ((j : ℤ) + 1) * r ≤ 2304 * 128 := by nlinarith
  rw [mul_toInt] <;> rw [e1, ofNat_toInt r (by omega)]
  · nlinarith
  · omega
theorem freq_high (j q : ℕ) (hj : j < 2304) (hq : q < 18) :
    (IntOp.muli (IntOp.addi (BitVec.ofNat 32 j) 1#32) (IntOp.subi (IntOp.muli (128#32) (BitVec.ofNat 32 q)) 112#32)).toInt = ((j : ℤ) + 1) * (128 * q - 112) := by
  have e1 : (IntOp.addi (BitVec.ofNat 32 j) 1#32).toInt = (j : ℤ) + 1 := by
    rw [add_toInt] <;> rw [ofNat_toInt j (by omega), show (1#32 : BitVec 32).toInt = 1 by decide] <;> omega
  have e2 : (IntOp.muli (128#32) (BitVec.ofNat 32 q)).toInt = 128 * (q : ℤ) := by
    rw [mul_toInt] <;> rw [ofNat_toInt q (by omega), show (128#32 : BitVec 32).toInt = 128 by decide] <;> omega
  have e3 : (IntOp.subi (IntOp.muli (128#32) (BitVec.ofNat 32 q)) 112#32).toInt = 128 * (q : ℤ) - 112 := by
    rw [sub_toInt] <;> rw [e2, show (112#32 : BitVec 32).toInt = 112 by decide] <;> omega
  have a1 : (0 : ℤ) ≤ j + 1 := by omega
  have a2 : (j : ℤ) + 1 ≤ 2304 := by omega
  have b1 : (-112 : ℤ) ≤ 128 * q - 112 := by omega
  have b2 : (128 * q - 112 : ℤ) ≤ 2304 := by omega
  rw [mul_toInt] <;> rw [e1, e3] <;> nlinarith
theorem freq_ref (k n : ℕ) (hk : k < 4112) (hn : n < 4112) :
    (IntOp.muli (BitVec.ofNat 32 k) (BitVec.ofNat 32 n)).toInt = (k : ℤ) * n := by
  have a2 : (k : ℤ) ≤ 4112 := by omega
  have b2 : (n : ℤ) ≤ 4112 := by omega
  rw [mul_toInt] <;> rw [ofNat_toInt k (by omega), ofNat_toInt n (by omega)] <;> nlinarith

end Cert.FouMath
-- ==== Proof.FouFold.lean ====
/- The fold of the Fourier call: the two scratch arrays that its products read, row by row. -/
module

public import proofs.«01_k».proof.Proof.FouPieces
public import Idealize.ShloMosaic.Lib.Pipeline.ValueKit
public import proofs.«01_k».proof.Proof.FouWords

@[expose] public section

set_option maxRecDepth 16384

noncomputable section

namespace Cert.FouVal

open Cert.FouIdeal Cert.FouIdeal.Gen Idealize.ShloMosaic Idealize.ShloMosaic.TcCoe Idealize.SL.Sem

theorem flip_entry (r k : Fin 384) : k0_pay46 (F := Ideal) (ix2 r k) = if (r : ℕ) + k = 383 then (1 : EReal) else 0 := by
  have h : FloatOps.sitofp (F := Ideal) .f32 (BitVec.setWidth 32 (IntOp.cmpi .eq (IntOp.addi (BitVec.ofNat 32 r) (BitVec.ofNat 32 k)) 383#32)) = if (r : ℕ) + k = 383 then (1 : EReal) else 0 := by
    have e : IntOp.cmpi .eq (IntOp.addi (BitVec.ofNat 32 r) (BitVec.ofNat 32 k)) 383#32 = if (r : ℕ) + k = 383 then 1#1 else 0#1 := by
      show BitVec.ofBool (BitVec.ofNat 32 r + BitVec.ofNat 32 k == 383#32) = _
      rw [← BitVec.ofNat_add]
      by_cases hk : (r : ℕ) + k = 383
      · rw [if_pos hk, hk]; rfl
      · rw [if_neg hk]
        have : ¬(BitVec.ofNat 32 ((r : ℕ) + k) = 383#32) := by
          intro hh
          have := congrArg BitVec.toNat hh
          simp only [BitVec.toNat_ofNat] at this
          omega
        rw [beq_eq_false_iff_ne.mpr this]; rfl
    rw [e]
    by_cases hk : (r : ℕ) + k = 383
    · rw [if_pos hk, if_pos hk]; show (((1 : ℤ) : ℝ) : EReal) = 1; norm_num
    · rw [if_neg hk, if_neg hk]; show (((0 : ℤ) : ℝ) : EReal) = 0; norm_num
  pointwise [k0_pay46]
  exact h

theorem flip_sum (f : Fin 384 → EReal) (r : Fin 384) :
    ∑ k : Fin 384, (show EReal from k0_pay46 (F := Ideal) (ix2 r k)) * f k = f r.rev := by
  simp only [flip_entry]
  rw [Finset.sum_eq_single r.rev]
  · rw [if_pos (by rw [Fin.val_rev]; omega), one_mul]
  · intro k _ hk
    rw [if_neg (fun h => hk (Fin.ext (by rw [Fin.val_rev]; omega))), zero_mul]
  · intro h; exact absurd (Finset.mem_univ _) h

/-- The sum of two mirrored rows, the row itself where it is its own mirror, nothing elsewhere. -/
def foldPE (X : ℕ → EReal) (g : ℕ) : EReal := if 113 ≤ g ∧ g ≤ 2167 then X g + X (4336 - g) else if g = 112 ∨ g = 2168 then X g else 0
/-- The difference of two mirrored rows. -/
def foldQE (X : ℕ → EReal) (g : ℕ) : EReal := if 113 ≤ g ∧ g ≤ 2167 then X g - X (4336 - g) else 0

theorem closeP (X : ℕ → EReal) (g : ℕ) (C1 C2 : BitVec 1) (h1 : C1 = if 113 ≤ g ∧ g ≤ 2167 then 1#1 else 0#1)
    (h2 : C2 = if g = 112 ∨ g = 2168 then 1#1 else 0#1) (A T : EReal) (hA : A = X g) (hT : 113 ≤ g → T = X (4336 - g)) :
    Scalar.select C1 (A + T) (Scalar.select C2 A 0) = foldPE X g := by
  subst h1 h2 hA
  unfold foldPE
  by_cases hg : 113 ≤ g ∧ g ≤ 2167
  · rw [if_pos hg, if_pos hg, hT hg.1]; rfl
  · rw [if_neg hg, if_neg hg]
    by_cases hk : g = 112 ∨ g = 2168
    · rw [if_pos hk, if_pos hk]; rfl
    · rw [if_neg hk, if_neg hk]; rfl

theorem closeQ (X : ℕ → EReal) (g : ℕ) (C1 : BitVec 1) (h1 : C1 = if 113 ≤ g ∧ g ≤ 2167 then 1#1 else 0#1)
    (A T : EReal) (hA : A = X g) (hT : 113 ≤ g → T = X (4336 - g)) :
    Scalar.select C1 (A - T) 0 = foldQE X g := by
  subst h1 hA
  unfold foldQE
  by_cases hg : 113 ≤ g ∧ g ≤ 2167
  · rw [if_pos hg, if_pos hg, hT hg.1]; rfl
  · rw [if_neg hg, if_neg hg]; rfl

theorem tail_eq (X : ℕ → EReal) (o p q : ℕ) (r : Fin 384) (c : Fin 512) (b d : Vec Ideal S1x384x512 .bf16)
    (hp : p = 4224 - o) (hq : q = 3840 - o) (ho : o ≤ 1920)
    (hb : ∀ x : Fin 384, b (ix3 0 x c) = X (p + x)) (hd : ∀ x : Fin 384, d (ix3 0 x c) = X (q + x)) :
    (if h : (r : ℕ) < 113 then ∑ x : Fin 384, (show EReal from k0_pay46 (F := Ideal) (ix2 ⟨271 + r, by omega⟩ x)) * b (ix3 0 x c)
      else ∑ x : Fin 384, (show EReal from k0_pay46 (F := Ideal) (ix2 ⟨(r : ℕ) - 113, by omega⟩ x)) * d (ix3 0 x c)) = X (4336 - (o + r)) := by
  by_cases h : (r : ℕ) < 113
  · rw [dif_pos h, flip_sum (fun x => b (ix3 0 x c)), hb]
    congr 1; rw [Fin.val_rev]; show p + (384 - (271 + (r : ℕ) + 1)) = _; omega
  · rw [dif_neg h, flip_sum (fun x => d (ix3 0 x c)), hd]
    congr 1; rw [Fin.val_rev]; show q + (384 - ((r : ℕ) - 113 + 1)) = _; omega

theorem cst39 : (show EReal from runA.sl.cst_39 (F := Ideal)) = 0 := by
  show Ideal.ofBits .f32 0#32 = 0
  simp [Ideal.ofBits, Ideal.ieee]

theorem head_eq (X : ℕ → EReal) (r : Fin 384) (c : Fin 512) (z : EReal) (d : Vec Ideal S1x384x512 .bf16)
    (hd : ∀ x : Fin 384, d (ix3 0 x c) = X (3840 + x)) (hg : 113 ≤ 0 + (r : ℕ)) :
    (if h : (r : ℕ) < 113 then z
      else ∑ x : Fin 384, (show EReal from k0_pay46 (F := Ideal) (ix2 ⟨(r : ℕ) - 113, by omega⟩ x)) * d (ix3 0 x c)) = X (4336 - (0 + r)) := by
  rw [dif_neg (by omega), flip_sum (fun x => d (ix3 0 x c)), hd]
  congr 1; rw [Fin.val_rev]; show 3840 + (384 - ((r : ℕ) - 113 + 1)) = _; omega

section
variable (X : ℕ → EReal) (a b d : Vec Ideal S1x384x512 .bf16) (r : Fin 384) (c : Fin 512)
theorem in_0 : ∀ r : Fin 384, k0_pay13 (ix2 r 0) = if 113 ≤ 0 + (r : ℕ) ∧ 0 + (r : ℕ) ≤ 2167 then 1#1 else 0#1 := by decide +kernel
theorem in_384 : ∀ r : Fin 384, k0_pay19 runA.sl.v145 272#32 (ix2 r 0) = if 113 ≤ 384 + (r : ℕ) ∧ 384 + (r : ℕ) ≤ 2167 then 1#1 else 0#1 := by decide +kernel
theorem in_768 : ∀ r : Fin 384, k0_pay24 (ix2 r 0) = if 113 ≤ 768 + (r : ℕ) ∧ 768 + (r : ℕ) ≤ 2167 then 1#1 else 0#1 := by decide +kernel
theorem in_1152 : ∀ r : Fin 384, k0_pay32 (ix2 r 0) = if 113 ≤ 1152 + (r : ℕ) ∧ 1152 + (r : ℕ) ≤ 2167 then 1#1 else 0#1 := by decide +kernel
theorem in_1536 : ∀ r : Fin 384, k0_pay36 (ix2 r 0) = if 113 ≤ 1536 + (r : ℕ) ∧ 1536 + (r : ℕ) ≤ 2167 then 1#1 else 0#1 := by decide +kernel
theorem in_1920 : ∀ r : Fin 384, k0_pay44 (ix2 r 0) = if 113 ≤ 1920 + (r : ℕ) ∧ 1920 + (r : ℕ) ≤ 2167 then 1#1 else 0#1 := by decide +kernel
theorem ed_0 : ∀ r : Fin 384, k0_pay14 (ix2 r 0) = if 0 + (r : ℕ) = 112 ∨ 0 + (r : ℕ) = 2168 then 1#1 else 0#1 := by decide +kernel
theorem ed_384 : ∀ r : Fin 384, IntOp.ori (IntOp.cmpi .eq (k0_pay18 runA.sl.v145 272#32 (ix2 r 0)) 0#32) (IntOp.cmpi .eq (k0_pay18 runA.sl.v145 272#32 (ix2 r 0)) 2056#32)
    = if 384 + (r : ℕ) = 112 ∨ 384 + (r : ℕ) = 2168 then 1#1 else 0#1 := by decide +kernel
theorem ed_768 : ∀ r : Fin 384, k0_pay25 (ix2 r 0) = if 768 + (r : ℕ) = 112 ∨ 768 + (r : ℕ) = 2168 then 1#1 else 0#1 := by decide +kernel
theorem ed_1152 : ∀ r : Fin 384, IntOp.ori (IntOp.cmpi .eq (k0_pay31 (ix2 r 0)) 0#32) (IntOp.cmpi .eq (k0_pay31 (ix2 r 0)) 2056#32)
    = if 1152 + (r : ℕ) = 112 ∨ 1152 + (r : ℕ) = 2168 then 1#1 else 0#1 := by decide +kernel
theorem ed_1536 : ∀ r : Fin 384, k0_pay37 (ix2 r 0) = if 1536 + (r : ℕ) = 112 ∨ 1536 + (r : ℕ) = 2168 then 1#1 else 0#1 := by decide +kernel
theorem ed_1920 : ∀ r : Fin 384, IntOp.ori (IntOp.cmpi .eq (k0_pay43 (ix2 r 0)) 0#32) (IntOp.cmpi .eq (k0_pay43 (ix2 r 0)) 2056#32)
    = if 1920 + (r : ℕ) = 112 ∨ 1920 + (r : ℕ) = 2168 then 1#1 else 0#1 := by decide +kernel
theorem p_0 (ha : ∀ x : Fin 384, a (ix3 0 x c) = X (0 + x)) (hd : ∀ x : Fin 384, d (ix3 0 x c) = X (3840 + x)) : k0_pay16 k0_pay46 k0_pay13 k0_pay14 (k0_pay15 a) runA.sl.cst_39 d (ix2 r c) = foldPE X (0 + r) := by
  pointwise [k0_pay16, k0_pay15]
  refine (closeP X (0 + r) _ _ (in_0 r) (ed_0 r) _ _ (ha r) ?_).trans (by rw [Nat.zero_add])
  intro hg; exact head_eq X r c _ d hd hg
theorem q_0 (ha : ∀ x : Fin 384, a (ix3 0 x c) = X (0 + x)) (hd : ∀ x : Fin 384, d (ix3 0 x c) = X (3840 + x)) : k0_pay17 k0_pay46 k0_pay13 a d (ix2 r c) = foldQE X (0 + r) := by
  pointwise [k0_pay17]
  refine (closeQ X (0 + r) _ (in_0 r) _ _ (ha r) ?_).trans (by rw [Nat.zero_add])
  intro hg; exact head_eq X r c _ d hd hg
theorem p_384 (ha : ∀ x : Fin 384, a (ix3 0 x c) = X (384 + x)) (hb : ∀ x : Fin 384, b (ix3 0 x c) = X (3840 + x)) (hd : ∀ x : Fin 384, d (ix3 0 x c) = X (3456 + x)) : k0_pay20 k0_pay46 runA.sl.v145 272#32 a b d (ix2 r c) = foldPE X (384 + r) := by
  pointwise [k0_pay20]
  exact closeP X (384 + r) _ _ (in_384 r) (ed_384 r) _ _ (ha r) (fun _ => tail_eq X 384 3840 3456 r c b d rfl rfl (by omega) hb hd)
theorem q_384 (ha : ∀ x : Fin 384, a (ix3 0 x c) = X (384 + x)) (hb : ∀ x : Fin 384, b (ix3 0 x c) = X (3840 + x)) (hd : ∀ x : Fin 384, d (ix3 0 x c) = X (3456 + x)) : k0_pay22 k0_pay46 (k0_pay19 runA.sl.v145 272#32) (k0_pay21 a) b d (ix2 r c) = foldQE X (384 + r) := by
  pointwise [k0_pay22, k0_pay21]
  exact closeQ X (384 + r) _ (in_384 r) _ _ (ha r) (fun _ => tail_eq X 384 3840 3456 r c b d rfl rfl (by omega) hb hd)
theorem p_768 (ha : ∀ x : Fin 384, a (ix3 0 x c) = X (768 + x)) (hb : ∀ x : Fin 384, b (ix3 0 x c) = X (3456 + x)) (hd : ∀ x : Fin 384, d (ix3 0 x c) = X (3072 + x)) : k0_pay28 k0_pay46 k0_pay24 k0_pay25 (k0_pay26 a) (k0_pay27 b) d (ix2 r c) = foldPE X (768 + r) := by
  pointwise [k0_pay28, k0_pay26, k0_pay27]
  exact closeP X (768 + r) _ _ (in_768 r) (ed_768 r) _ _ (ha r) (fun _ => tail_eq X 768 3456 3072 r c b d rfl rfl (by omega) hb hd)
theorem q_768 (ha : ∀ x : Fin 384, a (ix3 0 x c) = X (768 + x)) (hb : ∀ x : Fin 384, b (ix3 0 x c) = X (3456 + x)) (hd : ∀ x : Fin 384, d (ix3 0 x c) = X (3072 + x)) : k0_pay30 (k0_pay29 k0_pay46 k0_pay24 a b d) (ix2 r c) = foldQE X (768 + r) := by
  pointwise [k0_pay30, k0_pay29]
  exact closeQ X (768 + r) _ (in_768 r) _ _ (ha r) (fun _ => tail_eq X 768 3456 3072 r c b d rfl rfl (by omega) hb hd)
theorem p_1152 (ha : ∀ x : Fin 384, a (ix3 0 x c) = X (1152 + x)) (hb : ∀ x : Fin 384, b (ix3 0 x c) = X (3072 + x)) (hd : ∀ x : Fin 384, d (ix3 0 x c) = X (2688 + x)) : k0_pay33 k0_pay46 a b d (ix2 r c) = foldPE X (1152 + r) := by
  pointwise [k0_pay33]
  exact closeP X (1152 + r) _ _ (in_1152 r) (ed_1152 r) _ _ (ha r) (fun _ => tail_eq X 1152 3072 2688 r c b d rfl rfl (by omega) hb hd)
theorem q_1152 (ha : ∀ x : Fin 384, a (ix3 0 x c) = X (1152 + x)) (hb : ∀ x : Fin 384, b (ix3 0 x c) = X (3072 + x)) (hd : ∀ x : Fin 384, d (ix3 0 x c) = X (2688 + x)) : k0_pay34 k0_pay46 k0_pay32 a b d (ix2 r c) = foldQE X (1152 + r) := by
  pointwise [k0_pay34]
  exact closeQ X (1152 + r) _ (in_1152 r) _ _ (ha r) (fun _ => tail_eq X 1152 3072 2688 r c b d rfl rfl (by omega) hb hd)
theorem p_1536 (ha : ∀ x : Fin 384, a (ix3 0 x c) = X (1536 + x)) (hb : ∀ x : Fin 384, b (ix3 0 x c) = X (2688 + x)) (hd : ∀ x : Fin 384, d (ix3 0 x c) = X (2304 + x)) : k0_pay39 k0_pay46 k0_pay36 k0_pay37 (k0_pay38 a) b d (ix2 r c) = foldPE X (1536 + r) := by
  pointwise [k0_pay39, k0_pay38]
  exact closeP X (1536 + r) _ _ (in_1536 r) (ed_1536 r) _ _ (ha r) (fun _ => tail_eq X 1536 2688 2304 r c b d rfl rfl (by omega) hb hd)
theorem q_1536 (ha : ∀ x : Fin 384, a (ix3 0 x c) = X (1536 + x)) (hb : ∀ x : Fin 384, b (ix3 0 x c) = X (2688 + x)) (hd : ∀ x : Fin 384, d (ix3 0 x c) = X (2304 + x)) : k0_pay42 (k0_pay40 k0_pay46 a b d) runA.sl.cst_39 (k0_pay41 k0_pay36) (ix2 r c) = foldQE X (1536 + r) := by
  pointwise [k0_pay42, k0_pay40, k0_pay41]
  rw [show runA.sl.cst_39 (F := Ideal) = (0 : EReal) from cst39]
  exact closeQ X (1536 + r) _ (in_1536 r) _ _ (ha r) (fun _ => tail_eq X 1536 2688 2304 r c b d rfl rfl (by omega) hb hd)
theorem p_1920 (ha : ∀ x : Fin 384, a (ix3 0 x c) = X (1920 + x)) (hb : ∀ x : Fin 384, b (ix3 0 x c) = X (2304 + x)) (hd : ∀ x : Fin 384, d (ix3 0 x c) = X (1920 + x)) : k0_pay47 (k0_pay45 k0_pay46 a b d) (ix2 r c) = foldPE X (1920 + r) := by
  pointwise [k0_pay47, k0_pay45]
  exact closeP X (1920 + r) _ _ (in_1920 r) (ed_1920 r) _ _ (ha r) (fun _ => tail_eq X 1920 2304 1920 r c b d rfl rfl (by omega) hb hd)
theorem q_1920 (ha : ∀ x : Fin 384, a (ix3 0 x c) = X (1920 + x)) (hb : ∀ x : Fin 384, b (ix3 0 x c) = X (2304 + x)) (hd : ∀ x : Fin 384, d (ix3 0 x c) = X (1920 + x)) : k0_pay48 k0_pay44 a b d (ix2 r c) = foldQE X (1920 + r) := by
  pointwise [k0_pay48]
  exact closeQ X (1920 + r) _ (in_1920 r) _ _ (ha r) (fun _ => tail_eq X 1920 2304 1920 r c b d rfl rfl (by omega) hb hd)
end
end Cert.FouVal
end
-- ==== Proof.FouTile.lean ====
/- The tiles that the Fourier call writes, row by row, from the two products. -/
module

public import proofs.«01_k».proof.Proof.FouFold

@[expose] public section

set_option maxRecDepth 16384

noncomputable section

namespace Cert.FouVal

open Cert.FouIdeal Cert.FouIdeal.Gen Idealize.ShloMosaic Idealize.ShloMosaic.TcCoe Idealize.SL.Sem

section
variable (Z : ℕ → EReal) (t1 t2 : FVec Ideal S768x512 .f32) (c : Fin 512) (r : Fin 384) (o : ℕ)

/-- The rows below the tile's middle, before the shift. -/
def Direct : Prop := ∀ k : Fin 768, (show EReal from t1 (ix2 k c)) + t2 (ix2 k c) = Z (113 + o + k)
/-- The mirrored rows. -/
def Mirror : Prop := ∀ k : Fin 768, (show EReal from t1 (ix2 k c)) - t2 (ix2 k c) = Z (4223 - o - k)

theorem shift_at (pv : FVec Ideal S113x512 .f32) (hp : ∀ x : Fin 113, pv (ix2 x c) = Z (o + 384 + x)) (hd : Direct Z t1 t2 c o) :
    k0_pay5 t1 t2 pv (ix2 r c) = Z (o + 384 + r) := by
  pointwise [k0_pay5, k0_pay3]
  by_cases h : (r : ℕ) < 113
  · rw [dif_pos h]; exact hp ⟨r, h⟩
  · rw [dif_neg h]
    refine (hd ⟨384 + (r - 113), by omega⟩).trans ?_
    congr 1; show 113 + o + (384 + ((r : ℕ) - 113)) = _; omega

theorem pay6_at (pv : FVec Ideal S113x512 .f32) (hp : ∀ x : Fin 113, pv (ix2 x c) = Z (o + 384 + x)) (hd : Direct Z t1 t2 c o) :
    k0_pay6 t1 t2 pv (ix3 0 r c) = Z (o + 384 + r) := by
  refine Eq.trans ?_ (shift_at Z t1 t2 c r o pv hp hd)
  pointwise [k0_pay6]

theorem flip_at (ho : o ≤ 1536) (hm : Mirror Z t1 t2 c o) : k0_pay4 k0_pay46 t1 t2 (ix2 r c) = Z (3456 - o + r) := by
  pointwise [k0_pay4]
  refine (flip_sum (fun x => (show EReal from t1 (ix2 ⟨384 + x, by omega⟩ c)) - t2 (ix2 ⟨384 + x, by omega⟩ c)) r).trans ?_
  refine (hm ⟨384 + r.rev, by omega⟩).trans ?_
  have hv := Fin.val_rev r
  congr 1; show 4223 - o - (384 + (r.rev : ℕ)) = _; omega

theorem pay7_at (ho : o ≤ 1536) (hm : Mirror Z t1 t2 c o) : k0_pay7 k0_pay46 t1 t2 (ix3 0 r c) = Z (3456 - o + r) := by
  refine Eq.trans ?_ (flip_at Z t1 t2 c r o ho hm)
  pointwise [k0_pay7]

theorem pay8_at (pv : FVec Ideal S113x512 .f32) (hp : ∀ x : Fin 113, pv (ix2 x c) = Z (1536 + 384 + x)) (hd : Direct Z t1 t2 c 1536) (hm : Mirror Z t1 t2 c 1536) :
    k0_pay8 k0_pay46 t1 t2 pv (ix3 0 r c) = Z (1920 + r) := by
  have h1 := shift_at Z t1 t2 c r 1536 pv hp hd
  have h2 := flip_at Z t1 t2 c r 1536 (by omega) hm
  pointwise [k0_pay8]
  unfold Scalar.select
  split
  · exact h1
  · exact h2

theorem pay9_at (x : Fin 113) (hd : Direct Z t1 t2 c o) : k0_pay9 t1 t2 (ix2 x c) = Z (o + 768 + x) := by
  pointwise [k0_pay9, k0_pay3]
  refine (hd ⟨384 + (271 + x), by omega⟩).trans ?_
  congr 1; show 113 + o + (384 + (271 + (x : ℕ))) = _; omega
end

section
variable (Z : ℕ → EReal) (w1 w2 : Vec Ideal S768x2304 .bf16) (v13 v17 : Vec Ideal S2304x512 .bf16) (c : Fin 512) (r : Fin 384) (o : ℕ)

theorem prod1_at (k : Fin 768) : k0_pay49 w1 v13 (ix2 k c) = ∑ g : Fin 2304, (show EReal from w1 (ix2 k g)) * v13 (ix2 g c) := by
  pointwise [k0_pay49]
  try rfl
theorem prod2_at (k : Fin 768) : k0_pay50 w2 v17 (ix2 k c) = ∑ g : Fin 2304, (show EReal from w2 (ix2 k g)) * v17 (ix2 g c) := by
  pointwise [k0_pay50]
  try rfl

theorem pay1_at (pv : FVec Ideal S113x512 .f32) (hp : ∀ x : Fin 113, pv (ix2 x c) = Z (o + x)) (hd : Direct Z (k0_pay49 w1 v13) (k0_pay50 w2 v17) c o) :
    k0_pay1 (k0_pay54 w1 v13 w2 v17 pv) (ix3 0 r c) = Z (o + r) := by
  pointwise [k0_pay1, k0_pay54, k0_pay51]
  by_cases h : (r : ℕ) < 113
  · rw [dif_pos h]; exact hp ⟨r, h⟩
  · rw [dif_neg h]
    refine (hd ⟨r - 113, by omega⟩).trans ?_
    congr 1; show 113 + o + ((r : ℕ) - 113) = _; omega

theorem pay2_at (ho : o ≤ 1536) (hm : Mirror Z (k0_pay49 w1 v13) (k0_pay50 w2 v17) c o) :
    k0_pay2 (k0_pay52 w1 v13 w2 v17) (ix3 0 r c) = Z (3840 - o + r) := by
  pointwise [k0_pay2, k0_pay52]
  refine (flip_sum (fun x => (show EReal from k0_pay49 w1 v13 (ix2 ⟨x, by omega⟩ c)) - k0_pay50 w2 v17 (ix2 ⟨x, by omega⟩ c)) r).trans ?_
  refine (hm ⟨r.rev, by omega⟩).trans ?_
  congr 1; rw [Fin.val_rev]; show 4223 - o - (384 - ((r : ℕ) + 1)) = _; omega

theorem pay53_at (x : Fin 113) (hd : Direct Z (k0_pay49 w1 v13) (k0_pay50 w2 v17) c o) :
    k0_pay53 w1 v13 w2 v17 (ix2 x c) = Z (o + 384 + x) := by
  pointwise [k0_pay53, k0_pay51]
  refine (hd ⟨271 + x, by omega⟩).trans ?_
  congr 1; show 113 + o + (271 + (x : ℕ)) = _; omega
end

theorem from_112 (n : ℕ) (hn : n < 4224) : IntOp.cmpi .sge (BitVec.ofNat 32 n) 112#32 = if 112 ≤ n then 1#1 else 0#1 := by
  show BitVec.ofBool (decide ((112#32 : BitVec 32).toInt ≤ (BitVec.ofNat 32 n).toInt)) = _
  rw [FouMath.ofNat_toInt n (by omega), show (112#32 : BitVec 32).toInt = 112 by decide]
  by_cases h : 112 ≤ n
  · rw [if_pos h, decide_eq_true (by omega)]; rfl
  · rw [if_neg h, decide_eq_false (by omega)]; rfl

open FouMath in
/-- The sum of the rows from 112 on, scaled. -/
theorem pay11_at (s : ℝ) (hs : Ideal.ofBits .f32 1014988896#32 = ((s : ℝ) : EReal)) (P Q : ℕ → ℝ) (x : Vec Ideal S1x4224x512 .bf16) (c : Fin 512)
    (hx : ∀ g : Fin 4224, 112 ≤ (g : ℕ) → x (ix3 0 g c) = ((P g : ℝ) : EReal)) : k0_pay11 x (ix2 0 c) = ((spec s P Q 112 : ℝ) : EReal) := by
  pointwise [k0_pay11]
  rw [hs, spec_zero, EReal.coe_mul]
  congr 1
  have e : ∀ g : Fin 4224, Scalar.select (IntOp.cmpi .sge (BitVec.ofNat 32 (g : ℕ)) 112#32) (show EReal from x (ix3 0 g c)) 0
      = (((fun n : ℕ => if 112 ≤ n then P n else 0) g : ℝ) : EReal) := by
    intro g
    rw [from_112 g g.2]
    by_cases h : 112 ≤ (g : ℕ)
    · rw [if_pos h, show (show EReal from x (ix3 0 g c)) = _ from hx g h]; show _ = (((if 112 ≤ (g : ℕ) then P g else 0) : ℝ) : EReal); rw [if_pos h]; rfl
    · rw [if_neg h]; show _ = (((if 112 ≤ (g : ℕ) then P g else 0) : ℝ) : EReal); rw [if_neg h]; rfl
  refine (Finset.sum_congr rfl (fun g _ => e g)).trans ?_
  rw [sum_coe]
  congr 1
  rw [← Finset.sum_range (fun n : ℕ => if 112 ≤ n then P n else 0), Finset.range_eq_Ico,
    ← Finset.sum_Ico_consecutive _ (show 0 ≤ 112 by omega) (show 112 ≤ 4224 by omega),
    Finset.sum_eq_zero (fun n hn => if_neg (by have := Finset.mem_Ico.mp hn; omega)), zero_add, Finset.sum_Ico_eq_sum_range]
  exact Finset.sum_congr rfl fun n _ => if_pos (by omega)

end Cert.FouVal
end
-- ==== Proof.FouRead.lean ====
/- The folded rows that the first tile of a sequence leaves, and the loads the tiles make, at an index. -/
module

public import proofs.«01_k».proof.Proof.FouTile
public import Idealize.ShloMosaic.Lib.WritesUnit

@[expose] public section

set_option maxRecDepth 16384

noncomputable section

namespace Cert.FouVal

open Cert.FouIdeal Cert.FouIdeal.Gen Idealize.ShloMosaic Idealize.ShloMosaic.TcCoe Idealize.SL.Sem

section
variable {F : FTy → Type} [FloatOps F]

/-- A load of 384 rows of a whole window. -/
theorem ld_rows (a3 : Memref sig .tc .vmem S1x4224x512 .bf16) (h3 : a3.IsWhole) (x1 : Vec F S1x4224x512 .bf16) (off : ℕ)
    (inb : ∀ a, (![0, off, 0] : Fin 3 → ℕ) a + S1x384x512.size a ≤ S1x4224x512.size a) (r : Fin 384) (c : Fin 512) (h : off + (r : ℕ) < 4224) :
    View.readAt (Elt F) a3.view (Rect.unit (s := S1x4224x512) ![0, off, 0] S1x384x512.size inb).toLoadRect (h3.unread x1) (ix3 0 r c) = x1 (ix3 0 ⟨off + r, h⟩ c) := by
  show a3.view.read (Elt F) (h3.unread x1) _ = _
  rw [h3.read_unread]
  refine congrArg x1 (funext fun a => Fin.ext ?_)
  match a with
  | ⟨0, _⟩ => rfl
  | ⟨1, _⟩ => exact congrArg (off + ·) (Nat.one_mul _)
  | ⟨2, _⟩ => exact (congrArg (0 + ·) (Nat.one_mul _)).trans (Nat.zero_add _)
end

section
variable (c : Dev nD) (a3 : Memref sig .tc .vmem S1x4224x512 .bf16) (h3 : a3.IsWhole) (x1 : Vec Ideal S1x4224x512 .bf16)
  (v : View sig .tc .vmem S2304x512 .bf16) (f : v.ty.Contents (Elt Ideal)) (X : ℕ → EReal) (n : Fin 512)

set_option maxHeartbeats 1000000 in
theorem pe_at (hX : ∀ g : Fin 4224, x1 (ix3 0 g n) = X g) (g : Fin 2304) :
    v.read (Elt Ideal) (v.writes (Elt Ideal) f (runA.sl.HS1_6 c a3 h3 x1)) (ix2 g n) = foldPE X g := by
  have hl : ∀ (off : ℕ) (inb : ∀ a, (![0, off, 0] : Fin 3 → ℕ) a + S1x384x512.size a ≤ S1x4224x512.size a) (ho : off ≤ 3840) (x : Fin 384),
      View.readAt (Elt Ideal) a3.view (Rect.unit (s := S1x4224x512) ![0, off, 0] S1x384x512.size inb).toLoadRect (h3.unread x1) (ix3 0 x n) = X (off + x) :=
    fun off inb ho x => (ld_rows a3 h3 x1 off inb x n (by omega)).trans (hX _)
  unfold runA.sl.HS1_6
  by_cases h1920 : 1920 ≤ (g : ℕ)
  · refine (View.read_writes_cons_rows_of_mem v f _ _ _ _ (ix2 (⟨(g : ℕ) - 1920, by omega⟩ : Fin 384) n) rfl (by show (g : ℕ) = 1920 + ((g : ℕ) - 1920); omega) rfl).trans ?_
    exact (p_1920 X _ _ _ ⟨(g : ℕ) - 1920, by omega⟩ n (hl _ _ (by omega)) (hl _ _ (by omega)) (hl _ _ (by omega))).trans (congrArg (foldPE X) (by show 1920 + ((g : ℕ) - 1920) = (g : ℕ); omega))
  refine (View.read_writes_cons_rows_of_not_mem v f _ _ _ _ rfl rfl (Or.inl (by show (g : ℕ) < 1920; omega))).trans ?_
  by_cases h1536 : 1536 ≤ (g : ℕ)
  · refine (View.read_writes_cons_rows_of_mem v f _ _ _ _ (ix2 (⟨(g : ℕ) - 1536, by omega⟩ : Fin 384) n) rfl (by show (g : ℕ) = 1536 + ((g : ℕ) - 1536); omega) rfl).trans ?_
    exact (p_1536 X _ _ _ ⟨(g : ℕ) - 1536, by omega⟩ n (hl _ _ (by omega)) (hl _ _ (by omega)) (hl _ _ (by omega))).trans (congrArg (foldPE X) (by show 1536 + ((g : ℕ) - 1536) = (g : ℕ); omega))
  refine (View.read_writes_cons_rows_of_not_mem v f _ _ _ _ rfl rfl (Or.inl (by show (g : ℕ) < 1536; omega))).trans ?_
  by_cases h1152 : 1152 ≤ (g : ℕ)
  · refine (View.read_writes_cons_rows_of_mem v f _ _ _ _ (ix2 (⟨(g : ℕ) - 1152, by omega⟩ : Fin 384) n) rfl (by show (g : ℕ) = 1152 + ((g : ℕ) - 1152); omega) rfl).trans ?_
    exact (p_1152 X _ _ _ ⟨(g : ℕ) - 1152, by omega⟩ n (hl _ _ (by omega)) (hl _ _ (by omega)) (hl _ _ (by omega))).trans (congrArg (foldPE X) (by show 1152 + ((g : ℕ) - 1152) = (g : ℕ); omega))
  refine (View.read_writes_cons_rows_of_not_mem v f _ _ _ _ rfl rfl (Or.inl (by show (g : ℕ) < 1152; omega))).trans ?_
  by_cases h768 : 768 ≤ (g : ℕ)
  · refine (View.read_writes_cons_rows_of_mem v f _ _ _ _ (ix2 (⟨(g : ℕ) - 768, by omega⟩ : Fin 384) n) rfl (by show (g : ℕ) = 768 + ((g : ℕ) - 768); omega) rfl).trans ?_
    exact (p_768 X _ _ _ ⟨(g : ℕ) - 768, by omega⟩ n (hl _ _ (by omega)) (hl _ _ (by omega)) (hl _ _ (by omega))).trans (congrArg (foldPE X) (by show 768 + ((g : ℕ) - 768) = (g : ℕ); omega))
  refine (View.read_writes_cons_rows_of_not_mem v f _ _ _ _ rfl rfl (Or.inl (by show (g : ℕ) < 768; omega))).trans ?_
  by_cases h384 : 384 ≤ (g : ℕ)
  · refine (View.read_writes_cons_rows_of_mem v f _ _ _ _ (ix2 (⟨(g : ℕ) - 384, by omega⟩ : Fin 384) n) rfl (by show (g : ℕ) = 384 + ((g : ℕ) - 384); omega) rfl).trans ?_
    exact (p_384 X _ _ _ ⟨(g : ℕ) - 384, by omega⟩ n (hl _ _ (by omega)) (hl _ _ (by omega)) (hl _ _ (by omega))).trans (congrArg (foldPE X) (by show 384 + ((g : ℕ) - 384) = (g : ℕ); omega))
  refine (View.read_writes_cons_rows_of_not_mem v f _ _ _ _ rfl rfl (Or.inl (by show (g : ℕ) < 384; omega))).trans ?_
  refine (View.read_writes_cons_rows_of_mem v f _ _ _ _ (ix2 (⟨(g : ℕ) - 0, by omega⟩ : Fin 384) n) rfl (by show (g : ℕ) = 0 + ((g : ℕ) - 0); omega) rfl).trans ?_
  exact (p_0 X _ _ ⟨(g : ℕ) - 0, by omega⟩ n (hl _ _ (by omega)) (hl _ _ (by omega))).trans (congrArg (foldPE X) (by show 0 + ((g : ℕ) - 0) = (g : ℕ); omega))

set_option maxHeartbeats 1000000 in
theorem qo_at (hX : ∀ g : Fin 4224, x1 (ix3 0 g n) = X g) (g : Fin 2304) :
    v.read (Elt Ideal) (v.writes (Elt Ideal) f (runA.sl.HS2_6 c a3 h3 x1)) (ix2 g n) = foldQE X g := by
  have hl : ∀ (off : ℕ) (inb : ∀ a, (![0, off, 0] : Fin 3 → ℕ) a + S1x384x512.size a ≤ S1x4224x512.size a) (ho : off ≤ 3840) (x : Fin 384),
      View.readAt (Elt Ideal) a3.view (Rect.unit (s := S1x4224x512) ![0, off, 0] S1x384x512.size inb).toLoadRect (h3.unread x1) (ix3 0 x n) = X (off + x) :=
    fun off inb ho x => (ld_rows a3 h3 x1 off inb x n (by omega)).trans (hX _)
  unfold runA.sl.HS2_6
  by_cases h1920 : 1920 ≤ (g : ℕ)
  · refine (View.read_writes_cons_rows_of_mem v f _ _ _ _ (ix2 (⟨(g : ℕ) - 1920, by omega⟩ : Fin 384) n) rfl (by show (g : ℕ) = 1920 + ((g : ℕ) - 1920); omega) rfl).trans ?_
    exact (q_1920 X _ _ _ ⟨(g : ℕ) - 1920, by omega⟩ n (hl _ _ (by omega)) (hl _ _ (by omega)) (hl _ _ (by omega))).trans (congrArg (foldQE X) (by show 1920 + ((g : ℕ) - 1920) = (g : ℕ); omega))
  refine (View.read_writes_cons_rows_of_not_mem v f _ _ _ _ rfl rfl (Or.inl (by show (g : ℕ) < 1920; omega))).trans ?_
  by_cases h1536 : 1536 ≤ (g : ℕ)
  · refine (View.read_writes_cons_rows_of_mem v f _ _ _ _ (ix2 (⟨(g : ℕ) - 1536, by omega⟩ : Fin 384) n) rfl (by show (g : ℕ) = 1536 + ((g : ℕ) - 1536); omega) rfl).trans ?_
    exact (q_1536 X _ _ _ ⟨(g : ℕ) - 1536, by omega⟩ n (hl _ _ (by omega)) (hl _ _ (by omega)) (hl _ _ (by omega))).trans (congrArg (foldQE X) (by show 1536 + ((g : ℕ) - 1536) = (g : ℕ); omega))
  refine (View.read_writes_cons_rows_of_not_mem v f _ _ _ _ rfl rfl (Or.inl (by show (g : ℕ) < 1536; omega))).trans ?_
  by_cases h1152 : 1152 ≤ (g : ℕ)
  · refine (View.read_writes_cons_rows_of_mem v f _ _ _ _ (ix2 (⟨(g : ℕ) - 1152, by omega⟩ : Fin 384) n) rfl (by show (g : ℕ) = 1152 + ((g : ℕ) - 1152); omega) rfl).trans ?_
    exact (q_1152 X _ _ _ ⟨(g : ℕ) - 1152, by omega⟩ n (hl _ _ (by omega)) (hl _ _ (by omega)) (hl _ _ (by omega))).trans (congrArg (foldQE X) (by show 1152 + ((g : ℕ) - 1152) = (g : ℕ); omega))
  refine (View.read_writes_cons_rows_of_not_mem v f _ _ _ _ rfl rfl (Or.inl (by show (g : ℕ) < 1152; omega))).trans ?_
  by_cases h768 : 768 ≤ (g : ℕ)
  · refine (View.read_writes_cons_rows_of_mem v f _ _ _ _ (ix2 (⟨(g : ℕ) - 768, by omega⟩ : Fin 384) n) rfl (by show (g : ℕ) = 768 + ((g : ℕ) - 768); omega) rfl).trans ?_
    exact (q_768 X _ _ _ ⟨(g : ℕ) - 768, by omega⟩ n (hl _ _ (by omega)) (hl _ _ (by omega)) (hl _ _ (by omega))).trans (congrArg (foldQE X) (by show 768 + ((g : ℕ) - 768) = (g : ℕ); omega))
  refine (View.read_writes_cons_rows_of_not_mem v f _ _ _ _ rfl rfl (Or.inl (by show (g : ℕ) < 768; omega))).trans ?_
  by_cases h384 : 384 ≤ (g : ℕ)
  · refine (View.read_writes_cons_rows_of_mem v f _ _ _ _ (ix2 (⟨(g : ℕ) - 384, by omega⟩ : Fin 384) n) rfl (by show (g : ℕ) = 384 + ((g : ℕ) - 384); omega) rfl).trans ?_
    exact (q_384 X _ _ _ ⟨(g : ℕ) - 384, by omega⟩ n (hl _ _ (by omega)) (hl _ _ (by omega)) (hl _ _ (by omega))).trans (congrArg (foldQE X) (by show 384 + ((g : ℕ) - 384) = (g : ℕ); omega))
  refine (View.read_writes_cons_rows_of_not_mem v f _ _ _ _ rfl rfl (Or.inl (by show (g : ℕ) < 384; omega))).trans ?_
  refine (View.read_writes_cons_rows_of_mem v f _ _ _ _ (ix2 (⟨(g : ℕ) - 0, by omega⟩ : Fin 384) n) rfl (by show (g : ℕ) = 0 + ((g : ℕ) - 0); omega) rfl).trans ?_
  exact (q_0 X _ _ ⟨(g : ℕ) - 0, by omega⟩ n (hl _ _ (by omega)) (hl _ _ (by omega))).trans (congrArg (foldQE X) (by show 0 + ((g : ℕ) - 0) = (g : ℕ); omega))
end
end Cert.FouVal
end
-- ==== Proof.FouOut.lean ====
/- The output window after a tile, row by row. -/
module

public import proofs.«01_k».proof.Proof.FouRead

@[expose] public section

set_option maxRecDepth 16384

noncomputable section

namespace Cert.FouVal

open Cert.FouIdeal Cert.FouIdeal.Gen Idealize.ShloMosaic Idealize.ShloMosaic.TcCoe Idealize.SL.Sem

section
variable (v : View sig .tc .vmem S1x4224x512 .bf16) (f : v.ty.Contents (Elt Ideal)) (Z : ℕ → EReal) (n : Fin 512) (m : ℕ)
  (o1 o2 o3 o4 : Fin 3 → ℕ) (w1 w2 w3 w4 : Vec Ideal S1x384x512 .bf16)
  (b1 : ∀ a, o1 a + S1x384x512.size a ≤ S1x4224x512.size a) (b2 : ∀ a, o2 a + S1x384x512.size a ≤ S1x4224x512.size a)
  (b3 : ∀ a, o3 a + S1x384x512.size a ≤ S1x4224x512.size a) (b4 : ∀ a, o4 a + S1x384x512.size a ≤ S1x4224x512.size a)

/-- After one of the first two tiles. -/
theorem out_two (hm : m ≤ 1) (e_o1 : o1 = ![0, 768 * m, 0]) (e_o2 : o2 = ![0, 3840 - 768 * m, 0]) (e_o3 : o3 = ![0, 768 * m + 384, 0]) (e_o4 : o4 = ![0, 3456 - 768 * m, 0])
    (hw1 : ∀ r : Fin 384, w1 (ix3 0 r n) = Z (768 * m + r)) (hw2 : ∀ r : Fin 384, w2 (ix3 0 r n) = Z (3840 - 768 * m + r))
    (hw3 : ∀ r : Fin 384, w3 (ix3 0 r n) = Z (768 * m + 384 + r)) (hw4 : ∀ r : Fin 384, w4 (ix3 0 r n) = Z (3456 - 768 * m + r))
    (row : Fin 4224) (hold : ((row : ℕ) < 768 * m ∨ 4224 - 768 * m ≤ (row : ℕ)) → v.read (Elt Ideal) f (ix3 0 row n) = Z row)
    (hr : (row : ℕ) < 768 * (m + 1) ∨ 3456 - 768 * m ≤ (row : ℕ)) :
    v.read (Elt Ideal) (v.writes (Elt Ideal) f [⟨Rect.unit (s := S1x4224x512) o4 S1x384x512.size b4, w4⟩, ⟨Rect.unit (s := S1x4224x512) o3 S1x384x512.size b3, w3⟩,
      ⟨Rect.unit (s := S1x4224x512) o2 S1x384x512.size b2, w2⟩, ⟨Rect.unit (s := S1x4224x512) o1 S1x384x512.size b1, w1⟩]) (ix3 0 row n) = Z row := by
  by_cases h_w4 : 3456 - 768 * m ≤ (row : ℕ) ∧ (row : ℕ) < 3456 - 768 * m + 384
  · refine (View.read_writes_cons_unit_of_mem v f _ _ _ _ (ix3 (0 : Fin 1) (⟨(row : ℕ) - (3456 - 768 * m), by omega⟩ : Fin 384) n) e_o4 ?_).trans ?_
    · intro a
      match a with
      | ⟨0, _⟩ => rfl
      | ⟨1, _⟩ => show (row : ℕ) = 3456 - 768 * m + ((row : ℕ) - (3456 - 768 * m)); omega
      | ⟨2, _⟩ => exact (Nat.zero_add _).symm
    · exact (hw4 ⟨(row : ℕ) - (3456 - 768 * m), by omega⟩).trans (congrArg Z (by show 3456 - 768 * m + ((row : ℕ) - (3456 - 768 * m)) = (row : ℕ); omega))
  refine (View.read_writes_cons_unit_of_not_mem v f _ _ _ _ e_o4 (1 : Fin 3) (by show (row : ℕ) < 3456 - 768 * m ∨ 3456 - 768 * m + 384 ≤ (row : ℕ); omega)).trans ?_
  by_cases h_w3 : 768 * m + 384 ≤ (row : ℕ) ∧ (row : ℕ) < 768 * m + 384 + 384
  · refine (View.read_writes_cons_unit_of_mem v f _ _ _ _ (ix3 (0 : Fin 1) (⟨(row : ℕ) - (768 * m + 384), by omega⟩ : Fin 384) n) e_o3 ?_).trans ?_
    · intro a
      match a with
      | ⟨0, _⟩ => rfl
      | ⟨1, _⟩ => show (row : ℕ) = 768 * m + 384 + ((row : ℕ) - (768 * m + 384)); omega
      | ⟨2, _⟩ => exact (Nat.zero_add _).symm
    · exact (hw3 ⟨(row : ℕ) - (768 * m + 384), by omega⟩).trans (congrArg Z (by show 768 * m + 384 + ((row : ℕ) - (768 * m + 384)) = (row : ℕ); omega))
  refine (View.read_writes_cons_unit_of_not_mem v f _ _ _ _ e_o3 (1 : Fin 3) (by show (row : ℕ) < 768 * m + 384 ∨ 768 * m + 384 + 384 ≤ (row : ℕ); omega)).trans ?_
  by_cases h_w2 : 3840 - 768 * m ≤ (row : ℕ) ∧ (row : ℕ) < 3840 - 768 * m + 384
  · refine (View.read_writes_cons_unit_of_mem v f _ _ _ _ (ix3 (0 : Fin 1) (⟨(row : ℕ) - (3840 - 768 * m), by omega⟩ : Fin 384) n) e_o2 ?_).trans ?_
    · intro a
      match a with
      | ⟨0, _⟩ => rfl
      | ⟨1, _⟩ => show (row : ℕ) = 3840 - 768 * m + ((row : ℕ) - (3840 - 768 * m)); omega
      | ⟨2, _⟩ => exact (Nat.zero_add _).symm
    · exact (hw2 ⟨(row : ℕ) - (3840 - 768 * m), by omega⟩).trans (congrArg Z (by show 3840 - 768 * m + ((row : ℕ) - (3840 - 768 * m)) = (row : ℕ); omega))
  refine (View.read_writes_cons_unit_of_not_mem v f _ _ _ _ e_o2 (1 : Fin 3) (by show (row : ℕ) < 3840 - 768 * m ∨ 3840 - 768 * m + 384 ≤ (row : ℕ); omega)).trans ?_
  by_cases h_w1 : 768 * m ≤ (row : ℕ) ∧ (row : ℕ) < 768 * m + 384
  · refine (View.read_writes_cons_unit_of_mem v f _ _ _ _ (ix3 (0 : Fin 1) (⟨(row : ℕ) - (768 * m), by omega⟩ : Fin 384) n) e_o1 ?_).trans ?_
    · intro a
      match a with
      | ⟨0, _⟩ => rfl
      | ⟨1, _⟩ => show (row : ℕ) = 768 * m + ((row : ℕ) - (768 * m)); omega
      | ⟨2, _⟩ => exact (Nat.zero_add _).symm
    · exact (hw1 ⟨(row : ℕ) - (768 * m), by omega⟩).trans (congrArg Z (by show 768 * m + ((row : ℕ) - (768 * m)) = (row : ℕ); omega))
  refine (View.read_writes_cons_unit_of_not_mem v f _ _ _ _ e_o1 (1 : Fin 3) (by show (row : ℕ) < 768 * m ∨ 768 * m + 384 ≤ (row : ℕ); omega)).trans ?_
  exact hold (by omega)

/-- After the last tile. -/
theorem out_last (e_o1 : o1 = ![0, 768 * 2, 0]) (e_o2 : o2 = ![0, 3840 - 768 * 2, 0]) (e_o3 : o3 = ![0, 1920, 0])
    (hw1 : ∀ r : Fin 384, w1 (ix3 0 r n) = Z (768 * 2 + r)) (hw2 : ∀ r : Fin 384, w2 (ix3 0 r n) = Z (3840 - 768 * 2 + r))
    (hw3 : ∀ r : Fin 384, w3 (ix3 0 r n) = Z (1920 + r))
    (row : Fin 4224) (hold : ((row : ℕ) < 768 * 2 ∨ 4224 - 768 * 2 ≤ (row : ℕ)) → v.read (Elt Ideal) f (ix3 0 row n) = Z row) :
    v.read (Elt Ideal) (v.writes (Elt Ideal) f [⟨Rect.unit (s := S1x4224x512) o3 S1x384x512.size b3, w3⟩,
      ⟨Rect.unit (s := S1x4224x512) o2 S1x384x512.size b2, w2⟩, ⟨Rect.unit (s := S1x4224x512) o1 S1x384x512.size b1, w1⟩]) (ix3 0 row n) = Z row := by
  by_cases h_w3 : 1920 ≤ (row : ℕ) ∧ (row : ℕ) < 1920 + 384
  · refine (View.read_writes_cons_unit_of_mem v f _ _ _ _ (ix3 (0 : Fin 1) (⟨(row : ℕ) - (1920), by omega⟩ : Fin 384) n) e_o3 ?_).trans ?_
    · intro a
      match a with
      | ⟨0, _⟩ => rfl
      | ⟨1, _⟩ => show (row : ℕ) = 1920 + ((row : ℕ) - (1920)); omega
      | ⟨2, _⟩ => exact (Nat.zero_add _).symm
    · exact (hw3 ⟨(row : ℕ) - (1920), by omega⟩).trans (congrArg Z (by show 1920 + ((row : ℕ) - (1920)) = (row : ℕ); omega))
  refine (View.read_writes_cons_unit_of_not_mem v f _ _ _ _ e_o3 (1 : Fin 3) (by show (row : ℕ) < 1920 ∨ 1920 + 384 ≤ (row : ℕ); omega)).trans ?_
  by_cases h_w2 : 3840 - 768 * 2 ≤ (row : ℕ) ∧ (row : ℕ) < 3840 - 768 * 2 + 384
  · refine (View.read_writes_cons_unit_of_mem v f _ _ _ _ (ix3 (0 : Fin 1) (⟨(row : ℕ) - (3840 - 768 * 2), by omega⟩ : Fin 384) n) e_o2 ?_).trans ?_
    · intro a
      match a with
      | ⟨0, _⟩ => rfl
      | ⟨1, _⟩ => show (row : ℕ) = 3840 - 768 * 2 + ((row : ℕ) - (3840 - 768 * 2)); omega
      | ⟨2, _⟩ => exact (Nat.zero_add _).symm
    · exact (hw2 ⟨(row : ℕ) - (3840 - 768 * 2), by omega⟩).trans (congrArg Z (by show 3840 - 768 * 2 + ((row : ℕ) - (3840 - 768 * 2)) = (row : ℕ); omega))
  refine (View.read_writes_cons_unit_of_not_mem v f _ _ _ _ e_o2 (1 : Fin 3) (by show (row : ℕ) < 3840 - 768 * 2 ∨ 3840 - 768 * 2 + 384 ≤ (row : ℕ); omega)).trans ?_
  by_cases h_w1 : 768 * 2 ≤ (row : ℕ) ∧ (row : ℕ) < 768 * 2 + 384
  · refine (View.read_writes_cons_unit_of_mem v f _ _ _ _ (ix3 (0 : Fin 1) (⟨(row : ℕ) - (768 * 2), by omega⟩ : Fin 384) n) e_o1 ?_).trans ?_
    · intro a
      match a with
      | ⟨0, _⟩ => rfl
      | ⟨1, _⟩ => show (row : ℕ) = 768 * 2 + ((row : ℕ) - (768 * 2)); omega
      | ⟨2, _⟩ => exact (Nat.zero_add _).symm
    · exact (hw1 ⟨(row : ℕ) - (768 * 2), by omega⟩).trans (congrArg Z (by show 768 * 2 + ((row : ℕ) - (768 * 2)) = (row : ℕ); omega))
  refine (View.read_writes_cons_unit_of_not_mem v f _ _ _ _ e_o1 (1 : Fin 3) (by show (row : ℕ) < 768 * 2 ∨ 768 * 2 + 384 ≤ (row : ℕ); omega)).trans ?_
  exact hold (by omega)
end

section
variable (a2 : Memref sig .tc .vmem S768x4608 .bf16) (h2 : a2.IsWhole) (x0 : Vec Ideal S768x4608 .bf16)

/-- A half of the tile's table. -/
theorem ld_half (off : ℕ) (inb : ∀ a, (![0, off] : Fin 2 → ℕ) a + S768x2304.size a ≤ S768x4608.size a) (k : Fin 768) (g : Fin 2304) (h : off + (g : ℕ) < 4608) :
    View.readAt (Elt Ideal) a2.view (Rect.unit (s := S768x4608) ![0, off] S768x2304.size inb).toLoadRect (h2.unread x0) (ix2 k g) = x0 (ix2 k ⟨off + g, h⟩) := by
  show a2.view.read (Elt Ideal) (h2.unread x0) _ = _
  rw [h2.read_unread]
  refine congrArg x0 (funext fun a => Fin.ext ?_)
  match a with
  | ⟨0, _⟩ => exact (congrArg (0 + ·) (Nat.one_mul _)).trans (Nat.zero_add _)
  | ⟨1, _⟩ => exact congrArg (off + ·) (Nat.one_mul _)
end

section
open FouMath
variable (s : ℝ) (P Q : ℕ → ℝ) (n : Fin 512) (w1 w2 : Vec Ideal S768x2304 .bf16) (v13 v17 : Vec Ideal S2304x512 .bf16) (o : ℕ)

theorem foldPE_real (X : ℕ → EReal) (hX : ∀ g, 112 ≤ g → g < 4224 → X g = ((P g : ℝ) : EReal)) (g : ℕ) (hg : g < 2304) : foldPE X g = ((foldP P g : ℝ) : EReal) := by
  unfold foldPE foldP
  by_cases h : 113 ≤ g ∧ g ≤ 2167
  · rw [if_pos h, if_pos h, hX g (by omega) (by omega), hX _ (by omega) (by omega), ← EReal.coe_add]
  · rw [if_neg h, if_neg h]
    by_cases h' : g = 112 ∨ g = 2168
    · rw [if_pos h', if_pos h', hX g (by omega) (by omega)]
    · rw [if_neg h', if_neg h']; rfl

theorem foldQE_real (X : ℕ → EReal) (hX : ∀ g, 112 ≤ g → g < 4224 → X g = ((Q g : ℝ) : EReal)) (g : ℕ) (hg : g < 2304) : foldQE X g = ((foldQ Q g : ℝ) : EReal) := by
  unfold foldQE foldQ
  by_cases h : 113 ≤ g ∧ g ≤ 2167
  · rw [if_pos h, if_pos h, hX g (by omega) (by omega), hX _ (by omega) (by omega), ← EReal.coe_sub]
  · rw [if_neg h, if_neg h]; rfl

theorem tile_real (hw1 : ∀ (k : Fin 768) (g : Fin 2304), w1 (ix2 k g) = ((onHalf (fun p => Real.cos (ang (((o + k + 1 : ℕ) : ℤ) * p)) * s) g : ℝ) : EReal))
    (hw2 : ∀ (k : Fin 768) (g : Fin 2304), w2 (ix2 k g) = ((onHalf (fun p => -Real.sin (ang (((o + k + 1 : ℕ) : ℤ) * p)) * s) g : ℝ) : EReal))
    (hv : ∀ g : Fin 2304, v13 (ix2 g n) = ((foldP P g : ℝ) : EReal)) (hv2 : ∀ g : Fin 2304, v17 (ix2 g n) = ((foldQ Q g : ℝ) : EReal)) (ho : o ≤ 1536) :
    Direct (fun row => ((spec s P Q row : ℝ) : EReal)) (k0_pay49 w1 v13) (k0_pay50 w2 v17) n o
      ∧ Mirror (fun row => ((spec s P Q row : ℝ) : EReal)) (k0_pay49 w1 v13) (k0_pay50 w2 v17) n o := by
  have t1 : ∀ k : Fin 768, k0_pay49 w1 v13 (ix2 k n)
      = ((∑ g ∈ Finset.range 2304, onHalf (fun p => Real.cos (ang (((o + k + 1 : ℕ) : ℤ) * p)) * s) g * foldP P g : ℝ) : EReal) := by
    intro k
    refine (prod1_at w1 v13 n k).trans ?_
    rw [Finset.sum_range, ← sum_coe]
    refine Finset.sum_congr rfl fun g _ => ?_
    rw [EReal.coe_mul]
    exact congrArg₂ (· * ·) (hw1 k g) (hv g)
  have t2 : ∀ k : Fin 768, k0_pay50 w2 v17 (ix2 k n)
      = ((∑ g ∈ Finset.range 2304, onHalf (fun p => -Real.sin (ang (((o + k + 1 : ℕ) : ℤ) * p)) * s) g * foldQ Q g : ℝ) : EReal) := by
    intro k
    refine (prod2_at w2 v17 n k).trans ?_
    rw [Finset.sum_range, ← sum_coe]
    refine Finset.sum_congr rfl fun g _ => ?_
    rw [EReal.coe_mul]
    exact congrArg₂ (· * ·) (hw2 k g) (hv2 g)
  constructor
  · intro k
    refine (congrArg₂ (fun x y : EReal => x + y) (t1 k) (t2 k)).trans ?_
    rw [← EReal.coe_add, spec_direct]
    show ((spec s P Q (112 + (o + k + 1)) : ℝ) : EReal) = ((spec s P Q (113 + o + k) : ℝ) : EReal)
    rw [show 112 + (o + (k : ℕ) + 1) = 113 + o + k by omega]
  · intro k
    refine (congrArg₂ (fun x y : EReal => x - y) (t1 k) (t2 k)).trans ?_
    rw [← EReal.coe_sub, spec_mirror _ _ _ _ (by omega)]
    show ((spec s P Q (4224 - (o + k + 1)) : ℝ) : EReal) = ((spec s P Q (4223 - o - k) : ℝ) : EReal)
    rw [show 4224 - (o + (k : ℕ) + 1) = 4223 - o - k by omega]
end
end Cert.FouVal
end
-- ==== Proof.FouStep.lean ====
/- What each of the three kinds of tile leaves in the output window and in the scratch arrays. -/
module

public import proofs.«01_k».proof.Proof.FouOut

@[expose] public section

set_option maxRecDepth 16384

noncomputable section

namespace Cert.FouVal

open Cert.FouIdeal Cert.FouIdeal.Gen Idealize.ShloMosaic Idealize.ShloMosaic.TcCoe Idealize.SL.Sem

open FouMath

/-- The transform of the rows whose real parts are `P` and `Q`, column by column. -/
def Zs (s : ℝ) (P Q : ℕ → ℕ → ℝ) (n row : ℕ) : EReal := ((spec s (P n) (Q n) row : ℝ) : EReal)

/-- The rows that `m` tiles have made. -/
def OutInv (Z : ℕ → ℕ → EReal) (m : ℕ) (X : Vec Ideal S1x4224x512 .bf16) : Prop :=
  ∀ (row : Fin 4224) (n : Fin 512), ((row : ℕ) < 768 * m ∨ 4224 - 768 * m ≤ (row : ℕ)) → X (ix3 0 row n) = Z n row

/-- The rows carried over to tile `m`. -/
def PrevInv (Z : ℕ → ℕ → EReal) (m : ℕ) (X : Vec Ideal S384x512 .f32) : Prop :=
  ∀ (x : Fin 113) (n : Fin 512), X (ix2 ⟨271 + x, by omega⟩ n) = Z n (768 * m + x)

/-- The folded rows. -/
def FoldInv (P Q : ℕ → ℕ → ℝ) (X Y : Vec Ideal S2304x512 .bf16) : Prop :=
  ∀ (g : Fin 2304) (n : Fin 512), X (ix2 g n) = ((foldP (P n) g : ℝ) : EReal) ∧ Y (ix2 g n) = ((foldQ (Q n) g : ℝ) : EReal)

/-- The table's rows of tile `m`. -/
def TabInv (s : ℝ) (m : ℕ) (X : Vec Ideal S768x4608 .bf16) : Prop :=
  ∀ (k : Fin 768) (g : Fin 2304), X (ix2 k ⟨0 + g, by omega⟩) = ((onHalf (fun p => Real.cos (ang (((768 * m + k + 1 : ℕ) : ℤ) * p)) * s) g : ℝ) : EReal)
    ∧ X (ix2 k ⟨2304 + g, by omega⟩) = ((onHalf (fun p => -Real.sin (ang (((768 * m + k + 1 : ℕ) : ℤ) * p)) * s) g : ℝ) : EReal)

/-- The input's rows. -/
def RowInv (P : ℕ → ℕ → ℝ) (X : Vec Ideal S1x4224x512 .bf16) : Prop :=
  ∀ (g : Fin 4224) (n : Fin 512), 112 ≤ (g : ℕ) → X (ix3 0 g n) = ((P n g : ℝ) : EReal)

theorem tile_inv (s : ℝ) (P Q : ℕ → ℕ → ℝ) (m : ℕ) (hm : m ≤ 2) (a2 : Memref sig .tc .vmem S768x4608 .bf16) (h2 : a2.IsWhole) (x0 : Vec Ideal S768x4608 .bf16) (hx0 : TabInv s m x0)
    (b1 : ∀ a, (![0, 0] : Fin 2 → ℕ) a + S768x2304.size a ≤ S768x4608.size a) (b2 : ∀ a, (![0, 2304] : Fin 2 → ℕ) a + S768x2304.size a ≤ S768x4608.size a)
    (v13 v17 : Vec Ideal S2304x512 .bf16) (hv : FoldInv P Q v13 v17) (n : Fin 512) :
    Direct (Zs s P Q n) (k0_pay49 (View.readAt (Elt Ideal) a2.view (Rect.unit (s := S768x4608) ![0, 0] S768x2304.size b1).toLoadRect (h2.unread x0)) v13)
        (k0_pay50 (View.readAt (Elt Ideal) a2.view (Rect.unit (s := S768x4608) ![0, 2304] S768x2304.size b2).toLoadRect (h2.unread x0)) v17) n (768 * m)
      ∧ Mirror (Zs s P Q n) (k0_pay49 (View.readAt (Elt Ideal) a2.view (Rect.unit (s := S768x4608) ![0, 0] S768x2304.size b1).toLoadRect (h2.unread x0)) v13)
        (k0_pay50 (View.readAt (Elt Ideal) a2.view (Rect.unit (s := S768x4608) ![0, 2304] S768x2304.size b2).toLoadRect (h2.unread x0)) v17) n (768 * m) :=
  tile_real s (P n) (Q n) n _ _ v13 v17 (768 * m)
    (fun k g => (ld_half a2 h2 x0 0 b1 k g (by omega)).trans (hx0 k g).1) (fun k g => (ld_half a2 h2 x0 2304 b2 k g (by omega)).trans (hx0 k g).2)
    (fun g => (hv g n).1) (fun g => (hv g n).2) (by omega)

theorem rd_fold (a : Memref sig .tc .vmem S2304x512 .bf16) (f : a.view.ty.Contents (Elt Ideal))
    (b : ∀ a, (![0, 0] : Fin 2 → ℕ) a + S2304x512.size a ≤ S2304x512.size a) (g : Fin 2304) (n : Fin 512) :
    View.readAt (Elt Ideal) a.view (Rect.unit (s := S2304x512) ![0, 0] S2304x512.size b).toLoadRect f (ix2 g n) = a.view.read (Elt Ideal) f (ix2 g n) := by
  show a.view.read (Elt Ideal) f _ = _
  refine congrArg (a.view.read (Elt Ideal) f) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem rd_prev (a : Memref sig .tc .vmem S384x512 .f32) (f : a.view.ty.Contents (Elt Ideal))
    (b : ∀ a, (![271, 0] : Fin 2 → ℕ) a + S113x512.size a ≤ S384x512.size a) (x : Fin 113) (n : Fin 512) :
    View.readAt (Elt Ideal) a.view (Rect.unit (s := S384x512) ![271, 0] S113x512.size b).toLoadRect f (ix2 x n) = a.view.read (Elt Ideal) f (ix2 ⟨271 + x, by omega⟩ n) := by
  show a.view.read (Elt Ideal) f _ = _
  refine congrArg (a.view.read (Elt Ideal) f) (funext fun a => Fin.ext ?_)
  match a with
  | ⟨0, _⟩ => exact congrArg (271 + ·) (Nat.one_mul _)
  | ⟨1, _⟩ => exact (congrArg (0 + ·) (Nat.one_mul _)).trans (Nat.zero_add _)

theorem rd_rows (a : Memref sig .tc .vmem S1x4224x512 .bf16) (h : a.IsWhole) (x1 : Vec Ideal S1x4224x512 .bf16)
    (b : ∀ a, (![0, 0, 0] : Fin 3 → ℕ) a + S1x4224x512.size a ≤ S1x4224x512.size a) (g : Fin 4224) (n : Fin 512) :
    View.readAt (Elt Ideal) a.view (Rect.unit (s := S1x4224x512) ![0, 0, 0] S1x4224x512.size b).toLoadRect (h.unread x1) (ix3 0 g n) = x1 (ix3 0 g n) := by
  show a.view.read (Elt Ideal) (h.unread x1) _ = _
  rw [h.read_unread]
  refine congrArg x1 (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)

theorem prev_new (Z : ℕ → ℕ → EReal) (a : Memref sig .tc .vmem S384x512 .f32) (f : a.view.ty.Contents (Elt Ideal)) (m : ℕ) (L : List (View.Piece (Elt Ideal) S384x512 .f32))
    (b : ∀ a, (![271, 0] : Fin 2 → ℕ) a + (![113, 512] : Fin 2 → ℕ) a ≤ S384x512.size a) (t1 t2 : FVec Ideal S768x512 .f32) (hd : ∀ n : Fin 512, Direct (Z n) t1 t2 n (768 * m)) :
    PrevInv Z (m + 1) (a.view.read (Elt Ideal) (a.view.writes (Elt Ideal) f (⟨Rect.unit (s := S384x512) ![271, 0] ![113, 512] b, k0_pay9 t1 t2⟩ :: L))) := by
  intro x n
  refine (View.read_writes_cons_rows_of_mem a.view f _ _ _ _ (ix2 x n) rfl rfl rfl).trans ?_
  refine (pay9_at (Z n) t1 t2 n (768 * m) x (hd n)).trans ?_
  congr 1

theorem zero_at (r : Fin 384) (n : Fin 512) : k0_pay10 (F := Ideal) (ix2 r n) = (0 : EReal) := by
  pointwise [k0_pay10]

/-- What the first tile finds in the carried rows: its own zero-frequency row, nothing before it. -/
theorem prev_first (s : ℝ) (hs : Ideal.ofBits .f32 1014988896#32 = ((s : ℝ) : EReal)) (P Q : ℕ → ℕ → ℝ) (c : Dev nD) (a3 : Memref sig .tc .vmem S1x4224x512 .bf16) (h3 : a3.IsWhole) (x1 : Vec Ideal S1x4224x512 .bf16)
    (hx1 : RowInv P x1) (a : Memref sig .tc .vmem S384x512 .f32) (f : a.view.ty.Contents (Elt Ideal)) :
    PrevInv (Zs s P Q) 0 (a.view.read (Elt Ideal) (a.view.writes (Elt Ideal) f (runA.sl.HS0_2 c a3 h3 x1))) := by
  intro x n
  unfold runA.sl.HS0_2
  by_cases h : 112 ≤ (x : ℕ)
  · refine (View.read_writes_cons_rows_of_mem a.view f _ _ _ _ (ix2 (0 : Fin 1) n) rfl (by show 271 + (x : ℕ) = 383 + 0; omega) rfl).trans ?_
    refine (pay11_at s hs (P n) (Q n) _ n (fun g hg => (rd_rows a3 h3 x1 _ g n).trans (hx1 g n hg))).trans ?_
    show _ = ((spec s (P n) (Q n) (768 * 0 + x) : ℝ) : EReal)
    rw [show 768 * 0 + (x : ℕ) = 112 by omega]
  · refine (View.read_writes_cons_rows_of_not_mem a.view f _ _ _ _ rfl rfl (Or.inl (by show 271 + (x : ℕ) < 383; omega))).trans ?_
    refine (View.read_writes_cons_rows_of_mem a.view f _ _ _ _ (ix2 (⟨271 + x, by omega⟩ : Fin 384) n) rfl (by show 271 + (x : ℕ) = 0 + (271 + x); omega) rfl).trans ?_
    refine (zero_at _ _).trans ?_
    show _ = ((spec s (P n) (Q n) (768 * 0 + x) : ℝ) : EReal)
    rw [spec_pad _ _ _ _ (by omega)]; rfl

section
variable (s : ℝ) (hs : Ideal.ofBits .f32 1014988896#32 = ((s : ℝ) : EReal)) (P Q : ℕ → ℕ → ℝ)
include hs

theorem fold_first (c : Dev nD) (a3 : Memref sig .tc .vmem S1x4224x512 .bf16) (h3 : a3.IsWhole) (x1 : Vec Ideal S1x4224x512 .bf16) (a4 : Memref sig .tc .vmem S1x4224x512 .bf16) (h4 : a4.IsWhole) (x2 : Vec Ideal S1x4224x512 .bf16)
    (hx1 : RowInv P x1) (hx2 : RowInv Q x2) (a7 a8 : Memref sig .tc .vmem S2304x512 .bf16) (f : a7.view.ty.Contents (Elt Ideal)) (f' : a8.view.ty.Contents (Elt Ideal)) :
    FoldInv P Q (a7.view.read (Elt Ideal) (a7.view.writes (Elt Ideal) f (runA.sl.HS1_6 c a3 h3 x1))) (a8.view.read (Elt Ideal) (a8.view.writes (Elt Ideal) f' (runA.sl.HS2_6 c a4 h4 x2))) := by
  intro g n
  exact ⟨(pe_at c a3 h3 x1 a7.view f (fun k => if h : k < 4224 then x1 (ix3 0 ⟨k, h⟩ n) else 0) n (fun k => by rw [dif_pos k.2]) g).trans (foldPE_real (P n) _ (fun k h h' => (dif_pos h').trans (hx1 ⟨k, h'⟩ n h)) g g.2),
    (qo_at c a4 h4 x2 a8.view f' (fun k => if h : k < 4224 then x2 (ix3 0 ⟨k, h⟩ n) else 0) n (fun k => by rw [dif_pos k.2]) g).trans (foldQE_real (Q n) _ (fun k h h' => (dif_pos h').trans (hx2 ⟨k, h'⟩ n h)) g g.2)⟩

set_option maxHeartbeats 1000000 in
theorem stepA (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : cond0_0 i) (hc1 : cond0_1 i) (hc2 : ¬cond0_2 i) (x0 : Vec Ideal S768x4608 .bf16) (x1 : Vec Ideal S1x4224x512 .bf16) (x2 : Vec Ideal S1x4224x512 .bf16) (x3 : Vec Ideal S1x4224x512 .bf16)
    (hi : (i 1).val = 0) (hx0 : TabInv s 0 x0) (hx1 : RowInv P x1) (hx2 : RowInv Q x2) :
    OutInv (Zs s P Q) 1 (arg5.view.read (Elt Ideal) (arg5.view.writes (Elt Ideal) (harg5.unread x3) (runA c i arg2 harg2 arg3 harg3 arg4 harg4 arg5 harg5 arg6 harg6 arg7 harg7 arg8 harg8 hc0 hc1 hc2 x0 x1 x2 x3).1))
      ∧ (∀ f, PrevInv (Zs s P Q) 1 (arg6.view.read (Elt Ideal) (arg6.view.writes (Elt Ideal) f (runA c i arg2 harg2 arg3 harg3 arg4 harg4 arg5 harg5 arg6 harg6 arg7 harg7 arg8 harg8 hc0 hc1 hc2 x0 x1 x2 x3).2.1)))
      ∧ ∀ f f', FoldInv P Q (arg7.view.read (Elt Ideal) (arg7.view.writes (Elt Ideal) f (runA c i arg2 harg2 arg3 harg3 arg4 harg4 arg5 harg5 arg6 harg6 arg7 harg7 arg8 harg8 hc0 hc1 hc2 x0 x1 x2 x3).2.2.1)) (arg8.view.read (Elt Ideal) (arg8.view.writes (Elt Ideal) f' (runA c i arg2 harg2 arg3 harg3 arg4 harg4 arg5 harg5 arg6 harg6 arg7 harg7 arg8 harg8 hc0 hc1 hc2 x0 x1 x2 x3).2.2.2.1)) := by
  have hp := fun f => prev_first s hs P Q c arg3 harg3 x1 hx1 arg6 f
  have hf := fun f f' => fold_first s hs P Q c arg3 harg3 x1 arg4 harg4 x2 hx1 hx2 arg7 arg8 f f'
  have ht := fun n => tile_inv s P Q 0 (by omega) arg2 harg2 x0 hx0 inb_S768x4608_S768x2304_0_0 inb_S768x4608_S768x2304_0_2304
    (arg7.view.readCov (runA.sl.HS1_6 c arg3 harg3 x1) (Rect.unit (s := S2304x512) ![0, 0] S2304x512.size inb_S2304x512_S2304x512_0_0).toLoadRect)
    (arg8.view.readCov (runA.sl.HS2_6 c arg4 harg4 x2) (Rect.unit (s := S2304x512) ![0, 0] S2304x512.size inb_S2304x512_S2304x512_0_0).toLoadRect)
    (fun g n => ⟨(rd_fold arg7 _ _ g n).trans (hf _ arg8.view.junk g n).1, (rd_fold arg8 _ _ g n).trans (hf arg7.view.junk _ g n).2⟩) n
  have hv : ∀ (x : Fin 113) (n : Fin 512), arg6.view.readCov (runA.sl.HS0_2 c arg3 harg3 x1) (Rect.unit (s := S384x512) ![271, 0] S113x512.size inb_S384x512_S113x512_271_0).toLoadRect (ix2 x n) = Zs s P Q n (768 * 0 + x) :=
    fun x n => (rd_prev arg6 _ _ x n).trans (hp _ x n)
  refine ⟨?_, ?_, hf⟩
  · intro row n hr
    refine out_two arg5.view _ (Zs s P Q n) n 0 (k0_off1 i) (k0_off2 i) (k0_off3 i) (k0_off4 i) _ _ _ _ _ _ _ _ (by omega)
      (by rw [k0_off1_eq, hi]) (by rw [k0_off2_eq, hi]) (by rw [k0_off3_eq, hi]) (by rw [k0_off4_eq, hi])
      (fun r => pay1_at (Zs s P Q n) _ _ _ _ n r (768 * 0) _ (fun x => hv x n) (ht n).1)
      (fun r => pay2_at (Zs s P Q n) _ _ _ _ n r (768 * 0) (by omega) (ht n).2)
      (fun r => pay6_at (Zs s P Q n) _ _ n r (768 * 0) _ (fun x => pay53_at (Zs s P Q n) _ _ _ _ n (768 * 0) x (ht n).1) (ht n).1)
      (fun r => pay7_at (Zs s P Q n) _ _ n r (768 * 0) (by omega) (ht n).2)
      row (fun h => by omega) (by omega)
  · intro f
    exact prev_new (Zs s P Q) arg6 f 0 _ _ _ _ (fun n => (ht n).1)

set_option maxHeartbeats 1000000 in
theorem stepB (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : cond0_1 i) (hc2 : ¬cond0_2 i) (x0 : Vec Ideal S768x4608 .bf16) (x1 : Vec Ideal S1x4224x512 .bf16) (x2 : Vec Ideal S1x4224x512 .bf16) (x3 : Vec Ideal S1x4224x512 .bf16) (xs0 : Vec Ideal S384x512 .f32) (xs1 : Vec Ideal S2304x512 .bf16) (xs2 : Vec Ideal S2304x512 .bf16)
    (hi : (i 1).val = 1) (hx0 : TabInv s 1 x0) (hx3 : OutInv (Zs s P Q) 1 x3) (hxs0 : PrevInv (Zs s P Q) 1 xs0) (hxs : FoldInv P Q xs1 xs2) :
    OutInv (Zs s P Q) 2 (arg5.view.read (Elt Ideal) (arg5.view.writes (Elt Ideal) (harg5.unread x3) (runB c i arg2 harg2 arg3 harg3 arg4 harg4 arg5 harg5 arg6 harg6 arg7 harg7 arg8 harg8 hc0 hc1 hc2 x0 x1 x2 x3 xs0 xs1 xs2).1))
      ∧ PrevInv (Zs s P Q) 2 (arg6.view.read (Elt Ideal) (arg6.view.writes (Elt Ideal) (harg6.unread xs0) (runB c i arg2 harg2 arg3 harg3 arg4 harg4 arg5 harg5 arg6 harg6 arg7 harg7 arg8 harg8 hc0 hc1 hc2 x0 x1 x2 x3 xs0 xs1 xs2).2.1)) := by
  have ht := fun n => tile_inv s P Q 1 (by omega) arg2 harg2 x0 hx0 inb_S768x4608_S768x2304_0_0 inb_S768x4608_S768x2304_0_2304
    (View.readAt (Elt Ideal) arg7.view (Rect.unit (s := S2304x512) ![0, 0] S2304x512.size inb_S2304x512_S2304x512_0_0).toLoadRect (harg7.unread xs1))
    (View.readAt (Elt Ideal) arg8.view (Rect.unit (s := S2304x512) ![0, 0] S2304x512.size inb_S2304x512_S2304x512_0_0).toLoadRect (harg8.unread xs2))
    (fun g n => ⟨(rd_fold arg7 _ _ g n).trans ((congrFun (harg7.read_unread _) _).trans (hxs g n).1), (rd_fold arg8 _ _ g n).trans ((congrFun (harg8.read_unread _) _).trans (hxs g n).2)⟩) n
  have hv : ∀ (x : Fin 113) (n : Fin 512), View.readAt (Elt Ideal) arg6.view (Rect.unit (s := S384x512) ![271, 0] S113x512.size inb_S384x512_S113x512_271_0).toLoadRect (harg6.unread xs0) (ix2 x n) = Zs s P Q n (768 * 1 + x) :=
    fun x n => (rd_prev arg6 _ _ x n).trans ((congrFun (harg6.read_unread _) _).trans (hxs0 x n))
  have hold : ∀ (row : Fin 4224) (n : Fin 512), ((row : ℕ) < 768 * 1 ∨ 4224 - 768 * 1 ≤ (row : ℕ)) → arg5.view.read (Elt Ideal) (harg5.unread x3) (ix3 0 row n) = Zs s P Q n row :=
    fun row n h => (congrFun (harg5.read_unread _) _).trans (hx3 row n h)
  refine ⟨?_, ?_⟩
  · intro row n hr
    refine out_two arg5.view _ (Zs s P Q n) n 1 (k0_off1 i) (k0_off2 i) (k0_off3 i) (k0_off4 i) _ _ _ _ _ _ _ _ (by omega)
      (by rw [k0_off1_eq, hi]) (by rw [k0_off2_eq, hi]) (by rw [k0_off3_eq, hi]) (by rw [k0_off4_eq, hi])
      (fun r => pay1_at (Zs s P Q n) _ _ _ _ n r (768 * 1) _ (fun x => hv x n) (ht n).1)
      (fun r => pay2_at (Zs s P Q n) _ _ _ _ n r (768 * 1) (by omega) (ht n).2)
      (fun r => pay6_at (Zs s P Q n) _ _ n r (768 * 1) _ (fun x => pay53_at (Zs s P Q n) _ _ _ _ n (768 * 1) x (ht n).1) (ht n).1)
      (fun r => pay7_at (Zs s P Q n) _ _ n r (768 * 1) (by omega) (ht n).2)
      row (hold row n) (by omega)
  · exact prev_new (Zs s P Q) arg6 _ 1 _ _ _ _ (fun n => (ht n).1)

set_option maxHeartbeats 1000000 in
theorem stepC (c : Dev nD) (i : grid0.Coords) (arg2 : Memref sig .tc .vmem S768x4608 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S1x4224x512 .bf16) (harg5 : arg5.IsWhole) (arg6 : Memref sig .tc .vmem S384x512 .f32) (harg6 : arg6.IsWhole) (arg7 : Memref sig .tc .vmem S2304x512 .bf16) (harg7 : arg7.IsWhole) (arg8 : Memref sig .tc .vmem S2304x512 .bf16) (harg8 : arg8.IsWhole) (hc0 : ¬cond0_0 i) (hc1 : ¬cond0_1 i) (hc2 : cond0_2 i) (x0 : Vec Ideal S768x4608 .bf16) (x1 : Vec Ideal S1x4224x512 .bf16) (x2 : Vec Ideal S1x4224x512 .bf16) (x3 : Vec Ideal S1x4224x512 .bf16) (xs0 : Vec Ideal S384x512 .f32) (xs1 : Vec Ideal S2304x512 .bf16) (xs2 : Vec Ideal S2304x512 .bf16)
    (hi : (i 1).val = 2) (hx0 : TabInv s 2 x0) (hx3 : OutInv (Zs s P Q) 2 x3) (hxs0 : PrevInv (Zs s P Q) 2 xs0) (hxs : FoldInv P Q xs1 xs2) :
    OutInv (Zs s P Q) 3 (arg5.view.read (Elt Ideal) (arg5.view.writes (Elt Ideal) (harg5.unread x3) (runC c i arg2 harg2 arg3 harg3 arg4 harg4 arg5 harg5 arg6 harg6 arg7 harg7 arg8 harg8 hc0 hc1 hc2 x0 x1 x2 x3 xs0 xs1 xs2).1))
      ∧ PrevInv (Zs s P Q) 3 (arg6.view.read (Elt Ideal) (arg6.view.writes (Elt Ideal) (harg6.unread xs0) (runC c i arg2 harg2 arg3 harg3 arg4 harg4 arg5 harg5 arg6 harg6 arg7 harg7 arg8 harg8 hc0 hc1 hc2 x0 x1 x2 x3 xs0 xs1 xs2).2.1)) := by
  have ht := fun n => tile_inv s P Q 2 (by omega) arg2 harg2 x0 hx0 inb_S768x4608_S768x2304_0_0 inb_S768x4608_S768x2304_0_2304
    (View.readAt (Elt Ideal) arg7.view (Rect.unit (s := S2304x512) ![0, 0] S2304x512.size inb_S2304x512_S2304x512_0_0).toLoadRect (harg7.unread xs1))
    (View.readAt (Elt Ideal) arg8.view (Rect.unit (s := S2304x512) ![0, 0] S2304x512.size inb_S2304x512_S2304x512_0_0).toLoadRect (harg8.unread xs2))
    (fun g n => ⟨(rd_fold arg7 _ _ g n).trans ((congrFun (harg7.read_unread _) _).trans (hxs g n).1), (rd_fold arg8 _ _ g n).trans ((congrFun (harg8.read_unread _) _).trans (hxs g n).2)⟩) n
  have hv : ∀ (x : Fin 113) (n : Fin 512), View.readAt (Elt Ideal) arg6.view (Rect.unit (s := S384x512) ![271, 0] S113x512.size inb_S384x512_S113x512_271_0).toLoadRect (harg6.unread xs0) (ix2 x n) = Zs s P Q n (768 * 2 + x) :=
    fun x n => (rd_prev arg6 _ _ x n).trans ((congrFun (harg6.read_unread _) _).trans (hxs0 x n))
  have hold : ∀ (row : Fin 4224) (n : Fin 512), ((row : ℕ) < 768 * 2 ∨ 4224 - 768 * 2 ≤ (row : ℕ)) → arg5.view.read (Elt Ideal) (harg5.unread x3) (ix3 0 row n) = Zs s P Q n row :=
    fun row n h => (congrFun (harg5.read_unread _) _).trans (hx3 row n h)
  refine ⟨?_, ?_⟩
  · intro row n hr
    refine out_last arg5.view _ (Zs s P Q n) n (k0_off1 i) (k0_off2 i) ![0, 1920, 0] _ _ _ _ _ _
      (by rw [k0_off1_eq, hi]) (by rw [k0_off2_eq, hi]) rfl
      (fun r => pay1_at (Zs s P Q n) _ _ _ _ n r (768 * 2) _ (fun x => hv x n) (ht n).1)
      (fun r => pay2_at (Zs s P Q n) _ _ _ _ n r (768 * 2) (by omega) (ht n).2)
      (fun r => pay8_at (Zs s P Q n) _ _ n r _ (fun x => pay53_at (Zs s P Q n) _ _ _ _ n (768 * 2) x (ht n).1) (ht n).1 (ht n).2)
      row (hold row n)
  · exact prev_new (Zs s P Q) arg6 _ 2 _ _ _ _ (fun n => (ht n).1)
end
end Cert.FouVal
end
-- ==== Proof.FouTable.lean ====
/- The table of the Fourier call, at an index. -/
module

public import proofs.«01_k».proof.Proof.FouFrame
public import Idealize.ShloMosaic.Lib.Pipeline.ValueKit
public import proofs.«01_k».proof.Proof.FouWords

@[expose] public section

set_option maxRecDepth 16384

noncomputable section

namespace Cert.FouVal

open Cert.FouIdeal Cert.FouIdeal.Gen Idealize.ShloMosaic Idealize.ShloMosaic.TcCoe Idealize.SL.Sem
open Cert.FouFrame (V iblk)
open Cert.FouMath

variable (m : (ℓ : Loc nD τ sig) → Buf (Elt Ideal) ℓ) (c : Dev nD)

theorem cond_at (n : ℕ) (hn : n < 2304) :
    IntOp.andi (IntOp.cmpi .sge (IntOp.subi (BitVec.ofNat 32 (n / 128 * 128 + n % 128)) 112#32) 0#32)
        (IntOp.cmpi .sle (IntOp.subi (BitVec.ofNat 32 (n / 128 * 128 + n % 128)) 112#32) 2056#32) = if 112 ≤ n ∧ n ≤ 2168 then 1#1 else 0#1 := by
  have e : n / 128 * 128 + n % 128 = n := by omega
  rw [e]
  have h : (IntOp.subi (BitVec.ofNat 32 n) 112#32).toInt = (n : ℤ) - 112 := by
    rw [sub_toInt] <;> rw [ofNat_toInt n (by omega), show (112#32 : BitVec 32).toInt = 112 by decide] <;> omega
  generalize IntOp.subi (BitVec.ofNat 32 n) 112#32 = w at h
  show BitVec.ofBool (decide ((0#32 : BitVec 32).toInt ≤ w.toInt)) &&& BitVec.ofBool (decide (w.toInt ≤ (2056#32 : BitVec 32).toInt)) = _
  rw [h, show (0#32 : BitVec 32).toInt = 0 by decide, show (2056#32 : BitVec 32).toInt = 2056 by decide]
  by_cases h1 : 112 ≤ n <;> by_cases h2 : n ≤ 2168
  · rw [if_pos ⟨h1, h2⟩, decide_eq_true (by omega), decide_eq_true (by omega)]; rfl
  · rw [if_neg (by omega), decide_eq_true (by omega), decide_eq_false (by omega)]; rfl
  · rw [if_neg (by omega), decide_eq_false (by omega), decide_eq_true (by omega)]; rfl
  · omega
theorem sel_half (P : Prop) [Decidable P] (x y : EReal) : Scalar.select (if P then 1#1 else 0#1) x y = if P then x else y := by
  by_cases h : P
  · rw [if_pos h, if_pos h]; rfl
  · rw [if_neg h, if_neg h]; rfl
theorem zero_bits : (FloatOps.ofBits (F := Ideal) FTy.f32 0#32 : EReal) = ((0 : ℝ) : EReal) := by
  show Ideal.ofBits .f32 0#32 = _
  simp [Ideal.ofBits, Ideal.ieee]
theorem cmp0 : IntOp.cmpi .eq (4112#32 : BitVec 32) 0#32 = 0#1 := by decide
theorem sel0 {α : Type} (x y : α) : Scalar.select (0#1) x y = y := rfl
theorem sel1 {α : Type} (x y : α) : Scalar.select (1#1) x y = x := rfl
theorem zero_elt : (id (constant (F := Ideal) S_ FTy.f32 0#32) ix0) = (((0 : ℝ)) : EReal) := by
  show Ideal.ofBits .f32 0#32 = _
  simp [Ideal.ofBits, Ideal.ieee]

set_option maxHeartbeats 2000000 in
/-- The table: the weights of the first half of the positions, cosines on the left, sines on the right. -/
theorem table_at (s : ℝ) (hs : Ideal.ofBits .f32 1014988896#32 = ((s : ℝ) : EReal)) (j : Fin 2304) (n : Fin 4608) :
    V m c main_v70 (ix2 j n) = (show EReal from if (n : ℕ) < 2304 then ((onHalf (fun p => Real.cos (ang (((j : ℕ) + 1 : ℤ) * p)) * s) n : ℝ) : EReal)
      else ((onHalf (fun p => -Real.sin (ang (((j : ℕ) + 1 : ℤ) * p)) * s) ((n : ℕ) - 2304) : ℝ) : EReal)) := by
  simp only [V, hostOps0, hostOps0_1, hostOps0_2, hostOps0_3, hostOps0_4, List.flatten_cons, List.flatten_nil, List.cons_append, List.nil_append, List.append_nil]
  after_results_simp
  pointwise
  after_results_simp
  simp only [StableHlo.TRef.ofBuf, StableHlo.TRef.toBuf, cast_eq, eqRec_eq_cast, eq_rec_constant]
  pointwise
  rcases Nat.lt_or_ge n.val 2304 with hn | hn
  · simp only [dif_pos hn, if_pos hn, id_eq, constantI, constant, cmp0, sel0, sel1, step_eq, cos_turn, sin_turn, hs, zero_elt]
    rw [freq_low j _ j.2 (Nat.mod_lt _ (by omega)), freq_high j _ j.2 (by omega), cond_at _ hn, sel_half, zero_bits]
    unfold onHalf
    by_cases hc : 112 ≤ (n : ℕ) ∧ (n : ℕ) ≤ 2168
    · rw [if_pos hc, if_pos hc, ← EReal.coe_mul, ← EReal.coe_mul, ← EReal.coe_sub, ← EReal.coe_mul, ← Real.cos_add, ← ang_add, ← mul_add]
      have : (128 * ((n : ℕ) / 128 : ℕ) - 112 + ((n : ℕ) % 128 : ℕ) : ℤ) = (n : ℤ) - 112 := by omega
      rw [this]
    · rw [if_neg hc, if_neg hc]
  · simp only [dif_neg (Nat.not_lt.mpr hn), if_neg (Nat.not_lt.mpr hn), id_eq, constantI, constant, cmp0, sel0, sel1, step_eq, cos_turn, sin_turn, hs, zero_elt]
    have hn2 : (n : ℕ) - 2304 < 2304 := by omega
    rw [freq_low j _ j.2 (Nat.mod_lt _ (by omega)), freq_high j _ j.2 (by omega), cond_at _ hn2, sel_half, zero_bits]
    unfold onHalf
    generalize (n : ℕ) - 2304 = k at hn2
    by_cases hc : 112 ≤ k ∧ k ≤ 2168
    · rw [if_pos hc, if_pos hc, ← EReal.coe_mul, ← EReal.coe_mul, ← EReal.coe_add, ← EReal.coe_neg, ← EReal.coe_mul, ← Real.sin_add, ← ang_add, ← mul_add]
      have : (128 * (k / 128 : ℕ) - 112 + (k % 128 : ℕ) : ℤ) = (k : ℤ) - 112 := by omega
      rw [this]
    · rw [if_neg hc, if_neg hc]
end Cert.FouVal
end
-- ==== Proof.FouBlocks.lean ====
/- The Fourier transform: the blocks that a point is given, in terms of the argument. -/
module

public import proofs.«01_k».proof.Proof.FouStep
public import proofs.«01_k».proof.Proof.FouTable
public import Idealize.ShloMosaic.Lib.Pipeline.ValueKit

@[expose] public section

set_option maxRecDepth 16384

noncomputable section

namespace Cert.FouVal

open Cert.FouIdeal Cert.FouIdeal.Gen Cert.FouFrame
open Idealize.ShloMosaic Idealize.ShloMosaic.TcCoe Idealize.ShloMosaic.Tactic
open FouMath

variable (m : (ℓ : Loc nD τ sig) → Buf (Elt Ideal) ℓ) (c : Dev nD)

/-- The real parts of a sequence, column by column and row by row, -/
def Pr (b n g : ℕ) : ℝ := if h : b < 8 ∧ n < 512 ∧ g < 4224 then EReal.toReal (m (c.tc.loc main_arg0) (ix3 ⟨b, h.1⟩ ⟨g, h.2.2⟩ ⟨n, by omega⟩)) else 0
/-- and the imaginary parts. -/
def Qr (b n g : ℕ) : ℝ := if h : b < 8 ∧ n < 512 ∧ g < 4224 then EReal.toReal (m (c.tc.loc main_arg0) (ix3 ⟨b, h.1⟩ ⟨g, h.2.2⟩ ⟨512 + n, by omega⟩)) else 0

/-- Every row past the padding is finite. -/
def FinRows : Prop := ∀ (b : Fin 8) (g : Fin 4224) (k : Fin 1024), 112 ≤ (g : ℕ) → ∃ x : ℝ, m (c.tc.loc main_arg0) (ix3 b g k) = ((x : ℝ) : EReal)

theorem arg_P (h : FinRows m c) (b : Fin 8) (g : Fin 4224) (n : Fin 512) (hg : 112 ≤ (g : ℕ)) :
    m (c.tc.loc main_arg0) (ix3 b g ⟨n, by omega⟩) = ((Pr m c b n g : ℝ) : EReal) := by
  obtain ⟨x, hx⟩ := h b g ⟨n, by omega⟩ hg
  unfold Pr
  rw [dif_pos ⟨b.2, n.2, g.2⟩]
  rw [show m (c.tc.loc main_arg0) (ix3 (⟨b, b.2⟩ : Fin 8) (⟨g, g.2⟩ : Fin 4224) ⟨n, by omega⟩) = ((x : ℝ) : EReal) from hx]
  exact congrArg _ (EReal.toReal_coe x).symm

theorem arg_Q (h : FinRows m c) (b : Fin 8) (g : Fin 4224) (n : Fin 512) (hg : 112 ≤ (g : ℕ)) :
    m (c.tc.loc main_arg0) (ix3 b g ⟨512 + n, by omega⟩) = ((Qr m c b n g : ℝ) : EReal) := by
  obtain ⟨x, hx⟩ := h b g ⟨512 + n, by omega⟩ hg
  unfold Qr
  rw [dif_pos ⟨b.2, n.2, g.2⟩]
  rw [show m (c.tc.loc main_arg0) (ix3 (⟨b, b.2⟩ : Fin 8) (⟨g, g.2⟩ : Fin 4224) ⟨512 + n, by omega⟩) = ((x : ℝ) : EReal) from hx]
  exact congrArg _ (EReal.toReal_coe x).symm

theorem idx0 : ∀ t : Fin cfg0.N, win0_0.index t = ![(t : ℕ) % 3, 0] := (by decide +kernel : ∀ t : Fin grid0.N, _)
theorem idx1 : ∀ t : Fin cfg0.N, win0_1.index t = ![(t : ℕ) / 3, 0, 0] := (by decide +kernel : ∀ t : Fin grid0.N, _)
theorem idx2 : ∀ t : Fin cfg0.N, win0_2.index t = ![(t : ℕ) / 3, 0, 1] := (by decide +kernel : ∀ t : Fin grid0.N, _)
theorem idx3 : ∀ t : Fin cfg0.N, win0_3.index t = ![(t : ℕ) / 3, 0, 0] := (by decide +kernel : ∀ t : Fin grid0.N, _)

theorem point_lt (t : Fin cfg0.N) : t.val < 24 := lt_of_lt_of_eq t.isLt (by decide +kernel)

variable (t : Fin cfg0.N)

theorem iblk0 (k : Fin 768) (g : Fin 4608) : iblk m c 0 t (ix2 k g) = V m c main_v70 (ix2 ⟨(t : ℕ) % 3 * 768 + k, by omega⟩ g) := by
  generalize hT : V m c main_v70 = T
  blk_point [iblk, hT, idx0 t]
theorem iblk1 (g : Fin 4224) (n : Fin 512) : iblk m c 1 t (ix3 0 g n) = m ((c.tc).loc main_arg0) (ix3 ⟨(t : ℕ) / 3, by have := point_lt t; omega⟩ g ⟨n, by omega⟩) := by
  refine Eq.trans ?_ (congrFun (V_main_arg0 m c) _)
  generalize hT : V m c main_arg0 = T
  blk_point [iblk, hT, idx1 t]
theorem iblk2 (g : Fin 4224) (n : Fin 512) : iblk m c 2 t (ix3 0 g n) = m ((c.tc).loc main_arg0) (ix3 ⟨(t : ℕ) / 3, by have := point_lt t; omega⟩ g ⟨512 + n, by omega⟩) := by
  refine Eq.trans ?_ (congrFun (V_main_arg0 m c) _)
  generalize hT : V m c main_arg0 = T
  blk_point [iblk, hT, idx2 t]

theorem tab_inv (s : ℝ) (hs : Ideal.ofBits .f32 1014988896#32 = ((s : ℝ) : EReal)) : TabInv s ((t : ℕ) % 3) (iblk m c 0 t) := by
  intro k g
  constructor
  · refine (iblk0 m c t k _).trans ((table_at m c s hs _ _).trans ?_)
    show (if 0 + (g : ℕ) < 2304 then _ else _) = _
    rw [if_pos (by omega)]
    show ((onHalf (fun p => Real.cos (ang ((((t : ℕ) % 3 * 768 + k : ℕ) + 1 : ℤ) * p)) * s) (0 + (g : ℕ)) : ℝ) : EReal) = _
    rw [Nat.zero_add, Nat.mul_comm]; push_cast; rfl
  · refine (iblk0 m c t k _).trans ((table_at m c s hs _ _).trans ?_)
    show (if 2304 + (g : ℕ) < 2304 then _ else _) = _
    rw [if_neg (by omega)]
    show ((onHalf (fun p => -Real.sin (ang ((((t : ℕ) % 3 * 768 + k : ℕ) + 1 : ℤ) * p)) * s) (2304 + (g : ℕ) - 2304) : ℝ) : EReal) = _
    rw [Nat.add_sub_cancel_left, Nat.mul_comm]; push_cast; rfl

theorem row_invP (h : FinRows m c) : RowInv (Pr m c ((t : ℕ) / 3)) (iblk m c 1 t) :=
  fun g n hg => (iblk1 m c t g n).trans (arg_P m c h ⟨(t : ℕ) / 3, by have := point_lt t; omega⟩ g n hg)
theorem row_invQ (h : FinRows m c) : RowInv (Qr m c ((t : ℕ) / 3)) (iblk m c 2 t) :=
  fun g n hg => (iblk2 m c t g n).trans (arg_Q m c h ⟨(t : ℕ) / 3, by have := point_lt t; omega⟩ g n hg)

end Cert.FouVal
end
-- ==== Proof.FouRel.lean ====
/- The Fourier transform: what each point leaves in the output window and carries to the next. -/
module

public import proofs.«01_k».proof.Proof.FouBlocks
public import Idealize.ShloMosaic.Lib.Pipeline.DatRel
public import Idealize.ShloMosaic.Lib.Pipeline.ArrRel

@[expose] public section

set_option maxRecDepth 16384

noncomputable section

namespace Cert.FouVal

open Cert.FouIdeal Cert.FouIdeal.Gen
open Cert.FouFrame (V iblk ms0_0 ms0_1 ms0_2 ms0_3 hs0_0 hs0_1 hs0_2 hs0_3 scM0_0 scM0_1 scM0_2 fgt PhiA0_eq before0_0_of before0_1_of before0_2_of defs₀_row hmain V_main_arg0)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open FouMath

variable (m : (ℓ : Loc nD τ sig) → Buf (Elt Ideal) ℓ) (ρ : Dev nD → PrngReg) (s : ℝ)

/-- The transform of the sequence that a point is at. -/
abbrev Zt (c : Dev nD) (t : ℕ) : ℕ → ℕ → EReal := Zs s (Pr m c (t / 3)) (Qr m c (t / 3))

/-- What the scratch arrays hold before a point that is not its sequence's first. -/
def Held (c : Dev nD) (t : ℕ) (d0 : Vec Ideal S384x512 .f32) (d1 d2 : Vec Ideal S2304x512 .bf16) : Prop :=
  t % 3 ≠ 0 → PrevInv (Zt m s c t) (t % 3) d0 ∧ FoldInv (Pr m c (t / 3)) (Qr m c (t / 3)) d1 d2

/-- The scratch arrays between two points. -/
def PhiV (c : Dev nD) (t : ℕ) : sProp (MM Ideal) :=
  iprop((∃ d0, ∃ d1, ∃ d2, ⌜Held m s c t d0 d1 d2⌝ ∗ owns (c : Thread nD τ) scM0_0 fullShare d0 ∗ owns (c : Thread nD τ) scM0_1 fullShare d1 ∗ owns (c : Thread nD τ) scM0_2 fullShare d2) ∗ (∃ r, prngReg c r))

/-- What a point leaves in a window: in the output, the rows of the tiles so far. -/
def Rl (c : Dev nD) : (w : Fin cfg0.W) → Fin cfg0.N → ((cfg0.win w).block.Idx → Elt Ideal (cfg0.win w).elt) → Prop := fun w => match w with
  | ⟨0, _⟩ => fun _ _ => True
  | ⟨1, _⟩ => fun _ _ => True
  | ⟨2, _⟩ => fun _ _ => True
  | ⟨3, _⟩ => fun t X => OutInv (Zt m s c t) ((t : ℕ) % 3 + 1) X

/-- The data of the grid. -/
def datv (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiV m s c t
  q w := Pipeline.shareOf spec0 w
  owed _ := 0

abbrev rdat (c : Dev nD) : RDat τ (Elt Ideal) Unit ℕ (UR sig nD τ) ℕ cfg0 c := (datv m s c).toRRel fgt (Rl m s c)

theorem A_eqv (c : Dev nD) (w : Fin cfg0.W) : (datv m s c).A w = V m c (Pipeline.arrRef spec0 w) := by
  dsimp only [datv]
theorem afterv_0 (c : Dev nD) (t : Fin cfg0.N) : (datv m s c).after 0 t = iblk m c 0 t := by dsimp only [datv]
theorem afterv_1 (c : Dev nD) (t : Fin cfg0.N) : (datv m s c).after 1 t = iblk m c 1 t := by dsimp only [datv]
theorem afterv_2 (c : Dev nD) (t : Fin cfg0.N) : (datv m s c).after 2 t = iblk m c 2 t := by dsimp only [datv]

theorem beforev_0 (c : Dev nD) (t : Fin cfg0.N) (d) : (datv m s c).before 0 t d = iblk m c 0 t :=
  before0_0_of m (datv m s c) (A_eqv m s c 0) (afterv_0 m s c) t d
theorem beforev_1 (c : Dev nD) (t : Fin cfg0.N) (d) : (datv m s c).before 1 t d = iblk m c 1 t :=
  before0_1_of m (datv m s c) (A_eqv m s c 1) (afterv_1 m s c) t d
theorem beforev_2 (c : Dev nD) (t : Fin cfg0.N) (d) : (datv m s c).before 2 t d = iblk m c 2 t :=
  before0_2_of m (datv m s c) (A_eqv m s c 2) (afterv_2 m s c) t d

theorem fetch3 : ∀ t : Fin cfg0.N, (cfg0.win 3).fetch t = false := (by decide +kernel : ∀ t : Fin grid0.N, _)
theorem flush3 : ∀ t : Fin cfg0.N, t.val % 3 ≠ 0 → (cfg0.win 3).flush ⟨t.val - 1, Nat.lt_of_le_of_lt (Nat.sub_le _ _) t.isLt⟩ = false := (by decide +kernel : ∀ t : Fin cfg0.N, t.val % 3 ≠ 0 → (cfg0.win 3).flush ⟨t.val - 1, Nat.lt_of_le_of_lt (Nat.sub_le _ _) t.isLt⟩ = false)
theorem coord1 : ∀ t : Fin cfg0.N, (grid0.coords t 1).val = t.val % 3 := (by decide +kernel : ∀ t : Fin grid0.N, _)

/-- What a point finds in the output window. -/
theorem found (c : Dev nD) (t : Fin cfg0.N) (h : t.val % 3 ≠ 0) (X : Vec Ideal S1x4224x512 .bf16) (hX : (rdat m s c).Finds 3 t X) :
    OutInv (Zt m s c t) ((t : ℕ) % 3) X := by
  unfold RDat.Finds at hX
  rw [if_neg (by rw [fetch3 t]; exact Bool.false_ne_true), if_neg (by omega)] at hX
  dsimp only at hX
  rw [if_neg (by rw [flush3 t h]; exact Bool.false_ne_true)] at hX
  obtain ⟨Y, _, hR⟩ := hX
  rw [show (rdat m s c).after 3 = fun t _ X => Rl m s c 3 t X from (datv m s c).toRRel_after_of_eq_true rfl] at hR
  have hR' : OutInv (Zs s (Pr m c ((t.val - 1) / 3)) (Qr m c ((t.val - 1) / 3))) ((t.val - 1) % 3 + 1) X := hR
  rw [show (t.val - 1) / 3 = t.val / 3 by omega, show (t.val - 1) % 3 + 1 = t.val % 3 by omega] at hR'
  exact hR'

/-- What the body is given at a point, -/
def preV (c : Dev nD) (t : Fin cfg0.N) : sProp (MM Ideal) :=
  iprop((datv m s c).Φ t.castSucc ∗ (datv m s c).owesAt () t.castSucc
    ∗ (∃ d, owns (c : Thread nD τ) (ms0_0 t) fullShare ((datv m s c).before 0 t d))
    ∗ (∃ d, owns (c : Thread nD τ) (ms0_1 t) fullShare ((datv m s c).before 1 t d))
    ∗ (∃ d, owns (c : Thread nD τ) (ms0_2 t) fullShare ((datv m s c).before 2 t d))
    ∗ (∃ Y, ⌜(rdat m s c).Finds 3 t Y⌝ ∗ owns (c : Thread nD τ) (ms0_3 t) fullShare Y))

/-- and what it gives back. -/
def postV (c : Dev nD) (t : Fin cfg0.N) : sProp (MM Ideal) :=
  iprop((datv m s c).Φ t.succ ∗ (datv m s c).owesAt () t.succ
    ∗ owns (c : Thread nD τ) (ms0_0 t) fullShare ((datv m s c).after 0 t)
    ∗ owns (c : Thread nD τ) (ms0_1 t) fullShare ((datv m s c).after 1 t)
    ∗ owns (c : Thread nD τ) (ms0_2 t) fullShare ((datv m s c).after 2 t)
    ∗ (∃ X, ⌜Rl m s c 3 t X⌝ ∗ owns (c : Thread nD τ) (ms0_3 t) fullShare X))

theorem held_next (c : Dev nD) (t : ℕ) (h : t % 3 ≠ 2) (d0 : Vec Ideal S384x512 .f32) (d1 d2 : Vec Ideal S2304x512 .bf16)
    (h0 : PrevInv (Zt m s c t) (t % 3 + 1) d0) (h1 : FoldInv (Pr m c (t / 3)) (Qr m c (t / 3)) d1 d2) : Held m s c (t + 1) d0 d1 d2 := by
  intro _
  unfold Zt
  rw [show (t + 1) / 3 = t / 3 by omega, show (t + 1) % 3 = t % 3 + 1 by omega]
  exact ⟨h0, h1⟩

theorem out_cast (Z : ℕ → ℕ → EReal) (t k : ℕ) (h : t = k) (X : Vec Ideal S1x4224x512 .bf16) (hX : OutInv Z (k + 1) X) : OutInv Z (t + 1) X := h ▸ hX
theorem prev_cast (Z : ℕ → ℕ → EReal) (t k : ℕ) (h : t = k) (X : Vec Ideal S384x512 .f32) (hX : PrevInv Z (k + 1) X) : PrevInv Z (t + 1) X := h ▸ hX

variable (hs : Ideal.ofBits .f32 1014988896#32 = ((s : ℝ) : EReal))
include hs

set_option maxHeartbeats 2000000 in
theorem soundA (c : Dev nD) (hfin : FinRows m c) (t : Fin cfg0.N) (h0 : t.val % 3 = 0) :
    preV m s c t ⊢ wp frame (wpE (defs₀ (F := Ideal)) Variants.none c none) Set.univ (bodyAt0 t) (fun _ => postV m s c t) := by
  unfold preV postV bodyAt0
  simp only [beforev_0, beforev_1, beforev_2]
  rw [show (datv m s c).owesAt () t.succ = (datv m s c).owesAt () t.castSucc from rfl, afterv_0, afterv_1, afterv_2]
  rw [show (datv m s c).Φ t.succ = PhiV m s c ((t : ℕ) + 1) from rfl, show (datv m s c).Φ t.castSucc = PhiV m s c (t : ℕ) from rfl]
  unfold PhiV
  have h1 : t.val % 3 ≤ 1 := by omega
  have h2 : ¬t.val % 3 = 2 := by omega
  have hm : t.val % 3 = 0 := h0
  have hx0 := tab_inv m c t s hs
  rw [hm] at hx0
  iintro ⟨⟨⟨%d0, %d1, %d2, %hH, HS0, HS1, HS2⟩, Hg⟩, Ho, ⟨%e0, H0⟩, ⟨%e1, H1⟩, ⟨%e2, H2⟩, ⟨%d3, %hF, H3⟩⟩
  have hstep := stepA s hs (Pr m c ((t : ℕ) / 3)) (Qr m c ((t : ℕ) / 3)) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3 ((coord1 t).trans hm) hx0 (row_invP m c t hfin) (row_invQ m c t hfin)
  iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3).2.2.2.2 Set.univ _)
  isplitl [H0]; · iexact H0
  isplitl [H1]; · iexact H1
  isplitl [H2]; · iexact H2
  isplitl [H3]; · iexact H3
  isplitl [HS0]; · iexists d0; iexact HS0
  isplitl [HS1]; · iexists d1; iexact HS1
  isplitl [HS2]; · iexists d2; iexact HS2
  iintro ⟨H0, H1, H2, H3, ⟨%f0, HS0⟩, ⟨%f1, HS1⟩, ⟨%f2, HS2⟩⟩
  isplitl [HS0 HS1 HS2 Hg]
  · isplitl [HS0 HS1 HS2]
    · iexists ((scM0_0).view.read (Elt Ideal) ((scM0_0).view.writes (Elt Ideal) f0 ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3)).2.1))
      iexists ((scM0_1).view.read (Elt Ideal) ((scM0_1).view.writes (Elt Ideal) f1 ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3)).2.2.1))
      iexists ((scM0_2).view.read (Elt Ideal) ((scM0_2).view.writes (Elt Ideal) f2 ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3)).2.2.2.1))
      isplitr; · ipureintro; exact held_next m s c t (by omega) _ _ _ (prev_cast _ _ _ hm _ (hstep.2.1 f0)) (hstep.2.2 f1 f2)
      isplitl [HS0]
      · unfold owns; iexists _; isplitr; · ipureintro; rfl
        iexact HS0
      isplitl [HS1]
      · unfold owns; iexists _; isplitr; · ipureintro; rfl
        iexact HS1
      unfold owns; iexists _; isplitr; · ipureintro; rfl
      iexact HS2
    iexact Hg
  isplitl [Ho]; · iexact Ho
  isplitl [H0]; · iexact H0
  isplitl [H1]; · iexact H1
  isplitl [H2]; · iexact H2
  iexists ((ms0_3 t).view.read (Elt Ideal) ((ms0_3 t).view.writes (Elt Ideal) ((hs0_3 t).unread d3) ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) d3)).1))
  isplitr
  · ipureintro
    show OutInv (Zt m s c t) ((t : ℕ) % 3 + 1) _
    exact out_cast _ _ _ hm _ hstep.1
  unfold owns; iexists _; isplitr; · ipureintro; rfl
  iexact H3

set_option maxHeartbeats 2000000 in
theorem soundB (c : Dev nD) (hfin : FinRows m c) (t : Fin cfg0.N) (h0 : ¬t.val % 3 = 0) (h2 : ¬t.val % 3 = 2) :
    preV m s c t ⊢ wp frame (wpE (defs₀ (F := Ideal)) Variants.none c none) Set.univ (bodyAt0 t) (fun _ => postV m s c t) := by
  unfold preV postV bodyAt0
  simp only [beforev_0, beforev_1, beforev_2]
  rw [show (datv m s c).owesAt () t.succ = (datv m s c).owesAt () t.castSucc from rfl, afterv_0, afterv_1, afterv_2]
  rw [show (datv m s c).Φ t.succ = PhiV m s c ((t : ℕ) + 1) from rfl, show (datv m s c).Φ t.castSucc = PhiV m s c (t : ℕ) from rfl]
  unfold PhiV
  have h1 : t.val % 3 ≤ 1 := by omega
  have hm : t.val % 3 = 1 := by omega
  have hx0 := tab_inv m c t s hs
  rw [hm] at hx0
  iintro ⟨⟨⟨%d0, %d1, %d2, %hH, HS0, HS1, HS2⟩, Hg⟩, Ho, ⟨%e0, H0⟩, ⟨%e1, H1⟩, ⟨%e2, H2⟩, ⟨%d3, %hF, H3⟩⟩
  have hF' := found m s c t h0 d3 hF
  have hH' := hH h0
  rw [hm] at hF' hH'
  have hstep := stepB s hs (Pr m c ((t : ℕ) / 3)) (Qr m c ((t : ℕ) / 3)) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) d3 d0 d1 d2 ((coord1 t).trans hm) hx0 hF' hH'.1 hH'.2
  iapply ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) d3 d0 d1 d2).2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · iexists ((scM0_0).view.read (Elt Ideal) ((scM0_0).view.writes (Elt Ideal) ((Memref.isWhole_whole _ : (scM0_0).IsWhole).unread d0) ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) d3 d0 d1 d2)).2.1))
      iexists d1
      iexists d2
      isplitr; · ipureintro; exact held_next m s c t (by omega) _ _ _ (prev_cast _ _ _ hm _ hstep.2) hH'.2
      isplitl [HS0]
      · unfold owns; iexists _; isplitr; · ipureintro; rfl
        iexact HS0
      isplitl [HS1]
      · iexact HS1
      iexact HS2
    iexact Hg
  isplitl [Ho]; · iexact Ho
  isplitl [H0]; · iexact H0
  isplitl [H1]; · iexact H1
  isplitl [H2]; · iexact H2
  iexists ((ms0_3 t).view.read (Elt Ideal) ((ms0_3 t).view.writes (Elt Ideal) ((hs0_3 t).unread d3) ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) d3 d0 d1 d2)).1))
  isplitr
  · ipureintro
    show OutInv (Zt m s c t) ((t : ℕ) % 3 + 1) _
    exact out_cast _ _ _ hm _ hstep.1
  unfold owns; iexists _; isplitr; · ipureintro; rfl
  iexact H3

set_option maxHeartbeats 2000000 in
theorem soundC (c : Dev nD) (hfin : FinRows m c) (t : Fin cfg0.N) (h2 : t.val % 3 = 2) :
    preV m s c t ⊢ wp frame (wpE (defs₀ (F := Ideal)) Variants.none c none) Set.univ (bodyAt0 t) (fun _ => postV m s c t) := by
  unfold preV postV bodyAt0
  simp only [beforev_0, beforev_1, beforev_2]
  rw [show (datv m s c).owesAt () t.succ = (datv m s c).owesAt () t.castSucc from rfl, afterv_0, afterv_1, afterv_2]
  rw [show (datv m s c).Φ t.succ = PhiV m s c ((t : ℕ) + 1) from rfl, show (datv m s c).Φ t.castSucc = PhiV m s c (t : ℕ) from rfl]
  unfold PhiV
  have h0 : ¬t.val % 3 = 0 := by omega
  have h1 : ¬t.val % 3 ≤ 1 := by omega
  have hm : t.val % 3 = 2 := h2
  have hx0 := tab_inv m c t s hs
  rw [hm] at hx0
  iintro ⟨⟨⟨%d0, %d1, %d2, %hH, HS0, HS1, HS2⟩, Hg⟩, Ho, ⟨%e0, H0⟩, ⟨%e1, H1⟩, ⟨%e2, H2⟩, ⟨%d3, %hF, H3⟩⟩
  have hF' := found m s c t h0 d3 hF
  have hH' := hH h0
  rw [hm] at hF' hH'
  have hstep := stepC s hs (Pr m c ((t : ℕ) / 3)) (Qr m c ((t : ℕ) / 3)) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) d3 d0 d1 d2 ((coord1 t).trans hm) hx0 hF' hH'.1 hH'.2
  iapply ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) d3 d0 d1 d2).2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · iexists ((scM0_0).view.read (Elt Ideal) ((scM0_0).view.writes (Elt Ideal) ((Memref.isWhole_whole _ : (scM0_0).IsWhole).unread d0) ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) d3 d0 d1 d2)).2.1))
      iexists d1
      iexists d2
      isplitr; · ipureintro; exact fun h => absurd (show ((t : ℕ) + 1) % 3 = 0 by omega) h
      isplitl [HS0]
      · unfold owns; iexists _; isplitr; · ipureintro; rfl
        iexact HS0
      isplitl [HS1]
      · iexact HS1
      iexact HS2
    iexact Hg
  isplitl [Ho]; · iexact Ho
  isplitl [H0]; · iexact H0
  isplitl [H1]; · iexact H1
  isplitl [H2]; · iexact H2
  iexists ((ms0_3 t).view.read (Elt Ideal) ((ms0_3 t).view.writes (Elt Ideal) ((hs0_3 t).unread d3) ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) d3 d0 d1 d2)).1))
  isplitr
  · ipureintro
    show OutInv (Zt m s c t) ((t : ℕ) % 3 + 1) _
    exact out_cast _ _ _ hm _ hstep.1
  unfold owns; iexists _; isplitr; · ipureintro; rfl
  iexact H3

/-- The body at any point. -/
theorem sound (c : Dev nD) (hfin : FinRows m c) (t : Fin cfg0.N) :
    preV m s c t ⊢ wp frame (wpE (defs₀ (F := Ideal)) Variants.none c none) Set.univ (bodyAt0 t) (fun _ => postV m s c t) := by
  by_cases h0 : t.val % 3 = 0
  · exact soundA m s hs c hfin t h0
  by_cases h2 : t.val % 3 = 2
  · exact soundC m s hs c hfin t h2
  exact soundB m s hs c hfin t h0 h2

/-- The body meets what the grid asks of it. -/
theorem body_rel (c : Dev nD) (hfin : FinRows m c) : BodyObligationRel (datv m s c) (defs₀ (F := Ideal)) Variants.none () Set.univ fgt (Rl m s c) := fun t => by
  rw [bigSep_W0, bigSep_W0, defs₀_row]
  exact triple_restated (sound m s hs c hfin t) rfl .rfl fun _ => .rfl

end Cert.FouVal
end
-- ==== Proof.FouResult.lean ====
/- The Fourier transform: the array that the program leaves. -/
module

public import proofs.«01_k».proof.Proof.FouRel

@[expose] public section

set_option maxRecDepth 16384

noncomputable section

namespace Cert.FouVal

open Cert.FouIdeal Cert.FouIdeal.Gen
open Cert.FouFrame (V iblk fgt PhiA0_eq hmain V_main_arg0 scM0_0 scM0_1 scM0_2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open FouMath

variable (m : (ℓ : Loc nD τ sig) → Buf (Elt Ideal) ℓ) (ρ : Dev nD → PrngReg) (s : ℝ)

theorem phi_in (c : Dev nD) : (Pipeline.ΦA spec0 c : sProp (MM Ideal)) ⊢ PhiV m s c 0 := by
  rw [PhiA0_eq]; unfold PhiV
  iintro ⟨⟨⟨%d0, HS0⟩, ⟨%d1, HS1⟩, ⟨%d2, HS2⟩⟩, Hg⟩
  isplitl [HS0 HS1 HS2]
  · iexists d0
    iexists d1
    iexists d2
    isplitr; · ipureintro; exact fun h => absurd rfl h
    isplitl [HS0]; · iexact HS0
    isplitl [HS1]; · iexact HS1
    iexact HS2
  iexact Hg

theorem phi_out (c : Dev nD) (t : ℕ) : PhiV m s c t ⊢ (Pipeline.ΦA spec0 c : sProp (MM Ideal)) := by
  rw [PhiA0_eq]; unfold PhiV
  iintro ⟨⟨%d0, %d1, %d2, %hH, HS0, HS1, HS2⟩, Hg⟩
  isplitl [HS0 HS1 HS2]
  · isplitl [HS0]; · iexists d0; iexact HS0
    isplitl [HS1]; · iexists d1; iexact HS1
    iexists d2; iexact HS2
  iexact Hg

/-- The transform of every sequence. -/
def outZ (c : Dev nD) : Vec Ideal S8x4224x512 .bf16 := fun i => Zs s (Pr m c (i 0).val) (Qr m c (i 0).val) (i 2).val (i 1).val

variable (hs : Ideal.ofBits .f32 1014988896#32 = ((s : ℝ) : EReal))
include hs

set_option backward.isDefEq.respectTransparency.types false in
/-- The whole program runs, the output's blocks as the points left them, and every counter at zero. -/
theorem run_rel (hfin : ∀ c, FinRows m c) : θ_run defs (onTc (τ := τ) (main (F := Ideal))) (s₀ m ρ) (fun r => (RDat.FramePost cfg0 (rdat m s) (V m)) r ∧ r.2.sem = fun _ => 0) :=
  Pipeline.RDat.θ_run_frame_track_shared (Q' := _) cfgs (0 : Fin 1) launch₀0 defs₀ Variants.none (rdat m s) m ρ main
    (hbody := fun c => (body_rel m s hs c (hfin c)).toRRel) (hq := fun _ _ _ => rfl)
    (howed := fun _ _ => rfl) (V := V m) (hmain := hmain m Variants.none) (hA := A_eqv m s)
    (hin := fun c => phi_in m s c) (hout := fun c => phi_out m s c _) (hQ' := fun _ h => h)

omit hs in
/-- The result array, from what the points left. -/
theorem final (c : Dev nD) (after : (w : Fin cfg0.W) → Fin cfg0.N → (cfg0.win w).block.Idx → Elt Ideal (cfg0.win w).elt)
    (h : ∀ u : Fin cfg0.N, (cfg0.win 3).flush u = true → Rl m s c 3 u (after 3 u)) :
    ((rdat m s c).withAfter after).arrAt 3 cfg0.N = outZ m s c := by
  refine ((rdat m s c).withAfter after).arrAt_eq_of_covers 3 _ (by decide +kernel) fun t hf y => ?_
  have ht : t.val % 3 = 2 := (by decide +kernel : ∀ t : Fin cfg0.N, (cfg0.win 3).flush t = true → t.val % 3 = 2) t hf
  have hR : OutInv (Zt m s c t) ((t : ℕ) % 3 + 1) (after 3 t) := h t hf
  have hO := fun row n => hR row n (by omega)
  blk_simp
  obtain ⟨z, r, n, rfl⟩ : ∃ (z : Fin 1) (r : Fin 4224) (n : Fin 512), y = ix3 z r n := ⟨y 0, y 1, y 2, eq_ix3 y⟩
  obtain rfl : z = 0 := Subsingleton.elim _ _
  refine (hO r n).trans ?_
  refine Eq.trans (b := outZ m s c (ix3 ⟨(t : ℕ) / 3, by have := point_lt t; omega⟩ r n)) rfl ?_
  generalize outZ m s c = T
  blk_ext [idx3 t]

/-- The program leaves the transform of every sequence, its argument as it was and every counter at zero. -/
theorem run_value (hfin : ∀ c, FinRows m c) : θ_run defs (onTc (τ := τ) (main (F := Ideal))) ⟨m, fun _ => 0, ρ⟩ (fun r => (∀ c : Dev nD,
      r.2.mem ((c.tc : Thread nD τ).loc main_v71) = outZ m s c ∧ r.2.mem ((c.tc : Thread nD τ).loc main_arg0) = m ((c.tc : Thread nD τ).loc main_arg0))
      ∧ r.2.sem = fun _ => 0) :=
  (θ_run defs _ _).mono (fun r h => ⟨fun c => by
      obtain ⟨after, hl, ha⟩ := h.1.exists_exact c
      exact ⟨(ha 3).trans (final m s c after fun u hu => (datv m s c).toRRel_leaves rfl (hl 3 u hu)),
        (h.1.arr_in c 2 rfl).trans ((A_eqv m s c 2).trans (V_main_arg0 m c))⟩, h.2⟩)
    (run_rel m ρ s hs hfin)

end Cert.FouVal
end
-- ==== Proof.FouRef.lean ====
/- The reference of the Fourier call, at an index. -/
module

public import proofs.«01_k».proof.Proof.Gen.FouRefIdeal.Run
public import Idealize.ShloMosaic.Lib.Pipeline.ValueKit
public import proofs.«01_k».proof.Proof.FouWords

@[expose] public section

set_option maxRecDepth 16384

noncomputable section

namespace Cert.FouRefIdeal.Value

open Cert.FouRefIdeal Cert.FouRefIdeal.Gen Idealize.ShloMosaic Idealize.ShloMosaic.TcCoe Idealize.SL.Sem
open Cert.FouMath

theorem period_word : Scalar.select (IntOp.cmpi .eq (id (constantI S_ 32 4112#32) ix0) 0#32) (1#32) (id (constantI S_ 32 4112#32) ix0) = 4112#32 := by decide

set_option maxHeartbeats 2000000 in
theorem ref_at (s : ℝ) (hs : Ideal.ofBits .f32 1014988896#32 = ((s : ℝ) : EReal)) (m : (ℓ : Loc nD τ sig) → Buf (Elt Ideal) ℓ) (c : Dev nD) (b : Fin 8) (r : Fin 4224) (n : Fin 512)
    (P Q : ℕ → ℝ) (hP : ∀ g : Fin 4224, 112 ≤ (g : ℕ) → m (c.tc.loc main_arg0) (ix3 b g ⟨n, by omega⟩) = ((P g : ℝ) : EReal))
    (hQ : ∀ g : Fin 4224, 112 ≤ (g : ℕ) → m (c.tc.loc main_arg0) (ix3 b g ⟨512 + n, by omega⟩) = ((Q g : ℝ) : EReal)) :
    res_main_v27 (F := Ideal) m c (ix3 b r n) = ((spec s P Q r : ℝ) : EReal) := by
  pointwise [res_main_v27]
  simp only [period_word, step_eq, cos_turn, sin_turn, hs]
  unfold spec
  by_cases h : 112 ≤ (r : ℕ)
  · rw [dif_pos (by omega), if_pos h]
    have e1 : ∀ x : Fin 4112, (IntOp.muli (BitVec.ofNat 32 ((r : ℕ) - 112)) (BitVec.ofNat 32 x)).toInt = ((r : ℤ) - 112) * x := by
      intro x
      rw [freq_ref _ _ (by omega) x.2]; push_cast [h]; rfl
    simp only [e1]
    have e2 : ∀ x : Fin 4112, m (c.tc.loc main_arg0) (ix3 b ⟨112 + x, by omega⟩ ⟨n, by omega⟩) = ((P (112 + x) : ℝ) : EReal) := fun x => hP ⟨112 + x, by omega⟩ (Nat.le_add_right _ _)
    have e3 : ∀ x : Fin 4112, m (c.tc.loc main_arg0) (ix3 b ⟨112 + x, by omega⟩ ⟨512 + n, by omega⟩) = ((Q (112 + x) : ℝ) : EReal) := fun x => hQ ⟨112 + x, by omega⟩ (Nat.le_add_right _ _)
    have t1 : (∑ x : Fin 4112, (show EReal from m (c.tc.loc main_arg0) (ix3 b ⟨112 + x, by omega⟩ ⟨n, by omega⟩)) * ((Real.cos (ang (((r : ℤ) - 112) * x)) : ℝ) : EReal))
        = ((∑ n ∈ Finset.range 4112, P (112 + n) * Real.cos (ang (((r : ℤ) - 112) * n)) : ℝ) : EReal) := by
      rw [Finset.sum_congr rfl (fun x _ => by rw [show (show EReal from m (c.tc.loc main_arg0) (ix3 b ⟨112 + x, by omega⟩ ⟨n, by omega⟩)) = _ from e2 x, ← EReal.coe_mul]), Finset.sum_range, sum_coe]
    have t2 : (∑ x : Fin 4112, (show EReal from m (c.tc.loc main_arg0) (ix3 b ⟨112 + x, by omega⟩ ⟨512 + n, by omega⟩)) * ((Real.sin (ang (((r : ℤ) - 112) * x)) : ℝ) : EReal))
        = ((∑ n ∈ Finset.range 4112, Q (112 + n) * Real.sin (ang (((r : ℤ) - 112) * n)) : ℝ) : EReal) := by
      rw [Finset.sum_congr rfl (fun x _ => by rw [show (show EReal from m (c.tc.loc main_arg0) (ix3 b ⟨112 + x, by omega⟩ ⟨512 + n, by omega⟩)) = _ from e3 x, ← EReal.coe_mul]), Finset.sum_range, sum_coe]
    rw [EReal.coe_mul, EReal.coe_sub, ← t1, ← t2]
  · rw [dif_neg (by omega), if_neg h]
    show (((0#32 : BitVec 32).toInt : ℝ) : EReal) = _
    norm_num
end Cert.FouRefIdeal.Value
end
-- ==== Proof.FouPair.lean ====
/- The Fourier transform: the program's result is the reference's. -/
module

public import proofs.«01_k».proof.Proof.FouResult
public import proofs.«01_k».proof.Proof.FouRef
public import proofs.«01_k».proof.Proof.Result
public import proofs.«01_k».proof.Pre_finite_rows
public import proofs.«01_k».proof.Proof.Gen.Pre_finite_rows

@[expose] public section

set_option maxRecDepth 16384

noncomputable section

namespace Cert.FouVal

open Idealize.ShloMosaic Idealize.ShloMosaic.TcCoe Idealize.ShloMosaic.Tactic

/-- The precondition, as finite rows. -/
theorem fin_of (m : (ℓ : Loc Cert.FouIdeal.nD Cert.FouIdeal.τ Cert.FouIdeal.sig) → Buf (Elt Ideal) ℓ) (c : Dev Cert.FouIdeal.nD)
    (h : ∀ i, (Cert.Pre_finite_rows.fn (F := Ideal) (m ((c.tc : Thread Cert.FouIdeal.nD Cert.FouIdeal.τ).loc Cert.FouIdeal.main_arg0))) i = 1#1) : FinRows m c := by
  intro b g k hg
  obtain ⟨y, hy⟩ := Cert.AttnIdeal.Value.real_of_below _ (h (ix3 b (⟨g - 112, by omega⟩ : Fin 4112) k))
  refine ⟨y, Eq.trans ?_ hy⟩
  refine congrArg (m (c.tc.loc Cert.FouIdeal.main_arg0)) (funext fun a => Fin.ext ?_)
  match a with
  | ⟨0, _⟩ => exact (Nat.zero_add _).symm
  | ⟨1, _⟩ => show (g : ℕ) = 112 + (g - 112); omega
  | ⟨2, _⟩ => exact (Nat.zero_add _).symm

/-- The reference's result on equal arguments. -/
theorem ref_eq (s : ℝ) (hs : Ideal.ofBits .f32 1014988896#32 = ((s : ℝ) : EReal))
    (m : (ℓ : Loc Cert.FouIdeal.nD Cert.FouIdeal.τ Cert.FouIdeal.sig) → Buf (Elt Ideal) ℓ) (m' : (ℓ : Loc Cert.FouRefIdeal.nD Cert.FouRefIdeal.τ Cert.FouRefIdeal.sig) → Buf (Elt Ideal) ℓ)
    (c : Dev Cert.FouIdeal.nD) (hfin : FinRows m c)
    (e : m' ((c.tc : Thread Cert.FouRefIdeal.nD Cert.FouRefIdeal.τ).loc Cert.FouRefIdeal.main_arg0) = m ((c.tc : Thread Cert.FouIdeal.nD Cert.FouIdeal.τ).loc Cert.FouIdeal.main_arg0)) :
    Cert.FouRefIdeal.Value.res_main_v27 (F := Ideal) m' c = outZ m s c := by
  funext i
  obtain ⟨b, r, n, rfl⟩ : ∃ (b : Fin 8) (r : Fin 4224) (n : Fin 512), i = ix3 b r n := ⟨i 0, i 1, i 2, eq_ix3 i⟩
  exact Cert.FouRefIdeal.Value.ref_at s hs m' c b r n (Pr m c b n) (Qr m c b n)
    (fun g hg => (congrFun e _).trans (arg_P m c hfin b g n hg)) (fun g hg => (congrFun e _).trans (arg_Q m c hfin b g n hg))

end Cert.FouVal
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.Pre_finite_qk
public import proofs.«01_k».proof.Proof.Gen.AttnRefIdeal.Run
public import proofs.«01_k».proof.Proof.Result
public import proofs.«01_k».proof.Proof.InpResult
public import proofs.«01_k».proof.Proof.OutResult
public import proofs.«01_k».proof.Proof.EmbResult
public import proofs.«01_k».proof.Proof.Gen.Up
public import proofs.«01_k».proof.Proof.Gen.Down
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Same
public import proofs.«01_k».proof.Proof.UpResult
public import proofs.«01_k».proof.Proof.DownResult
public import proofs.«01_k».proof.Proof.Gen.Emb
public import proofs.«01_k».proof.Proof.Gen.EmbIdeal.Value
public import proofs.«01_k».proof.Proof.Gen.EmbRefIdeal.Run
public import proofs.«01_k».proof.Proof.Gen.Fou
public import proofs.«01_k».proof.Proof.Gen.FouIdeal
public import proofs.«01_k».proof.Proof.Gen.FouIdeal.Skeleton
public import proofs.«01_k».proof.Proof.Gen.FouIdeal.Launch
public import proofs.«01_k».proof.Proof.Gen.FouIdeal.Points
public import proofs.«01_k».proof.Proof.Gen.FouRefIdeal.Run
public import proofs.«01_k».proof.Proof.FouPair
public import proofs.«01_k».proof.Proof.Gen.Pre_finite_rows
public import proofs.«01_k».proof.Proof.Gen.Out
public import proofs.«01_k».proof.Proof.Gen.OutIdeal.Value
public import proofs.«01_k».proof.Proof.Gen.OutRefIdeal.Run
public import proofs.«01_k».proof.Proof.Gen.Pre_finite_router
public import proofs.«01_k».proof.Proof.Gen.Inp
public import proofs.«01_k».proof.Proof.Gen.InpIdeal.Value
public import proofs.«01_k».proof.Proof.Gen.InpRefIdeal.Run
public import Idealize.ShloMosaic.Adequacy
public import Idealize.ShloMosaic.Init

@[expose] public section

noncomputable section

namespace Cert.Proof

open Idealize.ShloMosaic Idealize.SL.Sem Cert.Attn

/-- The reference's frame: host operations only, no semaphore. -/
theorem frame_reference : Cert.quiescent_AttnRefIdeal (hAttnRefIdeal := Cert.AttnRefIdeal.Gen.facts) := by
  intro m g _
  refine (θ_run _ _ _).mono (fun r h => ⟨fun c => (h c).2, sem_eq_zero_of_no_sems (by decide) r.2⟩) (Cert.AttnRefIdeal.Value.run m g)

theorem frame_reference_up : Cert.quiescent_UpRefIdeal (hUpRefIdeal := Cert.UpRefIdeal.Gen.facts) := by
  intro m g _
  refine (θ_run _ _ _).mono (fun r h => ⟨fun c => (h c).2, sem_eq_zero_of_no_sems (by decide) r.2⟩) (Cert.UpRefIdeal.Value.run m g)

theorem frame_reference_down : Cert.quiescent_DownRefIdeal (hDownRefIdeal := Cert.DownRefIdeal.Gen.facts) := by
  intro m g _
  refine (θ_run _ _ _).mono (fun r h => ⟨fun c => (h c).2, sem_eq_zero_of_no_sems (by decide) r.2⟩) (Cert.DownRefIdeal.Value.run m g)

/-- The experts' two calls as launched: the same run as the idealized ones, whose text is the same. -/
theorem frame_up : Cert.quiescent_Up (hUp := Cert.Up.Gen.facts) := by
  intro m ρ _
  rw [Cert.Up.defs_eq]
  exact Cert.UpIdeal.Gen.frame (F := Bits) m ρ
theorem frame_down : Cert.quiescent_Down (hDown := Cert.Down.Gen.facts) := by
  intro m ρ _
  rw [Cert.Down.defs_eq]
  exact Cert.DownIdeal.Gen.frame (F := Bits) m ρ

/-- The projection as launched, likewise. -/
theorem frame_inp : Cert.quiescent_Inp (hInp := Cert.Inp.Gen.facts) := by
  intro m ρ _
  rw [Cert.Inp.defs_eq, Cert.Inp.main_eq]
  exact Cert.InpIdeal.Gen.frame (F := Bits) m ρ

theorem frame_reference_inp : Cert.quiescent_InpRefIdeal (hInpRefIdeal := Cert.InpRefIdeal.Gen.facts) := by
  intro m g _
  refine (θ_run _ _ _).mono (fun r h => ⟨fun c => (h c).2.2.2.2, sem_eq_zero_of_no_sems (by decide) r.2⟩) (Cert.InpRefIdeal.Value.run m g)

theorem frame_out : Cert.quiescent_Out (hOut := Cert.Out.Gen.facts) := by
  intro m ρ _
  rw [Cert.Out.defs_eq, Cert.Out.main_eq]
  exact Cert.OutIdeal.Gen.frame (F := Bits) m ρ

theorem frame_reference_out : Cert.quiescent_OutRefIdeal (hOutRefIdeal := Cert.OutRefIdeal.Gen.facts) := by
  intro m g _
  refine (θ_run _ _ _).mono (fun r h => ⟨fun c => (h c).2.2.2, sem_eq_zero_of_no_sems (by decide) r.2⟩) (Cert.OutRefIdeal.Value.run m g)

/-- The projection out of the mixers and the router: the pair. -/
theorem pair_out : Cert.algebraic_OutIdeal_OutRefIdeal_pre_finite_router (hOutIdeal := Cert.OutIdeal.Gen.facts) (hOutRefIdeal := Cert.OutRefIdeal.Gen.facts) (hPre_finite_router := Cert.Pre_finite_router.Gen.facts) := by
  pair_intro
  · run_from Cert.OutIdeal.Value.run_blocks m g
  · refine θ_run_mono (Cert.OutRefIdeal.Value.run_results m' g') ?_
    intro r hr c
    have hc := hr c
    obtain ⟨e0, e1, e2, e3, e4, e5, e6, e7, e8, e9⟩ := hagree c
    refine ⟨hc.1.trans ?_, hc.2.1.trans ?_, hc.2.2.1.trans ?_, hc.2.2.2⟩
    · rw [e0, e1, e2, e3, e4, e5, e6, e7, e8]
      exact (Cert.OutIdeal.Value.final11 m c).symm
    · rw [e0, e1, e2, e3, e4, e5, e6, e7, e8]
      exact (Cert.OutIdeal.Value.final12 m c).symm
    · obtain ⟨h0, h1, h2⟩ := hpre c
      rw [e0, e1, e2, e3, e4, e5, e6, e7, e8, e9]
      exact (Cert.OutIdeal.Value.final13 m c (Cert.OutIdeal.Value.finite_of m c (fun i => congrFun h0 i) (fun i => congrFun h1 i) (fun i => congrFun h2 i))).symm

theorem frame_emb : Cert.quiescent_Emb (hEmb := Cert.Emb.Gen.facts) := by
  intro m ρ _
  rw [Cert.Emb.defs_eq, Cert.Emb.main_eq]
  exact Cert.EmbIdeal.Gen.frame (F := Bits) m ρ

theorem frame_reference_emb : Cert.quiescent_EmbRefIdeal (hEmbRefIdeal := Cert.EmbRefIdeal.Gen.facts) := by
  intro m g _
  refine (θ_run _ _ _).mono (fun r h => ⟨fun c => (h c).2, sem_eq_zero_of_no_sems (by decide) r.2⟩) (Cert.EmbRefIdeal.Value.run m g)

/-- The first norm: the pair. -/
theorem pair_emb : Cert.algebraic_EmbIdeal_EmbRefIdeal (hEmbIdeal := Cert.EmbIdeal.Gen.facts) (hEmbRefIdeal := Cert.EmbRefIdeal.Gen.facts) := by
  pair_intro
  · run_from Cert.EmbIdeal.Value.run_blocks m g
  · run_from Cert.EmbRefIdeal.Value.run_embedded m' g'
    exact (Cert.EmbIdeal.Value.final14 m c).symm

theorem frame_fou : Cert.quiescent_Fou (hFou := Cert.Fou.Gen.facts) := by
  intro m ρ _
  rw [Cert.Fou.defs_eq, Cert.Fou.main_eq]
  exact Cert.FouFrame.frame (F := Bits) m ρ

theorem frame_reference_fou : Cert.quiescent_FouRefIdeal (hFouRefIdeal := Cert.FouRefIdeal.Gen.facts) := by
  intro m g _
  refine (θ_run _ _ _).mono (fun r h => ⟨fun c => (h c).2, sem_eq_zero_of_no_sems (by decide) r.2⟩) (Cert.FouRefIdeal.Value.run m g)

/-- The Fourier transform: the pair. -/
theorem pair_fou : Cert.algebraic_FouIdeal_FouRefIdeal_pre_finite_rows (hFouIdeal := Cert.FouIdeal.Gen.facts) (hFouRefIdeal := Cert.FouRefIdeal.Gen.facts) (hPre_finite_rows := Cert.Pre_finite_rows.Gen.facts) := by
  intro m g m' g' hpre hagree
  obtain ⟨s, hs⟩ := Cert.FouMath.scale_bits
  have hfin : ∀ c, Cert.FouVal.FinRows m c := fun c => Cert.FouVal.fin_of m c fun i => congrFun (hpre c) i
  refine ⟨fun c => Cert.FouVal.outZ m s c, (θ_run _ _ _).mono (fun r h => h.1) (Cert.FouVal.run_value m g s hs hfin), ?_⟩
  exact (θ_run _ _ _).mono (fun r h c => ⟨(h c).1.trans (Cert.FouVal.ref_eq s hs m m' c (hfin c) (hagree c)), (h c).2⟩) (Cert.FouRefIdeal.Value.run m' g')

theorem claim : Cert.Claim := ⟨Cert.Attn.Gen.facts, Cert.AttnIdeal.Gen.facts, Cert.AttnRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Inp.Gen.facts, Cert.InpIdeal.Gen.facts, Cert.InpRefIdeal.Gen.facts,
  Cert.Out.Gen.facts, Cert.OutIdeal.Gen.facts, Cert.OutRefIdeal.Gen.facts,
  Cert.Emb.Gen.facts, Cert.EmbIdeal.Gen.facts, Cert.EmbRefIdeal.Gen.facts,
  Cert.Fou.Gen.facts, Cert.FouIdeal.Gen.facts, Cert.FouRefIdeal.Gen.facts, Cert.Pre_finite_qk.Gen.facts, Cert.Pre_finite_router.Gen.facts, Cert.Pre_finite_rows.Gen.facts,
  fun m ρ _ => Cert.Attn.Gen.frame m ρ,
  fun m ρ _ => Cert.AttnIdeal.Gen.frame m ρ,
  fun m ρ _ => Cert.AttnIdeal.Gen.frame m ρ,
  frame_reference,
  fun m ρ _ => frame_reference m ρ trivial,
  frame_up,
  fun m ρ _ => Cert.UpIdeal.Gen.frame m ρ,
  frame_reference_up,
  frame_down,
  fun m ρ _ => Cert.DownIdeal.Gen.frame m ρ,
  frame_reference_down,
  frame_inp,
  fun m ρ _ => Cert.InpIdeal.Gen.frame m ρ,
  frame_reference_inp,
  frame_out,
  fun m ρ _ => Cert.OutIdeal.Gen.frame m ρ,
  fun m ρ _ => Cert.OutIdeal.Gen.frame m ρ,
  frame_reference_out,
  fun m ρ _ => frame_reference_out m ρ trivial,
  frame_emb,
  fun m ρ _ => Cert.EmbIdeal.Gen.frame m ρ,
  frame_reference_emb,
  frame_fou,
  fun m ρ _ => Cert.FouFrame.frame m ρ,
  fun m ρ _ => Cert.FouFrame.frame m ρ,
  frame_reference_fou,
  fun m ρ _ => frame_reference_fou m ρ trivial,
  ⟨IdealRules.named_const.statement Cert.AttnIdeal.κ "log2e" .f32 0x3FB8AA3B#32 _ rfl,
   IdealRules.named_const.statement Cert.AttnIdeal.κ "scale" .f32 0x3E38AA3B#32 _ rfl⟩,
  by
    pair_intro
    · run_from Cert.AttnIdeal.Value.run_blocks m g
    · run_from Cert.AttnRefIdeal.Value.run m' g'
      obtain ⟨h0, h1, h2⟩ := hpre c
      obtain ⟨hf, hs⟩ := Cert.AttnIdeal.Value.finite_of m c (fun i => congrFun h0 i) (fun i => congrFun h1 i) (fun i => congrFun h2 i)
      obtain ⟨e0, e1, e2⟩ := hagree c
      refine (Cert.AttnRefIdeal.Value.result_eq m' c).trans ?_
      rw [e0, e1, e2]
      exact (Cert.AttnIdeal.Value.final m c hf hs).symm,
  trivial,
  by
    pair_intro
    · run_from Cert.UpIdeal.Value.run_blocks m g
    · run_from Cert.UpRefIdeal.Value.run_gated m' g'
      exact (Cert.UpIdeal.Value.final m c).symm,
  trivial,
  by
    pair_intro
    · run_from Cert.DownIdeal.Value.run_blocks m g
    · run_from Cert.DownRefIdeal.Value.run_weighted m' g'
      exact (Cert.DownIdeal.Value.final m c).symm,
  trivial,
  by
    pair_intro
    · run_from Cert.InpIdeal.Value.run_blocks m g
    · run_from Cert.InpRefIdeal.Value.run_results m' g'
      · exact (Cert.InpIdeal.Value.final4 m c).symm
      · exact (Cert.InpIdeal.Value.final5 m c).symm
      · exact (Cert.InpIdeal.Value.final6 m c).symm
      · exact (Cert.InpIdeal.Value.final7 m c).symm,
  trivial,
  pair_out,
  trivial,
  pair_emb,
  trivial,
  pair_fou⟩

end Cert.Proof

end
